-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))).2.2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))).2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))).2.2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))).2.2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.2 = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5))).2.2.2.2 = (fun _ => 1#1)

def Pre_PleRefIdeal (m : (ℓ : Loc Cert.PleRefIdeal.nD Cert.PleRefIdeal.τ Cert.PleRefIdeal.sig) → Buf (Elt Ideal) ℓ) : Prop :=
  True

def Pre_PleRefIdeal_finite_ple [hPre_finite_ple : Cert.Pre_finite_ple.Facts] (m : (ℓ : Loc Cert.PleRefIdeal.nD Cert.PleRefIdeal.τ Cert.PleRefIdeal.sig) → Buf (Elt Ideal) ℓ) : Prop :=
  ∀ c : Dev Cert.PleRefIdeal.nD,
    (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.1 = (fun _ => 1#1)
    ∧ (Cert.Pre_finite_ple.fn (F := Ideal) (m ((c.tc : Thread Cert.PleRefIdeal.nD Cert.PleRefIdeal.τ).loc Cert.PleRefIdeal.main_arg0)) (m ((c.tc : Thread Cert.PleRefIdeal.nD Cert.PleRefIdeal.τ).loc Cert.PleRefIdeal.main_arg1)) (m ((c.tc : Thread Cert.PleRefIdeal.nD Cert.PleRefIdeal.τ).loc Cert.PleRefIdeal.main_arg2)) (m ((c.tc : Thread Cert.PleRefIdeal.nD Cert.PleRefIdeal.τ).loc Cert.PleRefIdeal.main_arg3)) (m ((c.tc : Thread Cert.PleRefIdeal.nD Cert.PleRefIdeal.τ).loc Cert.PleRefIdeal.main_arg4)) (m ((c.tc : Thread Cert.PleRefIdeal.nD Cert.PleRefIdeal.τ).loc Cert.PleRefIdeal.main_arg5))).2.2.2.2 = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluIdeal_finite_glu [hPre_finite_glu : Cert.Pre_finite_glu.Facts] (m : (ℓ : Loc Cert.GluIdeal.nD Cert.GluIdeal.τ Cert.GluIdeal.sig) → Buf (Elt Ideal) ℓ) : Prop :=
  ∀ c : Dev Cert.GluIdeal.nD,
    (Cert.Pre_finite_glu.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).1 = (fun _ => 1#1)
    ∧ (Cert.Pre_finite_glu.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).2.1 = (fun _ => 1#1)
    ∧ (Cert.Pre_finite_glu.fn (F := Ideal) (m ((c.tc : Thread Cert.GluIdeal.nD Cert.GluIdeal.τ).loc Cert.GluIdeal.main_arg0)) (m ((c.tc : Thread Cert.GluIdeal.nD Cert.GluIdeal.τ).loc Cert.GluIdeal.main_arg1)) (m ((c.tc : Thread Cert.GluIdeal.nD Cert.GluIdeal.τ).loc Cert.GluIdeal.main_arg2))).2.2 = (fun _ => 1#1)

def Pre_GluRefIdeal (m : (ℓ : Loc Cert.GluRefIdeal.nD Cert.GluRefIdeal.τ Cert.GluRefIdeal.sig) → Buf (Elt Ideal) ℓ) : Prop :=
  True

def Pre_GluRefIdeal_finite_glu [hPre_finite_glu : Cert.Pre_finite_glu.Facts] (m : (ℓ : Loc Cert.GluRefIdeal.nD Cert.GluRefIdeal.τ Cert.GluRefIdeal.sig) → Buf (Elt Ideal) ℓ) : Prop :=
  ∀ c : Dev Cert.GluRefIdeal.nD,
    (Cert.Pre_finite_glu.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).1 = (fun _ => 1#1)
    ∧ (Cert.Pre_finite_glu.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).2.1 = (fun _ => 1#1)
    ∧ (Cert.Pre_finite_glu.fn (F := Ideal) (m ((c.tc : Thread Cert.GluRefIdeal.nD Cert.GluRefIdeal.τ).loc Cert.GluRefIdeal.main_arg0)) (m ((c.tc : Thread Cert.GluRefIdeal.nD Cert.GluRefIdeal.τ).loc Cert.GluRefIdeal.main_arg1)) (m ((c.tc : Thread Cert.GluRefIdeal.nD Cert.GluRefIdeal.τ).loc Cert.GluRefIdeal.main_arg2))).2.2 = (fun _ => 1#1)

def Pre_Zoh (m : (ℓ : Loc Cert.Zoh.nD Cert.Zoh.τ Cert.Zoh.sig) → Buf (Elt Bits) ℓ) : Prop :=
  True

def Pre_ZohIdeal (m : (ℓ : Loc Cert.ZohIdeal.nD Cert.ZohIdeal.τ Cert.ZohIdeal.sig) → Buf (Elt Ideal) ℓ) : Prop :=
  True

def Pre_ZohRefIdeal (m : (ℓ : Loc Cert.ZohRefIdeal.nD Cert.ZohRefIdeal.τ Cert.ZohRefIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscRefIdeal (m : (ℓ : Loc Cert.DiscRefIdeal.nD Cert.DiscRefIdeal.τ Cert.DiscRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Trail (m : (ℓ : Loc Cert.Trail.nD Cert.Trail.τ Cert.Trail.sig) → Buf (Elt Bits) ℓ) : Prop :=
  True

def Pre_TrailIdeal (m : (ℓ : Loc Cert.TrailIdeal.nD Cert.TrailIdeal.τ Cert.TrailIdeal.sig) → Buf (Elt Ideal) ℓ) : Prop :=
  True

def Pre_TrailIdeal_finite_pool [hPre_finite_pool : Cert.Pre_finite_pool.Facts] (m : (ℓ : Loc Cert.TrailIdeal.nD Cert.TrailIdeal.τ Cert.TrailIdeal.sig) → Buf (Elt Ideal) ℓ) : Prop :=
  ∀ c : Dev Cert.TrailIdeal.nD,
    (Cert.Pre_finite_pool.fn (F := Ideal) (m ((c.tc : Thread Cert.TrailIdeal.nD Cert.TrailIdeal.τ).loc Cert.TrailIdeal.main_arg0)) (m ((c.tc : Thread Cert.TrailIdeal.nD Cert.TrailIdeal.τ).loc Cert.TrailIdeal.main_arg1))) = (fun _ => 1#1)

def Pre_TrailRefIdeal (m : (ℓ : Loc Cert.TrailRefIdeal.nD Cert.TrailRefIdeal.τ Cert.TrailRefIdeal.sig) → Buf (Elt Ideal) ℓ) : Prop :=
  True

def Pre_TrailRefIdeal_finite_pool [hPre_finite_pool : Cert.Pre_finite_pool.Facts] (m : (ℓ : Loc Cert.TrailRefIdeal.nD Cert.TrailRefIdeal.τ Cert.TrailRefIdeal.sig) → Buf (Elt Ideal) ℓ) : Prop :=
  ∀ c : Dev Cert.TrailRefIdeal.nD,
    (Cert.Pre_finite_pool.fn (F := Ideal) (m ((c.tc : Thread Cert.TrailRefIdeal.nD Cert.TrailRefIdeal.τ).loc Cert.TrailRefIdeal.main_arg0)) (m ((c.tc : Thread Cert.TrailRefIdeal.nD Cert.TrailRefIdeal.τ).loc Cert.TrailRefIdeal.main_arg1))) = (fun _ => 1#1)

def Pre_Lin (m : (ℓ : Loc Cert.Lin.nD Cert.Lin.τ Cert.Lin.sig) → Buf (Elt Bits) ℓ) : Prop :=
  True

def Pre_LinIdeal (m : (ℓ : Loc Cert.LinIdeal.nD Cert.LinIdeal.τ Cert.LinIdeal.sig) → Buf (Elt Ideal) ℓ) : Prop :=
  True

def Pre_LinRefIdeal (m : (ℓ : Loc Cert.LinRefIdeal.nD Cert.LinRefIdeal.τ Cert.LinRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_Poolw (m : (ℓ : Loc Cert.Poolw.nD Cert.Poolw.τ Cert.Poolw.sig) → Buf (Elt Bits) ℓ) : Prop :=
  True

def Pre_PoolwIdeal (m : (ℓ : Loc Cert.PoolwIdeal.nD Cert.PoolwIdeal.τ Cert.PoolwIdeal.sig) → Buf (Elt Ideal) ℓ) : Prop :=
  True

def Pre_PoolwRefIdeal (m : (ℓ : Loc Cert.PoolwRefIdeal.nD Cert.PoolwRefIdeal.τ Cert.PoolwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Recur (m : (ℓ : Loc Cert.Recur.nD Cert.Recur.τ Cert.Recur.sig) → Buf (Elt Bits) ℓ) : Prop :=
  True

def Pre_RecurIdeal (m : (ℓ : Loc Cert.RecurIdeal.nD Cert.RecurIdeal.τ Cert.RecurIdeal.sig) → Buf (Elt Ideal) ℓ) : Prop :=
  True

def Pre_Adjoint (m : (ℓ : Loc Cert.Adjoint.nD Cert.Adjoint.τ Cert.Adjoint.sig) → Buf (Elt Bits) ℓ) : Prop :=
  True

def Pre_AdjointIdeal (m : (ℓ : Loc Cert.AdjointIdeal.nD Cert.AdjointIdeal.τ Cert.AdjointIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_PleRefIdeal_pre_finite_ple [hPleRefIdeal : Cert.PleRefIdeal.Facts] [hPre_finite_ple : Cert.Pre_finite_ple.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal_finite_ple m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluIdeal_pre_finite_glu [hGluIdeal : Cert.GluIdeal.Facts] [hPre_finite_glu : Cert.Pre_finite_glu.Facts] : Prop :=
  ∀ (m : (ℓ : Loc Cert.GluIdeal.nD Cert.GluIdeal.τ Cert.GluIdeal.sig) → Buf (Elt Ideal) ℓ) (g : Dev Cert.GluIdeal.nD → PrngReg), Pre_GluIdeal_finite_glu m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluRefIdeal_pre_finite_glu [hGluRefIdeal : Cert.GluRefIdeal.Facts] [hPre_finite_glu : Cert.Pre_finite_glu.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal_finite_glu m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Zoh [hZoh : Cert.Zoh.Facts] : Prop :=
  ∀ (m : (ℓ : Loc Cert.Zoh.nD Cert.Zoh.τ Cert.Zoh.sig) → Buf (Elt Bits) ℓ) (g : Dev Cert.Zoh.nD → PrngReg), Pre_Zoh m →
    θ_run (Cert.Zoh.defs (F := Bits)) (onTc (τ := Cert.Zoh.τ) (Cert.Zoh.main (F := Bits))) ⟨m, fun _ => 0, g⟩ (fun r => (∀ c : Dev Cert.Zoh.nD,
      r.2.mem ((c.tc : Thread Cert.Zoh.nD Cert.Zoh.τ).loc Cert.Zoh.main_arg0) = m ((c.tc : Thread Cert.Zoh.nD Cert.Zoh.τ).loc Cert.Zoh.main_arg0)
      ∧ r.2.mem ((c.tc : Thread Cert.Zoh.nD Cert.Zoh.τ).loc Cert.Zoh.main_arg1) = m ((c.tc : Thread Cert.Zoh.nD Cert.Zoh.τ).loc Cert.Zoh.main_arg1)
      ∧ r.2.mem ((c.tc : Thread Cert.Zoh.nD Cert.Zoh.τ).loc Cert.Zoh.main_arg2) = m ((c.tc : Thread Cert.Zoh.nD Cert.Zoh.τ).loc Cert.Zoh.main_arg2)
      ∧ r.2.mem ((c.tc : Thread Cert.Zoh.nD Cert.Zoh.τ).loc Cert.Zoh.main_arg3) = m ((c.tc : Thread Cert.Zoh.nD Cert.Zoh.τ).loc Cert.Zoh.main_arg3)
      ∧ r.2.mem ((c.tc : Thread Cert.Zoh.nD Cert.Zoh.τ).loc Cert.Zoh.main_arg4) = m ((c.tc : Thread Cert.Zoh.nD Cert.Zoh.τ).loc Cert.Zoh.main_arg4)
      ∧ r.2.mem ((c.tc : Thread Cert.Zoh.nD Cert.Zoh.τ).loc Cert.Zoh.main_arg5) = m ((c.tc : Thread Cert.Zoh.nD Cert.Zoh.τ).loc Cert.Zoh.main_arg5)
      ∧ r.2.mem ((c.tc : Thread Cert.Zoh.nD Cert.Zoh.τ).loc Cert.Zoh.main_arg6) = m ((c.tc : Thread Cert.Zoh.nD Cert.Zoh.τ).loc Cert.Zoh.main_arg6)
      ∧ r.2.mem ((c.tc : Thread Cert.Zoh.nD Cert.Zoh.τ).loc Cert.Zoh.main_arg7) = m ((c.tc : Thread Cert.Zoh.nD Cert.Zoh.τ).loc Cert.Zoh.main_arg7)
      ∧ r.2.mem ((c.tc : Thread Cert.Zoh.nD Cert.Zoh.τ).loc Cert.Zoh.main_arg8) = m ((c.tc : Thread Cert.Zoh.nD Cert.Zoh.τ).loc Cert.Zoh.main_arg8))
      ∧ r.2.sem = fun _ => 0)

def quiescent_ZohIdeal [hZohIdeal : Cert.ZohIdeal.Facts] : Prop :=
  ∀ (m : (ℓ : Loc Cert.ZohIdeal.nD Cert.ZohIdeal.τ Cert.ZohIdeal.sig) → Buf (Elt Ideal) ℓ) (g : Dev Cert.ZohIdeal.nD → PrngReg), Pre_ZohIdeal m →
    θ_run (Cert.ZohIdeal.defs (F := Ideal)) (onTc (τ := Cert.ZohIdeal.τ) (Cert.ZohIdeal.main (F := Ideal))) ⟨m, fun _ => 0, g⟩ (fun r => (∀ c : Dev Cert.ZohIdeal.nD,
      r.2.mem ((c.tc : Thread Cert.ZohIdeal.nD Cert.ZohIdeal.τ).loc Cert.ZohIdeal.main_arg0) = m ((c.tc : Thread Cert.ZohIdeal.nD Cert.ZohIdeal.τ).loc Cert.ZohIdeal.main_arg0)
      ∧ r.2.mem ((c.tc : Thread Cert.ZohIdeal.nD Cert.ZohIdeal.τ).loc Cert.ZohIdeal.main_arg1) = m ((c.tc : Thread Cert.ZohIdeal.nD Cert.ZohIdeal.τ).loc Cert.ZohIdeal.main_arg1)
      ∧ r.2.mem ((c.tc : Thread Cert.ZohIdeal.nD Cert.ZohIdeal.τ).loc Cert.ZohIdeal.main_arg2) = m ((c.tc : Thread Cert.ZohIdeal.nD Cert.ZohIdeal.τ).loc Cert.ZohIdeal.main_arg2)
      ∧ r.2.mem ((c.tc : Thread Cert.ZohIdeal.nD Cert.ZohIdeal.τ).loc Cert.ZohIdeal.main_arg3) = m ((c.tc : Thread Cert.ZohIdeal.nD Cert.ZohIdeal.τ).loc Cert.ZohIdeal.main_arg3)
      ∧ r.2.mem ((c.tc : Thread Cert.ZohIdeal.nD Cert.ZohIdeal.τ).loc Cert.ZohIdeal.main_arg4) = m ((c.tc : Thread Cert.ZohIdeal.nD Cert.ZohIdeal.τ).loc Cert.ZohIdeal.main_arg4)
      ∧ r.2.mem ((c.tc : Thread Cert.ZohIdeal.nD Cert.ZohIdeal.τ).loc Cert.ZohIdeal.main_arg5) = m ((c.tc : Thread Cert.ZohIdeal.nD Cert.ZohIdeal.τ).loc Cert.ZohIdeal.main_arg5)
      ∧ r.2.mem ((c.tc : Thread Cert.ZohIdeal.nD Cert.ZohIdeal.τ).loc Cert.ZohIdeal.main_arg6) = m ((c.tc : Thread Cert.ZohIdeal.nD Cert.ZohIdeal.τ).loc Cert.ZohIdeal.main_arg6)
      ∧ r.2.mem ((c.tc : Thread Cert.ZohIdeal.nD Cert.ZohIdeal.τ).loc Cert.ZohIdeal.main_arg7) = m ((c.tc : Thread Cert.ZohIdeal.nD Cert.ZohIdeal.τ).loc Cert.ZohIdeal.main_arg7)
      ∧ r.2.mem ((c.tc : Thread Cert.ZohIdeal.nD Cert.ZohIdeal.τ).loc Cert.ZohIdeal.main_arg8) = m ((c.tc : Thread Cert.ZohIdeal.nD Cert.ZohIdeal.τ).loc Cert.ZohIdeal.main_arg8))
      ∧ r.2.sem = fun _ => 0)

def quiescent_ZohRefIdeal [hZohRefIdeal : Cert.ZohRefIdeal.Facts] : Prop :=
  ∀ (m : (ℓ : Loc Cert.ZohRefIdeal.nD Cert.ZohRefIdeal.τ Cert.ZohRefIdeal.sig) → Buf (Elt Ideal) ℓ) (g : Dev Cert.ZohRefIdeal.nD → PrngReg), Pre_ZohRefIdeal m →
    θ_run (Cert.ZohRefIdeal.defs (F := Ideal)) (onTc (τ := Cert.ZohRefIdeal.τ) (Cert.ZohRefIdeal.main (F := Ideal))) ⟨m, fun _ => 0, g⟩ (fun r => (∀ c : Dev Cert.ZohRefIdeal.nD,
      r.2.mem ((c.tc : Thread Cert.ZohRefIdeal.nD Cert.ZohRefIdeal.τ).loc Cert.ZohRefIdeal.main_arg0) = m ((c.tc : Thread Cert.ZohRefIdeal.nD Cert.ZohRefIdeal.τ).loc Cert.ZohRefIdeal.main_arg0)
      ∧ r.2.mem ((c.tc : Thread Cert.ZohRefIdeal.nD Cert.ZohRefIdeal.τ).loc Cert.ZohRefIdeal.main_arg1) = m ((c.tc : Thread Cert.ZohRefIdeal.nD Cert.ZohRefIdeal.τ).loc Cert.ZohRefIdeal.main_arg1)
      ∧ r.2.mem ((c.tc : Thread Cert.ZohRefIdeal.nD Cert.ZohRefIdeal.τ).loc Cert.ZohRefIdeal.main_arg2) = m ((c.tc : Thread Cert.ZohRefIdeal.nD Cert.ZohRefIdeal.τ).loc Cert.ZohRefIdeal.main_arg2)
      ∧ r.2.mem ((c.tc : Thread Cert.ZohRefIdeal.nD Cert.ZohRefIdeal.τ).loc Cert.ZohRefIdeal.main_arg3) = m ((c.tc : Thread Cert.ZohRefIdeal.nD Cert.ZohRefIdeal.τ).loc Cert.ZohRefIdeal.main_arg3)
      ∧ r.2.mem ((c.tc : Thread Cert.ZohRefIdeal.nD Cert.ZohRefIdeal.τ).loc Cert.ZohRefIdeal.main_arg4) = m ((c.tc : Thread Cert.ZohRefIdeal.nD Cert.ZohRefIdeal.τ).loc Cert.ZohRefIdeal.main_arg4)
      ∧ r.2.mem ((c.tc : Thread Cert.ZohRefIdeal.nD Cert.ZohRefIdeal.τ).loc Cert.ZohRefIdeal.main_arg5) = m ((c.tc : Thread Cert.ZohRefIdeal.nD Cert.ZohRefIdeal.τ).loc Cert.ZohRefIdeal.main_arg5)
      ∧ r.2.mem ((c.tc : Thread Cert.ZohRefIdeal.nD Cert.ZohRefIdeal.τ).loc Cert.ZohRefIdeal.main_arg6) = m ((c.tc : Thread Cert.ZohRefIdeal.nD Cert.ZohRefIdeal.τ).loc Cert.ZohRefIdeal.main_arg6)
      ∧ r.2.mem ((c.tc : Thread Cert.ZohRefIdeal.nD Cert.ZohRefIdeal.τ).loc Cert.ZohRefIdeal.main_arg7) = m ((c.tc : Thread Cert.ZohRefIdeal.nD Cert.ZohRefIdeal.τ).loc Cert.ZohRefIdeal.main_arg7)
      ∧ r.2.mem ((c.tc : Thread Cert.ZohRefIdeal.nD Cert.ZohRefIdeal.τ).loc Cert.ZohRefIdeal.main_arg8) = m ((c.tc : Thread Cert.ZohRefIdeal.nD Cert.ZohRefIdeal.τ).loc Cert.ZohRefIdeal.main_arg8))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ r.2.sem = fun _ => 0)

def quiescent_DiscRefIdeal [hDiscRefIdeal : Cert.DiscRefIdeal.Facts] : Prop :=
  ∀ (m : (ℓ : Loc Cert.DiscRefIdeal.nD Cert.DiscRefIdeal.τ Cert.DiscRefIdeal.sig) → Buf (Elt Ideal) ℓ) (g : Dev Cert.DiscRefIdeal.nD → PrngReg), Pre_DiscRefIdeal m →
    θ_run (Cert.DiscRefIdeal.defs (F := Ideal)) (onTc (τ := Cert.DiscRefIdeal.τ) (Cert.DiscRefIdeal.main (F := Ideal))) ⟨m, fun _ => 0, g⟩ (fun r => (∀ c : Dev Cert.DiscRefIdeal.nD,
      r.2.mem ((c.tc : Thread Cert.DiscRefIdeal.nD Cert.DiscRefIdeal.τ).loc Cert.DiscRefIdeal.main_arg0) = m ((c.tc : Thread Cert.DiscRefIdeal.nD Cert.DiscRefIdeal.τ).loc Cert.DiscRefIdeal.main_arg0)
      ∧ r.2.mem ((c.tc : Thread Cert.DiscRefIdeal.nD Cert.DiscRefIdeal.τ).loc Cert.DiscRefIdeal.main_arg1) = m ((c.tc : Thread Cert.DiscRefIdeal.nD Cert.DiscRefIdeal.τ).loc Cert.DiscRefIdeal.main_arg1)
      ∧ r.2.mem ((c.tc : Thread Cert.DiscRefIdeal.nD Cert.DiscRefIdeal.τ).loc Cert.DiscRefIdeal.main_arg2) = m ((c.tc : Thread Cert.DiscRefIdeal.nD Cert.DiscRefIdeal.τ).loc Cert.DiscRefIdeal.main_arg2)
      ∧ r.2.mem ((c.tc : Thread Cert.DiscRefIdeal.nD Cert.DiscRefIdeal.τ).loc Cert.DiscRefIdeal.main_arg3) = m ((c.tc : Thread Cert.DiscRefIdeal.nD Cert.DiscRefIdeal.τ).loc Cert.DiscRefIdeal.main_arg3)
      ∧ r.2.mem ((c.tc : Thread Cert.DiscRefIdeal.nD Cert.DiscRefIdeal.τ).loc Cert.DiscRefIdeal.main_arg4) = m ((c.tc : Thread Cert.DiscRefIdeal.nD Cert.DiscRefIdeal.τ).loc Cert.DiscRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Trail [hTrail : Cert.Trail.Facts] : Prop :=
  ∀ (m : (ℓ : Loc Cert.Trail.nD Cert.Trail.τ Cert.Trail.sig) → Buf (Elt Bits) ℓ) (g : Dev Cert.Trail.nD → PrngReg), Pre_Trail m →
    θ_run (Cert.Trail.defs (F := Bits)) (onTc (τ := Cert.Trail.τ) (Cert.Trail.main (F := Bits))) ⟨m, fun _ => 0, g⟩ (fun r => (∀ c : Dev Cert.Trail.nD,
      r.2.mem ((c.tc : Thread Cert.Trail.nD Cert.Trail.τ).loc Cert.Trail.main_arg0) = m ((c.tc : Thread Cert.Trail.nD Cert.Trail.τ).loc Cert.Trail.main_arg0)
      ∧ r.2.mem ((c.tc : Thread Cert.Trail.nD Cert.Trail.τ).loc Cert.Trail.main_arg1) = m ((c.tc : Thread Cert.Trail.nD Cert.Trail.τ).loc Cert.Trail.main_arg1))
      ∧ r.2.sem = fun _ => 0)

def quiescent_TrailIdeal [hTrailIdeal : Cert.TrailIdeal.Facts] : Prop :=
  ∀ (m : (ℓ : Loc Cert.TrailIdeal.nD Cert.TrailIdeal.τ Cert.TrailIdeal.sig) → Buf (Elt Ideal) ℓ) (g : Dev Cert.TrailIdeal.nD → PrngReg), Pre_TrailIdeal m →
    θ_run (Cert.TrailIdeal.defs (F := Ideal)) (onTc (τ := Cert.TrailIdeal.τ) (Cert.TrailIdeal.main (F := Ideal))) ⟨m, fun _ => 0, g⟩ (fun r => (∀ c : Dev Cert.TrailIdeal.nD,
      r.2.mem ((c.tc : Thread Cert.TrailIdeal.nD Cert.TrailIdeal.τ).loc Cert.TrailIdeal.main_arg0) = m ((c.tc : Thread Cert.TrailIdeal.nD Cert.TrailIdeal.τ).loc Cert.TrailIdeal.main_arg0)
      ∧ r.2.mem ((c.tc : Thread Cert.TrailIdeal.nD Cert.TrailIdeal.τ).loc Cert.TrailIdeal.main_arg1) = m ((c.tc : Thread Cert.TrailIdeal.nD Cert.TrailIdeal.τ).loc Cert.TrailIdeal.main_arg1))
      ∧ r.2.sem = fun _ => 0)

def quiescent_TrailIdeal_pre_finite_pool [hTrailIdeal : Cert.TrailIdeal.Facts] [hPre_finite_pool : Cert.Pre_finite_pool.Facts] : Prop :=
  ∀ (m : (ℓ : Loc Cert.TrailIdeal.nD Cert.TrailIdeal.τ Cert.TrailIdeal.sig) → Buf (Elt Ideal) ℓ) (g : Dev Cert.TrailIdeal.nD → PrngReg), Pre_TrailIdeal_finite_pool m →
    θ_run (Cert.TrailIdeal.defs (F := Ideal)) (onTc (τ := Cert.TrailIdeal.τ) (Cert.TrailIdeal.main (F := Ideal))) ⟨m, fun _ => 0, g⟩ (fun r => (∀ c : Dev Cert.TrailIdeal.nD,
      r.2.mem ((c.tc : Thread Cert.TrailIdeal.nD Cert.TrailIdeal.τ).loc Cert.TrailIdeal.main_arg0) = m ((c.tc : Thread Cert.TrailIdeal.nD Cert.TrailIdeal.τ).loc Cert.TrailIdeal.main_arg0)
      ∧ r.2.mem ((c.tc : Thread Cert.TrailIdeal.nD Cert.TrailIdeal.τ).loc Cert.TrailIdeal.main_arg1) = m ((c.tc : Thread Cert.TrailIdeal.nD Cert.TrailIdeal.τ).loc Cert.TrailIdeal.main_arg1))
      ∧ r.2.sem = fun _ => 0)

def quiescent_TrailRefIdeal [hTrailRefIdeal : Cert.TrailRefIdeal.Facts] : Prop :=
  ∀ (m : (ℓ : Loc Cert.TrailRefIdeal.nD Cert.TrailRefIdeal.τ Cert.TrailRefIdeal.sig) → Buf (Elt Ideal) ℓ) (g : Dev Cert.TrailRefIdeal.nD → PrngReg), Pre_TrailRefIdeal m →
    θ_run (Cert.TrailRefIdeal.defs (F := Ideal)) (onTc (τ := Cert.TrailRefIdeal.τ) (Cert.TrailRefIdeal.main (F := Ideal))) ⟨m, fun _ => 0, g⟩ (fun r => (∀ c : Dev Cert.TrailRefIdeal.nD,
      r.2.mem ((c.tc : Thread Cert.TrailRefIdeal.nD Cert.TrailRefIdeal.τ).loc Cert.TrailRefIdeal.main_arg0) = m ((c.tc : Thread Cert.TrailRefIdeal.nD Cert.TrailRefIdeal.τ).loc Cert.TrailRefIdeal.main_arg0)
      ∧ r.2.mem ((c.tc : Thread Cert.TrailRefIdeal.nD Cert.TrailRefIdeal.τ).loc Cert.TrailRefIdeal.main_arg1) = m ((c.tc : Thread Cert.TrailRefIdeal.nD Cert.TrailRefIdeal.τ).loc Cert.TrailRefIdeal.main_arg1))
      ∧ r.2.sem = fun _ => 0)

def quiescent_TrailRefIdeal_pre_finite_pool [hTrailRefIdeal : Cert.TrailRefIdeal.Facts] [hPre_finite_pool : Cert.Pre_finite_pool.Facts] : Prop :=
  ∀ (m : (ℓ : Loc Cert.TrailRefIdeal.nD Cert.TrailRefIdeal.τ Cert.TrailRefIdeal.sig) → Buf (Elt Ideal) ℓ) (g : Dev Cert.TrailRefIdeal.nD → PrngReg), Pre_TrailRefIdeal_finite_pool m →
    θ_run (Cert.TrailRefIdeal.defs (F := Ideal)) (onTc (τ := Cert.TrailRefIdeal.τ) (Cert.TrailRefIdeal.main (F := Ideal))) ⟨m, fun _ => 0, g⟩ (fun r => (∀ c : Dev Cert.TrailRefIdeal.nD,
      r.2.mem ((c.tc : Thread Cert.TrailRefIdeal.nD Cert.TrailRefIdeal.τ).loc Cert.TrailRefIdeal.main_arg0) = m ((c.tc : Thread Cert.TrailRefIdeal.nD Cert.TrailRefIdeal.τ).loc Cert.TrailRefIdeal.main_arg0)
      ∧ r.2.mem ((c.tc : Thread Cert.TrailRefIdeal.nD Cert.TrailRefIdeal.τ).loc Cert.TrailRefIdeal.main_arg1) = m ((c.tc : Thread Cert.TrailRefIdeal.nD Cert.TrailRefIdeal.τ).loc Cert.TrailRefIdeal.main_arg1))
      ∧ r.2.sem = fun _ => 0)

def quiescent_Lin [hLin : Cert.Lin.Facts] : Prop :=
  ∀ (m : (ℓ : Loc Cert.Lin.nD Cert.Lin.τ Cert.Lin.sig) → Buf (Elt Bits) ℓ) (g : Dev Cert.Lin.nD → PrngReg), Pre_Lin m →
    θ_run (Cert.Lin.defs (F := Bits)) (onTc (τ := Cert.Lin.τ) (Cert.Lin.main (F := Bits))) ⟨m, fun _ => 0, g⟩ (fun r => (∀ c : Dev Cert.Lin.nD,
      r.2.mem ((c.tc : Thread Cert.Lin.nD Cert.Lin.τ).loc Cert.Lin.main_arg0) = m ((c.tc : Thread Cert.Lin.nD Cert.Lin.τ).loc Cert.Lin.main_arg0)
      ∧ r.2.mem ((c.tc : Thread Cert.Lin.nD Cert.Lin.τ).loc Cert.Lin.main_arg1) = m ((c.tc : Thread Cert.Lin.nD Cert.Lin.τ).loc Cert.Lin.main_arg1))
      ∧ r.2.sem = fun _ => 0)

def quiescent_LinIdeal [hLinIdeal : Cert.LinIdeal.Facts] : Prop :=
  ∀ (m : (ℓ : Loc Cert.LinIdeal.nD Cert.LinIdeal.τ Cert.LinIdeal.sig) → Buf (Elt Ideal) ℓ) (g : Dev Cert.LinIdeal.nD → PrngReg), Pre_LinIdeal m →
    θ_run (Cert.LinIdeal.defs (F := Ideal)) (onTc (τ := Cert.LinIdeal.τ) (Cert.LinIdeal.main (F := Ideal))) ⟨m, fun _ => 0, g⟩ (fun r => (∀ c : Dev Cert.LinIdeal.nD,
      r.2.mem ((c.tc : Thread Cert.LinIdeal.nD Cert.LinIdeal.τ).loc Cert.LinIdeal.main_arg0) = m ((c.tc : Thread Cert.LinIdeal.nD Cert.LinIdeal.τ).loc Cert.LinIdeal.main_arg0)
      ∧ r.2.mem ((c.tc : Thread Cert.LinIdeal.nD Cert.LinIdeal.τ).loc Cert.LinIdeal.main_arg1) = m ((c.tc : Thread Cert.LinIdeal.nD Cert.LinIdeal.τ).loc Cert.LinIdeal.main_arg1))
      ∧ r.2.sem = fun _ => 0)

def quiescent_LinRefIdeal [hLinRefIdeal : Cert.LinRefIdeal.Facts] : Prop :=
  ∀ (m : (ℓ : Loc Cert.LinRefIdeal.nD Cert.LinRefIdeal.τ Cert.LinRefIdeal.sig) → Buf (Elt Ideal) ℓ) (g : Dev Cert.LinRefIdeal.nD → PrngReg), Pre_LinRefIdeal m →
    θ_run (Cert.LinRefIdeal.defs (F := Ideal)) (onTc (τ := Cert.LinRefIdeal.τ) (Cert.LinRefIdeal.main (F := Ideal))) ⟨m, fun _ => 0, g⟩ (fun r => (∀ c : Dev Cert.LinRefIdeal.nD,
      r.2.mem ((c.tc : Thread Cert.LinRefIdeal.nD Cert.LinRefIdeal.τ).loc Cert.LinRefIdeal.main_arg0) = m ((c.tc : Thread Cert.LinRefIdeal.nD Cert.LinRefIdeal.τ).loc Cert.LinRefIdeal.main_arg0)
      ∧ r.2.mem ((c.tc : Thread Cert.LinRefIdeal.nD Cert.LinRefIdeal.τ).loc Cert.LinRefIdeal.main_arg1) = m ((c.tc : Thread Cert.LinRefIdeal.nD Cert.LinRefIdeal.τ).loc Cert.LinRefIdeal.main_arg1))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1)
      ∧ r.2.mem ((c.tc : Thread Cert.Wgrad.nD Cert.Wgrad.τ).loc Cert.Wgrad.main_arg2) = m ((c.tc : Thread Cert.Wgrad.nD Cert.Wgrad.τ).loc Cert.Wgrad.main_arg2))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
      ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1)
      ∧ r.2.mem ((c.tc : Thread Cert.WgradRefIdeal.nD Cert.WgradRefIdeal.τ).loc Cert.WgradRefIdeal.main_arg2) = m ((c.tc : Thread Cert.WgradRefIdeal.nD Cert.WgradRefIdeal.τ).loc Cert.WgradRefIdeal.main_arg2))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def quiescent_Poolw [hPoolw : Cert.Poolw.Facts] : Prop :=
  ∀ (m : (ℓ : Loc Cert.Poolw.nD Cert.Poolw.τ Cert.Poolw.sig) → Buf (Elt Bits) ℓ) (g : Dev Cert.Poolw.nD → PrngReg), Pre_Poolw m →
    θ_run (Cert.Poolw.defs (F := Bits)) (onTc (τ := Cert.Poolw.τ) (Cert.Poolw.main (F := Bits))) ⟨m, fun _ => 0, g⟩ (fun r => (∀ c : Dev Cert.Poolw.nD,
      r.2.mem ((c.tc : Thread Cert.Poolw.nD Cert.Poolw.τ).loc Cert.Poolw.main_arg0) = m ((c.tc : Thread Cert.Poolw.nD Cert.Poolw.τ).loc Cert.Poolw.main_arg0)
      ∧ r.2.mem ((c.tc : Thread Cert.Poolw.nD Cert.Poolw.τ).loc Cert.Poolw.main_arg1) = m ((c.tc : Thread Cert.Poolw.nD Cert.Poolw.τ).loc Cert.Poolw.main_arg1))
      ∧ r.2.sem = fun _ => 0)

def quiescent_PoolwIdeal [hPoolwIdeal : Cert.PoolwIdeal.Facts] : Prop :=
  ∀ (m : (ℓ : Loc Cert.PoolwIdeal.nD Cert.PoolwIdeal.τ Cert.PoolwIdeal.sig) → Buf (Elt Ideal) ℓ) (g : Dev Cert.PoolwIdeal.nD → PrngReg), Pre_PoolwIdeal m →
    θ_run (Cert.PoolwIdeal.defs (F := Ideal)) (onTc (τ := Cert.PoolwIdeal.τ) (Cert.PoolwIdeal.main (F := Ideal))) ⟨m, fun _ => 0, g⟩ (fun r => (∀ c : Dev Cert.PoolwIdeal.nD,
      r.2.mem ((c.tc : Thread Cert.PoolwIdeal.nD Cert.PoolwIdeal.τ).loc Cert.PoolwIdeal.main_arg0) = m ((c.tc : Thread Cert.PoolwIdeal.nD Cert.PoolwIdeal.τ).loc Cert.PoolwIdeal.main_arg0)
      ∧ r.2.mem ((c.tc : Thread Cert.PoolwIdeal.nD Cert.PoolwIdeal.τ).loc Cert.PoolwIdeal.main_arg1) = m ((c.tc : Thread Cert.PoolwIdeal.nD Cert.PoolwIdeal.τ).loc Cert.PoolwIdeal.main_arg1))
      ∧ r.2.sem = fun _ => 0)

def quiescent_PoolwRefIdeal [hPoolwRefIdeal : Cert.PoolwRefIdeal.Facts] : Prop :=
  ∀ (m : (ℓ : Loc Cert.PoolwRefIdeal.nD Cert.PoolwRefIdeal.τ Cert.PoolwRefIdeal.sig) → Buf (Elt Ideal) ℓ) (g : Dev Cert.PoolwRefIdeal.nD → PrngReg), Pre_PoolwRefIdeal m →
    θ_run (Cert.PoolwRefIdeal.defs (F := Ideal)) (onTc (τ := Cert.PoolwRefIdeal.τ) (Cert.PoolwRefIdeal.main (F := Ideal))) ⟨m, fun _ => 0, g⟩ (fun r => (∀ c : Dev Cert.PoolwRefIdeal.nD,
      r.2.mem ((c.tc : Thread Cert.PoolwRefIdeal.nD Cert.PoolwRefIdeal.τ).loc Cert.PoolwRefIdeal.main_arg0) = m ((c.tc : Thread Cert.PoolwRefIdeal.nD Cert.PoolwRefIdeal.τ).loc Cert.PoolwRefIdeal.main_arg0)
      ∧ r.2.mem ((c.tc : Thread Cert.PoolwRefIdeal.nD Cert.PoolwRefIdeal.τ).loc Cert.PoolwRefIdeal.main_arg1) = m ((c.tc : Thread Cert.PoolwRefIdeal.nD Cert.PoolwRefIdeal.τ).loc Cert.PoolwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def quiescent_Recur [hRecur : Cert.Recur.Facts] : Prop :=
  ∀ (m : (ℓ : Loc Cert.Recur.nD Cert.Recur.τ Cert.Recur.sig) → Buf (Elt Bits) ℓ) (g : Dev Cert.Recur.nD → PrngReg), Pre_Recur m →
    θ_run (Cert.Recur.defs (F := Bits)) (onTc (τ := Cert.Recur.τ) (Cert.Recur.main (F := Bits))) ⟨m, fun _ => 0, g⟩ (fun r => (∀ c : Dev Cert.Recur.nD,
      r.2.mem ((c.tc : Thread Cert.Recur.nD Cert.Recur.τ).loc Cert.Recur.main_arg0) = m ((c.tc : Thread Cert.Recur.nD Cert.Recur.τ).loc Cert.Recur.main_arg0)
      ∧ r.2.mem ((c.tc : Thread Cert.Recur.nD Cert.Recur.τ).loc Cert.Recur.main_arg1) = m ((c.tc : Thread Cert.Recur.nD Cert.Recur.τ).loc Cert.Recur.main_arg1)
      ∧ r.2.mem ((c.tc : Thread Cert.Recur.nD Cert.Recur.τ).loc Cert.Recur.main_arg2) = m ((c.tc : Thread Cert.Recur.nD Cert.Recur.τ).loc Cert.Recur.main_arg2)
      ∧ r.2.mem ((c.tc : Thread Cert.Recur.nD Cert.Recur.τ).loc Cert.Recur.main_arg3) = m ((c.tc : Thread Cert.Recur.nD Cert.Recur.τ).loc Cert.Recur.main_arg3)
      ∧ r.2.mem ((c.tc : Thread Cert.Recur.nD Cert.Recur.τ).loc Cert.Recur.main_arg4) = m ((c.tc : Thread Cert.Recur.nD Cert.Recur.τ).loc Cert.Recur.main_arg4)
      ∧ r.2.mem ((c.tc : Thread Cert.Recur.nD Cert.Recur.τ).loc Cert.Recur.main_arg5) = m ((c.tc : Thread Cert.Recur.nD Cert.Recur.τ).loc Cert.Recur.main_arg5)
      ∧ r.2.mem ((c.tc : Thread Cert.Recur.nD Cert.Recur.τ).loc Cert.Recur.main_arg6) = m ((c.tc : Thread Cert.Recur.nD Cert.Recur.τ).loc Cert.Recur.main_arg6)
      ∧ r.2.mem ((c.tc : Thread Cert.Recur.nD Cert.Recur.τ).loc Cert.Recur.main_arg7) = m ((c.tc : Thread Cert.Recur.nD Cert.Recur.τ).loc Cert.Recur.main_arg7))
      ∧ r.2.sem = fun _ => 0)

def quiescent_RecurIdeal [hRecurIdeal : Cert.RecurIdeal.Facts] : Prop :=
  ∀ (m : (ℓ : Loc Cert.RecurIdeal.nD Cert.RecurIdeal.τ Cert.RecurIdeal.sig) → Buf (Elt Ideal) ℓ) (g : Dev Cert.RecurIdeal.nD → PrngReg), Pre_RecurIdeal m →
    θ_run (Cert.RecurIdeal.defs (F := Ideal)) (onTc (τ := Cert.RecurIdeal.τ) (Cert.RecurIdeal.main (F := Ideal))) ⟨m, fun _ => 0, g⟩ (fun r => (∀ c : Dev Cert.RecurIdeal.nD,
      r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
      ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
      ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2)
      ∧ r.2.mem ((c.tc : Thread Cert.RecurIdeal.nD Cert.RecurIdeal.τ).loc Cert.RecurIdeal.main_arg3) = m ((c.tc : Thread Cert.RecurIdeal.nD Cert.RecurIdeal.τ).loc Cert.RecurIdeal.main_arg3)
      ∧ r.2.mem ((c.tc : Thread Cert.RecurIdeal.nD Cert.RecurIdeal.τ).loc Cert.RecurIdeal.main_arg4) = m ((c.tc : Thread Cert.RecurIdeal.nD Cert.RecurIdeal.τ).loc Cert.RecurIdeal.main_arg4)
      ∧ r.2.mem ((c.tc : Thread Cert.RecurIdeal.nD Cert.RecurIdeal.τ).loc Cert.RecurIdeal.main_arg5) = m ((c.tc : Thread Cert.RecurIdeal.nD Cert.RecurIdeal.τ).loc Cert.RecurIdeal.main_arg5)
      ∧ r.2.mem ((c.tc : Thread Cert.RecurIdeal.nD Cert.RecurIdeal.τ).loc Cert.RecurIdeal.main_arg6) = m ((c.tc : Thread Cert.RecurIdeal.nD Cert.RecurIdeal.τ).loc Cert.RecurIdeal.main_arg6)
      ∧ r.2.mem ((c.tc : Thread Cert.RecurIdeal.nD Cert.RecurIdeal.τ).loc Cert.RecurIdeal.main_arg7) = m ((c.tc : Thread Cert.RecurIdeal.nD Cert.RecurIdeal.τ).loc Cert.RecurIdeal.main_arg7))
      ∧ r.2.sem = fun _ => 0)

def quiescent_Adjoint [hAdjoint : Cert.Adjoint.Facts] : Prop :=
  ∀ (m : (ℓ : Loc Cert.Adjoint.nD Cert.Adjoint.τ Cert.Adjoint.sig) → Buf (Elt Bits) ℓ) (g : Dev Cert.Adjoint.nD → PrngReg), Pre_Adjoint m →
    θ_run (Cert.Adjoint.defs (F := Bits)) (onTc (τ := Cert.Adjoint.τ) (Cert.Adjoint.main (F := Bits))) ⟨m, fun _ => 0, g⟩ (fun r => (∀ c : Dev Cert.Adjoint.nD,
      r.2.mem ((c.tc : Thread Cert.Adjoint.nD Cert.Adjoint.τ).loc Cert.Adjoint.main_arg0) = m ((c.tc : Thread Cert.Adjoint.nD Cert.Adjoint.τ).loc Cert.Adjoint.main_arg0)
      ∧ r.2.mem ((c.tc : Thread Cert.Adjoint.nD Cert.Adjoint.τ).loc Cert.Adjoint.main_arg1) = m ((c.tc : Thread Cert.Adjoint.nD Cert.Adjoint.τ).loc Cert.Adjoint.main_arg1)
      ∧ r.2.mem ((c.tc : Thread Cert.Adjoint.nD Cert.Adjoint.τ).loc Cert.Adjoint.main_arg2) = m ((c.tc : Thread Cert.Adjoint.nD Cert.Adjoint.τ).loc Cert.Adjoint.main_arg2)
      ∧ r.2.mem ((c.tc : Thread Cert.Adjoint.nD Cert.Adjoint.τ).loc Cert.Adjoint.main_arg3) = m ((c.tc : Thread Cert.Adjoint.nD Cert.Adjoint.τ).loc Cert.Adjoint.main_arg3)
      ∧ r.2.mem ((c.tc : Thread Cert.Adjoint.nD Cert.Adjoint.τ).loc Cert.Adjoint.main_arg4) = m ((c.tc : Thread Cert.Adjoint.nD Cert.Adjoint.τ).loc Cert.Adjoint.main_arg4)
      ∧ r.2.mem ((c.tc : Thread Cert.Adjoint.nD Cert.Adjoint.τ).loc Cert.Adjoint.main_arg5) = m ((c.tc : Thread Cert.Adjoint.nD Cert.Adjoint.τ).loc Cert.Adjoint.main_arg5)
      ∧ r.2.mem ((c.tc : Thread Cert.Adjoint.nD Cert.Adjoint.τ).loc Cert.Adjoint.main_arg6) = m ((c.tc : Thread Cert.Adjoint.nD Cert.Adjoint.τ).loc Cert.Adjoint.main_arg6)
      ∧ r.2.mem ((c.tc : Thread Cert.Adjoint.nD Cert.Adjoint.τ).loc Cert.Adjoint.main_arg7) = m ((c.tc : Thread Cert.Adjoint.nD Cert.Adjoint.τ).loc Cert.Adjoint.main_arg7))
      ∧ r.2.sem = fun _ => 0)

def quiescent_AdjointIdeal [hAdjointIdeal : Cert.AdjointIdeal.Facts] : Prop :=
  ∀ (m : (ℓ : Loc Cert.AdjointIdeal.nD Cert.AdjointIdeal.τ Cert.AdjointIdeal.sig) → Buf (Elt Ideal) ℓ) (g : Dev Cert.AdjointIdeal.nD → PrngReg), Pre_AdjointIdeal m →
    θ_run (Cert.AdjointIdeal.defs (F := Ideal)) (onTc (τ := Cert.AdjointIdeal.τ) (Cert.AdjointIdeal.main (F := Ideal))) ⟨m, fun _ => 0, g⟩ (fun r => (∀ c : Dev Cert.AdjointIdeal.nD,
      r.2.mem ((c.tc : Thread Cert.AdjointIdeal.nD Cert.AdjointIdeal.τ).loc Cert.AdjointIdeal.main_arg0) = m ((c.tc : Thread Cert.AdjointIdeal.nD Cert.AdjointIdeal.τ).loc Cert.AdjointIdeal.main_arg0)
      ∧ r.2.mem ((c.tc : Thread Cert.AdjointIdeal.nD Cert.AdjointIdeal.τ).loc Cert.AdjointIdeal.main_arg1) = m ((c.tc : Thread Cert.AdjointIdeal.nD Cert.AdjointIdeal.τ).loc Cert.AdjointIdeal.main_arg1)
      ∧ r.2.mem ((c.tc : Thread Cert.AdjointIdeal.nD Cert.AdjointIdeal.τ).loc Cert.AdjointIdeal.main_arg2) = m ((c.tc : Thread Cert.AdjointIdeal.nD Cert.AdjointIdeal.τ).loc Cert.AdjointIdeal.main_arg2)
      ∧ r.2.mem ((c.tc : Thread Cert.AdjointIdeal.nD Cert.AdjointIdeal.τ).loc Cert.AdjointIdeal.main_arg3) = m ((c.tc : Thread Cert.AdjointIdeal.nD Cert.AdjointIdeal.τ).loc Cert.AdjointIdeal.main_arg3)
      ∧ r.2.mem ((c.tc : Thread Cert.AdjointIdeal.nD Cert.AdjointIdeal.τ).loc Cert.AdjointIdeal.main_arg4) = m ((c.tc : Thread Cert.AdjointIdeal.nD Cert.AdjointIdeal.τ).loc Cert.AdjointIdeal.main_arg4)
      ∧ r.2.mem ((c.tc : Thread Cert.AdjointIdeal.nD Cert.AdjointIdeal.τ).loc Cert.AdjointIdeal.main_arg5) = m ((c.tc : Thread Cert.AdjointIdeal.nD Cert.AdjointIdeal.τ).loc Cert.AdjointIdeal.main_arg5)
      ∧ r.2.mem ((c.tc : Thread Cert.AdjointIdeal.nD Cert.AdjointIdeal.τ).loc Cert.AdjointIdeal.main_arg6) = m ((c.tc : Thread Cert.AdjointIdeal.nD Cert.AdjointIdeal.τ).loc Cert.AdjointIdeal.main_arg6)
      ∧ r.2.mem ((c.tc : Thread Cert.AdjointIdeal.nD Cert.AdjointIdeal.τ).loc Cert.AdjointIdeal.main_arg7) = m ((c.tc : Thread Cert.AdjointIdeal.nD Cert.AdjointIdeal.τ).loc Cert.AdjointIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v51) = v0 c
          ∧ r.2.mem ((c.tc : Thread Cert.GateRefIdeal.nD Cert.GateRefIdeal.τ).loc Cert.GateRefIdeal.main_v52) = v1 c
          ∧ r.2.mem ((c.tc : Thread Cert.GateRefIdeal.nD Cert.GateRefIdeal.τ).loc Cert.GateRefIdeal.main_v53) = v2 c
          ∧ r.2.mem ((c.tc : Thread Cert.GateRefIdeal.nD Cert.GateRefIdeal.τ).loc Cert.GateRefIdeal.main_v50) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v41) = v0 c
          ∧ r.2.mem ((c.tc : Thread Cert.NormRefIdeal.nD Cert.NormRefIdeal.τ).loc Cert.NormRefIdeal.main_v42) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Ple_PleIdeal : Prop :=
  True

def algebraic_PleIdeal_PleRefIdeal_pre_finite_ple [hPleIdeal : Cert.PleIdeal.Facts] [hPleRefIdeal : Cert.PleRefIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal_finite_ple m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v1_0)) (v1 : (c : Dev Cert.PleIdeal.nD) → Buf (Elt Ideal) ((c.tc : Thread Cert.PleIdeal.nD Cert.PleIdeal.τ).loc Cert.PleIdeal.main_v1_1)) (v2 : (c : Dev Cert.PleIdeal.nD) → Buf (Elt Ideal) ((c.tc : Thread Cert.PleIdeal.nD Cert.PleIdeal.τ).loc Cert.PleIdeal.main_v1_2)) (v3 : (c : Dev Cert.PleIdeal.nD) → Buf (Elt Ideal) ((c.tc : Thread Cert.PleIdeal.nD Cert.PleIdeal.τ).loc Cert.PleIdeal.main_v1_3)) (v4 : (c : Dev Cert.PleIdeal.nD) → Buf (Elt Ideal) ((c.tc : Thread Cert.PleIdeal.nD Cert.PleIdeal.τ).loc Cert.PleIdeal.main_v1_4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1_0) = v0 c
          ∧ r.2.mem ((c.tc : Thread Cert.PleIdeal.nD Cert.PleIdeal.τ).loc Cert.PleIdeal.main_v1_1) = v1 c
          ∧ r.2.mem ((c.tc : Thread Cert.PleIdeal.nD Cert.PleIdeal.τ).loc Cert.PleIdeal.main_v1_2) = v2 c
          ∧ r.2.mem ((c.tc : Thread Cert.PleIdeal.nD Cert.PleIdeal.τ).loc Cert.PleIdeal.main_v1_3) = v3 c
          ∧ r.2.mem ((c.tc : Thread Cert.PleIdeal.nD Cert.PleIdeal.τ).loc Cert.PleIdeal.main_v1_4) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v71) = v0 c
          ∧ r.2.mem ((c.tc : Thread Cert.PleRefIdeal.nD Cert.PleRefIdeal.τ).loc Cert.PleRefIdeal.main_v72) = v1 c
          ∧ r.2.mem ((c.tc : Thread Cert.PleRefIdeal.nD Cert.PleRefIdeal.τ).loc Cert.PleRefIdeal.main_v66) = v2 c
          ∧ r.2.mem ((c.tc : Thread Cert.PleRefIdeal.nD Cert.PleRefIdeal.τ).loc Cert.PleRefIdeal.main_v67) = v3 c
          ∧ r.2.mem ((c.tc : Thread Cert.PleRefIdeal.nD Cert.PleRefIdeal.τ).loc Cert.PleRefIdeal.main_v73) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Glu_GluIdeal : Prop :=
  IdealRules.named_const.Statement Cert.GluIdeal.κ "gelu_a" .f32 0x3D372713#32 ((8943 / 200000 : ℝ) : EReal)
  ∧ IdealRules.named_const.Statement Cert.GluIdeal.κ "gelu_a3" .f32 0x3E095D4F#32 ((26829 / 200000 : ℝ) : EReal)

def algebraic_GluIdeal_GluRefIdeal_pre_finite_glu [hGluIdeal : Cert.GluIdeal.Facts] [hGluRefIdeal : Cert.GluRefIdeal.Facts] [hPre_finite_glu : Cert.Pre_finite_glu.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal_finite_glu m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v37) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Zoh_ZohIdeal : Prop :=
  True

def algebraic_ZohIdeal_ZohRefIdeal [hZohIdeal : Cert.ZohIdeal.Facts] [hZohRefIdeal : Cert.ZohRefIdeal.Facts] : Prop :=
  ∀ (m : (ℓ : Loc Cert.ZohIdeal.nD Cert.ZohIdeal.τ Cert.ZohIdeal.sig) → Buf (Elt Ideal) ℓ) (g : Dev Cert.ZohIdeal.nD → PrngReg)
    (m' : (ℓ : Loc Cert.ZohRefIdeal.nD Cert.ZohRefIdeal.τ Cert.ZohRefIdeal.sig) → Buf (Elt Ideal) ℓ) (g' : Dev Cert.ZohRefIdeal.nD → PrngReg), Pre_ZohIdeal m →
    (∀ c : Dev Cert.ZohIdeal.nD,
      m' ((c.tc : Thread Cert.ZohRefIdeal.nD Cert.ZohRefIdeal.τ).loc Cert.ZohRefIdeal.main_arg0) = m ((c.tc : Thread Cert.ZohIdeal.nD Cert.ZohIdeal.τ).loc Cert.ZohIdeal.main_arg0)
      ∧ m' ((c.tc : Thread Cert.ZohRefIdeal.nD Cert.ZohRefIdeal.τ).loc Cert.ZohRefIdeal.main_arg1) = m ((c.tc : Thread Cert.ZohIdeal.nD Cert.ZohIdeal.τ).loc Cert.ZohIdeal.main_arg1)
      ∧ m' ((c.tc : Thread Cert.ZohRefIdeal.nD Cert.ZohRefIdeal.τ).loc Cert.ZohRefIdeal.main_arg2) = m ((c.tc : Thread Cert.ZohIdeal.nD Cert.ZohIdeal.τ).loc Cert.ZohIdeal.main_arg2)
      ∧ m' ((c.tc : Thread Cert.ZohRefIdeal.nD Cert.ZohRefIdeal.τ).loc Cert.ZohRefIdeal.main_arg3) = m ((c.tc : Thread Cert.ZohIdeal.nD Cert.ZohIdeal.τ).loc Cert.ZohIdeal.main_arg3)
      ∧ m' ((c.tc : Thread Cert.ZohRefIdeal.nD Cert.ZohRefIdeal.τ).loc Cert.ZohRefIdeal.main_arg4) = m ((c.tc : Thread Cert.ZohIdeal.nD Cert.ZohIdeal.τ).loc Cert.ZohIdeal.main_arg4)
      ∧ m' ((c.tc : Thread Cert.ZohRefIdeal.nD Cert.ZohRefIdeal.τ).loc Cert.ZohRefIdeal.main_arg5) = m ((c.tc : Thread Cert.ZohIdeal.nD Cert.ZohIdeal.τ).loc Cert.ZohIdeal.main_arg5)
      ∧ m' ((c.tc : Thread Cert.ZohRefIdeal.nD Cert.ZohRefIdeal.τ).loc Cert.ZohRefIdeal.main_arg6) = m ((c.tc : Thread Cert.ZohIdeal.nD Cert.ZohIdeal.τ).loc Cert.ZohIdeal.main_arg6)
      ∧ m' ((c.tc : Thread Cert.ZohRefIdeal.nD Cert.ZohRefIdeal.τ).loc Cert.ZohRefIdeal.main_arg7) = m ((c.tc : Thread Cert.ZohIdeal.nD Cert.ZohIdeal.τ).loc Cert.ZohIdeal.main_arg7)
      ∧ m' ((c.tc : Thread Cert.ZohRefIdeal.nD Cert.ZohRefIdeal.τ).loc Cert.ZohRefIdeal.main_arg8) = m ((c.tc : Thread Cert.ZohIdeal.nD Cert.ZohIdeal.τ).loc Cert.ZohIdeal.main_arg8)) →
    ∃ (v0 : (c : Dev Cert.ZohIdeal.nD) → Buf (Elt Ideal) ((c.tc : Thread Cert.ZohIdeal.nD Cert.ZohIdeal.τ).loc Cert.ZohIdeal.main_v5_0)) (v1 : (c : Dev Cert.ZohIdeal.nD) → Buf (Elt Ideal) ((c.tc : Thread Cert.ZohIdeal.nD Cert.ZohIdeal.τ).loc Cert.ZohIdeal.main_v5_1)) (v2 : (c : Dev Cert.ZohIdeal.nD) → Buf (Elt Ideal) ((c.tc : Thread Cert.ZohIdeal.nD Cert.ZohIdeal.τ).loc Cert.ZohIdeal.main_v5_2)) (v3 : (c : Dev Cert.ZohIdeal.nD) → Buf (Elt Ideal) ((c.tc : Thread Cert.ZohIdeal.nD Cert.ZohIdeal.τ).loc Cert.ZohIdeal.main_v5_3)) (v4 : (c : Dev Cert.ZohIdeal.nD) → Buf (Elt Ideal) ((c.tc : Thread Cert.ZohIdeal.nD Cert.ZohIdeal.τ).loc Cert.ZohIdeal.main_v5_4)),
      θ_run (Cert.ZohIdeal.defs (F := Ideal)) (onTc (τ := Cert.ZohIdeal.τ) (Cert.ZohIdeal.main (F := Ideal))) ⟨m, fun _ => 0, g⟩ (fun r => ∀ c : Dev Cert.ZohIdeal.nD,
          r.2.mem ((c.tc : Thread Cert.ZohIdeal.nD Cert.ZohIdeal.τ).loc Cert.ZohIdeal.main_v5_0) = v0 c
          ∧ r.2.mem ((c.tc : Thread Cert.ZohIdeal.nD Cert.ZohIdeal.τ).loc Cert.ZohIdeal.main_v5_1) = v1 c
          ∧ r.2.mem ((c.tc : Thread Cert.ZohIdeal.nD Cert.ZohIdeal.τ).loc Cert.ZohIdeal.main_v5_2) = v2 c
          ∧ r.2.mem ((c.tc : Thread Cert.ZohIdeal.nD Cert.ZohIdeal.τ).loc Cert.ZohIdeal.main_v5_3) = v3 c
          ∧ r.2.mem ((c.tc : Thread Cert.ZohIdeal.nD Cert.ZohIdeal.τ).loc Cert.ZohIdeal.main_v5_4) = v4 c
          ∧ r.2.mem ((c.tc : Thread Cert.ZohIdeal.nD Cert.ZohIdeal.τ).loc Cert.ZohIdeal.main_arg0) = m ((c.tc : Thread Cert.ZohIdeal.nD Cert.ZohIdeal.τ).loc Cert.ZohIdeal.main_arg0)
          ∧ r.2.mem ((c.tc : Thread Cert.ZohIdeal.nD Cert.ZohIdeal.τ).loc Cert.ZohIdeal.main_arg1) = m ((c.tc : Thread Cert.ZohIdeal.nD Cert.ZohIdeal.τ).loc Cert.ZohIdeal.main_arg1)
          ∧ r.2.mem ((c.tc : Thread Cert.ZohIdeal.nD Cert.ZohIdeal.τ).loc Cert.ZohIdeal.main_arg2) = m ((c.tc : Thread Cert.ZohIdeal.nD Cert.ZohIdeal.τ).loc Cert.ZohIdeal.main_arg2)
          ∧ r.2.mem ((c.tc : Thread Cert.ZohIdeal.nD Cert.ZohIdeal.τ).loc Cert.ZohIdeal.main_arg3) = m ((c.tc : Thread Cert.ZohIdeal.nD Cert.ZohIdeal.τ).loc Cert.ZohIdeal.main_arg3)
          ∧ r.2.mem ((c.tc : Thread Cert.ZohIdeal.nD Cert.ZohIdeal.τ).loc Cert.ZohIdeal.main_arg4) = m ((c.tc : Thread Cert.ZohIdeal.nD Cert.ZohIdeal.τ).loc Cert.ZohIdeal.main_arg4)
          ∧ r.2.mem ((c.tc : Thread Cert.ZohIdeal.nD Cert.ZohIdeal.τ).loc Cert.ZohIdeal.main_arg5) = m ((c.tc : Thread Cert.ZohIdeal.nD Cert.ZohIdeal.τ).loc Cert.ZohIdeal.main_arg5)
          ∧ r.2.mem ((c.tc : Thread Cert.ZohIdeal.nD Cert.ZohIdeal.τ).loc Cert.ZohIdeal.main_arg6) = m ((c.tc : Thread Cert.ZohIdeal.nD Cert.ZohIdeal.τ).loc Cert.ZohIdeal.main_arg6)
          ∧ r.2.mem ((c.tc : Thread Cert.ZohIdeal.nD Cert.ZohIdeal.τ).loc Cert.ZohIdeal.main_arg7) = m ((c.tc : Thread Cert.ZohIdeal.nD Cert.ZohIdeal.τ).loc Cert.ZohIdeal.main_arg7)
          ∧ r.2.mem ((c.tc : Thread Cert.ZohIdeal.nD Cert.ZohIdeal.τ).loc Cert.ZohIdeal.main_arg8) = m ((c.tc : Thread Cert.ZohIdeal.nD Cert.ZohIdeal.τ).loc Cert.ZohIdeal.main_arg8))
      ∧ θ_run (Cert.ZohRefIdeal.defs (F := Ideal)) (onTc (τ := Cert.ZohRefIdeal.τ) (Cert.ZohRefIdeal.main (F := Ideal))) ⟨m', fun _ => 0, g'⟩ (fun r => ∀ c : Dev Cert.ZohRefIdeal.nD,
          r.2.mem ((c.tc : Thread Cert.ZohRefIdeal.nD Cert.ZohRefIdeal.τ).loc Cert.ZohRefIdeal.main_v146) = v0 c
          ∧ r.2.mem ((c.tc : Thread Cert.ZohRefIdeal.nD Cert.ZohRefIdeal.τ).loc Cert.ZohRefIdeal.main_v135) = v1 c
          ∧ r.2.mem ((c.tc : Thread Cert.ZohRefIdeal.nD Cert.ZohRefIdeal.τ).loc Cert.ZohRefIdeal.main_v147) = v2 c
          ∧ r.2.mem ((c.tc : Thread Cert.ZohRefIdeal.nD Cert.ZohRefIdeal.τ).loc Cert.ZohRefIdeal.main_v148) = v3 c
          ∧ r.2.mem ((c.tc : Thread Cert.ZohRefIdeal.nD Cert.ZohRefIdeal.τ).loc Cert.ZohRefIdeal.main_v149) = v4 c
          ∧ r.2.mem ((c.tc : Thread Cert.ZohRefIdeal.nD Cert.ZohRefIdeal.τ).loc Cert.ZohRefIdeal.main_arg0) = m' ((c.tc : Thread Cert.ZohRefIdeal.nD Cert.ZohRefIdeal.τ).loc Cert.ZohRefIdeal.main_arg0)
          ∧ r.2.mem ((c.tc : Thread Cert.ZohRefIdeal.nD Cert.ZohRefIdeal.τ).loc Cert.ZohRefIdeal.main_arg1) = m' ((c.tc : Thread Cert.ZohRefIdeal.nD Cert.ZohRefIdeal.τ).loc Cert.ZohRefIdeal.main_arg1)
          ∧ r.2.mem ((c.tc : Thread Cert.ZohRefIdeal.nD Cert.ZohRefIdeal.τ).loc Cert.ZohRefIdeal.main_arg2) = m' ((c.tc : Thread Cert.ZohRefIdeal.nD Cert.ZohRefIdeal.τ).loc Cert.ZohRefIdeal.main_arg2)
          ∧ r.2.mem ((c.tc : Thread Cert.ZohRefIdeal.nD Cert.ZohRefIdeal.τ).loc Cert.ZohRefIdeal.main_arg3) = m' ((c.tc : Thread Cert.ZohRefIdeal.nD Cert.ZohRefIdeal.τ).loc Cert.ZohRefIdeal.main_arg3)
          ∧ r.2.mem ((c.tc : Thread Cert.ZohRefIdeal.nD Cert.ZohRefIdeal.τ).loc Cert.ZohRefIdeal.main_arg4) = m' ((c.tc : Thread Cert.ZohRefIdeal.nD Cert.ZohRefIdeal.τ).loc Cert.ZohRefIdeal.main_arg4)
          ∧ r.2.mem ((c.tc : Thread Cert.ZohRefIdeal.nD Cert.ZohRefIdeal.τ).loc Cert.ZohRefIdeal.main_arg5) = m' ((c.tc : Thread Cert.ZohRefIdeal.nD Cert.ZohRefIdeal.τ).loc Cert.ZohRefIdeal.main_arg5)
          ∧ r.2.mem ((c.tc : Thread Cert.ZohRefIdeal.nD Cert.ZohRefIdeal.τ).loc Cert.ZohRefIdeal.main_arg6) = m' ((c.tc : Thread Cert.ZohRefIdeal.nD Cert.ZohRefIdeal.τ).loc Cert.ZohRefIdeal.main_arg6)
          ∧ r.2.mem ((c.tc : Thread Cert.ZohRefIdeal.nD Cert.ZohRefIdeal.τ).loc Cert.ZohRefIdeal.main_arg7) = m' ((c.tc : Thread Cert.ZohRefIdeal.nD Cert.ZohRefIdeal.τ).loc Cert.ZohRefIdeal.main_arg7)
          ∧ r.2.mem ((c.tc : Thread Cert.ZohRefIdeal.nD Cert.ZohRefIdeal.τ).loc Cert.ZohRefIdeal.main_arg8) = m' ((c.tc : Thread Cert.ZohRefIdeal.nD Cert.ZohRefIdeal.τ).loc Cert.ZohRefIdeal.main_arg8))

def preserves_Disc_DiscIdeal : Prop :=
  True

def algebraic_DiscIdeal_DiscRefIdeal [hDiscIdeal : Cert.DiscIdeal.Facts] [hDiscRefIdeal : Cert.DiscRefIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscRefIdeal.nD Cert.DiscRefIdeal.τ Cert.DiscRefIdeal.sig) → Buf (Elt Ideal) ℓ) (g' : Dev Cert.DiscRefIdeal.nD → PrngReg), Pre_DiscIdeal m →
    (∀ c : Dev Cert.DiscIdeal.nD,
      m' ((c.tc : Thread Cert.DiscRefIdeal.nD Cert.DiscRefIdeal.τ).loc Cert.DiscRefIdeal.main_arg0) = m ((c.tc : Thread Cert.DiscIdeal.nD Cert.DiscIdeal.τ).loc Cert.DiscIdeal.main_arg0)
      ∧ m' ((c.tc : Thread Cert.DiscRefIdeal.nD Cert.DiscRefIdeal.τ).loc Cert.DiscRefIdeal.main_arg1) = m ((c.tc : Thread Cert.DiscIdeal.nD Cert.DiscIdeal.τ).loc Cert.DiscIdeal.main_arg1)
      ∧ m' ((c.tc : Thread Cert.DiscRefIdeal.nD Cert.DiscRefIdeal.τ).loc Cert.DiscRefIdeal.main_arg2) = m ((c.tc : Thread Cert.DiscIdeal.nD Cert.DiscIdeal.τ).loc Cert.DiscIdeal.main_arg2)
      ∧ m' ((c.tc : Thread Cert.DiscRefIdeal.nD Cert.DiscRefIdeal.τ).loc Cert.DiscRefIdeal.main_arg3) = m ((c.tc : Thread Cert.DiscIdeal.nD Cert.DiscIdeal.τ).loc Cert.DiscIdeal.main_arg3)
      ∧ m' ((c.tc : Thread Cert.DiscRefIdeal.nD Cert.DiscRefIdeal.τ).loc Cert.DiscRefIdeal.main_arg4) = m ((c.tc : Thread Cert.DiscIdeal.nD Cert.DiscIdeal.τ).loc Cert.DiscIdeal.main_arg4)) →
    ∃ (v0 : (c : Dev Cert.DiscIdeal.nD) → Buf (Elt Ideal) ((c.tc : Thread Cert.DiscIdeal.nD Cert.DiscIdeal.τ).loc Cert.DiscIdeal.main_v3_0)) (v1 : (c : Dev Cert.DiscIdeal.nD) → Buf (Elt Ideal) ((c.tc : Thread Cert.DiscIdeal.nD Cert.DiscIdeal.τ).loc Cert.DiscIdeal.main_v3_1)) (v2 : (c : Dev Cert.DiscIdeal.nD) → Buf (Elt Ideal) ((c.tc : Thread Cert.DiscIdeal.nD Cert.DiscIdeal.τ).loc Cert.DiscIdeal.main_v3_2)) (v3 : (c : Dev Cert.DiscIdeal.nD) → Buf (Elt Ideal) ((c.tc : Thread Cert.DiscIdeal.nD Cert.DiscIdeal.τ).loc Cert.DiscIdeal.main_v3_3)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v3_0) = v0 c
          ∧ r.2.mem ((c.tc : Thread Cert.DiscIdeal.nD Cert.DiscIdeal.τ).loc Cert.DiscIdeal.main_v3_1) = v1 c
          ∧ r.2.mem ((c.tc : Thread Cert.DiscIdeal.nD Cert.DiscIdeal.τ).loc Cert.DiscIdeal.main_v3_2) = v2 c
          ∧ r.2.mem ((c.tc : Thread Cert.DiscIdeal.nD Cert.DiscIdeal.τ).loc Cert.DiscIdeal.main_v3_3) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ θ_run (Cert.DiscRefIdeal.defs (F := Ideal)) (onTc (τ := Cert.DiscRefIdeal.τ) (Cert.DiscRefIdeal.main (F := Ideal))) ⟨m', fun _ => 0, g'⟩ (fun r => ∀ c : Dev Cert.DiscRefIdeal.nD,
          r.2.mem ((c.tc : Thread Cert.DiscRefIdeal.nD Cert.DiscRefIdeal.τ).loc Cert.DiscRefIdeal.main_v10) = v0 c
          ∧ r.2.mem ((c.tc : Thread Cert.DiscRefIdeal.nD Cert.DiscRefIdeal.τ).loc Cert.DiscRefIdeal.main_v12) = v1 c
          ∧ r.2.mem ((c.tc : Thread Cert.DiscRefIdeal.nD Cert.DiscRefIdeal.τ).loc Cert.DiscRefIdeal.main_v40) = v2 c
          ∧ r.2.mem ((c.tc : Thread Cert.DiscRefIdeal.nD Cert.DiscRefIdeal.τ).loc Cert.DiscRefIdeal.main_v41) = v3 c
          ∧ r.2.mem ((c.tc : Thread Cert.DiscRefIdeal.nD Cert.DiscRefIdeal.τ).loc Cert.DiscRefIdeal.main_arg0) = m' ((c.tc : Thread Cert.DiscRefIdeal.nD Cert.DiscRefIdeal.τ).loc Cert.DiscRefIdeal.main_arg0)
          ∧ r.2.mem ((c.tc : Thread Cert.DiscRefIdeal.nD Cert.DiscRefIdeal.τ).loc Cert.DiscRefIdeal.main_arg1) = m' ((c.tc : Thread Cert.DiscRefIdeal.nD Cert.DiscRefIdeal.τ).loc Cert.DiscRefIdeal.main_arg1)
          ∧ r.2.mem ((c.tc : Thread Cert.DiscRefIdeal.nD Cert.DiscRefIdeal.τ).loc Cert.DiscRefIdeal.main_arg2) = m' ((c.tc : Thread Cert.DiscRefIdeal.nD Cert.DiscRefIdeal.τ).loc Cert.DiscRefIdeal.main_arg2)
          ∧ r.2.mem ((c.tc : Thread Cert.DiscRefIdeal.nD Cert.DiscRefIdeal.τ).loc Cert.DiscRefIdeal.main_arg3) = m' ((c.tc : Thread Cert.DiscRefIdeal.nD Cert.DiscRefIdeal.τ).loc Cert.DiscRefIdeal.main_arg3)
          ∧ r.2.mem ((c.tc : Thread Cert.DiscRefIdeal.nD Cert.DiscRefIdeal.τ).loc Cert.DiscRefIdeal.main_arg4) = m' ((c.tc : Thread Cert.DiscRefIdeal.nD Cert.DiscRefIdeal.τ).loc Cert.DiscRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v16) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v23) = v0 c
          ∧ r.2.mem ((c.tc : Thread Cert.MixRefIdeal.nD Cert.MixRefIdeal.τ).loc Cert.MixRefIdeal.main_v22) = v1 c
          ∧ r.2.mem ((c.tc : Thread Cert.MixRefIdeal.nD Cert.MixRefIdeal.τ).loc Cert.MixRefIdeal.main_v24) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Trail_TrailIdeal : Prop :=
  True

def algebraic_TrailIdeal_TrailRefIdeal_pre_finite_pool [hTrailIdeal : Cert.TrailIdeal.Facts] [hTrailRefIdeal : Cert.TrailRefIdeal.Facts] [hPre_finite_pool : Cert.Pre_finite_pool.Facts] : Prop :=
  ∀ (m : (ℓ : Loc Cert.TrailIdeal.nD Cert.TrailIdeal.τ Cert.TrailIdeal.sig) → Buf (Elt Ideal) ℓ) (g : Dev Cert.TrailIdeal.nD → PrngReg)
    (m' : (ℓ : Loc Cert.TrailRefIdeal.nD Cert.TrailRefIdeal.τ Cert.TrailRefIdeal.sig) → Buf (Elt Ideal) ℓ) (g' : Dev Cert.TrailRefIdeal.nD → PrngReg), Pre_TrailIdeal_finite_pool m →
    (∀ c : Dev Cert.TrailIdeal.nD,
      m' ((c.tc : Thread Cert.TrailRefIdeal.nD Cert.TrailRefIdeal.τ).loc Cert.TrailRefIdeal.main_arg0) = m ((c.tc : Thread Cert.TrailIdeal.nD Cert.TrailIdeal.τ).loc Cert.TrailIdeal.main_arg0)
      ∧ m' ((c.tc : Thread Cert.TrailRefIdeal.nD Cert.TrailRefIdeal.τ).loc Cert.TrailRefIdeal.main_arg1) = m ((c.tc : Thread Cert.TrailIdeal.nD Cert.TrailIdeal.τ).loc Cert.TrailIdeal.main_arg1)) →
    ∃ (v0 : (c : Dev Cert.TrailIdeal.nD) → Buf (Elt Ideal) ((c.tc : Thread Cert.TrailIdeal.nD Cert.TrailIdeal.τ).loc Cert.TrailIdeal.main_v0_0)) (v1 : (c : Dev Cert.TrailIdeal.nD) → Buf (Elt Ideal) ((c.tc : Thread Cert.TrailIdeal.nD Cert.TrailIdeal.τ).loc Cert.TrailIdeal.main_v0_1)),
      θ_run (Cert.TrailIdeal.defs (F := Ideal)) (onTc (τ := Cert.TrailIdeal.τ) (Cert.TrailIdeal.main (F := Ideal))) ⟨m, fun _ => 0, g⟩ (fun r => ∀ c : Dev Cert.TrailIdeal.nD,
          r.2.mem ((c.tc : Thread Cert.TrailIdeal.nD Cert.TrailIdeal.τ).loc Cert.TrailIdeal.main_v0_0) = v0 c
          ∧ r.2.mem ((c.tc : Thread Cert.TrailIdeal.nD Cert.TrailIdeal.τ).loc Cert.TrailIdeal.main_v0_1) = v1 c
          ∧ r.2.mem ((c.tc : Thread Cert.TrailIdeal.nD Cert.TrailIdeal.τ).loc Cert.TrailIdeal.main_arg0) = m ((c.tc : Thread Cert.TrailIdeal.nD Cert.TrailIdeal.τ).loc Cert.TrailIdeal.main_arg0)
          ∧ r.2.mem ((c.tc : Thread Cert.TrailIdeal.nD Cert.TrailIdeal.τ).loc Cert.TrailIdeal.main_arg1) = m ((c.tc : Thread Cert.TrailIdeal.nD Cert.TrailIdeal.τ).loc Cert.TrailIdeal.main_arg1))
      ∧ θ_run (Cert.TrailRefIdeal.defs (F := Ideal)) (onTc (τ := Cert.TrailRefIdeal.τ) (Cert.TrailRefIdeal.main (F := Ideal))) ⟨m', fun _ => 0, g'⟩ (fun r => ∀ c : Dev Cert.TrailRefIdeal.nD,
          r.2.mem ((c.tc : Thread Cert.TrailRefIdeal.nD Cert.TrailRefIdeal.τ).loc Cert.TrailRefIdeal.main_v87) = v0 c
          ∧ r.2.mem ((c.tc : Thread Cert.TrailRefIdeal.nD Cert.TrailRefIdeal.τ).loc Cert.TrailRefIdeal.main_v88) = v1 c
          ∧ r.2.mem ((c.tc : Thread Cert.TrailRefIdeal.nD Cert.TrailRefIdeal.τ).loc Cert.TrailRefIdeal.main_arg0) = m' ((c.tc : Thread Cert.TrailRefIdeal.nD Cert.TrailRefIdeal.τ).loc Cert.TrailRefIdeal.main_arg0)
          ∧ r.2.mem ((c.tc : Thread Cert.TrailRefIdeal.nD Cert.TrailRefIdeal.τ).loc Cert.TrailRefIdeal.main_arg1) = m' ((c.tc : Thread Cert.TrailRefIdeal.nD Cert.TrailRefIdeal.τ).loc Cert.TrailRefIdeal.main_arg1))

def preserves_Lin_LinIdeal : Prop :=
  True

def algebraic_LinIdeal_LinRefIdeal [hLinIdeal : Cert.LinIdeal.Facts] [hLinRefIdeal : Cert.LinRefIdeal.Facts] : Prop :=
  ∀ (m : (ℓ : Loc Cert.LinIdeal.nD Cert.LinIdeal.τ Cert.LinIdeal.sig) → Buf (Elt Ideal) ℓ) (g : Dev Cert.LinIdeal.nD → PrngReg)
    (m' : (ℓ : Loc Cert.LinRefIdeal.nD Cert.LinRefIdeal.τ Cert.LinRefIdeal.sig) → Buf (Elt Ideal) ℓ) (g' : Dev Cert.LinRefIdeal.nD → PrngReg), Pre_LinIdeal m →
    (∀ c : Dev Cert.LinIdeal.nD,
      m' ((c.tc : Thread Cert.LinRefIdeal.nD Cert.LinRefIdeal.τ).loc Cert.LinRefIdeal.main_arg0) = m ((c.tc : Thread Cert.LinIdeal.nD Cert.LinIdeal.τ).loc Cert.LinIdeal.main_arg0)
      ∧ m' ((c.tc : Thread Cert.LinRefIdeal.nD Cert.LinRefIdeal.τ).loc Cert.LinRefIdeal.main_arg1) = m ((c.tc : Thread Cert.LinIdeal.nD Cert.LinIdeal.τ).loc Cert.LinIdeal.main_arg1)) →
    ∃ (v0 : (c : Dev Cert.LinIdeal.nD) → Buf (Elt Ideal) ((c.tc : Thread Cert.LinIdeal.nD Cert.LinIdeal.τ).loc Cert.LinIdeal.main_v0)),
      θ_run (Cert.LinIdeal.defs (F := Ideal)) (onTc (τ := Cert.LinIdeal.τ) (Cert.LinIdeal.main (F := Ideal))) ⟨m, fun _ => 0, g⟩ (fun r => ∀ c : Dev Cert.LinIdeal.nD,
          r.2.mem ((c.tc : Thread Cert.LinIdeal.nD Cert.LinIdeal.τ).loc Cert.LinIdeal.main_v0) = v0 c
          ∧ r.2.mem ((c.tc : Thread Cert.LinIdeal.nD Cert.LinIdeal.τ).loc Cert.LinIdeal.main_arg0) = m ((c.tc : Thread Cert.LinIdeal.nD Cert.LinIdeal.τ).loc Cert.LinIdeal.main_arg0)
          ∧ r.2.mem ((c.tc : Thread Cert.LinIdeal.nD Cert.LinIdeal.τ).loc Cert.LinIdeal.main_arg1) = m ((c.tc : Thread Cert.LinIdeal.nD Cert.LinIdeal.τ).loc Cert.LinIdeal.main_arg1))
      ∧ θ_run (Cert.LinRefIdeal.defs (F := Ideal)) (onTc (τ := Cert.LinRefIdeal.τ) (Cert.LinRefIdeal.main (F := Ideal))) ⟨m', fun _ => 0, g'⟩ (fun r => ∀ c : Dev Cert.LinRefIdeal.nD,
          r.2.mem ((c.tc : Thread Cert.LinRefIdeal.nD Cert.LinRefIdeal.τ).loc Cert.LinRefIdeal.main_v2) = v0 c
          ∧ r.2.mem ((c.tc : Thread Cert.LinRefIdeal.nD Cert.LinRefIdeal.τ).loc Cert.LinRefIdeal.main_arg0) = m' ((c.tc : Thread Cert.LinRefIdeal.nD Cert.LinRefIdeal.τ).loc Cert.LinRefIdeal.main_arg0)
          ∧ r.2.mem ((c.tc : Thread Cert.LinRefIdeal.nD Cert.LinRefIdeal.τ).loc Cert.LinRefIdeal.main_arg1) = m' ((c.tc : Thread Cert.LinRefIdeal.nD Cert.LinRefIdeal.τ).loc Cert.LinRefIdeal.main_arg1))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)
      ∧ m' ((c.tc : Thread Cert.WgradRefIdeal.nD Cert.WgradRefIdeal.τ).loc Cert.WgradRefIdeal.main_arg2) = m ((c.tc : Thread Cert.WgradIdeal.nD Cert.WgradIdeal.τ).loc Cert.WgradIdeal.main_arg2)) →
    ∃ (v0 : (c : Dev Cert.WgradIdeal.nD) → Buf (Elt Ideal) ((c.tc : Thread Cert.WgradIdeal.nD Cert.WgradIdeal.τ).loc Cert.WgradIdeal.main_v15)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v15) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1)
          ∧ r.2.mem ((c.tc : Thread Cert.WgradIdeal.nD Cert.WgradIdeal.τ).loc Cert.WgradIdeal.main_arg2) = m ((c.tc : Thread Cert.WgradIdeal.nD Cert.WgradIdeal.τ).loc Cert.WgradIdeal.main_arg2))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v19) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1)
          ∧ r.2.mem ((c.tc : Thread Cert.WgradRefIdeal.nD Cert.WgradRefIdeal.τ).loc Cert.WgradRefIdeal.main_arg2) = m' ((c.tc : Thread Cert.WgradRefIdeal.nD Cert.WgradRefIdeal.τ).loc Cert.WgradRefIdeal.main_arg2))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v0_0)) (v1 : (c : Dev Cert.ResidIdeal.nD) → Buf (Elt Ideal) ((c.tc : Thread Cert.ResidIdeal.nD Cert.ResidIdeal.τ).loc Cert.ResidIdeal.main_v0_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0_0) = v0 c
          ∧ r.2.mem ((c.tc : Thread Cert.ResidIdeal.nD Cert.ResidIdeal.τ).loc Cert.ResidIdeal.main_v0_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v5) = v0 c
          ∧ r.2.mem ((c.tc : Thread Cert.ResidRefIdeal.nD Cert.ResidRefIdeal.τ).loc Cert.ResidRefIdeal.main_v6) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def preserves_Poolw_PoolwIdeal : Prop :=
  True

def algebraic_PoolwIdeal_PoolwRefIdeal [hPoolwIdeal : Cert.PoolwIdeal.Facts] [hPoolwRefIdeal : Cert.PoolwRefIdeal.Facts] : Prop :=
  ∀ (m : (ℓ : Loc Cert.PoolwIdeal.nD Cert.PoolwIdeal.τ Cert.PoolwIdeal.sig) → Buf (Elt Ideal) ℓ) (g : Dev Cert.PoolwIdeal.nD → PrngReg)
    (m' : (ℓ : Loc Cert.PoolwRefIdeal.nD Cert.PoolwRefIdeal.τ Cert.PoolwRefIdeal.sig) → Buf (Elt Ideal) ℓ) (g' : Dev Cert.PoolwRefIdeal.nD → PrngReg), Pre_PoolwIdeal m →
    (∀ c : Dev Cert.PoolwIdeal.nD,
      m' ((c.tc : Thread Cert.PoolwRefIdeal.nD Cert.PoolwRefIdeal.τ).loc Cert.PoolwRefIdeal.main_arg0) = m ((c.tc : Thread Cert.PoolwIdeal.nD Cert.PoolwIdeal.τ).loc Cert.PoolwIdeal.main_arg0)
      ∧ m' ((c.tc : Thread Cert.PoolwRefIdeal.nD Cert.PoolwRefIdeal.τ).loc Cert.PoolwRefIdeal.main_arg1) = m ((c.tc : Thread Cert.PoolwIdeal.nD Cert.PoolwIdeal.τ).loc Cert.PoolwIdeal.main_arg1)) →
    ∃ (v0 : (c : Dev Cert.PoolwIdeal.nD) → Buf (Elt Ideal) ((c.tc : Thread Cert.PoolwIdeal.nD Cert.PoolwIdeal.τ).loc Cert.PoolwIdeal.main_v85)),
      θ_run (Cert.PoolwIdeal.defs (F := Ideal)) (onTc (τ := Cert.PoolwIdeal.τ) (Cert.PoolwIdeal.main (F := Ideal))) ⟨m, fun _ => 0, g⟩ (fun r => ∀ c : Dev Cert.PoolwIdeal.nD,
          r.2.mem ((c.tc : Thread Cert.PoolwIdeal.nD Cert.PoolwIdeal.τ).loc Cert.PoolwIdeal.main_v85) = v0 c
          ∧ r.2.mem ((c.tc : Thread Cert.PoolwIdeal.nD Cert.PoolwIdeal.τ).loc Cert.PoolwIdeal.main_arg0) = m ((c.tc : Thread Cert.PoolwIdeal.nD Cert.PoolwIdeal.τ).loc Cert.PoolwIdeal.main_arg0)
          ∧ r.2.mem ((c.tc : Thread Cert.PoolwIdeal.nD Cert.PoolwIdeal.τ).loc Cert.PoolwIdeal.main_arg1) = m ((c.tc : Thread Cert.PoolwIdeal.nD Cert.PoolwIdeal.τ).loc Cert.PoolwIdeal.main_arg1))
      ∧ θ_run (Cert.PoolwRefIdeal.defs (F := Ideal)) (onTc (τ := Cert.PoolwRefIdeal.τ) (Cert.PoolwRefIdeal.main (F := Ideal))) ⟨m', fun _ => 0, g'⟩ (fun r => ∀ c : Dev Cert.PoolwRefIdeal.nD,
          r.2.mem ((c.tc : Thread Cert.PoolwRefIdeal.nD Cert.PoolwRefIdeal.τ).loc Cert.PoolwRefIdeal.main_v91) = v0 c
          ∧ r.2.mem ((c.tc : Thread Cert.PoolwRefIdeal.nD Cert.PoolwRefIdeal.τ).loc Cert.PoolwRefIdeal.main_arg0) = m' ((c.tc : Thread Cert.PoolwRefIdeal.nD Cert.PoolwRefIdeal.τ).loc Cert.PoolwRefIdeal.main_arg0)
          ∧ r.2.mem ((c.tc : Thread Cert.PoolwRefIdeal.nD Cert.PoolwRefIdeal.τ).loc Cert.PoolwRefIdeal.main_arg1) = m' ((c.tc : Thread Cert.PoolwRefIdeal.nD Cert.PoolwRefIdeal.τ).loc Cert.PoolwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v3) = v0 c
          ∧ r.2.mem ((c.tc : Thread Cert.AdamRefIdeal.nD Cert.AdamRefIdeal.τ).loc Cert.AdamRefIdeal.main_v27) = v1 c
          ∧ r.2.mem ((c.tc : Thread Cert.AdamRefIdeal.nD Cert.AdamRefIdeal.τ).loc Cert.AdamRefIdeal.main_v8) = v2 c
          ∧ r.2.mem ((c.tc : Thread Cert.AdamRefIdeal.nD Cert.AdamRefIdeal.τ).loc Cert.AdamRefIdeal.main_v14) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def preserves_Recur_RecurIdeal : Prop :=
  True

def preserves_Adjoint_AdjointIdeal : Prop :=
  True

def holds_AdjointIdeal_skip_gradient [hAdjointIdeal : Cert.AdjointIdeal.Facts] [hPost_skip_gradient : Cert.Post_skip_gradient.Facts] : Prop :=
  ∀ (m : (ℓ : Loc Cert.AdjointIdeal.nD Cert.AdjointIdeal.τ Cert.AdjointIdeal.sig) → Buf (Elt Ideal) ℓ) (g : Dev Cert.AdjointIdeal.nD → PrngReg), Pre_AdjointIdeal m →
    θ_run (Cert.AdjointIdeal.defs (F := Ideal)) (onTc (τ := Cert.AdjointIdeal.τ) (Cert.AdjointIdeal.main (F := Ideal))) ⟨m, fun _ => 0, g⟩ (fun r => ∀ c : Dev Cert.AdjointIdeal.nD,
      r.2.mem ((c.tc : Thread Cert.AdjointIdeal.nD Cert.AdjointIdeal.τ).loc Cert.AdjointIdeal.main_arg0) = m ((c.tc : Thread Cert.AdjointIdeal.nD Cert.AdjointIdeal.τ).loc Cert.AdjointIdeal.main_arg0)
      ∧ r.2.mem ((c.tc : Thread Cert.AdjointIdeal.nD Cert.AdjointIdeal.τ).loc Cert.AdjointIdeal.main_arg1) = m ((c.tc : Thread Cert.AdjointIdeal.nD Cert.AdjointIdeal.τ).loc Cert.AdjointIdeal.main_arg1)
      ∧ r.2.mem ((c.tc : Thread Cert.AdjointIdeal.nD Cert.AdjointIdeal.τ).loc Cert.AdjointIdeal.main_arg2) = m ((c.tc : Thread Cert.AdjointIdeal.nD Cert.AdjointIdeal.τ).loc Cert.AdjointIdeal.main_arg2)
      ∧ r.2.mem ((c.tc : Thread Cert.AdjointIdeal.nD Cert.AdjointIdeal.τ).loc Cert.AdjointIdeal.main_arg3) = m ((c.tc : Thread Cert.AdjointIdeal.nD Cert.AdjointIdeal.τ).loc Cert.AdjointIdeal.main_arg3)
      ∧ r.2.mem ((c.tc : Thread Cert.AdjointIdeal.nD Cert.AdjointIdeal.τ).loc Cert.AdjointIdeal.main_arg4) = m ((c.tc : Thread Cert.AdjointIdeal.nD Cert.AdjointIdeal.τ).loc Cert.AdjointIdeal.main_arg4)
      ∧ r.2.mem ((c.tc : Thread Cert.AdjointIdeal.nD Cert.AdjointIdeal.τ).loc Cert.AdjointIdeal.main_arg5) = m ((c.tc : Thread Cert.AdjointIdeal.nD Cert.AdjointIdeal.τ).loc Cert.AdjointIdeal.main_arg5)
      ∧ r.2.mem ((c.tc : Thread Cert.AdjointIdeal.nD Cert.AdjointIdeal.τ).loc Cert.AdjointIdeal.main_arg6) = m ((c.tc : Thread Cert.AdjointIdeal.nD Cert.AdjointIdeal.τ).loc Cert.AdjointIdeal.main_arg6)
      ∧ r.2.mem ((c.tc : Thread Cert.AdjointIdeal.nD Cert.AdjointIdeal.τ).loc Cert.AdjointIdeal.main_arg7) = m ((c.tc : Thread Cert.AdjointIdeal.nD Cert.AdjointIdeal.τ).loc Cert.AdjointIdeal.main_arg7)
      ∧ (Cert.Post_skip_gradient.fn (F := Ideal) (m ((c.tc : Thread Cert.AdjointIdeal.nD Cert.AdjointIdeal.τ).loc Cert.AdjointIdeal.main_arg0)) (m ((c.tc : Thread Cert.AdjointIdeal.nD Cert.AdjointIdeal.τ).loc Cert.AdjointIdeal.main_arg1)) (m ((c.tc : Thread Cert.AdjointIdeal.nD Cert.AdjointIdeal.τ).loc Cert.AdjointIdeal.main_arg2)) (m ((c.tc : Thread Cert.AdjointIdeal.nD Cert.AdjointIdeal.τ).loc Cert.AdjointIdeal.main_arg3)) (m ((c.tc : Thread Cert.AdjointIdeal.nD Cert.AdjointIdeal.τ).loc Cert.AdjointIdeal.main_arg4)) (m ((c.tc : Thread Cert.AdjointIdeal.nD Cert.AdjointIdeal.τ).loc Cert.AdjointIdeal.main_arg5)) (m ((c.tc : Thread Cert.AdjointIdeal.nD Cert.AdjointIdeal.τ).loc Cert.AdjointIdeal.main_arg6)) (m ((c.tc : Thread Cert.AdjointIdeal.nD Cert.AdjointIdeal.τ).loc Cert.AdjointIdeal.main_arg7)) (r.2.mem ((c.tc : Thread Cert.AdjointIdeal.nD Cert.AdjointIdeal.τ).loc Cert.AdjointIdeal.main_v0_0)) (r.2.mem ((c.tc : Thread Cert.AdjointIdeal.nD Cert.AdjointIdeal.τ).loc Cert.AdjointIdeal.main_v0_1)) (r.2.mem ((c.tc : Thread Cert.AdjointIdeal.nD Cert.AdjointIdeal.τ).loc Cert.AdjointIdeal.main_v0_2)) (r.2.mem ((c.tc : Thread Cert.AdjointIdeal.nD Cert.AdjointIdeal.τ).loc Cert.AdjointIdeal.main_v0_3)) (r.2.mem ((c.tc : Thread Cert.AdjointIdeal.nD Cert.AdjointIdeal.τ).loc Cert.AdjointIdeal.main_v0_4))) = (fun _ => 1#1))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hNorm : Cert.Norm.Facts) (hNormIdeal : Cert.NormIdeal.Facts) (hNormRefIdeal : Cert.NormRefIdeal.Facts) (hPle : Cert.Ple.Facts) (hPleIdeal : Cert.PleIdeal.Facts) (hPleRefIdeal : Cert.PleRefIdeal.Facts) (hGlu : Cert.Glu.Facts) (hGluIdeal : Cert.GluIdeal.Facts) (hGluRefIdeal : Cert.GluRefIdeal.Facts) (hZoh : Cert.Zoh.Facts) (hZohIdeal : Cert.ZohIdeal.Facts) (hZohRefIdeal : Cert.ZohRefIdeal.Facts) (hDisc : Cert.Disc.Facts) (hDiscIdeal : Cert.DiscIdeal.Facts) (hDiscRefIdeal : Cert.DiscRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hTrail : Cert.Trail.Facts) (hTrailIdeal : Cert.TrailIdeal.Facts) (hTrailRefIdeal : Cert.TrailRefIdeal.Facts) (hLin : Cert.Lin.Facts) (hLinIdeal : Cert.LinIdeal.Facts) (hLinRefIdeal : Cert.LinRefIdeal.Facts) (hWgrad : Cert.Wgrad.Facts) (hWgradIdeal : Cert.WgradIdeal.Facts) (hWgradRefIdeal : Cert.WgradRefIdeal.Facts) (hResid : Cert.Resid.Facts) (hResidIdeal : Cert.ResidIdeal.Facts) (hResidRefIdeal : Cert.ResidRefIdeal.Facts) (hPoolw : Cert.Poolw.Facts) (hPoolwIdeal : Cert.PoolwIdeal.Facts) (hPoolwRefIdeal : Cert.PoolwRefIdeal.Facts) (hAdam : Cert.Adam.Facts) (hAdamIdeal : Cert.AdamIdeal.Facts) (hAdamRefIdeal : Cert.AdamRefIdeal.Facts) (hRecur : Cert.Recur.Facts) (hRecurIdeal : Cert.RecurIdeal.Facts) (hAdjoint : Cert.Adjoint.Facts) (hAdjointIdeal : Cert.AdjointIdeal.Facts) (hPre_finite : Cert.Pre_finite.Facts) (hPre_finite_gate : Cert.Pre_finite_gate.Facts) (hPre_finite_norm : Cert.Pre_finite_norm.Facts) (hPre_finite_ple : Cert.Pre_finite_ple.Facts) (hPre_finite_glu : Cert.Pre_finite_glu.Facts) (hPre_finite_pool : Cert.Pre_finite_pool.Facts) (hPost_skip_gradient : Cert.Post_skip_gradient.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_PleRefIdeal (hPleRefIdeal := hPleRefIdeal)
    ∧ quiescent_PleRefIdeal_pre_finite_ple (hPleRefIdeal := hPleRefIdeal) (hPre_finite_ple := hPre_finite_ple)
    ∧ quiescent_Glu (hGlu := hGlu)
    ∧ quiescent_GluIdeal (hGluIdeal := hGluIdeal)
    ∧ quiescent_GluIdeal_pre_finite_glu (hGluIdeal := hGluIdeal) (hPre_finite_glu := hPre_finite_glu)
    ∧ quiescent_GluRefIdeal (hGluRefIdeal := hGluRefIdeal)
    ∧ quiescent_GluRefIdeal_pre_finite_glu (hGluRefIdeal := hGluRefIdeal) (hPre_finite_glu := hPre_finite_glu)
    ∧ quiescent_Zoh (hZoh := hZoh)
    ∧ quiescent_ZohIdeal (hZohIdeal := hZohIdeal)
    ∧ quiescent_ZohRefIdeal (hZohRefIdeal := hZohRefIdeal)
    ∧ quiescent_Disc (hDisc := hDisc)
    ∧ quiescent_DiscIdeal (hDiscIdeal := hDiscIdeal)
    ∧ quiescent_DiscRefIdeal (hDiscRefIdeal := hDiscRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ quiescent_Trail (hTrail := hTrail)
    ∧ quiescent_TrailIdeal (hTrailIdeal := hTrailIdeal)
    ∧ quiescent_TrailIdeal_pre_finite_pool (hTrailIdeal := hTrailIdeal) (hPre_finite_pool := hPre_finite_pool)
    ∧ quiescent_TrailRefIdeal (hTrailRefIdeal := hTrailRefIdeal)
    ∧ quiescent_TrailRefIdeal_pre_finite_pool (hTrailRefIdeal := hTrailRefIdeal) (hPre_finite_pool := hPre_finite_pool)
    ∧ quiescent_Lin (hLin := hLin)
    ∧ quiescent_LinIdeal (hLinIdeal := hLinIdeal)
    ∧ quiescent_LinRefIdeal (hLinRefIdeal := hLinRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Resid (hResid := hResid)
    ∧ quiescent_ResidIdeal (hResidIdeal := hResidIdeal)
    ∧ quiescent_ResidRefIdeal (hResidRefIdeal := hResidRefIdeal)
    ∧ quiescent_Poolw (hPoolw := hPoolw)
    ∧ quiescent_PoolwIdeal (hPoolwIdeal := hPoolwIdeal)
    ∧ quiescent_PoolwRefIdeal (hPoolwRefIdeal := hPoolwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Recur (hRecur := hRecur)
    ∧ quiescent_RecurIdeal (hRecurIdeal := hRecurIdeal)
    ∧ quiescent_Adjoint (hAdjoint := hAdjoint)
    ∧ quiescent_AdjointIdeal (hAdjointIdeal := hAdjointIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Ple_PleIdeal
    ∧ algebraic_PleIdeal_PleRefIdeal_pre_finite_ple (hPleIdeal := hPleIdeal) (hPleRefIdeal := hPleRefIdeal) (hPre_finite_ple := hPre_finite_ple)
    ∧ preserves_Glu_GluIdeal
    ∧ algebraic_GluIdeal_GluRefIdeal_pre_finite_glu (hGluIdeal := hGluIdeal) (hGluRefIdeal := hGluRefIdeal) (hPre_finite_glu := hPre_finite_glu)
    ∧ preserves_Zoh_ZohIdeal
    ∧ algebraic_ZohIdeal_ZohRefIdeal (hZohIdeal := hZohIdeal) (hZohRefIdeal := hZohRefIdeal)
    ∧ preserves_Disc_DiscIdeal
    ∧ algebraic_DiscIdeal_DiscRefIdeal (hDiscIdeal := hDiscIdeal) (hDiscRefIdeal := hDiscRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
    ∧ preserves_Trail_TrailIdeal
    ∧ algebraic_TrailIdeal_TrailRefIdeal_pre_finite_pool (hTrailIdeal := hTrailIdeal) (hTrailRefIdeal := hTrailRefIdeal) (hPre_finite_pool := hPre_finite_pool)
    ∧ preserves_Lin_LinIdeal
    ∧ algebraic_LinIdeal_LinRefIdeal (hLinIdeal := hLinIdeal) (hLinRefIdeal := hLinRefIdeal)
    ∧ preserves_Wgrad_WgradIdeal
    ∧ algebraic_WgradIdeal_WgradRefIdeal (hWgradIdeal := hWgradIdeal) (hWgradRefIdeal := hWgradRefIdeal)
    ∧ preserves_Resid_ResidIdeal
    ∧ algebraic_ResidIdeal_ResidRefIdeal (hResidIdeal := hResidIdeal) (hResidRefIdeal := hResidRefIdeal)
    ∧ preserves_Poolw_PoolwIdeal
    ∧ algebraic_PoolwIdeal_PoolwRefIdeal (hPoolwIdeal := hPoolwIdeal) (hPoolwRefIdeal := hPoolwRefIdeal)
    ∧ preserves_Adam_AdamIdeal
    ∧ algebraic_AdamIdeal_AdamRefIdeal (hAdamIdeal := hAdamIdeal) (hAdamRefIdeal := hAdamRefIdeal)
    ∧ preserves_Recur_RecurIdeal
    ∧ preserves_Adjoint_AdjointIdeal
    ∧ holds_AdjointIdeal_skip_gradient (hAdjointIdeal := hAdjointIdeal) (hPost_skip_gradient := hPost_skip_gradient)
-- ==== Post_skip_gradient.lean ====
abbrev S4096x1024 : Shape := ⟨2, ![4096, 1024]⟩
abbrev S4096x4096 : Shape := ⟨2, ![4096, 4096]⟩
abbrev S4x32768x256 : Shape := ⟨3, ![4, 32768, 256]⟩
abbrev S4x256x256 : Shape := ⟨3, ![4, 256, 256]⟩
abbrev S4x8x256 : Shape := ⟨3, ![4, 8, 256]⟩
abbrev S1x1024 : Shape := ⟨2, ![1, 1024]⟩
abbrev S_ : Shape := ⟨0, ![]⟩
abbrev S1024 : Shape := ⟨1, ![1024]⟩

class Facts : Prop where
  slices_S4096x4096_S4096x1024_0_2048 : S4096x4096.Slices ![0, 2048] S4096x1024
  reducesTo_S4096x1024_S1024_d0 : S4096x1024.ReducesTo [0] S1024
  h_S_ : 0 < S_.numel
  bcast_S1024_S1x1024_1 : S1024.BroadcastsInDim S1x1024 (![1] : Fin 1 → Fin S1x1024.rank)

variable [Facts]

def fn {F : FTy → Type} [FloatOps F] (main_arg0 : FVec F S4096x1024 .f32) (main_arg1 : FVec F S4096x4096 .f32) (main_arg2 : FVec F S4x32768x256 .f32) (main_arg3 : FVec F S4x256x256 .bf16) (main_arg4 : FVec F S4x256x256 .bf16) (main_arg5 : FVec F S4x8x256 .f32) (main_arg6 : FVec F S1x1024 .f32) (main_arg7 : FVec F S4096x4096 .bf16) (main_arg8 : FVec F S4096x4096 .bf16) (main_arg9 : FVec F S4x256x256 .f32) (main_arg10 : FVec F S4x256x256 .f32) (main_arg11 : FVec F S4x8x256 .f32) (main_arg12 : FVec F S1x1024 .f32) : IVec S1x1024 1 :=
  let main_v0 : FVec F S4096x1024 .f32 := (extractStridedSlice S4096x1024 ![0, 2048] · slices_S4096x4096_S4096x1024_0_2048) main_arg1
  let main_v1 : FVec F S4096x1024 .f32 := mulf main_arg0 main_v0
  let main_cst : FVec F S_ .f32 := constant S_ .f32 0x00000000#32
  let main_v2 : FVec F S1024 .f32 := (fun x v => Host.reduceAdd x v reducesTo_S4096x1024_S1024_d0 h_S_) main_v1 main_cst
  let main_v3 : FVec F S1x1024 .f32 := broadcastInDim S1x1024 ![1] bcast_S1024_S1x1024_1 main_v2
  let main_v4 : IVec S1x1024 1 := cmpf .oeq main_arg12 main_v3
  main_v4
-- ==== Pre_finite.lean ====
abbrev S4096x4096 : Shape := ⟨2, ![4096, 4096]⟩
abbrev S4x256x256 : Shape := ⟨3, ![4, 256, 256]⟩
abbrev S4096x1024 : Shape := ⟨2, ![4096, 1024]⟩
abbrev S_ : Shape := ⟨0, ![]⟩

class Facts : Prop where
  bitsLt_bf16_f32 : FTy.bits .bf16 < FTy.bits .f32
  bcast_S_S4x256x256 : S_.BroadcastsInDim S4x256x256 (![] : Fin 0 → Fin S4x256x256.rank)
  bcast_S_S4096x1024 : S_.BroadcastsInDim S4096x1024 (![] : Fin 0 → Fin S4096x1024.rank)

variable [Facts]

def fn {F : FTy → Type} [FloatOps F] (main_arg0 : FVec F S4096x4096 .f32) (main_arg1 : FVec F S4x256x256 .bf16) (main_arg2 : FVec F S4096x1024 .bf16) (main_arg3 : FVec F S4096x4096 .bf16) : IVec S4x256x256 1 × IVec S4096x1024 1 :=
  let main_v0 : FVec F S4x256x256 .f32 := (extf .f32 · bitsLt_bf16_f32) main_arg1
  let main_v1 : FVec F S4x256x256 .f32 := Host.absf main_v0
  let main_cst : FVec F S_ .f32 := constant S_ .f32 0x7F800000#32
  let main_v2 : FVec F S4x256x256 .f32 := broadcastInDim S4x256x256 ![] bcast_S_S4x256x256 main_cst
  let main_v3 : IVec S4x256x256 1 := cmpf .olt main_v1 main_v2
  let main_v4 : FVec F S4096x1024 .f32 := (extf .f32 · bitsLt_bf16_f32) main_arg2
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  (main_v3, main_v7)
-- ==== Pre_finite_gate.lean ====
abbrev S4096x1024 : Shape := ⟨2, ![4096, 1024]⟩
abbrev S4096x4096 : Shape := ⟨2, ![4096, 4096]⟩
abbrev S4096x2048 : Shape := ⟨2, ![4096, 2048]⟩
abbrev S1x1024 : Shape := ⟨2, ![1, 1024]⟩
abbrev S2048x2048 : Shape := ⟨2, ![2048, 2048]⟩
abbrev S_ : Shape := ⟨0, ![]⟩

class Facts : Prop where
  bcast_S_S4096x1024 : S_.BroadcastsInDim S4096x1024 (![] : Fin 0 → Fin S4096x1024.rank)
  bcast_S_S4096x2048 : S_.BroadcastsInDim S4096x2048 (![] : Fin 0 → Fin S4096x2048.rank)
  bcast_S_S1x1024 : S_.BroadcastsInDim S1x1024 (![] : Fin 0 → Fin S1x1024.rank)
  bitsLt_bf16_f32 : FTy.bits .bf16 < FTy.bits .f32
  bcast_S_S2048x2048 : S_.BroadcastsInDim S2048x2048 (![] : Fin 0 → Fin S2048x2048.rank)

variable [Facts]

def fn {F : FTy → Type} [FloatOps F] (main_arg0 : FVec F S4096x1024 .f32) (main_arg1 : FVec F S4096x4096 .f32) (main_arg2 : FVec F S4096x2048 .f32) (main_arg3 : FVec F S1x1024 .f32) (main_arg4 : FVec F S2048x2048 .bf16) (main_arg5 : FVec F S4096x2048 .bf16) : IVec S4096x1024 1 × IVec S4096x2048 1 × IVec S1x1024 1 × IVec S2048x2048 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2048 .f32 := Host.absf main_arg2
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2048x2048 .f32 := (extf .f32 · bitsLt_bf16_f32) main_arg4
  let main_v10 : FVec F S2048x2048 .f32 := Host.absf main_v9
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_v13 : FVec F S4096x2048 .f32 := (extf .f32 · bitsLt_bf16_f32) main_arg5
  let main_v14 : FVec F S4096x2048 .f32 := Host.absf main_v13
  let main_cst_3 : FVec F S_ .f32 := constant S_ .f32 0x7F800000#32
  let main_v15 : FVec F S4096x2048 .f32 := broadcastInDim S4096x2048 ![] bcast_S_S4096x2048 main_cst_3
  let main_v16 : IVec S4096x2048 1 := cmpf .olt main_v14 main_v15
  (main_v2, main_v5, main_v8, main_v12, main_v16)
-- ==== Pre_finite_glu.lean ====
abbrev S4096x1024 : Shape := ⟨2, ![4096, 1024]⟩
abbrev S1024x2048 : Shape := ⟨2, ![1024, 2048]⟩
abbrev S4096x2048 : Shape := ⟨2, ![4096, 2048]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S1024x2048 : S_.BroadcastsInDim S1024x2048 (![] : Fin 0 → Fin S1024x2048.rank)
  bcast_S_S4096x2048 : S_.BroadcastsInDim S4096x2048 (![] : Fin 0 → Fin S4096x2048.rank)

variable [Facts]

def fn {F : FTy → Type} [FloatOps F] (main_arg0 : FVec F S4096x1024 .f32) (main_arg1 : FVec F S1024x2048 .bf16) (main_arg2 : FVec F S4096x2048 .bf16) : IVec S4096x1024 1 × IVec S1024x2048 1 × IVec S4096x2048 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2048 .f32 := (extf .f32 · bitsLt_bf16_f32) main_arg1
  let main_v4 : FVec F S1024x2048 .f32 := Host.absf main_v3
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_v7 : FVec F S4096x2048 .f32 := (extf .f32 · bitsLt_bf16_f32) main_arg2
  let main_v8 : FVec F S4096x2048 .f32 := Host.absf main_v7
  let main_cst_1 : FVec F S_ .f32 := constant S_ .f32 0x7F800000#32
  let main_v9 : FVec F S4096x2048 .f32 := broadcastInDim S4096x2048 ![] bcast_S_S4096x2048 main_cst_1
  let main_v10 : IVec S4096x2048 1 := cmpf .olt main_v8 main_v9
  (main_v2, main_v6, main_v10)
-- ==== Pre_finite_norm.lean ====
abbrev S4096x2048 : Shape := ⟨2, ![4096, 2048]⟩
abbrev S1x2048 : Shape := ⟨2, ![1, 2048]⟩
abbrev S2048x4096 : Shape := ⟨2, ![2048, 4096]⟩
abbrev S4096x4096 : Shape := ⟨2, ![4096, 4096]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)
  bitsLt_bf16_f32 : FTy.bits .bf16 < FTy.bits .f32
  bcast_S_S2048x4096 : S_.BroadcastsInDim S2048x4096 (![] : Fin 0 → Fin S2048x4096.rank)
  bcast_S_S4096x4096 : S_.BroadcastsInDim S4096x4096 (![] : Fin 0 → Fin S4096x4096.rank)

variable [Facts]

def fn {F : FTy → Type} [FloatOps F] (main_arg0 : FVec F S4096x2048 .f32) (main_arg1 : FVec F S1x2048 .f32) (main_arg2 : FVec F S2048x4096 .bf16) (main_arg3 : FVec F S4096x2048 .f32) (main_arg4 : FVec F S4096x4096 .bf16) : IVec S4096x2048 1 × IVec S1x2048 1 × IVec S2048x4096 1 × IVec S4096x4096 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x4096 .f32 := (extf .f32 · bitsLt_bf16_f32) main_arg2
  let main_v7 : FVec F S2048x4096 .f32 := Host.absf main_v6
  let main_cst_1 : FVec F S_ .f32 := constant S_ .f32 0x7F800000#32
  let main_v8 : FVec F S2048x4096 .f32 := broadcastInDim S2048x4096 ![] bcast_S_S2048x4096 main_cst_1
  let main_v9 : IVec S2048x4096 1 := cmpf .olt main_v7 main_v8
  let main_v10 : FVec F S4096x4096 .f32 := (extf .f32 · bitsLt_bf16_f32) main_arg4
  let main_v11 : FVec F S4096x4096 .f32 := Host.absf main_v10
  let main_cst_2 : FVec F S_ .f32 := constant S_ .f32 0x7F800000#32
  let main_v12 : FVec F S4096x4096 .f32 := broadcastInDim S4096x4096 ![] bcast_S_S4096x4096 main_cst_2
  let main_v13 : IVec S4096x4096 1 := cmpf .olt main_v11 main_v12
  (main_v2, main_v5, main_v9, main_v13)
-- ==== Pre_finite_ple.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S4096x256 : S_.BroadcastsInDim S4096x256 (![] : Fin 0 → Fin S4096x256.rank)
  bitsLt_bf16_f32 : FTy.bits .bf16 < FTy.bits .f32
  bcast_S_S256x2048 : S_.BroadcastsInDim S256x2048 (![] : Fin 0 → Fin S256x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x256 .f32) (main_arg2 : FVec F S2048x2048 .bf16) (main_arg3 : FVec F S256x2048 .bf16) (main_arg4 : FVec F S4096x2048 .f32) (main_arg5 : FVec F S1x2048 .f32) : IVec S4096x2048 1 × IVec S4096x256 1 × IVec S256x2048 1 × IVec S4096x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S256x2048 .f32 := (extf .f32 · bitsLt_bf16_f32) main_arg3
  let main_v7 : FVec F S256x2048 .f32 := Host.absf main_v6
  let main_cst_1 : FVec F S_ .f32 := constant S_ .f32 0x7F800000#32
  let main_v8 : FVec F S256x2048 .f32 := broadcastInDim S256x2048 ![] bcast_S_S256x2048 main_cst_1
  let main_v9 : IVec S256x2048 1 := cmpf .olt main_v7 main_v8
  let main_v10 : FVec F S4096x2048 .f32 := Host.absf main_arg4
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_v13 : FVec F S1x2048 .f32 := Host.absf main_arg5
  let main_cst_3 : FVec F S_ .f32 := constant S_ .f32 0x7F800000#32
  let main_v14 : FVec F S1x2048 .f32 := broadcastInDim S1x2048 ![] bcast_S_S1x2048 main_cst_3
  let main_v15 : IVec S1x2048 1 := cmpf .olt main_v13 main_v14
  (main_v2, main_v5, main_v9, main_v12, main_v15)
-- ==== Pre_finite_pool.lean ====
abbrev S4096x4096 : Shape := ⟨2, ![4096, 4096]⟩
abbrev S4x256x256 : Shape := ⟨3, ![4, 256, 256]⟩
abbrev S4096x1024 : Shape := ⟨2, ![4096, 1024]⟩
abbrev S_ : Shape := ⟨0, ![]⟩

class Facts : Prop where
  slices_S4096x4096_S4096x1024_0_0 : S4096x4096.Slices ![0, 0] S4096x1024
  bcast_S_S4096x1024 : S_.BroadcastsInDim S4096x1024 (![] : Fin 0 → Fin S4096x1024.rank)

variable [Facts]

def fn {F : FTy → Type} [FloatOps F] (main_arg0 : FVec F S4096x4096 .f32) (main_arg1 : FVec F S4x256x256 .bf16) : IVec S4096x1024 1 :=
  let main_v0 : FVec F S4096x1024 .f32 := (extractStridedSlice S4096x1024 ![0, 0] · slices_S4096x4096_S4096x1024_0_0) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  main_v3
-- ==== Kernel.lean ====
abbrev S4096x4096 : Shape := ⟨2, ![4096, 4096]⟩
abbrev S4x256x256 : Shape := ⟨3, ![4, 256, 256]⟩
abbrev S4096x1024 : Shape := ⟨2, ![4096, 1024]⟩
abbrev S4096x256 : Shape := ⟨2, ![4096, 256]⟩
abbrev S1x256x256 : Shape := ⟨3, ![1, 256, 256]⟩
abbrev S4096x128 : Shape := ⟨2, ![4096, 128]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4x256x256, .bf16⟩
  | .hbm, ⟨2, _⟩ => ⟨S4096x1024, .bf16⟩
  | .hbm, ⟨3, _⟩ => ⟨S4096x4096, .bf16⟩
  | .hbm, ⟨4, _⟩ => ⟨S4096x4096, .bf16⟩
  | .local _ .vmem, ⟨0, _⟩ => ⟨S4096x256, .bf16⟩
  | .local _ .vmem, ⟨1, _⟩ => ⟨S4096x256, .bf16⟩
  | .local _ .vmem, ⟨2, _⟩ => ⟨S1x256x256, .bf16⟩
  | .local _ .vmem, ⟨3, _⟩ => ⟨S1x256x256, .bf16⟩
  | .local _ .vmem, ⟨4, _⟩ => ⟨S4096x256, .bf16⟩
  | .local _ .vmem, ⟨5, _⟩ => ⟨S4096x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x4096 : Shape := ⟨2, ![4096, 4096]⟩
abbrev S4x256x256 : Shape := ⟨3, ![4, 256, 256]⟩
abbrev S4096x1024 : Shape := ⟨2, ![4096, 1024]⟩
abbrev S4096x4x256 : Shape := ⟨3, ![4096, 4, 256]⟩
abbrev S4096 : Shape := ⟨1, ![4096]⟩
abbrev S4096x1x256 : Shape := ⟨3, ![4096, 1, 256]⟩
abbrev S4096x256 : Shape := ⟨2, ![4096, 256]⟩
abbrev S_ : Shape := ⟨0, ![]⟩
abbrev S2x256 : Shape := ⟨2, ![2, 256]⟩
abbrev S4094x256 : Shape := ⟨2, ![4094, 256]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩
abbrev S4x4096x256 : Shape := ⟨3, ![4, 4096, 256]⟩
abbrev S4096x3072 : Shape := ⟨2, ![4096, 3072]⟩

abbrev nBuf : Space → Nat
  | .hbm => 192
  | .vmem => 0
  | .smem => 0
  | _ => 0

abbrev hbmTy0_0 (i : Nat) : BufTy := match i % 128 with
  | 0 => ⟨S4096x4096, .f32⟩
  | 1 => ⟨S4x256x256, .bf16⟩
  | 2 => ⟨S4096x1024, .bf16⟩
  | 3 => ⟨S4096x4096, .bf16⟩
  | 4 => ⟨S4096x1024, .f32⟩
  | 5 => ⟨S4096x4x256, .f32⟩
  | 6 => ⟨S4096, .i32⟩
  | 7 => ⟨S4096x1x256, .f32⟩
  | 8 => ⟨S4096x256, .f32⟩
  | 9 => ⟨S_, .f32⟩
  | 10 => ⟨S_, .f32⟩
  | 11 => ⟨S4096x256, .f32⟩
  | 12 => ⟨S_, .f32⟩
  | 13 => ⟨S2x256, .f32⟩
  | 14 => ⟨S4094x256, .f32⟩
  | 15 => ⟨S4096x256, .f32⟩
  | 16 => ⟨S_, .f32⟩
  | 17 => ⟨S2x256, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .f32⟩
  | 25 => ⟨S4096x1, .f32⟩
  | 26 => ⟨S4096x256, .f32⟩
  | 27 => ⟨S4096x256, .f32⟩
  | 28 => ⟨S4096x256, .f32⟩
  | 29 => ⟨S4096x256, .f32⟩
  | 30 => ⟨S4096x1x256, .f32⟩
  | 31 => ⟨S4096x256, .f32⟩
  | 32 => ⟨S_, .f32⟩
  | 33 => ⟨S_, .f32⟩
  | 34 => ⟨S4096x256, .f32⟩
  | 35 => ⟨S_, .f32⟩
  | 36 => ⟨S4x256, .f32⟩
  | 37 => ⟨S4092x256, .f32⟩
  | 38 => ⟨S4096x256, .f32⟩
  | 39 => ⟨S_, .f32⟩
  | 40 => ⟨S4x256, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S4096, .f32⟩
  | 48 => ⟨S4096x1, .f32⟩
  | 49 => ⟨S4096x256, .f32⟩
  | 50 => ⟨S4096x256, .f32⟩
  | 51 => ⟨S4096x256, .f32⟩
  | 52 => ⟨S4096x256, .f32⟩
  | 53 => ⟨S4096x1x256, .f32⟩
  | 54 => ⟨S4096x256, .f32⟩
  | 55 => ⟨S_, .f32⟩
  | 56 => ⟨S_, .f32⟩
  | 57 => ⟨S4096x256, .f32⟩
  | 58 => ⟨S_, .f32⟩
  | 59 => ⟨S8x256, .f32⟩
  | 60 => ⟨S4088x256, .f32⟩
  | 61 => ⟨S4096x256, .f32⟩
  | 62 => ⟨S_, .f32⟩
  | 63 => ⟨S8x256, .f32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .f32⟩
  | 71 => ⟨S4096x1, .f32⟩
  | 72 => ⟨S4096x256, .f32⟩
  | 73 => ⟨S4096x256, .f32⟩
  | 74 => ⟨S4096x256, .f32⟩
  | 75 => ⟨S4096x256, .f32⟩
  | 76 => ⟨S4096x1x256, .f32⟩
  | 77 => ⟨S4096x256, .f32⟩
  | 78 => ⟨S_, .f32⟩
  | 79 => ⟨S_, .f32⟩
  | 80 => ⟨S4096x256, .f32⟩
  | 81 => ⟨S_, .f32⟩
  | 82 => ⟨S16x256, .f32⟩
  | 83 => ⟨S4080x256, .f32⟩
  | 84 => ⟨S4096x256, .f32⟩
  | 85 => ⟨S_, .f32⟩
  | 86 => ⟨S16x256, .f32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .f32⟩
  | 94 => ⟨S4096x1, .f32⟩
  | 95 => ⟨S4096x256, .f32⟩
  | 96 => ⟨S4096x256, .f32⟩
  | 97 => ⟨S4096x256, .f32⟩
  | 98 => ⟨S4096x256, .f32⟩
  | 99 => ⟨S4096x1x256, .f32⟩
  | 100 => ⟨S4096x1x256, .f32⟩
  | 101 => ⟨S4096x1x256, .f32⟩
  | 102 => ⟨S4096x1x256, .f32⟩
  | 103 => ⟨S4096x4x256, .f32⟩
  | 104 => ⟨S4x256x256, .f32⟩
  | 105 => ⟨S4x256x4096, .f32⟩
  | 106 => ⟨S4096x4x256, .f32⟩
  | 107 => ⟨S4096x1024, .f32⟩
  | 108 => ⟨S4096x1024, .f32⟩
  | 109 => ⟨S4096x4x256, .f32⟩
  | 110 => ⟨S4x256x4096, .f32⟩
  | 111 => ⟨S4x4096x256, .f32⟩
  | 112 => ⟨S4096x4x256, .f32⟩
  | 113 => ⟨S4096x1x256, .f32⟩
  | 114 => ⟨S4096x256, .f32⟩
  | 115 => ⟨S4096x1x256, .f32⟩
  | 116 => ⟨S4096x256, .f32⟩
  | 117 => ⟨S4096x1x256, .f32⟩
  | 118 => ⟨S4096x256, .f32⟩
  | 119 => ⟨S4096x1x256, .f32⟩
  | 120 => ⟨S4096x256, .f32⟩
  | 121 => ⟨S4096x256, .f32⟩
  | 122 => ⟨S4096x256, .f32⟩
  | 123 => ⟨S4096x256, .f32⟩
  | 124 => ⟨S4096x256, .f32⟩
  | 125 => ⟨S16x256, .f32⟩
  | 126 => ⟨S4080x256, .f32⟩
  | 127 => ⟨S_, .f32⟩
  | _ => ⟨S4096x4096, .f32⟩

abbrev hbmTy0_1 (i : Nat) : BufTy := match i % 128 with
  | 0 => ⟨S4096x256, .f32⟩
  | 1 => ⟨S4096x256, .f32⟩
  | 2 => ⟨S_, .f32⟩
  | 3 => ⟨S_, .f32⟩
  | 4 => ⟨S4096x256, .f32⟩
  | 5 => ⟨S4096x256, .f32⟩
  | 6 => ⟨S4096x1x256, .f32⟩
  | 7 => ⟨S_, .f32⟩
  | 8 => ⟨S4096x4x256, .f32⟩
  | 9 => ⟨S4096x256, .f32⟩
  | 10 => ⟨S4096x256, .f32⟩
  | 11 => ⟨S4096x256, .f32⟩
  | 12 => ⟨S4096x256, .f32⟩
  | 13 => ⟨S8x256, .f32⟩
  | 14 => ⟨S4088x256, .f32⟩
  | 15 => ⟨S_, .f32⟩
  | 16 => ⟨S4096x256, .f32⟩
  | 17 => ⟨S4096x256, .f32⟩
  | 18 => ⟨S_, .f32⟩
  | 19 => ⟨S_, .f32⟩
  | 20 => ⟨S4096x256, .f32⟩
  | 21 => ⟨S4096x256, .f32⟩
  | 22 => ⟨S4096x1x256, .f32⟩
  | 23 => ⟨S_, .f32⟩
  | 24 => ⟨S4096x4x256, .f32⟩
  | 25 => ⟨S4096x4x256, .f32⟩
  | 26 => ⟨S4096x256, .f32⟩
  | 27 => ⟨S4096x256, .f32⟩
  | 28 => ⟨S4096x256, .f32⟩
  | 29 => ⟨S4096x256, .f32⟩
  | 30 => ⟨S4x256, .f32⟩
  | 31 => ⟨S4092x256, .f32⟩
  | 32 => ⟨S_, .f32⟩
  | 33 => ⟨S4096x256, .f32⟩
  | 34 => ⟨S4096x256, .f32⟩
  | 35 => ⟨S_, .f32⟩
  | 36 => ⟨S_, .f32⟩
  | 37 => ⟨S4096x256, .f32⟩
  | 38 => ⟨S4096x256, .f32⟩
  | 39 => ⟨S4096x1x256, .f32⟩
  | 40 => ⟨S_, .f32⟩
  | 41 => ⟨S4096x4x256, .f32⟩
  | 42 => ⟨S4096x4x256, .f32⟩
  | 43 => ⟨S4096x256, .f32⟩
  | 44 => ⟨S4096x256, .f32⟩
  | 45 => ⟨S4096x256, .f32⟩
  | 46 => ⟨S4096x256, .f32⟩
  | 47 => ⟨S2x256, .f32⟩
  | 48 => ⟨S4094x256, .f32⟩
  | 49 => ⟨S_, .f32⟩
  | 50 => ⟨S4096x256, .f32⟩
  | 51 => ⟨S4096x256, .f32⟩
  | 52 => ⟨S_, .f32⟩
  | 53 => ⟨S_, .f32⟩
  | 54 => ⟨S4096x256, .f32⟩
  | 55 => ⟨S4096x256, .f32⟩
  | 56 => ⟨S4096x1x256, .f32⟩
  | 57 => ⟨S_, .f32⟩
  | 58 => ⟨S4096x4x256, .f32⟩
  | 59 => ⟨S4096x4x256, .f32⟩
  | 60 => ⟨S4096x1024, .f32⟩
  | 61 => ⟨S4096x1024, .bf16⟩
  | 62 => ⟨S4096x3072, .bf16⟩
  | 63 => ⟨S4096x4096, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_call0_cst : Ref sig .tc := ⟨.hbm, 32, rfl⟩
abbrev main_call1_call0_v0 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call2_call0_cst : Ref sig .tc := ⟨.hbm, 55, rfl⟩
abbrev main_call2_call0_v0 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call3_call0_cst : Ref sig .tc := ⟨.hbm, 78, rfl⟩
abbrev main_call3_call0_v0 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_14 : Ref sig .tc := ⟨.hbm, 127, rfl⟩
abbrev main_v99 : Ref sig .tc := ⟨.hbm, 128, rfl⟩
abbrev main_v100 : Ref sig .tc := ⟨.hbm, 129, rfl⟩
abbrev main_call4_call0_cst : Ref sig .tc := ⟨.hbm, 130, rfl⟩
abbrev main_call4_call0_v0 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_15 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_16 : Ref sig .tc := ⟨.hbm, 143, rfl⟩
abbrev main_v111 : Ref sig .tc := ⟨.hbm, 144, rfl⟩
abbrev main_v112 : Ref sig .tc := ⟨.hbm, 145, rfl⟩
abbrev main_call5_call0_cst : Ref sig .tc := ⟨.hbm, 146, rfl⟩
abbrev main_call5_call0_v0 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_17 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_18 : Ref sig .tc := ⟨.hbm, 160, rfl⟩
abbrev main_v124 : Ref sig .tc := ⟨.hbm, 161, rfl⟩
abbrev main_v125 : Ref sig .tc := ⟨.hbm, 162, rfl⟩
abbrev main_call6_call0_cst : Ref sig .tc := ⟨.hbm, 163, rfl⟩
abbrev main_call6_call0_v0 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_cst_19 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_20 : Ref sig .tc := ⟨.hbm, 177, rfl⟩
abbrev main_v137 : Ref sig .tc := ⟨.hbm, 178, rfl⟩
abbrev main_v138 : Ref sig .tc := ⟨.hbm, 179, rfl⟩
abbrev main_call7_call0_cst : Ref sig .tc := ⟨.hbm, 180, rfl⟩
abbrev main_call7_call0_v0 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_21 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩

abbrev nD : Nat := 1
abbrev τ : Topo := Topo.v7x

variable {F : FTy → Type} [FloatOps F]
-- ==== Gate.lean ====
abbrev S4096x1024 : Shape := ⟨2, ![4096, 1024]⟩
abbrev S4096x4096 : Shape := ⟨2, ![4096, 4096]⟩
abbrev S4096x2048 : Shape := ⟨2, ![4096, 2048]⟩
abbrev S1x1024 : Shape := ⟨2, ![1, 1024]⟩
abbrev S2048x2048 : Shape := ⟨2, ![2048, 2048]⟩
abbrev S256x2048 : Shape := ⟨2, ![256, 2048]⟩
abbrev S256x1024 : Shape := ⟨2, ![256, 1024]⟩
abbrev S256x4096 : Shape := ⟨2, ![256, 4096]⟩
abbrev S1024 : Shape := ⟨1, ![1024]⟩

abbrev nBuf : Space → Nat
  | .hbm => 10
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x2048, .f32⟩
  | .hbm, ⟨3, _⟩ => ⟨S1x1024, .f32⟩
  | .hbm, ⟨4, _⟩ => ⟨S2048x2048, .bf16⟩
  | .hbm, ⟨5, _⟩ => ⟨S4096x2048, .bf16⟩
  | .hbm, ⟨6, _⟩ => ⟨S4096x1024, .bf16⟩
  | .hbm, ⟨7, _⟩ => ⟨S4096x4096, .bf16⟩
  | .hbm, ⟨8, _⟩ => ⟨S4096x2048, .bf16⟩
  | .hbm, ⟨9, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x2048, .f32⟩
  | .local _ .vmem, ⟨10, _⟩ => ⟨S256x2048, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x2048, .bf16⟩
  | .local _ .vmem, ⟨17, _⟩ => ⟨S256x2048, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GateRefIdeal.lean ====
abbrev S4096x1024 : Shape := ⟨2, ![4096, 1024]⟩
abbrev S4096x4096 : Shape := ⟨2, ![4096, 4096]⟩
abbrev S4096x2048 : Shape := ⟨2, ![4096, 2048]⟩
abbrev S1x1024 : Shape := ⟨2, ![1, 1024]⟩
abbrev S2048x2048 : Shape := ⟨2, ![2048, 2048]⟩
abbrev S1024 : Shape := ⟨1, ![1024]⟩
abbrev S_ : Shape := ⟨0, ![]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x2048, .f32⟩
  | .hbm, ⟨3, _⟩ => ⟨S1x1024, .f32⟩
  | .hbm, ⟨4, _⟩ => ⟨S2048x2048, .bf16⟩
  | .hbm, ⟨5, _⟩ => ⟨S4096x2048, .bf16⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x2048, .f32⟩
  | .hbm, ⟨56, _⟩ => ⟨S2048x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x2048, .f32⟩
  | .hbm, ⟨75, _⟩ => ⟨S_, .f32⟩
  | .hbm, ⟨76, _⟩ => ⟨S4096x2048, .f32⟩
  | .hbm, ⟨77, _⟩ => ⟨S4096x2048, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S4096x1024, .bf16⟩
  | .hbm, ⟨97, _⟩ => ⟨S4096x4096, .bf16⟩
  | .hbm, ⟨98, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v5_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v5_1 : Ref sig .tc := ⟨.hbm, 22, rfl⟩
abbrev main_v5_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_v20_2 : Ref sig .tc := ⟨.hbm, 48, rfl⟩
abbrev main_call1_cst_1 : Ref sig .tc := ⟨.hbm, 49, rfl⟩
abbrev main_call1_v6 : Ref sig .tc := ⟨.hbm, 50, rfl⟩
abbrev main_call1_v7 : Ref sig .tc := ⟨.hbm, 51, rfl⟩
abbrev main_v20_1 : Ref sig .tc := ⟨.hbm, 52, rfl⟩
abbrev main_v20_0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v31 : Ref sig .tc := ⟨.hbm, 67, rfl⟩
abbrev main_cst_2 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_3 : Ref sig .tc := ⟨.hbm, 73, rfl⟩
abbrev main_v36 : Ref sig .tc := ⟨.hbm, 74, rfl⟩
abbrev main_cst_4 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v41 : Ref sig .tc := ⟨.hbm, 83, rfl⟩
abbrev main_cst_5 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_cst_6 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_7 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S2048x4096 : Shape := ⟨2, ![2048, 4096]⟩
abbrev S4096x4096 : Shape := ⟨2, ![4096, 4096]⟩
abbrev S_ : Shape := ⟨0, ![]⟩
abbrev S8x128 : Shape := ⟨2, ![8, 128]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .bf16⟩
  | .hbm, ⟨3, _⟩ => ⟨S4096x2048, .f32⟩
  | .hbm, ⟨4, _⟩ => ⟨S4096x4096, .bf16⟩
  | .hbm, ⟨5, _⟩ => ⟨S_, .f32⟩
  | .hbm, ⟨6, _⟩ => ⟨S8x128, .f32⟩
  | .hbm, ⟨7, _⟩ => ⟨S4096x2048, .f32⟩
  | .hbm, ⟨8, _⟩ => ⟨S1x2048, .f32⟩
  | .local _ .vmem, ⟨0, _⟩ => ⟨S256x4096, .bf16⟩
  | .local _ .vmem, ⟨1, _⟩ => ⟨S256x4096, .bf16⟩
  | .local _ .vmem, ⟨2, _⟩ => ⟨S2048x4096, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormRefIdeal.lean ====
abbrev S4096x2048 : Shape := ⟨2, ![4096, 2048]⟩
abbrev S1x2048 : Shape := ⟨2, ![1, 2048]⟩
abbrev S2048x4096 : Shape := ⟨2, ![2048, 4096]⟩
abbrev S4096x4096 : Shape := ⟨2, ![4096, 4096]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .bf16⟩
  | .hbm, ⟨3, _⟩ => ⟨S4096x2048, .f32⟩
  | .hbm, ⟨4, _⟩ => ⟨S4096x4096, .bf16⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S2048x4096, .f32⟩
  | .hbm, ⟨27, _⟩ => ⟨S4096x4096, .f32⟩
  | .hbm, ⟨28, _⟩ => ⟨S4096x4096, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Ple.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S1x2048 : Shape := ⟨2, ![1, 2048]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 12
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .bf16⟩
  | .hbm, ⟨3, _⟩ => ⟨S256x2048, .bf16⟩
  | .hbm, ⟨4, _⟩ => ⟨S4096x2048, .f32⟩
  | .hbm, ⟨5, _⟩ => ⟨S1x2048, .f32⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .f32⟩
  | .hbm, ⟨10, _⟩ => ⟨S1x2048, .f32⟩
  | .hbm, ⟨11, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x256, .f32⟩
  | .local _ .vmem, ⟨5, _⟩ => ⟨S256x256, .f32⟩
  | .local _ .vmem, ⟨6, _⟩ => ⟨S2048x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .f32⟩
  | .local _ .vmem, ⟨16, _⟩ => ⟨S256x2048, .f32⟩
  | .local _ .vmem, ⟨17, _⟩ => ⟨S1x2048, .f32⟩
  | .local _ .vmem, ⟨18, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PleRefIdeal.lean ====
abbrev S4096x2048 : Shape := ⟨2, ![4096, 2048]⟩
abbrev S4096x256 : Shape := ⟨2, ![4096, 256]⟩
abbrev S2048x2048 : Shape := ⟨2, ![2048, 2048]⟩
abbrev S256x2048 : Shape := ⟨2, ![256, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x256, .f32⟩
  | .hbm, ⟨2, _⟩ => ⟨S2048x2048, .bf16⟩
  | .hbm, ⟨3, _⟩ => ⟨S256x2048, .bf16⟩
  | .hbm, ⟨4, _⟩ => ⟨S4096x2048, .f32⟩
  | .hbm, ⟨5, _⟩ => ⟨S1x2048, .f32⟩
  | .hbm, ⟨6, _⟩ => ⟨S256x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S4096x2048, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x2048, .f32⟩
  | .hbm, ⟨81, _⟩ => ⟨S4096x2048, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S1x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S4096x2048, .bf16⟩
  | .hbm, ⟨98, _⟩ => ⟨S4096x2048, .bf16⟩
  | .hbm, ⟨99, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Glu.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S4096x2048, .bf16⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GluIdeal.lean ====
variable {F : FTy → Type} [FloatOps F] [Named F]
def κ : String → Option EReal := fun
  | "gelu_a" => some ((8943 / 200000 : ℝ) : EReal)
  | "gelu_a3" => some ((26829 / 200000 : ℝ) : EReal)
  | _ => none
-- ==== GluRefIdeal.lean ====
abbrev S4096x1024 : Shape := ⟨2, ![4096, 1024]⟩
abbrev S1024x2048 : Shape := ⟨2, ![1024, 2048]⟩
abbrev S4096x2048 : Shape := ⟨2, ![4096, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .bf16⟩
  | .hbm, ⟨2, _⟩ => ⟨S4096x2048, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S1024x2048, .f32⟩
  | .hbm, ⟨34, _⟩ => ⟨S4096x2048, .f32⟩
  | .hbm, ⟨35, _⟩ => ⟨S4096x2048, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Zoh.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S64x16x64 : Shape := ⟨3, ![64, 16, 64]⟩
abbrev S64x1x64 : Shape := ⟨3, ![64, 1, 64]⟩

abbrev nBuf : Space → Nat
  | .hbm => 19
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x1, .f32⟩
  | .hbm, ⟨10, _⟩ => ⟨S64x16x64, .f32⟩
  | .hbm, ⟨11, _⟩ => ⟨S64x16x64, .f32⟩
  | .hbm, ⟨12, _⟩ => ⟨S64x16x64, .f32⟩
  | .hbm, ⟨13, _⟩ => ⟨S64x16x64, .f32⟩
  | .hbm, ⟨14, _⟩ => ⟨S64x64, .f32⟩
  | .hbm, ⟨15, _⟩ => ⟨S64x64, .f32⟩
  | .hbm, ⟨16, _⟩ => ⟨S64x1, .f32⟩
  | .hbm, ⟨17, _⟩ => ⟨S64x16x64, .f32⟩
  | .hbm, ⟨18, _⟩ => ⟨S64x16x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x16x64, .f32⟩
  | .local _ .vmem, ⟨4, _⟩ => ⟨S64x16x64, .f32⟩
  | .local _ .vmem, ⟨5, _⟩ => ⟨S64x64, .f32⟩
  | .local _ .vmem, ⟨6, _⟩ => ⟨S64x64, .f32⟩
  | .local _ .vmem, ⟨7, _⟩ => ⟨S64x16x64, .f32⟩
  | .local _ .vmem, ⟨8, _⟩ => ⟨S64x16x64, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S64x16x64, .f32⟩
  | .local _ .vmem, ⟨13, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ZohRefIdeal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩
abbrev S64x16x64 : Shape := ⟨3, ![64, 16, 64]⟩

abbrev nBuf : Space → Nat
  | .hbm => 179
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S_, .f32⟩
  | 10 => ⟨S64x64, .f32⟩
  | 11 => ⟨S64x64, .f32⟩
  | 12 => ⟨S_, .f32⟩
  | 13 => ⟨S64x64, .f32⟩
  | 14 => ⟨S64x64, .i1⟩
  | 15 => ⟨S_, .f32⟩
  | 16 => ⟨S64x64, .f32⟩
  | 17 => ⟨S64x64, .i1⟩
  | 18 => ⟨S_, .f32⟩
  | 19 => ⟨S64x64, .f32⟩
  | 20 => ⟨S_, .f32⟩
  | 21 => ⟨S64x64, .f32⟩
  | 22 => ⟨S_, .f32⟩
  | 23 => ⟨S64x64, .f32⟩
  | 24 => ⟨S64x64, .f32⟩
  | 25 => ⟨S64x64, .f32⟩
  | 26 => ⟨S64, .f32⟩
  | 27 => ⟨S64x1, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S_, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S_, .f32⟩
  | 51 => ⟨S64x64, .f32⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S_, .f32⟩
  | 59 => ⟨S64x64, .f32⟩
  | 60 => ⟨S64x64, .f32⟩
  | 61 => ⟨S64x64x1, .f32⟩
  | 62 => ⟨S64x64x16, .f32⟩
  | 63 => ⟨S64x64x16, .f32⟩
  | 64 => ⟨S64x64x1, .f32⟩
  | 65 => ⟨S64x64x16, .f32⟩
  | 66 => ⟨S64x64x16, .f32⟩
  | 67 => ⟨S64x64x16, .f32⟩
  | 68 => ⟨S64x64x1, .f32⟩
  | 69 => ⟨S64x64x16, .f32⟩
  | 70 => ⟨S64x64x16, .f32⟩
  | 71 => ⟨S64x64x1, .f32⟩
  | 72 => ⟨S64x64x16, .f32⟩
  | 73 => ⟨S64x64x16, .f32⟩
  | 74 => ⟨S64x64x16, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S_, .f32⟩
  | 81 => ⟨S64x64, .f32⟩
  | 82 => ⟨S64x64x1, .f32⟩
  | 83 => ⟨S_, .f32⟩
  | 84 => ⟨S64x64, .f32⟩
  | 85 => ⟨S64x64x16, .f32⟩
  | 86 => ⟨S64x64x16, .f32⟩
  | 87 => ⟨S64x64x16, .f32⟩
  | 88 => ⟨S_, .f32⟩
  | 89 => ⟨S64x64, .f32⟩
  | 90 => ⟨S64x64x1, .f32⟩
  | 91 => ⟨S_, .f32⟩
  | 92 => ⟨S64x64, .f32⟩
  | 93 => ⟨S64x64x16, .f32⟩
  | 94 => ⟨S64x64x16, .f32⟩
  | 95 => ⟨S64x64x16, .f32⟩
  | 96 => ⟨S64x64x16, .f32⟩
  | 97 => ⟨S64x64x16, .f32⟩
  | 98 => ⟨S64x64x16, .f32⟩
  | 99 => ⟨S_, .f32⟩
  | 100 => ⟨S64x64, .f32⟩
  | 101 => ⟨S64x64x1, .f32⟩
  | 102 => ⟨S_, .f32⟩
  | 103 => ⟨S64x64, .f32⟩
  | 104 => ⟨S64x64, .f32⟩
  | 105 => ⟨S64x64x16, .f32⟩
  | 106 => ⟨S64x64x16, .f32⟩
  | 107 => ⟨S64x64x16, .f32⟩
  | 108 => ⟨S64x64x16, .f32⟩
  | 109 => ⟨S_, .f32⟩
  | 110 => ⟨S64x64, .f32⟩
  | 111 => ⟨S64x64x1, .f32⟩
  | 112 => ⟨S_, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64, .f32⟩
  | 31 => ⟨S64x1, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S_, .f32⟩
  | 38 => ⟨S64, .f32⟩
  | 39 => ⟨S64x1, .f32⟩
  | 40 => ⟨S64x1, .f32⟩
  | 41 => ⟨S64x64, .f32⟩
  | 42 => ⟨S64x64, .f32⟩
  | 43 => ⟨S64x64, .f32⟩
  | 44 => ⟨S_, .f32⟩
  | 45 => ⟨S64, .f32⟩
  | 46 => ⟨S64, .f32⟩
  | 47 => ⟨S64x64, .f32⟩
  | 48 => ⟨S64x1, .f32⟩
  | 49 => ⟨S64x16x64, .f32⟩
  | 50 => ⟨S64x16x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_v78 : Ref sig .tc := ⟨.hbm, 101, rfl⟩
abbrev main_cst_13 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_cst_15 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_cst_16 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_17 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_cst_18 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩

abbrev nD : Nat := 1
abbrev τ : Topo := Topo.v7x

variable {F : FTy → Type} [FloatOps F]
-- ==== Disc.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S64x16x64 : Shape := ⟨3, ![64, 16, 64]⟩
abbrev S64x1x64 : Shape := ⟨3, ![64, 1, 64]⟩

abbrev nBuf : Space → Nat
  | .hbm => 12
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x16x64, .f32⟩
  | .hbm, ⟨7, _⟩ => ⟨S64x16x64, .f32⟩
  | .hbm, ⟨8, _⟩ => ⟨S64x64, .f32⟩
  | .hbm, ⟨9, _⟩ => ⟨S64x64, .f32⟩
  | .hbm, ⟨10, _⟩ => ⟨S64x16x64, .f32⟩
  | .hbm, ⟨11, _⟩ => ⟨S64x16x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x16x64, .f32⟩
  | .local _ .vmem, ⟨4, _⟩ => ⟨S64x16x64, .f32⟩
  | .local _ .vmem, ⟨5, _⟩ => ⟨S64x64, .f32⟩
  | .local _ .vmem, ⟨6, _⟩ => ⟨S64x64, .f32⟩
  | .local _ .vmem, ⟨7, _⟩ => ⟨S64x16x64, .f32⟩
  | .local _ .vmem, ⟨8, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscRefIdeal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩
abbrev S64x16x64 : Shape := ⟨3, ![64, 16, 64]⟩

abbrev nBuf : Space → Nat
  | .hbm => 49
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64x1, .f32⟩
  | .hbm, ⟨34, _⟩ => ⟨S64x64x16, .f32⟩
  | .hbm, ⟨35, _⟩ => ⟨S64x64x16, .f32⟩
  | .hbm, ⟨36, _⟩ => ⟨S64x64x1, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x1, .f32⟩
  | .hbm, ⟨41, _⟩ => ⟨S64x64x16, .f32⟩
  | .hbm, ⟨42, _⟩ => ⟨S64x64x16, .f32⟩
  | .hbm, ⟨43, _⟩ => ⟨S64x64x1, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x16x64, .f32⟩
  | .hbm, ⟨48, _⟩ => ⟨S64x16x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Proj.lean ====
abbrev S4096x2048 : Shape := ⟨2, ![4096, 2048]⟩
abbrev S1x2048 : Shape := ⟨2, ![1, 2048]⟩
abbrev S2048x4096 : Shape := ⟨2, ![2048, 4096]⟩
abbrev S_ : Shape := ⟨0, ![]⟩
abbrev S8x128 : Shape := ⟨2, ![8, 128]⟩
abbrev S4096x4096 : Shape := ⟨2, ![4096, 4096]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .bf16⟩
  | .hbm, ⟨3, _⟩ => ⟨S_, .f32⟩
  | .hbm, ⟨4, _⟩ => ⟨S8x128, .f32⟩
  | .hbm, ⟨5, _⟩ => ⟨S4096x2048, .bf16⟩
  | .hbm, ⟨6, _⟩ => ⟨S4096x4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S8x128, .f32⟩
  | .local _ .vmem, ⟨5, _⟩ => ⟨S256x2048, .bf16⟩
  | .local _ .vmem, ⟨6, _⟩ => ⟨S256x2048, .bf16⟩
  | .local _ .vmem, ⟨7, _⟩ => ⟨S256x4096, .f32⟩
  | .local _ .vmem, ⟨8, _⟩ => ⟨S256x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S4096x2048 : Shape := ⟨2, ![4096, 2048]⟩
abbrev S1x2048 : Shape := ⟨2, ![1, 2048]⟩
abbrev S2048x4096 : Shape := ⟨2, ![2048, 4096]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x4096, .bf16⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | .hbm, ⟨21, _⟩ => ⟨S2048x4096, .f32⟩
  | .hbm, ⟨22, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Mix.lean ====
abbrev S4096x1024 : Shape := ⟨2, ![4096, 1024]⟩
abbrev S4096x4096 : Shape := ⟨2, ![4096, 4096]⟩
abbrev S4096x2048 : Shape := ⟨2, ![4096, 2048]⟩
abbrev S1x1024 : Shape := ⟨2, ![1, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x2048, .f32⟩
  | .hbm, ⟨3, _⟩ => ⟨S1x1024, .f32⟩
  | .hbm, ⟨4, _⟩ => ⟨S2048x2048, .bf16⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S1x1024, .f32⟩
  | .local _ .vmem, ⟨9, _⟩ => ⟨S2048x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S4096x1024 : Shape := ⟨2, ![4096, 1024]⟩
abbrev S4096x4096 : Shape := ⟨2, ![4096, 4096]⟩
abbrev S4096x2048 : Shape := ⟨2, ![4096, 2048]⟩
abbrev S1x1024 : Shape := ⟨2, ![1, 1024]⟩
abbrev S2048x2048 : Shape := ⟨2, ![2048, 2048]⟩
abbrev S1024 : Shape := ⟨1, ![1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x2048, .f32⟩
  | .hbm, ⟨3, _⟩ => ⟨S1x1024, .f32⟩
  | .hbm, ⟨4, _⟩ => ⟨S2048x2048, .bf16⟩
  | .hbm, ⟨5, _⟩ => ⟨S4096x2048, .f32⟩
  | .hbm, ⟨6, _⟩ => ⟨S1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x2048, .f32⟩
  | .hbm, ⟨44, _⟩ => ⟨S2048x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | .hbm, ⟨48, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Trail.lean ====
abbrev S4096x4096 : Shape := ⟨2, ![4096, 4096]⟩
abbrev S4x256x256 : Shape := ⟨3, ![4, 256, 256]⟩
abbrev S4096x1024 : Shape := ⟨2, ![4096, 1024]⟩
abbrev S4096x256 : Shape := ⟨2, ![4096, 256]⟩
abbrev S1x256x256 : Shape := ⟨3, ![1, 256, 256]⟩
abbrev S4096x128 : Shape := ⟨2, ![4096, 128]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4x256x256, .bf16⟩
  | .hbm, ⟨2, _⟩ => ⟨S4096x1024, .bf16⟩
  | .hbm, ⟨3, _⟩ => ⟨S4096x1024, .f32⟩
  | .local _ .vmem, ⟨0, _⟩ => ⟨S4096x256, .f32⟩
  | .local _ .vmem, ⟨1, _⟩ => ⟨S4096x256, .f32⟩
  | .local _ .vmem, ⟨2, _⟩ => ⟨S1x256x256, .bf16⟩
  | .local _ .vmem, ⟨3, _⟩ => ⟨S1x256x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .f32⟩
  | .local _ .vmem, ⟨7, _⟩ => ⟨S4096x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== TrailRefIdeal.lean ====
abbrev S4096x4096 : Shape := ⟨2, ![4096, 4096]⟩
abbrev S4x256x256 : Shape := ⟨3, ![4, 256, 256]⟩
abbrev S4096x1024 : Shape := ⟨2, ![4096, 1024]⟩
abbrev S4096x4x256 : Shape := ⟨3, ![4096, 4, 256]⟩
abbrev S4096x1x256 : Shape := ⟨3, ![4096, 1, 256]⟩
abbrev S4096x256 : Shape := ⟨2, ![4096, 256]⟩
abbrev S_ : Shape := ⟨0, ![]⟩
abbrev S2x256 : Shape := ⟨2, ![2, 256]⟩
abbrev S4094x256 : Shape := ⟨2, ![4094, 256]⟩
abbrev S4096 : Shape := ⟨1, ![4096]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x4096 : Shape := ⟨3, ![4, 256, 4096]⟩

abbrev nBuf : Space → Nat
  | .hbm => 111
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x256x256, .bf16⟩
  | .hbm, ⟨2, _⟩ => ⟨S4096x1024, .f32⟩
  | .hbm, ⟨3, _⟩ => ⟨S4096x4x256, .f32⟩
  | .hbm, ⟨4, _⟩ => ⟨S4096x1x256, .f32⟩
  | .hbm, ⟨5, _⟩ => ⟨S4096x256, .f32⟩
  | .hbm, ⟨6, _⟩ => ⟨S_, .f32⟩
  | .hbm, ⟨7, _⟩ => ⟨S_, .f32⟩
  | .hbm, ⟨8, _⟩ => ⟨S4096x256, .f32⟩
  | .hbm, ⟨9, _⟩ => ⟨S_, .f32⟩
  | .hbm, ⟨10, _⟩ => ⟨S2x256, .f32⟩
  | .hbm, ⟨11, _⟩ => ⟨S4094x256, .f32⟩
  | .hbm, ⟨12, _⟩ => ⟨S4096x256, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x1x256, .f32⟩
  | .hbm, ⟨26, _⟩ => ⟨S4096x256, .f32⟩
  | .hbm, ⟨27, _⟩ => ⟨S4096x256, .f32⟩
  | .hbm, ⟨28, _⟩ => ⟨S4096x1x256, .f32⟩
  | .hbm, ⟨29, _⟩ => ⟨S4096x256, .f32⟩
  | .hbm, ⟨30, _⟩ => ⟨S_, .f32⟩
  | .hbm, ⟨31, _⟩ => ⟨S_, .f32⟩
  | .hbm, ⟨32, _⟩ => ⟨S4096x256, .f32⟩
  | .hbm, ⟨33, _⟩ => ⟨S_, .f32⟩
  | .hbm, ⟨34, _⟩ => ⟨S4x256, .f32⟩
  | .hbm, ⟨35, _⟩ => ⟨S4092x256, .f32⟩
  | .hbm, ⟨36, _⟩ => ⟨S4096x256, .f32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S4096x1, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x1x256, .f32⟩
  | .hbm, ⟨50, _⟩ => ⟨S4096x256, .f32⟩
  | .hbm, ⟨51, _⟩ => ⟨S4096x256, .f32⟩
  | .hbm, ⟨52, _⟩ => ⟨S4096x1x256, .f32⟩
  | .hbm, ⟨53, _⟩ => ⟨S4096x256, .f32⟩
  | .hbm, ⟨54, _⟩ => ⟨S_, .f32⟩
  | .hbm, ⟨55, _⟩ => ⟨S_, .f32⟩
  | .hbm, ⟨56, _⟩ => ⟨S4096x256, .f32⟩
  | .hbm, ⟨57, _⟩ => ⟨S_, .f32⟩
  | .hbm, ⟨58, _⟩ => ⟨S8x256, .f32⟩
  | .hbm, ⟨59, _⟩ => ⟨S4088x256, .f32⟩
  | .hbm, ⟨60, _⟩ => ⟨S4096x256, .f32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S4096x1x256, .f32⟩
  | .hbm, ⟨74, _⟩ => ⟨S4096x256, .f32⟩
  | .hbm, ⟨75, _⟩ => ⟨S4096x256, .f32⟩
  | .hbm, ⟨76, _⟩ => ⟨S4096x1x256, .f32⟩
  | .hbm, ⟨77, _⟩ => ⟨S4096x256, .f32⟩
  | .hbm, ⟨78, _⟩ => ⟨S_, .f32⟩
  | .hbm, ⟨79, _⟩ => ⟨S_, .f32⟩
  | .hbm, ⟨80, _⟩ => ⟨S4096x256, .f32⟩
  | .hbm, ⟨81, _⟩ => ⟨S_, .f32⟩
  | .hbm, ⟨82, _⟩ => ⟨S16x256, .f32⟩
  | .hbm, ⟨83, _⟩ => ⟨S4080x256, .f32⟩
  | .hbm, ⟨84, _⟩ => ⟨S4096x256, .f32⟩
  | .hbm, ⟨85, _⟩ => ⟨S4096, .i32⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S_, .i32⟩
  | .hbm, ⟨90, _⟩ => ⟨S4096, .i32⟩
  | .hbm, ⟨91, _⟩ => ⟨S4096, .i32⟩
  | .hbm, ⟨92, _⟩ => ⟨S4096, .f32⟩
  | .hbm, ⟨93, _⟩ => ⟨S4096x1, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x1x256, .f32⟩
  | .hbm, ⟨98, _⟩ => ⟨S4096x256, .f32⟩
  | .hbm, ⟨99, _⟩ => ⟨S4096x256, .f32⟩
  | .hbm, ⟨100, _⟩ => ⟨S4096x1x256, .f32⟩
  | .hbm, ⟨101, _⟩ => ⟨S4096x1x256, .f32⟩
  | .hbm, ⟨102, _⟩ => ⟨S4096x1x256, .f32⟩
  | .hbm, ⟨103, _⟩ => ⟨S4096x1x256, .f32⟩
  | .hbm, ⟨104, _⟩ => ⟨S4096x4x256, .f32⟩
  | .hbm, ⟨105, _⟩ => ⟨S4x256x256, .f32⟩
  | .hbm, ⟨106, _⟩ => ⟨S4x256x4096, .f32⟩
  | .hbm, ⟨107, _⟩ => ⟨S4096x4x256, .f32⟩
  | .hbm, ⟨108, _⟩ => ⟨S4096x1024, .f32⟩
  | .hbm, ⟨109, _⟩ => ⟨S4096x1024, .bf16⟩
  | .hbm, ⟨110, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call1_call0_cst : Ref sig .tc := ⟨.hbm, 30, rfl⟩
abbrev main_call1_call0_v0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call2_call0_cst : Ref sig .tc := ⟨.hbm, 54, rfl⟩
abbrev main_call2_call0_v0 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call3_call0_cst : Ref sig .tc := ⟨.hbm, 78, rfl⟩
abbrev main_call3_call0_v0 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_8 : Ref sig .tc := ⟨.hbm, 86, rfl⟩
abbrev main_v66 : Ref sig .tc := ⟨.hbm, 87, rfl⟩
abbrev main_v67 : Ref sig .tc := ⟨.hbm, 88, rfl⟩
abbrev main_c_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Lin.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LinRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Wgrad.lean ====
abbrev S4096x2048 : Shape := ⟨2, ![4096, 2048]⟩
abbrev S1x2048 : Shape := ⟨2, ![1, 2048]⟩
abbrev S4096x4096 : Shape := ⟨2, ![4096, 4096]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩
abbrev S1024x512 : Shape := ⟨2, ![1024, 512]⟩
abbrev S1024x4096 : Shape := ⟨2, ![1024, 4096]⟩
abbrev S512x4096 : Shape := ⟨2, ![512, 4096]⟩

abbrev nBuf : Space → Nat
  | .hbm => 22
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x4096, .bf16⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | .hbm, ⟨21, _⟩ => ⟨S2048x4096, .bf16⟩
  | .local _ .vmem, ⟨0, _⟩ => ⟨S1024x512, .bf16⟩
  | .local _ .vmem, ⟨1, _⟩ => ⟨S1024x512, .bf16⟩
  | .local _ .vmem, ⟨2, _⟩ => ⟨S1024x4096, .bf16⟩
  | .local _ .vmem, ⟨3, _⟩ => ⟨S1024x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradRefIdeal.lean ====
abbrev S4096x2048 : Shape := ⟨2, ![4096, 2048]⟩
abbrev S1x2048 : Shape := ⟨2, ![1, 2048]⟩
abbrev S4096x4096 : Shape := ⟨2, ![4096, 4096]⟩
abbrev S_ : Shape := ⟨0, ![]⟩
abbrev S2048x4096 : Shape := ⟨2, ![2048, 4096]⟩
abbrev S2048 : Shape := ⟨1, ![2048]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x4096, .bf16⟩
  | .hbm, ⟨3, _⟩ => ⟨S_, .f32⟩
  | .hbm, ⟨4, _⟩ => ⟨S2048x4096, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x4096, .f32⟩
  | .hbm, ⟨23, _⟩ => ⟨S4096x4096, .f32⟩
  | .hbm, ⟨24, _⟩ => ⟨S4096x2048, .f32⟩
  | .hbm, ⟨25, _⟩ => ⟨S2048x4096, .f32⟩
  | .hbm, ⟨26, _⟩ => ⟨S2048x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Resid.lean ====
abbrev S4096x2048 : Shape := ⟨2, ![4096, 2048]⟩
abbrev S2048x2048 : Shape := ⟨2, ![2048, 2048]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResidRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Poolw.lean ====
abbrev S4096x4096 : Shape := ⟨2, ![4096, 4096]⟩
abbrev S4096x1024 : Shape := ⟨2, ![4096, 1024]⟩
abbrev S4096x4x256 : Shape := ⟨3, ![4096, 4, 256]⟩
abbrev S4096x1x256 : Shape := ⟨3, ![4096, 1, 256]⟩
abbrev S4096x256 : Shape := ⟨2, ![4096, 256]⟩
abbrev S_ : Shape := ⟨0, ![]⟩
abbrev S2x256 : Shape := ⟨2, ![2, 256]⟩
abbrev S4094x256 : Shape := ⟨2, ![4094, 256]⟩
abbrev S4096 : Shape := ⟨1, ![4096]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 108
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S4096x4x256, .f32⟩
  | .hbm, ⟨4, _⟩ => ⟨S4096x1x256, .f32⟩
  | .hbm, ⟨5, _⟩ => ⟨S4096x256, .f32⟩
  | .hbm, ⟨6, _⟩ => ⟨S_, .f32⟩
  | .hbm, ⟨7, _⟩ => ⟨S_, .f32⟩
  | .hbm, ⟨8, _⟩ => ⟨S4096x256, .f32⟩
  | .hbm, ⟨9, _⟩ => ⟨S_, .f32⟩
  | .hbm, ⟨10, _⟩ => ⟨S2x256, .f32⟩
  | .hbm, ⟨11, _⟩ => ⟨S4094x256, .f32⟩
  | .hbm, ⟨12, _⟩ => ⟨S4096x256, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x1x256, .f32⟩
  | .hbm, ⟨26, _⟩ => ⟨S4096x256, .f32⟩
  | .hbm, ⟨27, _⟩ => ⟨S4096x256, .f32⟩
  | .hbm, ⟨28, _⟩ => ⟨S4096x1x256, .f32⟩
  | .hbm, ⟨29, _⟩ => ⟨S4096x256, .f32⟩
  | .hbm, ⟨30, _⟩ => ⟨S_, .f32⟩
  | .hbm, ⟨31, _⟩ => ⟨S_, .f32⟩
  | .hbm, ⟨32, _⟩ => ⟨S4096x256, .f32⟩
  | .hbm, ⟨33, _⟩ => ⟨S_, .f32⟩
  | .hbm, ⟨34, _⟩ => ⟨S4x256, .f32⟩
  | .hbm, ⟨35, _⟩ => ⟨S4092x256, .f32⟩
  | .hbm, ⟨36, _⟩ => ⟨S4096x256, .f32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S4096x1, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x1x256, .f32⟩
  | .hbm, ⟨50, _⟩ => ⟨S4096x256, .f32⟩
  | .hbm, ⟨51, _⟩ => ⟨S4096x256, .f32⟩
  | .hbm, ⟨52, _⟩ => ⟨S4096x1x256, .f32⟩
  | .hbm, ⟨53, _⟩ => ⟨S4096x256, .f32⟩
  | .hbm, ⟨54, _⟩ => ⟨S_, .f32⟩
  | .hbm, ⟨55, _⟩ => ⟨S_, .f32⟩
  | .hbm, ⟨56, _⟩ => ⟨S4096x256, .f32⟩
  | .hbm, ⟨57, _⟩ => ⟨S_, .f32⟩
  | .hbm, ⟨58, _⟩ => ⟨S8x256, .f32⟩
  | .hbm, ⟨59, _⟩ => ⟨S4088x256, .f32⟩
  | .hbm, ⟨60, _⟩ => ⟨S4096x256, .f32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S4096x1x256, .f32⟩
  | .hbm, ⟨74, _⟩ => ⟨S4096x256, .f32⟩
  | .hbm, ⟨75, _⟩ => ⟨S4096x256, .f32⟩
  | .hbm, ⟨76, _⟩ => ⟨S4096x1x256, .f32⟩
  | .hbm, ⟨77, _⟩ => ⟨S4096x256, .f32⟩
  | .hbm, ⟨78, _⟩ => ⟨S_, .f32⟩
  | .hbm, ⟨79, _⟩ => ⟨S_, .f32⟩
  | .hbm, ⟨80, _⟩ => ⟨S4096x256, .f32⟩
  | .hbm, ⟨81, _⟩ => ⟨S_, .f32⟩
  | .hbm, ⟨82, _⟩ => ⟨S16x256, .f32⟩
  | .hbm, ⟨83, _⟩ => ⟨S4080x256, .f32⟩
  | .hbm, ⟨84, _⟩ => ⟨S4096x256, .f32⟩
  | .hbm, ⟨85, _⟩ => ⟨S4096, .i32⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S_, .i32⟩
  | .hbm, ⟨90, _⟩ => ⟨S4096, .i32⟩
  | .hbm, ⟨91, _⟩ => ⟨S4096, .i32⟩
  | .hbm, ⟨92, _⟩ => ⟨S4096, .f32⟩
  | .hbm, ⟨93, _⟩ => ⟨S4096x1, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x1x256, .f32⟩
  | .hbm, ⟨98, _⟩ => ⟨S4096x256, .f32⟩
  | .hbm, ⟨99, _⟩ => ⟨S4096x256, .f32⟩
  | .hbm, ⟨100, _⟩ => ⟨S4096x1x256, .f32⟩
  | .hbm, ⟨101, _⟩ => ⟨S4096x1x256, .f32⟩
  | .hbm, ⟨102, _⟩ => ⟨S4096x1x256, .f32⟩
  | .hbm, ⟨103, _⟩ => ⟨S4096x1x256, .f32⟩
  | .hbm, ⟨104, _⟩ => ⟨S4096x4x256, .f32⟩
  | .hbm, ⟨105, _⟩ => ⟨S4096x1024, .f32⟩
  | .hbm, ⟨106, _⟩ => ⟨S4096x1024, .bf16⟩
  | .hbm, ⟨107, _⟩ => ⟨S4x256x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call1_call0_cst : Ref sig .tc := ⟨.hbm, 30, rfl⟩
abbrev main_call1_call0_v0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call2_call0_cst : Ref sig .tc := ⟨.hbm, 54, rfl⟩
abbrev main_call2_call0_v0 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call3_call0_cst : Ref sig .tc := ⟨.hbm, 78, rfl⟩
abbrev main_call3_call0_v0 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_8 : Ref sig .tc := ⟨.hbm, 86, rfl⟩
abbrev main_v66 : Ref sig .tc := ⟨.hbm, 87, rfl⟩
abbrev main_v67 : Ref sig .tc := ⟨.hbm, 88, rfl⟩
abbrev main_c_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== PoolwRefIdeal.lean ====
abbrev S4096x4096 : Shape := ⟨2, ![4096, 4096]⟩
abbrev S4096x1024 : Shape := ⟨2, ![4096, 1024]⟩
abbrev S4096x4x256 : Shape := ⟨3, ![4096, 4, 256]⟩
abbrev S4096x1x256 : Shape := ⟨3, ![4096, 1, 256]⟩
abbrev S4096x256 : Shape := ⟨2, ![4096, 256]⟩
abbrev S_ : Shape := ⟨0, ![]⟩
abbrev S2x256 : Shape := ⟨2, ![2, 256]⟩
abbrev S4094x256 : Shape := ⟨2, ![4094, 256]⟩
abbrev S4096 : Shape := ⟨1, ![4096]⟩
abbrev S4096x1 : Shape := ⟨2, ![4096, 1]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4x256x256 : Shape := ⟨3, ![4, 256, 256]⟩
abbrev S4x256x4096 : Shape := ⟨3, ![4, 256, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S4096x4x256, .f32⟩
  | .hbm, ⟨4, _⟩ => ⟨S4096x1x256, .f32⟩
  | .hbm, ⟨5, _⟩ => ⟨S4096x256, .f32⟩
  | .hbm, ⟨6, _⟩ => ⟨S_, .f32⟩
  | .hbm, ⟨7, _⟩ => ⟨S_, .f32⟩
  | .hbm, ⟨8, _⟩ => ⟨S4096x256, .f32⟩
  | .hbm, ⟨9, _⟩ => ⟨S_, .f32⟩
  | .hbm, ⟨10, _⟩ => ⟨S2x256, .f32⟩
  | .hbm, ⟨11, _⟩ => ⟨S4094x256, .f32⟩
  | .hbm, ⟨12, _⟩ => ⟨S4096x256, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x1x256, .f32⟩
  | .hbm, ⟨26, _⟩ => ⟨S4096x256, .f32⟩
  | .hbm, ⟨27, _⟩ => ⟨S4096x256, .f32⟩
  | .hbm, ⟨28, _⟩ => ⟨S4096x1x256, .f32⟩
  | .hbm, ⟨29, _⟩ => ⟨S4096x256, .f32⟩
  | .hbm, ⟨30, _⟩ => ⟨S_, .f32⟩
  | .hbm, ⟨31, _⟩ => ⟨S_, .f32⟩
  | .hbm, ⟨32, _⟩ => ⟨S4096x256, .f32⟩
  | .hbm, ⟨33, _⟩ => ⟨S_, .f32⟩
  | .hbm, ⟨34, _⟩ => ⟨S4x256, .f32⟩
  | .hbm, ⟨35, _⟩ => ⟨S4092x256, .f32⟩
  | .hbm, ⟨36, _⟩ => ⟨S4096x256, .f32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S4096x1, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x1x256, .f32⟩
  | .hbm, ⟨50, _⟩ => ⟨S4096x256, .f32⟩
  | .hbm, ⟨51, _⟩ => ⟨S4096x256, .f32⟩
  | .hbm, ⟨52, _⟩ => ⟨S4096x1x256, .f32⟩
  | .hbm, ⟨53, _⟩ => ⟨S4096x256, .f32⟩
  | .hbm, ⟨54, _⟩ => ⟨S_, .f32⟩
  | .hbm, ⟨55, _⟩ => ⟨S_, .f32⟩
  | .hbm, ⟨56, _⟩ => ⟨S4096x256, .f32⟩
  | .hbm, ⟨57, _⟩ => ⟨S_, .f32⟩
  | .hbm, ⟨58, _⟩ => ⟨S8x256, .f32⟩
  | .hbm, ⟨59, _⟩ => ⟨S4088x256, .f32⟩
  | .hbm, ⟨60, _⟩ => ⟨S4096x256, .f32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x256, .f32⟩
  | .hbm, ⟨73, _⟩ => ⟨S4096x1x256, .f32⟩
  | .hbm, ⟨74, _⟩ => ⟨S4096x256, .f32⟩
  | .hbm, ⟨75, _⟩ => ⟨S4096x256, .f32⟩
  | .hbm, ⟨76, _⟩ => ⟨S4096x1x256, .f32⟩
  | .hbm, ⟨77, _⟩ => ⟨S4096x256, .f32⟩
  | .hbm, ⟨78, _⟩ => ⟨S_, .f32⟩
  | .hbm, ⟨79, _⟩ => ⟨S_, .f32⟩
  | .hbm, ⟨80, _⟩ => ⟨S4096x256, .f32⟩
  | .hbm, ⟨81, _⟩ => ⟨S_, .f32⟩
  | .hbm, ⟨82, _⟩ => ⟨S16x256, .f32⟩
  | .hbm, ⟨83, _⟩ => ⟨S4080x256, .f32⟩
  | .hbm, ⟨84, _⟩ => ⟨S4096x256, .f32⟩
  | .hbm, ⟨85, _⟩ => ⟨S4096, .i32⟩
  | .hbm, ⟨86, _⟩ => ⟨S_, .i32⟩
  | .hbm, ⟨87, _⟩ => ⟨S4096, .i32⟩
  | .hbm, ⟨88, _⟩ => ⟨S4096, .i32⟩
  | .hbm, ⟨89, _⟩ => ⟨S_, .i32⟩
  | .hbm, ⟨90, _⟩ => ⟨S4096, .i32⟩
  | .hbm, ⟨91, _⟩ => ⟨S4096, .i32⟩
  | .hbm, ⟨92, _⟩ => ⟨S4096, .f32⟩
  | .hbm, ⟨93, _⟩ => ⟨S4096x1, .f32⟩
  | .hbm, ⟨94, _⟩ => ⟨S4096x256, .f32⟩
  | .hbm, ⟨95, _⟩ => ⟨S4096x256, .f32⟩
  | .hbm, ⟨96, _⟩ => ⟨S4096x256, .f32⟩
  | .hbm, ⟨97, _⟩ => ⟨S4096x1x256, .f32⟩
  | .hbm, ⟨98, _⟩ => ⟨S4096x256, .f32⟩
  | .hbm, ⟨99, _⟩ => ⟨S4096x256, .f32⟩
  | .hbm, ⟨100, _⟩ => ⟨S4096x1x256, .f32⟩
  | .hbm, ⟨101, _⟩ => ⟨S4096x1x256, .f32⟩
  | .hbm, ⟨102, _⟩ => ⟨S4096x1x256, .f32⟩
  | .hbm, ⟨103, _⟩ => ⟨S4096x1x256, .f32⟩
  | .hbm, ⟨104, _⟩ => ⟨S4096x4x256, .f32⟩
  | .hbm, ⟨105, _⟩ => ⟨S_, .f32⟩
  | .hbm, ⟨106, _⟩ => ⟨S4x256x256, .f32⟩
  | .hbm, ⟨107, _⟩ => ⟨S4x256x4096, .f32⟩
  | .hbm, ⟨108, _⟩ => ⟨S4096x4x256, .f32⟩
  | .hbm, ⟨109, _⟩ => ⟨S4096x1024, .f32⟩
  | .hbm, ⟨110, _⟩ => ⟨S4096x4x256, .f32⟩
  | .hbm, ⟨111, _⟩ => ⟨S4x256x4096, .f32⟩
  | .hbm, ⟨112, _⟩ => ⟨S4x256x256, .f32⟩
  | .hbm, ⟨113, _⟩ => ⟨S4x256x256, .f32⟩
  | .hbm, ⟨114, _⟩ => ⟨S4x256x256, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call1_call0_cst : Ref sig .tc := ⟨.hbm, 30, rfl⟩
abbrev main_call1_call0_v0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call2_call0_cst : Ref sig .tc := ⟨.hbm, 54, rfl⟩
abbrev main_call2_call0_v0 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_5 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call3_call0_cst : Ref sig .tc := ⟨.hbm, 78, rfl⟩
abbrev main_call3_call0_v0 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_8 : Ref sig .tc := ⟨.hbm, 86, rfl⟩
abbrev main_v66 : Ref sig .tc := ⟨.hbm, 87, rfl⟩
abbrev main_v67 : Ref sig .tc := ⟨.hbm, 88, rfl⟩
abbrev main_c_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_10 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]
-- ==== Adam.lean ====
abbrev S2048x512 : Shape := ⟨2, ![2048, 512]⟩
abbrev S7x2048x512 : Shape := ⟨3, ![7, 2048, 512]⟩
abbrev S256x512 : Shape := ⟨2, ![256, 512]⟩
abbrev S7x256x512 : Shape := ⟨3, ![7, 256, 512]⟩
abbrev S1x256x512 : Shape := ⟨3, ![1, 256, 512]⟩

abbrev nBuf : Space → Nat
  | .hbm => 9
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .bf16⟩
  | .hbm, ⟨4, _⟩ => ⟨S7x2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S7x256x512, .bf16⟩
  | .local _ .vmem, ⟨9, _⟩ => ⟨S7x256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRefIdeal.lean ====
abbrev S2048x512 : Shape := ⟨2, ![2048, 512]⟩
abbrev S7x2048x512 : Shape := ⟨3, ![7, 2048, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .bf16⟩
  | .hbm, ⟨4, _⟩ => ⟨S7x2048x512, .bf16⟩
  | .hbm, ⟨5, _⟩ => ⟨S2048x512, .f32⟩
  | .hbm, ⟨6, _⟩ => ⟨S7x2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S_, .f32⟩
  | .hbm, ⟨41, _⟩ => ⟨S2048x512, .f32⟩
  | .hbm, ⟨42, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Recur.lean ====
abbrev S4096x4096 : Shape := ⟨2, ![4096, 4096]⟩
abbrev S64x64 : Shape := ⟨2, ![64, 64]⟩
abbrev S64x64x16 : Shape := ⟨3, ![64, 64, 16]⟩
abbrev S64x16x64 : Shape := ⟨3, ![64, 16, 64]⟩
abbrev S1x1024 : Shape := ⟨2, ![1, 1024]⟩
abbrev S4x8x128 : Shape := ⟨3, ![4, 8, 128]⟩
abbrev S4x8x256 : Shape := ⟨3, ![4, 8, 256]⟩
abbrev S4x256x64 : Shape := ⟨3, ![4, 256, 64]⟩
abbrev S1x4x1x256x1x64 : Shape := ⟨6, ![1, 4, 1, 256, 1, 64]⟩
abbrev S1x4x1x256x2x64 : Shape := ⟨6, ![1, 4, 1, 256, 2, 64]⟩
abbrev S4x256x128 : Shape := ⟨3, ![4, 256, 128]⟩
abbrev S256x128 : Shape := ⟨2, ![256, 128]⟩
abbrev S_ : Shape := ⟨0, ![]⟩
abbrev S1x256x128 : Shape := ⟨3, ![1, 256, 128]⟩
abbrev S4x256x256 : Shape := ⟨3, ![4, 256, 256]⟩
abbrev S4096x1024 : Shape := ⟨2, ![4096, 1024]⟩
abbrev S4x32768x256 : Shape := ⟨3, ![4, 32768, 256]⟩
abbrev S256x1024 : Shape := ⟨2, ![256, 1024]⟩
abbrev S4x2048x256 : Shape := ⟨3, ![4, 2048, 256]⟩
abbrev S2x2048x128 : Shape := ⟨3, ![2, 2048, 128]⟩
abbrev S8x128 : Shape := ⟨2, ![8, 128]⟩
abbrev S256x256 : Shape := ⟨2, ![256, 256]⟩
abbrev S1x128 : Shape := ⟨2, ![1, 128]⟩
abbrev S1x2048x128 : Shape := ⟨3, ![1, 2048, 128]⟩
abbrev S2048x128 : Shape := ⟨2, ![2048, 128]⟩
abbrev S2048x256 : Shape := ⟨2, ![2048, 256]⟩
abbrev S1x256x256 : Shape := ⟨3, ![1, 256, 256]⟩
abbrev S1x2048x256 : Shape := ⟨3, ![1, 2048, 256]⟩
abbrev S1x8x128 : Shape := ⟨3, ![1, 8, 128]⟩
abbrev S1x256 : Shape := ⟨2, ![1, 256]⟩
abbrev S4x4096x8x256 : Shape := ⟨4, ![4, 4096, 8, 256]⟩
abbrev S4x4096x8x128 : Shape := ⟨4, ![4, 4096, 8, 128]⟩
abbrev S4096x4x8x128 : Shape := ⟨4, ![4096, 4, 8, 128]⟩
abbrev S4096x64x64 : Shape := ⟨3, ![4096, 64, 64]⟩

abbrev nBuf : Space → Nat
  | .hbm => 312
  | .vmem => 15
  | .smem => 0
  | _ => 0

abbrev hbmTy0_0 (i : Nat) : BufTy := match i % 128 with
  | 0 => ⟨S4096x4096, .f32⟩
  | 1 => ⟨S64x64, .f32⟩
  | 2 => ⟨S64x64, .f32⟩
  | 3 => ⟨S64x64x16, .f32⟩
  | 4 => ⟨S64x64x16, .f32⟩
  | 5 => ⟨S64x16x64, .f32⟩
  | 6 => ⟨S64x16x64, .f32⟩
  | 7 => ⟨S1x1024, .f32⟩
  | 8 => ⟨S4x8x128, .f32⟩
  | 9 => ⟨S4x8x128, .f32⟩
  | 10 => ⟨S4x8x256, .f32⟩
  | 11 => ⟨S64x16x64, .f32⟩
  | 12 => ⟨S64x16x64, .f32⟩
  | 13 => ⟨S4x256x64, .f32⟩
  | 14 => ⟨S1x4x1x256x1x64, .f32⟩
  | 15 => ⟨S1x4x1x256x2x64, .f32⟩
  | 16 => ⟨S4x256x128, .f32⟩
  | 17 => ⟨S256x128, .i32⟩
  | 18 => ⟨S_, .i32⟩
  | 19 => ⟨S_, .i32⟩
  | 20 => ⟨S256x128, .i32⟩
  | 21 => ⟨S256x128, .i32⟩
  | 22 => ⟨S256x128, .i32⟩
  | 23 => ⟨S_, .i32⟩
  | 24 => ⟨S256x128, .i32⟩
  | 25 => ⟨S256x128, .i1⟩
  | 26 => ⟨S256x128, .i32⟩
  | 27 => ⟨S256x128, .i32⟩
  | 28 => ⟨S_, .i32⟩
  | 29 => ⟨S256x128, .i32⟩
  | 30 => ⟨S256x128, .i1⟩
  | 31 => ⟨S256x128, .i1⟩
  | 32 => ⟨S_, .i32⟩
  | 33 => ⟨S256x128, .i32⟩
  | 34 => ⟨S256x128, .i32⟩
  | 35 => ⟨S256x128, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S256x128, .i32⟩
  | 43 => ⟨S256x128, .i32⟩
  | 44 => ⟨S_, .i32⟩
  | 45 => ⟨S256x128, .i32⟩
  | 46 => ⟨S256x128, .i1⟩
  | 47 => ⟨S_, .i32⟩
  | 48 => ⟨S256x128, .i32⟩
  | 49 => ⟨S256x128, .i1⟩
  | 50 => ⟨S_, .i32⟩
  | 51 => ⟨S_, .i1⟩
  | 52 => ⟨S256x128, .i1⟩
  | 53 => ⟨S256x128, .i1⟩
  | 54 => ⟨S256x128, .i1⟩
  | 55 => ⟨S256x128, .i32⟩
  | 56 => ⟨S256x128, .i32⟩
  | 57 => ⟨S256x128, .i32⟩
  | 58 => ⟨S256x128, .i32⟩
  | 59 => ⟨S_, .i32⟩
  | 60 => ⟨S_, .i32⟩
  | 61 => ⟨S256x128, .i32⟩
  | 62 => ⟨S256x128, .i32⟩
  | 63 => ⟨S256x128, .i32⟩
  | 64 => ⟨S_, .i32⟩
  | 65 => ⟨S256x128, .i32⟩
  | 66 => ⟨S256x128, .i1⟩
  | 67 => ⟨S256x128, .i32⟩
  | 68 => ⟨S256x128, .i32⟩
  | 69 => ⟨S_, .i32⟩
  | 70 => ⟨S256x128, .i32⟩
  | 71 => ⟨S256x128, .i1⟩
  | 72 => ⟨S256x128, .i1⟩
  | 73 => ⟨S_, .i32⟩
  | 74 => ⟨S256x128, .i32⟩
  | 75 => ⟨S256x128, .i32⟩
  | 76 => ⟨S256x128, .i32⟩
  | 77 => ⟨S256x128, .i1⟩
  | 78 => ⟨S1x256x128, .i1⟩
  | 79 => ⟨S_, .f32⟩
  | 80 => ⟨S_, .f32⟩
  | 81 => ⟨S4x256x128, .i1⟩
  | 82 => ⟨S4x256x128, .f32⟩
  | 83 => ⟨S4x256x128, .f32⟩
  | 84 => ⟨S4x256x64, .f32⟩
  | 85 => ⟨S1x4x1x256x1x64, .f32⟩
  | 86 => ⟨S1x4x1x256x2x64, .f32⟩
  | 87 => ⟨S4x256x128, .f32⟩
  | 88 => ⟨S256x128, .i32⟩
  | 89 => ⟨S_, .i32⟩
  | 90 => ⟨S_, .i32⟩
  | 91 => ⟨S256x128, .i32⟩
  | 92 => ⟨S256x128, .i32⟩
  | 93 => ⟨S256x128, .i32⟩
  | 94 => ⟨S_, .i32⟩
  | 95 => ⟨S256x128, .i32⟩
  | 96 => ⟨S256x128, .i1⟩
  | 97 => ⟨S256x128, .i32⟩
  | 98 => ⟨S256x128, .i32⟩
  | 99 => ⟨S_, .i32⟩
  | 100 => ⟨S256x128, .i32⟩
  | 101 => ⟨S256x128, .i1⟩
  | 102 => ⟨S256x128, .i1⟩
  | 103 => ⟨S_, .i32⟩
  | 104 => ⟨S256x128, .i32⟩
  | 105 => ⟨S256x128, .i32⟩
  | 106 => ⟨S256x128, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S256x128, .i32⟩
  | 114 => ⟨S256x128, .i32⟩
  | 115 => ⟨S_, .i32⟩
  | 116 => ⟨S256x128, .i32⟩
  | 117 => ⟨S256x128, .i1⟩
  | 118 => ⟨S_, .i32⟩
  | 119 => ⟨S256x128, .i32⟩
  | 120 => ⟨S256x128, .i1⟩
  | 121 => ⟨S_, .i32⟩
  | 122 => ⟨S_, .i1⟩
  | 123 => ⟨S256x128, .i1⟩
  | 124 => ⟨S256x128, .i1⟩
  | 125 => ⟨S256x128, .i1⟩
  | 126 => ⟨S256x128, .i32⟩
  | 127 => ⟨S256x128, .i32⟩
  | _ => ⟨S4096x4096, .f32⟩

abbrev hbmTy0_1 (i : Nat) : BufTy := match i % 128 with
  | 0 => ⟨S256x128, .i32⟩
  | 1 => ⟨S256x128, .i32⟩
  | 2 => ⟨S_, .i32⟩
  | 3 => ⟨S_, .i32⟩
  | 4 => ⟨S256x128, .i32⟩
  | 5 => ⟨S256x128, .i32⟩
  | 6 => ⟨S256x128, .i32⟩
  | 7 => ⟨S_, .i32⟩
  | 8 => ⟨S256x128, .i32⟩
  | 9 => ⟨S256x128, .i1⟩
  | 10 => ⟨S256x128, .i32⟩
  | 11 => ⟨S256x128, .i32⟩
  | 12 => ⟨S_, .i32⟩
  | 13 => ⟨S256x128, .i32⟩
  | 14 => ⟨S256x128, .i1⟩
  | 15 => ⟨S256x128, .i1⟩
  | 16 => ⟨S_, .i32⟩
  | 17 => ⟨S256x128, .i32⟩
  | 18 => ⟨S256x128, .i32⟩
  | 19 => ⟨S256x128, .i32⟩
  | 20 => ⟨S256x128, .i1⟩
  | 21 => ⟨S1x256x128, .i1⟩
  | 22 => ⟨S_, .f32⟩
  | 23 => ⟨S_, .f32⟩
  | 24 => ⟨S4x256x128, .i1⟩
  | 25 => ⟨S4x256x128, .f32⟩
  | 26 => ⟨S4x256x128, .f32⟩
  | 27 => ⟨S4x256x256, .f32⟩
  | 28 => ⟨S4x256x256, .bf16⟩
  | 29 => ⟨S64x16x64, .f32⟩
  | 30 => ⟨S4x256x64, .f32⟩
  | 31 => ⟨S1x4x1x256x1x64, .f32⟩
  | 32 => ⟨S1x4x1x256x2x64, .f32⟩
  | 33 => ⟨S4x256x128, .f32⟩
  | 34 => ⟨S256x128, .i32⟩
  | 35 => ⟨S_, .i32⟩
  | 36 => ⟨S_, .i32⟩
  | 37 => ⟨S256x128, .i32⟩
  | 38 => ⟨S256x128, .i32⟩
  | 39 => ⟨S256x128, .i32⟩
  | 40 => ⟨S_, .i32⟩
  | 41 => ⟨S256x128, .i32⟩
  | 42 => ⟨S256x128, .i1⟩
  | 43 => ⟨S256x128, .i32⟩
  | 44 => ⟨S256x128, .i32⟩
  | 45 => ⟨S_, .i32⟩
  | 46 => ⟨S256x128, .i32⟩
  | 47 => ⟨S256x128, .i1⟩
  | 48 => ⟨S256x128, .i1⟩
  | 49 => ⟨S_, .i32⟩
  | 50 => ⟨S256x128, .i32⟩
  | 51 => ⟨S256x128, .i32⟩
  | 52 => ⟨S256x128, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S256x128, .i32⟩
  | 60 => ⟨S256x128, .i32⟩
  | 61 => ⟨S_, .i32⟩
  | 62 => ⟨S256x128, .i32⟩
  | 63 => ⟨S256x128, .i1⟩
  | 64 => ⟨S_, .i32⟩
  | 65 => ⟨S256x128, .i32⟩
  | 66 => ⟨S256x128, .i1⟩
  | 67 => ⟨S_, .i32⟩
  | 68 => ⟨S_, .i1⟩
  | 69 => ⟨S256x128, .i1⟩
  | 70 => ⟨S256x128, .i1⟩
  | 71 => ⟨S256x128, .i1⟩
  | 72 => ⟨S256x128, .i32⟩
  | 73 => ⟨S256x128, .i32⟩
  | 74 => ⟨S256x128, .i32⟩
  | 75 => ⟨S256x128, .i32⟩
  | 76 => ⟨S_, .i32⟩
  | 77 => ⟨S_, .i32⟩
  | 78 => ⟨S256x128, .i32⟩
  | 79 => ⟨S256x128, .i32⟩
  | 80 => ⟨S256x128, .i32⟩
  | 81 => ⟨S_, .i32⟩
  | 82 => ⟨S256x128, .i32⟩
  | 83 => ⟨S256x128, .i1⟩
  | 84 => ⟨S256x128, .i32⟩
  | 85 => ⟨S256x128, .i32⟩
  | 86 => ⟨S_, .i32⟩
  | 87 => ⟨S256x128, .i32⟩
  | 88 => ⟨S256x128, .i1⟩
  | 89 => ⟨S256x128, .i1⟩
  | 90 => ⟨S_, .i32⟩
  | 91 => ⟨S256x128, .i32⟩
  | 92 => ⟨S256x128, .i32⟩
  | 93 => ⟨S256x128, .i32⟩
  | 94 => ⟨S256x128, .i1⟩
  | 95 => ⟨S1x256x128, .i1⟩
  | 96 => ⟨S_, .f32⟩
  | 97 => ⟨S_, .f32⟩
  | 98 => ⟨S4x256x128, .i1⟩
  | 99 => ⟨S4x256x128, .f32⟩
  | 100 => ⟨S4x256x128, .f32⟩
  | 101 => ⟨S4x256x64, .f32⟩
  | 102 => ⟨S1x4x1x256x1x64, .f32⟩
  | 103 => ⟨S1x4x1x256x2x64, .f32⟩
  | 104 => ⟨S4x256x128, .f32⟩
  | 105 => ⟨S256x128, .i32⟩
  | 106 => ⟨S_, .i32⟩
  | 107 => ⟨S_, .i32⟩
  | 108 => ⟨S256x128, .i32⟩
  | 109 => ⟨S256x128, .i32⟩
  | 110 => ⟨S256x128, .i32⟩
  | 111 => ⟨S_, .i32⟩
  | 112 => ⟨S256x128, .i32⟩
  | 113 => ⟨S256x128, .i1⟩
  | 114 => ⟨S256x128, .i32⟩
  | 115 => ⟨S256x128, .i32⟩
  | 116 => ⟨S_, .i32⟩
  | 117 => ⟨S256x128, .i32⟩
  | 118 => ⟨S256x128, .i1⟩
  | 119 => ⟨S256x128, .i1⟩
  | 120 => ⟨S_, .i32⟩
  | 121 => ⟨S256x128, .i32⟩
  | 122 => ⟨S256x128, .i32⟩
  | 123 => ⟨S256x128, .i32⟩
  | 124 => ⟨S_, .i32⟩
  | 125 => ⟨S_, .i32⟩
  | 126 => ⟨S_, .i32⟩
  | 127 => ⟨S_, .i1⟩
  | _ => ⟨S4096x4096, .f32⟩

abbrev hbmTy0_2 (i : Nat) : BufTy := match i % 128 with
  | 0 => ⟨S_, .i32⟩
  | 1 => ⟨S_, .i32⟩
  | 2 => ⟨S256x128, .i32⟩
  | 3 => ⟨S256x128, .i32⟩
  | 4 => ⟨S_, .i32⟩
  | 5 => ⟨S256x128, .i32⟩
  | 6 => ⟨S256x128, .i1⟩
  | 7 => ⟨S_, .i32⟩
  | 8 => ⟨S256x128, .i32⟩
  | 9 => ⟨S256x128, .i1⟩
  | 10 => ⟨S_, .i32⟩
  | 11 => ⟨S_, .i1⟩
  | 12 => ⟨S256x128, .i1⟩
  | 13 => ⟨S256x128, .i1⟩
  | 14 => ⟨S256x128, .i1⟩
  | 15 => ⟨S256x128, .i32⟩
  | 16 => ⟨S256x128, .i32⟩
  | 17 => ⟨S256x128, .i32⟩
  | 18 => ⟨S256x128, .i32⟩
  | 19 => ⟨S_, .i32⟩
  | 20 => ⟨S_, .i32⟩
  | 21 => ⟨S256x128, .i32⟩
  | 22 => ⟨S256x128, .i32⟩
  | 23 => ⟨S256x128, .i32⟩
  | 24 => ⟨S_, .i32⟩
  | 25 => ⟨S256x128, .i32⟩
  | 26 => ⟨S256x128, .i1⟩
  | 27 => ⟨S256x128, .i32⟩
  | 28 => ⟨S256x128, .i32⟩
  | 29 => ⟨S_, .i32⟩
  | 30 => ⟨S256x128, .i32⟩
  | 31 => ⟨S256x128, .i1⟩
  | 32 => ⟨S256x128, .i1⟩
  | 33 => ⟨S_, .i32⟩
  | 34 => ⟨S256x128, .i32⟩
  | 35 => ⟨S256x128, .i32⟩
  | 36 => ⟨S256x128, .i32⟩
  | 37 => ⟨S256x128, .i1⟩
  | 38 => ⟨S1x256x128, .i1⟩
  | 39 => ⟨S_, .f32⟩
  | 40 => ⟨S_, .f32⟩
  | 41 => ⟨S4x256x128, .i1⟩
  | 42 => ⟨S4x256x128, .f32⟩
  | 43 => ⟨S4x256x128, .f32⟩
  | 44 => ⟨S4x256x256, .f32⟩
  | 45 => ⟨S4x256x256, .bf16⟩
  | 46 => ⟨S4096x1024, .f32⟩
  | 47 => ⟨S4096x1024, .bf16⟩
  | 48 => ⟨S4x32768x256, .f32⟩
  | 49 => ⟨S4x4096x8x256, .f32⟩
  | 50 => ⟨S4x4096x8x128, .f32⟩
  | 51 => ⟨S4096x4x8x128, .f32⟩
  | 52 => ⟨S4096x64x64, .f32⟩
  | 53 => ⟨S4x4096x8x128, .f32⟩
  | 54 => ⟨S4096x4x8x128, .f32⟩
  | 55 => ⟨S4096x64x64, .f32⟩
  | _ => ⟨S4096x4096, .f32⟩

abbrev hbmTy (i : Nat) : BufTy := match i / 128 with
  | 0 => hbmTy0_0 i
  | 1 => hbmTy0_1 i
  | 2 => hbmTy0_2 i
  | _ => ⟨S4096x4096, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S4x256x256, .bf16⟩
  | .local _ .vmem, ⟨3, _⟩ => ⟨S4x256x256, .bf16⟩
  | .local _ .vmem, ⟨4, _⟩ => ⟨S4x8x256, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S4x2048x256, .f32⟩
  | .local _ .vmem, ⟨11, _⟩ => ⟨S4x2048x256, .f32⟩
  | .local _ .vmem, ⟨12, _⟩ => ⟨S4x8x256, .f32⟩
  | .local _ .vmem, ⟨13, _⟩ => ⟨S2x2048x128, .f32⟩
  | .local _ .vmem, ⟨14, _⟩ => ⟨S2x2048x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v11 : Ref sig .tc := ⟨.hbm, 57, rfl⟩
abbrev main_v12 : Ref sig .tc := ⟨.hbm, 58, rfl⟩
abbrev main_c_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_c_2 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_v5 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_c : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_0 : Ref sig .tc := ⟨.hbm, 103, rfl⟩
abbrev main_call4_v12 : Ref sig .tc := ⟨.hbm, 104, rfl⟩
abbrev main_call4_v13 : Ref sig .tc := ⟨.hbm, 105, rfl⟩
abbrev main_v22 : Ref sig .tc := ⟨.hbm, 106, rfl⟩
abbrev main_c_3 : Ref sig .tc := ⟨.hbm, 107, rfl⟩
abbrev main_call5_v0 : Ref sig .tc := ⟨.hbm, 108, rfl⟩
abbrev main_call5_c : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_c_1 : Ref sig .tc := ⟨.hbm, 115, rfl⟩
abbrev main_call5_v5 : Ref sig .tc := ⟨.hbm, 116, rfl⟩
abbrev main_call5_v6 : Ref sig .tc := ⟨.hbm, 117, rfl⟩
abbrev main_call5_c_2 : Ref sig .tc := ⟨.hbm, 118, rfl⟩
abbrev main_call5_v7 : Ref sig .tc := ⟨.hbm, 119, rfl⟩
abbrev main_call5_v8 : Ref sig .tc := ⟨.hbm, 120, rfl⟩
abbrev main_call5_c_3 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_v12 : Ref sig .tc := ⟨.hbm, 125, rfl⟩
abbrev main_call5_v13 : Ref sig .tc := ⟨.hbm, 126, rfl⟩
abbrev main_call5_v14 : Ref sig .tc := ⟨.hbm, 127, rfl⟩
abbrev main_v23 : Ref sig .tc := ⟨.hbm, 128, rfl⟩
abbrev main_v24 : Ref sig .tc := ⟨.hbm, 129, rfl⟩
abbrev main_c_4 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_call6_v3 : Ref sig .tc := ⟨.hbm, 134, rfl⟩
abbrev main_call6_v4 : Ref sig .tc := ⟨.hbm, 135, rfl⟩
abbrev main_call6_v5 : Ref sig .tc := ⟨.hbm, 136, rfl⟩
abbrev main_call6_v6 : Ref sig .tc := ⟨.hbm, 137, rfl⟩
abbrev main_call6_v7 : Ref sig .tc := ⟨.hbm, 138, rfl⟩
abbrev main_call6_v8 : Ref sig .tc := ⟨.hbm, 139, rfl⟩
abbrev main_call6_c : Ref sig .tc := ⟨.hbm, 140, rfl⟩
abbrev main_call6_v9 : Ref sig .tc := ⟨.hbm, 141, rfl⟩
abbrev main_call6_v10 : Ref sig .tc := ⟨.hbm, 142, rfl⟩
abbrev main_call6_v11 : Ref sig .tc := ⟨.hbm, 143, rfl⟩
abbrev main_call6_c_0 : Ref sig .tc := ⟨.hbm, 144, rfl⟩
abbrev main_call6_v12 : Ref sig .tc := ⟨.hbm, 145, rfl⟩
abbrev main_call6_v13 : Ref sig .tc := ⟨.hbm, 146, rfl⟩
abbrev main_v25 : Ref sig .tc := ⟨.hbm, 147, rfl⟩
abbrev main_v26 : Ref sig .tc := ⟨.hbm, 148, rfl⟩
abbrev main_v27 : Ref sig .tc := ⟨.hbm, 149, rfl⟩
abbrev main_cst_5 : Ref sig .tc := ⟨.hbm, 150, rfl⟩
abbrev main_call7_v0 : Ref sig .tc := ⟨.hbm, 151, rfl⟩
abbrev main_call7_v1 : Ref sig .tc := ⟨.hbm, 152, rfl⟩
abbrev main_call7_v2 : Ref sig .tc := ⟨.hbm, 153, rfl⟩
abbrev main_v28 : Ref sig .tc := ⟨.hbm, 154, rfl⟩
abbrev main_v29 : Ref sig .tc := ⟨.hbm, 155, rfl⟩
abbrev main_v30 : Ref sig .tc := ⟨.hbm, 156, rfl⟩
abbrev main_v31 : Ref sig .tc := ⟨.hbm, 157, rfl⟩
abbrev main_v32 : Ref sig .tc := ⟨.hbm, 158, rfl⟩
abbrev main_v33 : Ref sig .tc := ⟨.hbm, 159, rfl⟩
abbrev main_v34 : Ref sig .tc := ⟨.hbm, 160, rfl⟩
abbrev main_v35 : Ref sig .tc := ⟨.hbm, 161, rfl⟩
abbrev main_v36 : Ref sig .tc := ⟨.hbm, 162, rfl⟩
abbrev main_c_6 : Ref sig .tc := ⟨.hbm, 163, rfl⟩
abbrev main_call8_v0 : Ref sig .tc := ⟨.hbm, 164, rfl⟩
abbrev main_call8_v1 : Ref sig .tc := ⟨.hbm, 165, rfl⟩
abbrev main_call8_v2 : Ref sig .tc := ⟨.hbm, 166, rfl⟩
abbrev main_call8_v3 : Ref sig .tc := ⟨.hbm, 167, rfl⟩
abbrev main_call8_v4 : Ref sig .tc := ⟨.hbm, 168, rfl⟩
abbrev main_call8_v5 : Ref sig .tc := ⟨.hbm, 169, rfl⟩
abbrev main_call8_v6 : Ref sig .tc := ⟨.hbm, 170, rfl⟩
abbrev main_call8_v7 : Ref sig .tc := ⟨.hbm, 171, rfl⟩
abbrev main_call8_v8 : Ref sig .tc := ⟨.hbm, 172, rfl⟩
abbrev main_call8_c : Ref sig .tc := ⟨.hbm, 173, rfl⟩
abbrev main_call8_v9 : Ref sig .tc := ⟨.hbm, 174, rfl⟩
abbrev main_call8_v10 : Ref sig .tc := ⟨.hbm, 175, rfl⟩
abbrev main_call8_v11 : Ref sig .tc := ⟨.hbm, 176, rfl⟩
abbrev main_call8_c_0 : Ref sig .tc := ⟨.hbm, 177, rfl⟩
abbrev main_call8_v12 : Ref sig .tc := ⟨.hbm, 178, rfl⟩
abbrev main_call8_v13 : Ref sig .tc := ⟨.hbm, 179, rfl⟩
abbrev main_v37 : Ref sig .tc := ⟨.hbm, 180, rfl⟩
abbrev main_c_7 : Ref sig .tc := ⟨.hbm, 181, rfl⟩
abbrev main_call9_v0 : Ref sig .tc := ⟨.hbm, 182, rfl⟩
abbrev main_call9_c : Ref sig .tc := ⟨.hbm, 183, rfl⟩
abbrev main_call9_v1 : Ref sig .tc := ⟨.hbm, 184, rfl⟩
abbrev main_call9_c_0 : Ref sig .tc := ⟨.hbm, 185, rfl⟩
abbrev main_call9_v2 : Ref sig .tc := ⟨.hbm, 186, rfl⟩
abbrev main_call9_v3 : Ref sig .tc := ⟨.hbm, 187, rfl⟩
abbrev main_call9_v4 : Ref sig .tc := ⟨.hbm, 188, rfl⟩
abbrev main_call9_c_1 : Ref sig .tc := ⟨.hbm, 189, rfl⟩
abbrev main_call9_v5 : Ref sig .tc := ⟨.hbm, 190, rfl⟩
abbrev main_call9_v6 : Ref sig .tc := ⟨.hbm, 191, rfl⟩
abbrev main_call9_c_2 : Ref sig .tc := ⟨.hbm, 192, rfl⟩
abbrev main_call9_v7 : Ref sig .tc := ⟨.hbm, 193, rfl⟩
abbrev main_call9_v8 : Ref sig .tc := ⟨.hbm, 194, rfl⟩
abbrev main_call9_c_3 : Ref sig .tc := ⟨.hbm, 195, rfl⟩
abbrev main_call9_v9 : Ref sig .tc := ⟨.hbm, 196, rfl⟩
abbrev main_call9_v10 : Ref sig .tc := ⟨.hbm, 197, rfl⟩
abbrev main_call9_v11 : Ref sig .tc := ⟨.hbm, 198, rfl⟩
abbrev main_call9_v12 : Ref sig .tc := ⟨.hbm, 199, rfl⟩
abbrev main_call9_v13 : Ref sig .tc := ⟨.hbm, 200, rfl⟩
abbrev main_call9_v14 : Ref sig .tc := ⟨.hbm, 201, rfl⟩
abbrev main_v38 : Ref sig .tc := ⟨.hbm, 202, rfl⟩
abbrev main_v39 : Ref sig .tc := ⟨.hbm, 203, rfl⟩
abbrev main_c_8 : Ref sig .tc := ⟨.hbm, 204, rfl⟩
abbrev main_call10_v0 : Ref sig .tc := ⟨.hbm, 205, rfl⟩
abbrev main_call10_v1 : Ref sig .tc := ⟨.hbm, 206, rfl⟩
abbrev main_call10_v2 : Ref sig .tc := ⟨.hbm, 207, rfl⟩
abbrev main_call10_v3 : Ref sig .tc := ⟨.hbm, 208, rfl⟩
abbrev main_call10_v4 : Ref sig .tc := ⟨.hbm, 209, rfl⟩
abbrev main_call10_v5 : Ref sig .tc := ⟨.hbm, 210, rfl⟩
abbrev main_call10_v6 : Ref sig .tc := ⟨.hbm, 211, rfl⟩
abbrev main_call10_v7 : Ref sig .tc := ⟨.hbm, 212, rfl⟩
abbrev main_call10_v8 : Ref sig .tc := ⟨.hbm, 213, rfl⟩
abbrev main_call10_c : Ref sig .tc := ⟨.hbm, 214, rfl⟩
abbrev main_call10_v9 : Ref sig .tc := ⟨.hbm, 215, rfl⟩
abbrev main_call10_v10 : Ref sig .tc := ⟨.hbm, 216, rfl⟩
abbrev main_call10_v11 : Ref sig .tc := ⟨.hbm, 217, rfl⟩
abbrev main_call10_c_0 : Ref sig .tc := ⟨.hbm, 218, rfl⟩
abbrev main_call10_v12 : Ref sig .tc := ⟨.hbm, 219, rfl⟩
abbrev main_call10_v13 : Ref sig .tc := ⟨.hbm, 220, rfl⟩
abbrev main_v40 : Ref sig .tc := ⟨.hbm, 221, rfl⟩
abbrev main_v41 : Ref sig .tc := ⟨.hbm, 222, rfl⟩
abbrev main_v42 : Ref sig .tc := ⟨.hbm, 223, rfl⟩
abbrev main_cst_9 : Ref sig .tc := ⟨.hbm, 224, rfl⟩
abbrev main_call11_v0 : Ref sig .tc := ⟨.hbm, 225, rfl⟩
abbrev main_call11_v1 : Ref sig .tc := ⟨.hbm, 226, rfl⟩
abbrev main_call11_v2 : Ref sig .tc := ⟨.hbm, 227, rfl⟩
abbrev main_v43 : Ref sig .tc := ⟨.hbm, 228, rfl⟩
abbrev main_v44 : Ref sig .tc := ⟨.hbm, 229, rfl⟩
abbrev main_v45 : Ref sig .tc := ⟨.hbm, 230, rfl⟩
abbrev main_v46 : Ref sig .tc := ⟨.hbm, 231, rfl⟩
abbrev main_v47 : Ref sig .tc := ⟨.hbm, 232, rfl⟩
abbrev main_v48 : Ref sig .tc := ⟨.hbm, 233, rfl⟩
abbrev main_c_10 : Ref sig .tc := ⟨.hbm, 234, rfl⟩
abbrev main_call12_v0 : Ref sig .tc := ⟨.hbm, 235, rfl⟩
abbrev main_call12_v1 : Ref sig .tc := ⟨.hbm, 236, rfl⟩
abbrev main_call12_v2 : Ref sig .tc := ⟨.hbm, 237, rfl⟩
abbrev main_call12_v3 : Ref sig .tc := ⟨.hbm, 238, rfl⟩
abbrev main_call12_v4 : Ref sig .tc := ⟨.hbm, 239, rfl⟩
abbrev main_call12_v5 : Ref sig .tc := ⟨.hbm, 240, rfl⟩
abbrev main_call12_v6 : Ref sig .tc := ⟨.hbm, 241, rfl⟩
abbrev main_call12_v7 : Ref sig .tc := ⟨.hbm, 242, rfl⟩
abbrev main_call12_v8 : Ref sig .tc := ⟨.hbm, 243, rfl⟩
abbrev main_call12_c : Ref sig .tc := ⟨.hbm, 244, rfl⟩
abbrev main_call12_v9 : Ref sig .tc := ⟨.hbm, 245, rfl⟩
abbrev main_call12_v10 : Ref sig .tc := ⟨.hbm, 246, rfl⟩
abbrev main_call12_v11 : Ref sig .tc := ⟨.hbm, 247, rfl⟩
abbrev main_call12_c_0 : Ref sig .tc := ⟨.hbm, 248, rfl⟩
abbrev main_call12_v12 : Ref sig .tc := ⟨.hbm, 249, rfl⟩
abbrev main_call12_v13 : Ref sig .tc := ⟨.hbm, 250, rfl⟩
abbrev main_v49 : Ref sig .tc := ⟨.hbm, 251, rfl⟩
abbrev main_c_11 : Ref sig .tc := ⟨.hbm, 252, rfl⟩
abbrev main_call13_v0 : Ref sig .tc := ⟨.hbm, 253, rfl⟩
abbrev main_call13_c : Ref sig .tc := ⟨.hbm, 254, rfl⟩
abbrev main_call13_v1 : Ref sig .tc := ⟨.hbm, 255, rfl⟩
abbrev main_call13_c_0 : Ref sig .tc := ⟨.hbm, 256, rfl⟩
abbrev main_call13_v2 : Ref sig .tc := ⟨.hbm, 257, rfl⟩
abbrev main_call13_v3 : Ref sig .tc := ⟨.hbm, 258, rfl⟩
abbrev main_call13_v4 : Ref sig .tc := ⟨.hbm, 259, rfl⟩
abbrev main_call13_c_1 : Ref sig .tc := ⟨.hbm, 260, rfl⟩
abbrev main_call13_v5 : Ref sig .tc := ⟨.hbm, 261, rfl⟩
abbrev main_call13_v6 : Ref sig .tc := ⟨.hbm, 262, rfl⟩
abbrev main_call13_c_2 : Ref sig .tc := ⟨.hbm, 263, rfl⟩
abbrev main_call13_v7 : Ref sig .tc := ⟨.hbm, 264, rfl⟩
abbrev main_call13_v8 : Ref sig .tc := ⟨.hbm, 265, rfl⟩
abbrev main_call13_c_3 : Ref sig .tc := ⟨.hbm, 266, rfl⟩
abbrev main_call13_v9 : Ref sig .tc := ⟨.hbm, 267, rfl⟩
abbrev main_call13_v10 : Ref sig .tc := ⟨.hbm, 268, rfl⟩
abbrev main_call13_v11 : Ref sig .tc := ⟨.hbm, 269, rfl⟩
abbrev main_call13_v12 : Ref sig .tc := ⟨.hbm, 270, rfl⟩
abbrev main_call13_v13 : Ref sig .tc := ⟨.hbm, 271, rfl⟩
abbrev main_call13_v14 : Ref sig .tc := ⟨.hbm, 272, rfl⟩
abbrev main_v50 : Ref sig .tc := ⟨.hbm, 273, rfl⟩
abbrev main_v51 : Ref sig .tc := ⟨.hbm, 274, rfl⟩
abbrev main_c_12 : Ref sig .tc := ⟨.hbm, 275, rfl⟩
abbrev main_call14_v0 : Ref sig .tc := ⟨.hbm, 276, rfl⟩
abbrev main_call14_v1 : Ref sig .tc := ⟨.hbm, 277, rfl⟩
abbrev main_call14_v2 : Ref sig .tc := ⟨.hbm, 278, rfl⟩
abbrev main_call14_v3 : Ref sig .tc := ⟨.hbm, 279, rfl⟩
abbrev main_call14_v4 : Ref sig .tc := ⟨.hbm, 280, rfl⟩
abbrev main_call14_v5 : Ref sig .tc := ⟨.hbm, 281, rfl⟩
abbrev main_call14_v6 : Ref sig .tc := ⟨.hbm, 282, rfl⟩
abbrev main_call14_v7 : Ref sig .tc := ⟨.hbm, 283, rfl⟩
abbrev main_call14_v8 : Ref sig .tc := ⟨.hbm, 284, rfl⟩
abbrev main_call14_c : Ref sig .tc := ⟨.hbm, 285, rfl⟩
abbrev main_call14_v9 : Ref sig .tc := ⟨.hbm, 286, rfl⟩
abbrev main_call14_v10 : Ref sig .tc := ⟨.hbm, 287, rfl⟩
abbrev main_call14_v11 : Ref sig .tc := ⟨.hbm, 288, rfl⟩
abbrev main_call14_c_0 : Ref sig .tc := ⟨.hbm, 289, rfl⟩
abbrev main_call14_v12 : Ref sig .tc := ⟨.hbm, 290, rfl⟩
abbrev main_call14_v13 : Ref sig .tc := ⟨.hbm, 291, rfl⟩
abbrev main_v52 : Ref sig .tc := ⟨.hbm, 292, rfl⟩
abbrev main_v53 : Ref sig .tc := ⟨.hbm, 293, rfl⟩
abbrev main_v54 : Ref sig .tc := ⟨.hbm, 294, rfl⟩
abbrev main_cst_13 : Ref sig .tc := ⟨.hbm, 295, rfl⟩
abbrev main_call15_v0 : Ref sig .tc := ⟨.hbm, 296, rfl⟩
abbrev main_call15_v1 : Ref sig .tc := ⟨.hbm, 297, rfl⟩
abbrev main_call15_v2 : Ref sig .tc := ⟨.hbm, 298, rfl⟩
abbrev main_v55 : Ref sig .tc := ⟨.hbm, 299, rfl⟩
abbrev main_v56 : Ref sig .tc := ⟨.hbm, 300, rfl⟩
abbrev main_v57 : Ref sig .tc := ⟨.hbm, 301, rfl⟩
abbrev main_v58_0 : Ref sig .tc := ⟨.hbm, 302, rfl⟩
abbrev main_v58_1 : Ref sig .tc := ⟨.hbm, 303, rfl⟩
abbrev main_v58_2 : Ref sig .tc := ⟨.hbm, 304, rfl⟩
abbrev main_v59 : Ref sig .tc := ⟨.hbm, 305, rfl⟩
abbrev main_v60 : Ref sig .tc := ⟨.hbm, 306, rfl⟩
abbrev main_v61 : Ref sig .tc := ⟨.hbm, 307, rfl⟩
abbrev main_v62 : Ref sig .tc := ⟨.hbm, 308, rfl⟩
abbrev main_v63 : Ref sig .tc := ⟨.hbm, 309, rfl⟩
abbrev main_v64 : Ref sig .tc := ⟨.hbm, 310, rfl⟩
abbrev main_v65 : Ref sig .tc := ⟨.hbm, 311, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_199 : BitVec 32 := 0#32
  let c32_i32_200 : BitVec 32 := 32#32
  let v357 : BitVec 32 := Scalar.addi c0_i32_199 c32_i32_200
  let c1_i32_201 : BitVec 32 := 1#32
  ⟨c0_i32_199, v357, c1_i32_201⟩
def k0_mult1 (k0_t1 : Fin k0_t1_loop.trips) : BitVec 32 :=
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let c0_i32_412 : BitVec 32 := 0#32
  let v712 : BitVec 32 := Scalar.addi v711 c0_i32_412
  let c8_i32_413 : BitVec 32 := 8#32
  let v713 : BitVec 32 := Scalar.muli v712 c8_i32_413
  v713
def k0_off1 (k0_t1 : Fin k0_t1_loop.trips) (c0_i32_412 : BitVec 32) : Fin 3 → Nat :=
  let c0_414 : Index := 0#32
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let v712 : BitVec 32 := Scalar.addi v711 c0_i32_412
  let c8_i32_413 : BitVec 32 := 8#32
  let v713 : BitVec 32 := Scalar.muli v712 c8_i32_413
  let v714 : BitVec 32 := v713
  let v715 : Index := Scalar.indexCast v714
  let c0_415 : Index := 0#32
  ![0, v715.toNat, 0]
def k0_off2 (k0_t1 : Fin k0_t1_loop.trips) (c0_i32_412 : BitVec 32) : Fin 3 → Nat :=
  let c0_416 : Index := 0#32
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let v712 : BitVec 32 := Scalar.addi v711 c0_i32_412
  let c8_i32_413 : BitVec 32 := 8#32
  let v713 : BitVec 32 := Scalar.muli v712 c8_i32_413
  let v714 : BitVec 32 := v713
  let v718 : Index := Scalar.indexCast v714
  let c128_417 : Index := 128#32
  ![0, v718.toNat, 128]
def k0_off3 (k0_t1 : Fin k0_t1_loop.trips) (c0_i32_412 : BitVec 32) : Fin 3 → Nat :=
  let c1_422 : Index := 1#32
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let v712 : BitVec 32 := Scalar.addi v711 c0_i32_412
  let c8_i32_413 : BitVec 32 := 8#32
  let v713 : BitVec 32 := Scalar.muli v712 c8_i32_413
  let v714 : BitVec 32 := v713
  let v737 : Index := Scalar.indexCast v714
  let c0_423 : Index := 0#32
  ![1, v737.toNat, 0]
def k0_off4 (k0_t1 : Fin k0_t1_loop.trips) (c0_i32_412 : BitVec 32) : Fin 3 → Nat :=
  let c1_424 : Index := 1#32
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let v712 : BitVec 32 := Scalar.addi v711 c0_i32_412
  let c8_i32_413 : BitVec 32 := 8#32
  let v713 : BitVec 32 := Scalar.muli v712 c8_i32_413
  let v714 : BitVec 32 := v713
  let v740 : Index := Scalar.indexCast v714
  let c128_425 : Index := 128#32
  ![1, v740.toNat, 128]
def k0_off5 (k0_t1 : Fin k0_t1_loop.trips) (c0_i32_412 : BitVec 32) : Fin 3 → Nat :=
  let c2_430 : Index := 2#32
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let v712 : BitVec 32 := Scalar.addi v711 c0_i32_412
  let c8_i32_413 : BitVec 32 := 8#32
  let v713 : BitVec 32 := Scalar.muli v712 c8_i32_413
  let v714 : BitVec 32 := v713
  let v759 : Index := Scalar.indexCast v714
  let c0_431 : Index := 0#32
  ![2, v759.toNat, 0]
def k0_off6 (k0_t1 : Fin k0_t1_loop.trips) (c0_i32_412 : BitVec 32) : Fin 3 → Nat :=
  let c2_432 : Index := 2#32
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let v712 : BitVec 32 := Scalar.addi v711 c0_i32_412
  let c8_i32_413 : BitVec 32 := 8#32
  let v713 : BitVec 32 := Scalar.muli v712 c8_i32_413
  let v714 : BitVec 32 := v713
  let v762 : Index := Scalar.indexCast v714
  let c128_433 : Index := 128#32
  ![2, v762.toNat, 128]
def k0_off7 (k0_t1 : Fin k0_t1_loop.trips) (c0_i32_412 : BitVec 32) : Fin 3 → Nat :=
  let c3_438 : Index := 3#32
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let v712 : BitVec 32 := Scalar.addi v711 c0_i32_412
  let c8_i32_413 : BitVec 32 := 8#32
  let v713 : BitVec 32 := Scalar.muli v712 c8_i32_413
  let v714 : BitVec 32 := v713
  let v781 : Index := Scalar.indexCast v714
  let c0_439 : Index := 0#32
  ![3, v781.toNat, 0]
def k0_off8 (k0_t1 : Fin k0_t1_loop.trips) (c0_i32_412 : BitVec 32) : Fin 3 → Nat :=
  let c3_440 : Index := 3#32
  let c0_i32_199 : BitVec 32 := 0#32
  let c1_i32_201 : BitVec 32 := 1#32
  let arg12 : BitVec 32 := Scf.iv c0_i32_199 c1_i32_201 k0_t1
  let c8_i32 : BitVec 32 := 8#32
  let v711 : BitVec 32 := Scalar.muli arg12 c8_i32
  let v712 : BitVec 32 := Scalar.addi v711 c0_i32_412
  let c8_i32_413 : BitVec 32 := 8#32
  let v713 : BitVec 32 := Scalar.muli v712 c8_i32_413
  let v714 : BitVec 32 := v713
  let v784 : Index := Scalar.indexCast v714
  let c128_441 : Index := 128#32
  ![3, v784.toNat, 128]
def k0_mult2 (k0_t1 : Fin k0_t1_loop.trips) : BitVec 32 :=
  let c0_i32_199 : BitVec 32 := 0#32
  let c1_i32_201 : BitVec 32 := 1#32
  let arg12 : BitVec 32 := Scf.iv c0_i32_199 c1_i32_201 k0_t1
  let c8_i32_446 : BitVec 32 := 8#32
  let v803 : BitVec 32 := Scalar.muli arg12 c8_i32_446
  let c1_i32_447 : BitVec 32 := 1#32
  let v804 : BitVec 32 := Scalar.addi v803 c1_i32_447
  let c8_i32_448 : BitVec 32 := 8#32
  let v805 : BitVec 32 := Scalar.muli v804 c8_i32_448
  v805
def k0_mult3 (k0_t1 : Fin k0_t1_loop.trips) : BitVec 32 :=
  let c0_i32_199 : BitVec 32 := 0#32
  let c1_i32_201 : BitVec 32 := 1#32
  let arg12 : BitVec 32 := Scf.iv c0_i32_199 c1_i32_201 k0_t1
  let c8_i32_481 : BitVec 32 := 8#32
  let v895 : BitVec 32 := Scalar.muli arg12 c8_i32_481
  let c2_i32 : BitVec 32 := 2#32
  let v896 : BitVec 32 := Scalar.addi v895 c2_i32
  let c8_i32_482 : BitVec 32 := 8#32
  let v897 : BitVec 32 := Scalar.muli v896 c8_i32_482
  v897
def k0_mult4 (k0_t1 : Fin k0_t1_loop.trips) : BitVec 32 :=
  let c0_i32_199 : BitVec 32 := 0#32
  let c1_i32_201 : BitVec 32 := 1#32
  let arg12 : BitVec 32 := Scf.iv c0_i32_199 c1_i32_201 k0_t1
  let c8_i32_515 : BitVec 32 := 8#32
  let v987 : BitVec 32 := Scalar.muli arg12 c8_i32_515
  let c3_i32 : BitVec 32 := 3#32
  let v988 : BitVec 32 := Scalar.addi v987 c3_i32
  let c8_i32_516 : BitVec 32 := 8#32
  let v989 : BitVec 32 := Scalar.muli v988 c8_i32_516
  v989
def k0_mult5 (k0_t1 : Fin k0_t1_loop.trips) : BitVec 32 :=
  let c0_i32_199 : BitVec 32 := 0#32
  let c1_i32_201 : BitVec 32 := 1#32
  let arg12 : BitVec 32 := Scf.iv c0_i32_199 c1_i32_201 k0_t1
  let c8_i32_549 : BitVec 32 := 8#32
  let v1079 : BitVec 32 := Scalar.muli arg12 c8_i32_549
  let c4_i32_550 : BitVec 32 := 4#32
  let v1080 : BitVec 32 := Scalar.addi v1079 c4_i32_550
  let c8_i32_551 : BitVec 32 := 8#32
  let v1081 : BitVec 32 := Scalar.muli v1080 c8_i32_551
  v1081
def k0_mult6 (k0_t1 : Fin k0_t1_loop.trips) : BitVec 32 :=
  let c0_i32_199 : BitVec 32 := 0#32
  let c1_i32_201 : BitVec 32 := 1#32
  let arg12 : BitVec 32 := Scf.iv c0_i32_199 c1_i32_201 k0_t1
  let c8_i32_584 : BitVec 32 := 8#32
  let v1171 : BitVec 32 := Scalar.muli arg12 c8_i32_584
  let c5_i32 : BitVec 32 := 5#32
  let v1172 : BitVec 32 := Scalar.addi v1171 c5_i32
  let c8_i32_585 : BitVec 32 := 8#32
  let v1173 : BitVec 32 := Scalar.muli v1172 c8_i32_585
  v1173
def k0_mult7 (k0_t1 : Fin k0_t1_loop.trips) : BitVec 32 :=
  let c0_i32_199 : BitVec 32 := 0#32
  let c1_i32_201 : BitVec 32 := 1#32
  let arg12 : BitVec 32 := Scf.iv c0_i32_199 c1_i32_201 k0_t1
  let c8_i32_618 : BitVec 32 := 8#32
  let v1263 : BitVec 32 := Scalar.muli arg12 c8_i32_618
  let c6_i32 : BitVec 32 := 6#32
  let v1264 : BitVec 32 := Scalar.addi v1263 c6_i32
  let c8_i32_619 : BitVec 32 := 8#32
  let v1265 : BitVec 32 := Scalar.muli v1264 c8_i32_619
  v1265
def k0_mult8 (k0_t1 : Fin k0_t1_loop.trips) : BitVec 32 :=
  let c0_i32_199 : BitVec 32 := 0#32
  let c1_i32_201 : BitVec 32 := 1#32
  let arg12 : BitVec 32 := Scf.iv c0_i32_199 c1_i32_201 k0_t1
  let c8_i32_652 : BitVec 32 := 8#32
  let v1355 : BitVec 32 := Scalar.muli arg12 c8_i32_652
  let c7_i32 : BitVec 32 := 7#32
  let v1356 : BitVec 32 := Scalar.addi v1355 c7_i32
  let c8_i32_653 : BitVec 32 := 8#32
  let v1357 : BitVec 32 := Scalar.muli v1356 c8_i32_653
  v1357
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Adjoint.lean ====
abbrev S4096x1024 : Shape := ⟨2, ![4096, 1024]⟩
abbrev S4096x4096 : Shape := ⟨2, ![4096, 4096]⟩
abbrev S4x32768x256 : Shape := ⟨3, ![4, 32768, 256]⟩
abbrev S4x256x256 : Shape := ⟨3, ![4, 256, 256]⟩
abbrev S4x8x256 : Shape := ⟨3, ![4, 8, 256]⟩
abbrev S1x1024 : Shape := ⟨2, ![1, 1024]⟩
abbrev S256x1024 : Shape := ⟨2, ![256, 1024]⟩
abbrev S4x2048x256 : Shape := ⟨3, ![4, 2048, 256]⟩
abbrev S2x2048x128 : Shape := ⟨3, ![2, 2048, 128]⟩
abbrev S8x128 : Shape := ⟨2, ![8, 128]⟩
abbrev S1024 : Shape := ⟨1, ![1024]⟩
abbrev S256x256 : Shape := ⟨2, ![256, 256]⟩
abbrev S256x128 : Shape := ⟨2, ![256, 128]⟩
abbrev S1x128 : Shape := ⟨2, ![1, 128]⟩
abbrev S1x256x128 : Shape := ⟨3, ![1, 256, 128]⟩
abbrev S1x2048x128 : Shape := ⟨3, ![1, 2048, 128]⟩
abbrev S2048x128 : Shape := ⟨2, ![2048, 128]⟩
abbrev S2048x256 : Shape := ⟨2, ![2048, 256]⟩
abbrev S1x256x256 : Shape := ⟨3, ![1, 256, 256]⟩
abbrev S1x2048x256 : Shape := ⟨3, ![1, 2048, 256]⟩
abbrev S1x8x128 : Shape := ⟨3, ![1, 8, 128]⟩
abbrev S1x256 : Shape := ⟨2, ![1, 256]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4x32768x256, .f32⟩
  | .hbm, ⟨3, _⟩ => ⟨S4x256x256, .bf16⟩
  | .hbm, ⟨4, _⟩ => ⟨S4x256x256, .bf16⟩
  | .hbm, ⟨5, _⟩ => ⟨S4x8x256, .f32⟩
  | .hbm, ⟨6, _⟩ => ⟨S1x1024, .f32⟩
  | .hbm, ⟨7, _⟩ => ⟨S4096x4096, .bf16⟩
  | .hbm, ⟨8, _⟩ => ⟨S4096x4096, .bf16⟩
  | .hbm, ⟨9, _⟩ => ⟨S4x256x256, .f32⟩
  | .hbm, ⟨10, _⟩ => ⟨S4x256x256, .f32⟩
  | .hbm, ⟨11, _⟩ => ⟨S4x8x256, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x2048x256, .f32⟩
  | .local _ .vmem, ⟨5, _⟩ => ⟨S4x2048x256, .f32⟩
  | .local _ .vmem, ⟨6, _⟩ => ⟨S4x256x256, .bf16⟩
  | .local _ .vmem, ⟨7, _⟩ => ⟨S4x256x256, .bf16⟩
  | .local _ .vmem, ⟨8, _⟩ => ⟨S4x8x256, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S4x256x256, .f32⟩
  | .local _ .vmem, ⟨13, _⟩ => ⟨S4x256x256, .f32⟩
  | .local _ .vmem, ⟨14, _⟩ => ⟨S4x8x256, .f32⟩
  | .local _ .vmem, ⟨15, _⟩ => ⟨S1x1024, .f32⟩
  | .local _ .vmem, ⟨16, _⟩ => ⟨S4x2048x256, .f32⟩
  | .local _ .vmem, ⟨17, _⟩ => ⟨S4x8x256, .f32⟩
  | .local _ .vmem, ⟨18, _⟩ => ⟨S2x2048x128, .f32⟩
  | .local _ .vmem, ⟨19, _⟩ => ⟨S2x2048x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_270 : BitVec 32 := 0#32
  let c32_i32_271 : BitVec 32 := 32#32
  let v421 : BitVec 32 := Scalar.addi c0_i32_270 c32_i32_271
  let c1_i32_272 : BitVec 32 := 1#32
  ⟨c0_i32_270, v421, c1_i32_272⟩
def k0_mult1 (k0_t1 : Fin k0_t1_loop.trips) : BitVec 32 :=
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let c0_i32_631 : BitVec 32 := 0#32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  v1026
def k0_off1 (k0_t1 : Fin k0_t1_loop.trips) (c0_i32_631 : BitVec 32) : Fin 3 → Nat :=
  let c0_633 : Index := 0#32
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  let v1027 : BitVec 32 := v1026
  let v1028 : Index := Scalar.indexCast v1027
  let c0_634 : Index := 0#32
  ![0, v1028.toNat, 0]
def k0_off2 (k0_t1 : Fin k0_t1_loop.trips) (c0_i32_631 : BitVec 32) : Fin 3 → Nat :=
  let c0_635 : Index := 0#32
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  let v1027 : BitVec 32 := v1026
  let v1031 : Index := Scalar.indexCast v1027
  let c128_636 : Index := 128#32
  ![0, v1031.toNat, 128]
def k0_off3 (k0_t1 : Fin k0_t1_loop.trips) (c0_i32_631 : BitVec 32) : Fin 3 → Nat :=
  let c1_645 : Index := 1#32
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  let v1027 : BitVec 32 := v1026
  let v1064 : Index := Scalar.indexCast v1027
  let c0_646 : Index := 0#32
  ![1, v1064.toNat, 0]
def k0_off4 (k0_t1 : Fin k0_t1_loop.trips) (c0_i32_631 : BitVec 32) : Fin 3 → Nat :=
  let c1_647 : Index := 1#32
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  let v1027 : BitVec 32 := v1026
  let v1067 : Index := Scalar.indexCast v1027
  let c128_648 : Index := 128#32
  ![1, v1067.toNat, 128]
def k0_off5 (k0_t1 : Fin k0_t1_loop.trips) (c0_i32_631 : BitVec 32) : Fin 3 → Nat :=
  let c2_657 : Index := 2#32
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  let v1027 : BitVec 32 := v1026
  let v1100 : Index := Scalar.indexCast v1027
  let c0_658 : Index := 0#32
  ![2, v1100.toNat, 0]
def k0_off6 (k0_t1 : Fin k0_t1_loop.trips) (c0_i32_631 : BitVec 32) : Fin 3 → Nat :=
  let c2_659 : Index := 2#32
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  let v1027 : BitVec 32 := v1026
  let v1103 : Index := Scalar.indexCast v1027
  let c128_660 : Index := 128#32
  ![2, v1103.toNat, 128]
def k0_off7 (k0_t1 : Fin k0_t1_loop.trips) (c0_i32_631 : BitVec 32) : Fin 3 → Nat :=
  let c3_669 : Index := 3#32
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  let v1027 : BitVec 32 := v1026
  let v1136 : Index := Scalar.indexCast v1027
  let c0_670 : Index := 0#32
  ![3, v1136.toNat, 0]
def k0_off8 (k0_t1 : Fin k0_t1_loop.trips) (c0_i32_631 : BitVec 32) : Fin 3 → Nat :=
  let c3_671 : Index := 3#32
  let c255_i32 : BitVec 32 := 255#32
  let c0_i32_270 : BitVec 32 := 0#32
  let c1_i32_272 : BitVec 32 := 1#32
  let arg18 : BitVec 32 := Scf.iv c0_i32_270 c1_i32_272 k0_t1
  let c8_i32 : BitVec 32 := 8#32
  let v1023 : BitVec 32 := Scalar.muli arg18 c8_i32
  let v1024 : BitVec 32 := Scalar.addi v1023 c0_i32_631
  let v1025 : BitVec 32 := Scalar.subi c255_i32 v1024
  let c8_i32_632 : BitVec 32 := 8#32
  let v1026 : BitVec 32 := Scalar.muli v1025 c8_i32_632
  let v1027 : BitVec 32 := v1026
  let v1139 : Index := Scalar.indexCast v1027
  let c128_672 : Index := 128#32
  ![3, v1139.toNat, 128]
def k0_mult2 (k0_t1 : Fin k0_t1_loop.trips) : BitVec 32 :=
  let c255_i32_683 : BitVec 32 := 255#32
  let c0_i32_270 : BitVec 32 := 0#32
  let c1_i32_272 : BitVec 32 := 1#32
  let arg18 : BitVec 32 := Scf.iv c0_i32_270 c1_i32_272 k0_t1
  let c8_i32_681 : BitVec 32 := 8#32
  let v1172 : BitVec 32 := Scalar.muli arg18 c8_i32_681
  let c1_i32_682 : BitVec 32 := 1#32
  let v1173 : BitVec 32 := Scalar.addi v1172 c1_i32_682
  let v1174 : BitVec 32 := Scalar.subi c255_i32_683 v1173
  let c8_i32_684 : BitVec 32 := 8#32
  let v1175 : BitVec 32 := Scalar.muli v1174 c8_i32_684
  v1175
def k0_mult3 (k0_t1 : Fin k0_t1_loop.trips) : BitVec 32 :=
  let c255_i32_734 : BitVec 32 := 255#32
  let c0_i32_270 : BitVec 32 := 0#32
  let c1_i32_272 : BitVec 32 := 1#32
  let arg18 : BitVec 32 := Scf.iv c0_i32_270 c1_i32_272 k0_t1
  let c8_i32_733 : BitVec 32 := 8#32
  let v1321 : BitVec 32 := Scalar.muli arg18 c8_i32_733
  let c2_i32 : BitVec 32 := 2#32
  let v1322 : BitVec 32 := Scalar.addi v1321 c2_i32
  let v1323 : BitVec 32 := Scalar.subi c255_i32_734 v1322
  let c8_i32_735 : BitVec 32 := 8#32
  let v1324 : BitVec 32 := Scalar.muli v1323 c8_i32_735
  v1324
def k0_mult4 (k0_t1 : Fin k0_t1_loop.trips) : BitVec 32 :=
  let c255_i32_785 : BitVec 32 := 255#32
  let c0_i32_270 : BitVec 32 := 0#32
  let c1_i32_272 : BitVec 32 := 1#32
  let arg18 : BitVec 32 := Scf.iv c0_i32_270 c1_i32_272 k0_t1
  let c8_i32_784 : BitVec 32 := 8#32
  let v1470 : BitVec 32 := Scalar.muli arg18 c8_i32_784
  let c3_i32 : BitVec 32 := 3#32
  let v1471 : BitVec 32 := Scalar.addi v1470 c3_i32
  let v1472 : BitVec 32 := Scalar.subi c255_i32_785 v1471
  let c8_i32_786 : BitVec 32 := 8#32
  let v1473 : BitVec 32 := Scalar.muli v1472 c8_i32_786
  v1473
def k0_mult5 (k0_t1 : Fin k0_t1_loop.trips) : BitVec 32 :=
  let c255_i32_837 : BitVec 32 := 255#32
  let c0_i32_270 : BitVec 32 := 0#32
  let c1_i32_272 : BitVec 32 := 1#32
  let arg18 : BitVec 32 := Scf.iv c0_i32_270 c1_i32_272 k0_t1
  let c8_i32_835 : BitVec 32 := 8#32
  let v1619 : BitVec 32 := Scalar.muli arg18 c8_i32_835
  let c4_i32_836 : BitVec 32 := 4#32
  let v1620 : BitVec 32 := Scalar.addi v1619 c4_i32_836
  let v1621 : BitVec 32 := Scalar.subi c255_i32_837 v1620
  let c8_i32_838 : BitVec 32 := 8#32
  let v1622 : BitVec 32 := Scalar.muli v1621 c8_i32_838
  v1622
def k0_mult6 (k0_t1 : Fin k0_t1_loop.trips) : BitVec 32 :=
  let c255_i32_888 : BitVec 32 := 255#32
  let c0_i32_270 : BitVec 32 := 0#32
  let c1_i32_272 : BitVec 32 := 1#32
  let arg18 : BitVec 32 := Scf.iv c0_i32_270 c1_i32_272 k0_t1
  let c8_i32_887 : BitVec 32 := 8#32
  let v1768 : BitVec 32 := Scalar.muli arg18 c8_i32_887
  let c5_i32 : BitVec 32 := 5#32
  let v1769 : BitVec 32 := Scalar.addi v1768 c5_i32
  let v1770 : BitVec 32 := Scalar.subi c255_i32_888 v1769
  let c8_i32_889 : BitVec 32 := 8#32
  let v1771 : BitVec 32 := Scalar.muli v1770 c8_i32_889
  v1771
def k0_mult7 (k0_t1 : Fin k0_t1_loop.trips) : BitVec 32 :=
  let c255_i32_939 : BitVec 32 := 255#32
  let c0_i32_270 : BitVec 32 := 0#32
  let c1_i32_272 : BitVec 32 := 1#32
  let arg18 : BitVec 32 := Scf.iv c0_i32_270 c1_i32_272 k0_t1
  let c8_i32_938 : BitVec 32 := 8#32
  let v1917 : BitVec 32 := Scalar.muli arg18 c8_i32_938
  let c6_i32 : BitVec 32 := 6#32
  let v1918 : BitVec 32 := Scalar.addi v1917 c6_i32
  let v1919 : BitVec 32 := Scalar.subi c255_i32_939 v1918
  let c8_i32_940 : BitVec 32 := 8#32
  let v1920 : BitVec 32 := Scalar.muli v1919 c8_i32_940
  v1920
def k0_mult8 (k0_t1 : Fin k0_t1_loop.trips) : BitVec 32 :=
  let c255_i32_990 : BitVec 32 := 255#32
  let c0_i32_270 : BitVec 32 := 0#32
  let c1_i32_272 : BitVec 32 := 1#32
  let arg18 : BitVec 32 := Scf.iv c0_i32_270 c1_i32_272 k0_t1
  let c8_i32_989 : BitVec 32 := 8#32
  let v2066 : BitVec 32 := Scalar.muli arg18 c8_i32_989
  let c7_i32 : BitVec 32 := 7#32
  let v2067 : BitVec 32 := Scalar.addi v2066 c7_i32
  let v2068 : BitVec 32 := Scalar.subi c255_i32_990 v2067
  let c8_i32_991 : BitVec 32 := 8#32
  let v2069 : BitVec 32 := Scalar.muli v2068 c8_i32_991
  v2069
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Proof.Common.Reals.lean ====
/- Facts about extended reals that are real numbers, and about running sums, that several value proofs use. -/
module

public import Idealize.ShloMosaic.Lib.Pointwise
public import Mathlib.Data.EReal.Inv

@[expose] public section

noncomputable section

namespace Cert.Common

open Idealize.ShloMosaic

/-! ## Extended reals that are real numbers -/

/-- An extended real that is a real number. -/
def IsR (x : EReal) : Prop := ∃ r : ℝ, x = (r : EReal)

theorem IsR.coe (r : ℝ) : IsR (r : EReal) := ⟨r, rfl⟩

theorem IsR.toReal {x : EReal} (h : IsR x) : ((x.toReal : ℝ) : EReal) = x := by
  obtain ⟨r, rfl⟩ := h
  rfl

/-- What is smaller in absolute value than the word of infinity is a real number. -/
theorem isR_of_abs_lt_inf {x : EReal} (h : max x (-x) < Ideal.ofBits .f32 0x7F800000#32) : IsR x := by
  have ht : max x (-x) < ⊤ := lt_of_lt_of_le h le_top
  induction x with
  | bot => simp at ht
  | top => simp at ht
  | coe r => exact ⟨r, rfl⟩

/-- Every element of an array is a real number where each is smaller in absolute value than the word of infinity. -/
theorem isR_of_cmp {s t : Shape} (x : FVec Ideal s .f32) {dims : Fin t.rank → Fin s.rank} (y : FVec Ideal t .f32)
    (h : t.BroadcastsInDim s dims) (hy : ∀ i, y i = Ideal.ofBits .f32 0x7F800000#32)
    (e : cmpf .olt (Host.absf x) (broadcastInDim s dims h y) = fun _ => 1#1) (i : s.Idx) : IsR (x i) := by
  have h1 : Ideal.cmp .olt (max (x i) (-(x i))) (broadcastInDim s dims h y i) = 1#1 := congrFun e i
  have h2 : broadcastInDim s dims h y i = Ideal.ofBits .f32 0x7F800000#32 := hy _
  rw [h2] at h1
  refine isR_of_abs_lt_inf ?_
  by_contra hn
  simp [Ideal.cmp, hn] at h1

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real numbers is the real sum of products. -/
theorem sum_mul_coe {ι : Type} (s : Finset ι) {f g : ι → EReal} (hf : ∀ i, IsR (f i)) (hg : ∀ i, IsR (g i)) :
    ∑ i ∈ s, f i * g i = ((∑ i ∈ s, (f i).toReal * (g i).toReal : ℝ) : EReal) := by
  rw [coe_sum]
  refine Finset.sum_congr rfl fun i _ => ?_
  rw [EReal.coe_mul, (hf i).toReal, (hg i).toReal]

/-- The quotient of real numbers, the divisor not zero. -/
theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-! ## A running sum over a padded window -/

theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- The sum, down the rows, of a matrix from a row on: `jax` prints the gradient of a cumulative sum as a sum over a
    window that reaches past the last row, where the padding is zero. -/
theorem sum_from {N C M : ℕ} (x : FVec Ideal ⟨2, ![N, C]⟩ .f32) (init : FVec Ideal ⟨0, ![]⟩ .f32)
    (h : (⟨2, ![N, C]⟩ : Shape).ReduceWindows (![N, 1] : Fin 2 → Nat) ![1, 1] ![0, 0] ![M, 0] ⟨2, ![N, C]⟩)
    (hu : 0 < (⟨0, ![]⟩ : Shape).numel) (hinit : init (Shape.Idx.first hu) = 0) (r : Fin N) (c : Fin C) :
    Host.reduceWindowAdd ![N, 1] ![1, 1] ![0, 0] ![M, 0] x init h hu (ix2 r c)
      = ∑ s : Fin N, if hs : r.val + s.val < N then x (ix2 ⟨r.val + s.val, hs⟩ c) else 0 := by
  show Ideal.hostReduceWindowAdd ![N, 1] ![1, 1] ![0, 0] ![M, 0] h x (init (Shape.Idx.first hu)) (ix2 r c) = _
  rw [hinit]
  unfold Ideal.hostReduceWindowAdd Host.reduceWindow
  dsimp only
  rw [foldl_add, zero_add]
  rw [← List.ofFn_eq_map, List.sum_ofFn]
  rw [← (Shape.rowMajor ⟨2, ![N, 1]⟩).sum_comp]
  simp only [Equiv.symm_apply_apply]
  rw [sum_idx2]
  refine Finset.sum_congr rfl fun s _ => ?_
  rw [Fin.sum_univ_one]
  by_cases hs : r.val + s.val < N
  · rw [dif_pos hs, dif_pos]
    · refine congrArg x (funext fun a => Fin.ext ?_)
      match a with
      | ⟨0, _⟩ => show r.val * 1 + s.val - 0 = r.val + s.val; omega
      | ⟨1, _⟩ => show c.val * 1 + 0 - 0 = c.val; omega
    · intro a
      match a with
      | ⟨0, _⟩ => show 0 ≤ r.val * 1 + s.val ∧ r.val * 1 + s.val - 0 < N; omega
      | ⟨1, _⟩ => show 0 ≤ c.val * 1 + 0 ∧ c.val * 1 + 0 - 0 < C; have := c.isLt; omega
  · rw [dif_neg hs, dif_neg]
    intro hin
    have h0 := hin 0
    have h1 : r.val * 1 + s.val - 0 < N := h0.2
    omega

/-- The telescoped sum: from `r` on, a function less itself `w` later, the function zero from `N` on, is its sum over
    the `w` places from `r`. -/
theorem telescope (f : ℕ → ℝ) (N w r : ℕ) (hf : ∀ n, N ≤ n → f n = 0) (hr : r ≤ N) :
    ∑ s : Fin N, (if r + s.val < N then f (r + s.val) - f (r + s.val + w) else 0) = ∑ j ∈ Finset.range w, f (r + j) := by
  have h1 : ∀ s : Fin N, (if r + s.val < N then f (r + s.val) - f (r + s.val + w) else 0)
      = f (r + s.val) - f (r + s.val + w) := by
    intro s
    split
    · rfl
    · rw [hf _ (by omega), hf _ (by omega), sub_zero]
  rw [Finset.sum_congr rfl fun s _ => h1 s, Finset.sum_sub_distrib]
  rw [Fin.sum_univ_eq_sum_range (fun s => f (r + s)) N, Fin.sum_univ_eq_sum_range (fun s => f (r + s + w)) N]
  have h2 := Finset.sum_range_add (fun s => f (r + s)) w N
  have h3 := Finset.sum_range_add (fun s => f (r + s)) N w
  have h4 : ∑ x ∈ Finset.range w, f (r + (N + x)) = 0 := Finset.sum_eq_zero fun x _ => hf _ (by omega)
  have h5 : ∑ s ∈ Finset.range N, f (r + s + w) = ∑ x ∈ Finset.range N, f (r + (w + x)) :=
    Finset.sum_congr rfl fun x _ => by congr 1; omega
  rw [h4, add_zero, Nat.add_comm N w] at h3
  rw [h5]
  linarith

/-! ## Words that hold small naturals -/

theorem toInt_ofNat (n : ℕ) (h : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

theorem slt_ofNat (a b : ℕ) (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt_eq_decide, toInt_ofNat a ha, toInt_ofNat b hb]
  congr 1
  exact decide_eq_decide.mpr (by omega)

theorem minsi_ofNat (a b : ℕ) (ha : a < 2 ^ 31) (hb : b < 2 ^ 31) :
    (IntOp.minsi (BitVec.ofNat 32 a) (BitVec.ofNat 32 b)).toInt = ((min a b : ℕ) : ℤ) := by
  unfold IntOp.minsi
  rw [BitVec.slt_eq_decide, toInt_ofNat a ha, toInt_ofNat b hb]
  split
  · rename_i h
    rw [toInt_ofNat a ha, min_eq_left]
    have := of_decide_eq_true h
    omega
  · rename_i h
    rw [toInt_ofNat b hb, min_eq_right]
    simp only [decide_eq_true_eq] at h
    omega

theorem select_ofBool {α : Type} (p : Prop) [Decidable p] (x y : α) :
    Scalar.select (BitVec.ofBool (decide p)) x y = if p then x else y := by
  by_cases h : p <;> simp [Scalar.select, h]

end Cert.Common

end
-- ==== Proof.Pool.Kernel.lean ====
/- The pooling gradient's kernel, read at an index at the ideal instance. -/
module

public import Idealize.ShloMosaic.Lib.Pipeline.ValueKit.Basic
public import proofs.«01_k».proof.Proof.Common.Reals
public import proofs.«01_k».proof.Proof.Gen.KernelIdeal.Value

@[expose] public section

set_option maxRecDepth 16384

noncomputable section

namespace Cert.Pool

open Idealize.ShloMosaic Cert.KernelIdeal Cert.KernelIdeal.Gen Cert.Common

/-- One doubling of the window, as the body writes it: the vector plus itself turned by `n` rows where that stays
    inside. -/
def stepV (n : BitVec 32) (x : FVec Ideal S4096x128 .f32) : FVec Ideal S4096x128 .f32 :=
  addf x (select (cmpi .slt (iota .tc S4096x128 32 [0] iota_S4096x128_d0_w32) (broadcast S4096x128 n))
    (dynamicRotate 0 n none x rotates_S4096x128_d0) (broadcast S4096x128 (Scalar.ofBits (F := Ideal) .f32 0x00000000#32)))

/-- … at an index. -/
theorem stepV_apply (k : ℕ) (hk : 0 < k) (hk' : k ≤ 8) (x : FVec Ideal S4096x128 .f32) (r : Fin 4096) (l : Fin 128)
    (f : ℕ → ℝ) (hf : ∀ n, 4096 ≤ n → f n = 0) (hx : ∀ s : Fin 4096, x (ix2 s l) = (f s.val : EReal)) :
    stepV (BitVec.ofNat 32 (4096 - k)) x (ix2 r l) = ((f r.val + f (r.val + k) : ℝ) : EReal) := by
  unfold stepV
  pointwise
  have hr := r.isLt
  rw [slt_ofNat r.val (4096 - k) (by omega) (by omega), select_ofBool, hx, hx]
  have hn : (BitVec.ofNat 32 (4096 - k)).toNat = 4096 - k := by
    rw [BitVec.toNat_ofNat]; exact Nat.mod_eq_of_lt (by omega)
  split
  · rw [← EReal.coe_add]
    congr 4
    simp only [hn]
    omega
  · rw [hf (r.val + k) (by omega), add_zero, add_zero]

/-- The number of rows the window of group `i` covers at row `r`, as the body counts it. -/
theorem count_apply (i : grid0.Coords) (r : Fin 4096) (l : Fin 128) :
    k0_pay2 (F := Ideal) i (ix2 r l) = (((min (r.val + 1) (2 * 2 ^ (i 0).val) : ℕ) : ℝ) : EReal) := by
  have hr := r.isLt
  have hi : (i 0).val < 4 := (i 0).isLt
  unfold_payloads
  pointwise
  have h1 : BitVec.ofNat 32 r.val + 1#32 = BitVec.ofNat 32 (r.val + 1) := by
    rw [BitVec.ofNat_add]
  have h2 : Scalar.shli 2#32 (BitVec.ofNat 32 (i 0).val) = BitVec.ofNat 32 (2 * 2 ^ (i 0).val) := by
    generalize (i 0).val = n at hi
    interval_cases n <;> rfl
  rw [h2]
  show (((IntOp.minsi (BitVec.ofNat 32 r.val + 1#32) (BitVec.ofNat 32 (2 * 2 ^ (i 0).val))).toInt : ℝ) : EReal) = _
  have h3 : 2 * 2 ^ (i 0).val < 2 ^ 31 := by
    generalize (i 0).val = n at hi
    interval_cases n <;> norm_num
  rw [h1, minsi_ofNat _ _ (by omega) h3]
  norm_cast

/-- The gradient of the pooled values at a row and a column of a group: the cotangent's row against the weights' row. -/
def dpool (x0 : FVec Ideal S4096x256 .bf16) (x1 : FVec Ideal S1x256x256 .bf16) (r : Fin 4096) (c : Fin 256) : ℝ :=
  ∑ k : Fin 256, (x0 (ix2 r k)).toReal * (x1 (ix3 0 c k)).toReal

theorem pay3_apply (x0 : FVec Ideal S4096x256 .bf16) (x1 : FVec Ideal S1x256x256 .bf16) (h0 : ∀ i, IsR (x0 i))
    (h1 : ∀ i, IsR (x1 i)) (r : Fin 4096) (c : Fin 256) :
    k0_pay3 (F := Ideal) x0 x1 (ix2 r c) = (dpool x0 x1 r c : EReal) := by
  unfold_payloads
  pointwise
  exact sum_mul_coe _ (fun k => h0 _) (fun k => h1 _)

/-- The share of a row in the window sums: the gradient over the number of rows its window covers, zero past the end. -/
def share (x0 : FVec Ideal S4096x256 .bf16) (x1 : FVec Ideal S1x256x256 .bf16) (w : ℕ) (c : Fin 256) (n : ℕ) : ℝ :=
  if h : n < 4096 then dpool x0 x1 ⟨n, h⟩ c / ((min (n + 1) w : ℕ) : ℝ) else 0

theorem share_past (x0 : FVec Ideal S4096x256 .bf16) (x1 : FVec Ideal S1x256x256 .bf16) (w : ℕ) (c : Fin 256) (n : ℕ)
    (h : 4096 ≤ n) : share x0 x1 w c n = 0 := dif_neg (by omega)

/-- The sum of a function over the `w` places from `r`. -/
def win (f : ℕ → ℝ) (w r : ℕ) : ℝ := ∑ j ∈ Finset.range w, f (r + j)

theorem win_double (f : ℕ → ℝ) (w r : ℕ) : win f w r + win f w (r + w) = win f (w + w) r := by
  unfold win
  rw [Finset.sum_range_add]
  simp only [Nat.add_assoc]

theorem win_past (f : ℕ → ℝ) (hf : ∀ n, 4096 ≤ n → f n = 0) (w n : ℕ) (hn : 4096 ≤ n) : win f w n = 0 :=
  Finset.sum_eq_zero fun j _ => hf _ (by omega)

/-- A doubling takes the sums over `k` rows to the sums over `2 k`. -/
theorem stepV_win (k : ℕ) (hk : 0 < k) (hk' : k ≤ 8) (x : FVec Ideal S4096x128 .f32) (l : Fin 128)
    (f : ℕ → ℝ) (hf : ∀ n, 4096 ≤ n → f n = 0) (hx : ∀ s : Fin 4096, x (ix2 s l) = (win f k s.val : EReal))
    (r : Fin 4096) : stepV (BitVec.ofNat 32 (4096 - k)) x (ix2 r l) = (win f (k + k) r.val : EReal) := by
  rw [stepV_apply k hk hk' x r l (win f k) (win_past f hf k) hx, win_double]

/-- The windowed sums of both halves of the columns, the start of each a vector `v` and the width chosen by the group. -/
def windowed (i : grid0.Coords) (v : FVec Ideal S4096x128 .f32) : FVec Ideal S4096x128 .f32 :=
  let s1 := stepV 4095#32 v
  let s2 := stepV 4094#32 s1
  let s4 := stepV 4092#32 s2
  let s8 := stepV 4088#32 s4
  Scalar.select (Scalar.cmpi .eq (BitVec.ofNat 32 (i 0).val) 0#32) s1
    (Scalar.select (Scalar.cmpi .eq (BitVec.ofNat 32 (i 0).val) 1#32) s2
      (Scalar.select (Scalar.cmpi .eq (BitVec.ofNat 32 (i 0).val) 2#32) s4 s8))

theorem windowed_apply (i : grid0.Coords) (v : FVec Ideal S4096x128 .f32) (l : Fin 128)
    (f : ℕ → ℝ) (hf : ∀ n, 4096 ≤ n → f n = 0) (hx : ∀ s : Fin 4096, v (ix2 s l) = (f s.val : EReal)) (r : Fin 4096) :
    windowed i v (ix2 r l) = (win f (2 * 2 ^ (i 0).val) r.val : EReal) := by
  have h0 : ∀ s : Fin 4096, v (ix2 s l) = (win f 1 s.val : EReal) := fun s => by
    rw [hx]; simp [win]
  have h1 := stepV_win 1 (by omega) (by omega) v l f hf h0
  have h2 := stepV_win 2 (by omega) (by omega) _ l f hf h1
  have h4 := stepV_win 4 (by omega) (by omega) _ l f hf h2
  have h8 := stepV_win 8 (by omega) (by omega) _ l f hf h4
  have hi : (i 0).val < 4 := (i 0).isLt
  unfold windowed
  generalize (i 0).val = n at hi
  interval_cases n
  · exact h1 r
  · exact h2 r
  · exact h4 r
  · exact h8 r

/-- The left half of the columns: what the body stores at column 0. -/
theorem left_eq (i : grid0.Coords) (x0 : FVec Ideal S4096x256 .bf16) (x1 : FVec Ideal S1x256x256 .bf16) :
    k0_pay9 (BitVec.ofNat 32 (i 0).val) (k0_pay4 x0 x1) (k0_pay5 i x0 x1) (k0_pay6 i x0 x1) (k0_pay7 i x0 x1) (k0_pay8 i x0 x1)
      (Scalar.cmpi .eq (BitVec.ofNat 32 (i 0).val) 0#32)
      = truncf .bf16 (subf (windowed i (divf (k0_pay4 x0 x1) (k0_pay2 (F := Ideal) i))) (k0_pay4 x0 x1)) bitsLt_bf16_f32 := rfl

/-- The right half: what it stores at column 128. -/
theorem right_eq (i : grid0.Coords) (x0 : FVec Ideal S4096x256 .bf16) (x1 : FVec Ideal S1x256x256 .bf16) :
    k0_pay1 (k0_pay10 (k0_pay3 x0 x1)) (k0_pay11 (BitVec.ofNat 32 (i 0).val) (iota .tc S4096x128 32 [0] iota_S4096x128_d0_w32)
        (k0_pay2 (F := Ideal) i) (k0_pay3 x0 x1))
      = truncf .bf16 (subf (windowed i (divf (k0_pay10 (k0_pay3 x0 x1)) (k0_pay2 (F := Ideal) i))) (k0_pay10 (k0_pay3 x0 x1)))
          bitsLt_bf16_f32 := rfl

/-- The gradient the point of group `i` writes at a row and a column of the group. -/
def grad (x0 : FVec Ideal S4096x256 .bf16) (x1 : FVec Ideal S1x256x256 .bf16) (w : ℕ) (r : Fin 4096) (c : Fin 256) : ℝ :=
  win (share x0 x1 w c) w r.val - dpool x0 x1 r c

theorem half_apply (i : grid0.Coords) (x0 : FVec Ideal S4096x256 .bf16) (x1 : FVec Ideal S1x256x256 .bf16)
    (v : FVec Ideal S4096x128 .f32) (l : Fin 128) (c : Fin 256) (hv : ∀ r, v (ix2 r l) = (dpool x0 x1 r c : EReal)) (r : Fin 4096) :
    truncf (F := Ideal) .bf16 (subf (windowed i (divf v (k0_pay2 (F := Ideal) i))) v) bitsLt_bf16_f32 (ix2 r l)
      = (grad x0 x1 (2 * 2 ^ (i 0).val) r c : EReal) := by
  pointwise
  rw [windowed_apply i _ l (share x0 x1 (2 * 2 ^ (i 0).val) c) (share_past _ _ _ _) _ r, hv]
  · exact (EReal.coe_sub _ _).symm
  · intro s
    show Ideal.div (v (ix2 s l)) (k0_pay2 (F := Ideal) i (ix2 s l)) = _
    rw [hv, count_apply, div_coe _ _ (by
      have : 0 < 2 * 2 ^ (i 0).val := by positivity
      have : 0 < min (s.val + 1) (2 * 2 ^ (i 0).val) := by omega
      positivity)]
    rw [share, dif_pos s.isLt]

theorem pay10_apply (x0 : FVec Ideal S4096x256 .bf16) (x1 : FVec Ideal S1x256x256 .bf16) (h0 : ∀ i, IsR (x0 i))
    (h1 : ∀ i, IsR (x1 i)) (r : Fin 4096) (l : Fin 128) (c : Fin 256) (hc : c.val = 128 + l.val) :
    k0_pay10 (k0_pay3 (F := Ideal) x0 x1) (ix2 r l) = (dpool x0 x1 r c : EReal) := by
  have h : k0_pay10 (k0_pay3 (F := Ideal) x0 x1) (ix2 r l) = k0_pay3 (F := Ideal) x0 x1 (ix2 r c) := by
    generalize k0_pay3 (F := Ideal) x0 x1 = y
    pointwise [k0_pay10]
    exact congrArg y (congrArg (ix2 _) (Fin.ext (by simp [hc])))
  rw [h, pay3_apply x0 x1 h0 h1]

theorem pay4_apply (x0 : FVec Ideal S4096x256 .bf16) (x1 : FVec Ideal S1x256x256 .bf16) (h0 : ∀ i, IsR (x0 i))
    (h1 : ∀ i, IsR (x1 i)) (r : Fin 4096) (l : Fin 128) (c : Fin 256) (hc : c.val = l.val) :
    k0_pay4 (F := Ideal) x0 x1 (ix2 r l) = (dpool x0 x1 r c : EReal) := by
  have h : k0_pay4 (F := Ideal) x0 x1 (ix2 r l) = k0_pay3 (F := Ideal) x0 x1 (ix2 r c) := by
    unfold k0_pay4
    generalize k0_pay3 (F := Ideal) x0 x1 = y
    pointwise
    exact congrArg y (congrArg (ix2 _) (Fin.ext (by simp [hc])))
  rw [h, pay3_apply x0 x1 h0 h1]

theorem out_apply (c : Dev nD) (i : grid0.Coords) (arg1 : Memref sig .tc .vmem S4096x256 .bf16) (harg1 : arg1.IsWhole)
    (arg2 : Memref sig .tc .vmem S1x256x256 .bf16) (harg2 : arg2.IsWhole) (arg4 : Memref sig .tc .vmem S4096x256 .bf16)
    (harg4 : arg4.IsWhole) (x0 : FVec Ideal S4096x256 .bf16) (x1 : FVec Ideal S1x256x256 .bf16)
    (h0 : ∀ i, IsR (x0 i)) (h1 : ∀ i, IsR (x1 i)) (r : Fin 4096) (l : Fin 256) :
    out0_A_2 (F := Ideal) c i arg1 harg1 arg2 harg2 arg4 harg4 x0 x1 (ix2 r l) = (grad x0 x1 (2 * 2 ^ (i 0).val) r l : EReal) := by
  have ld0 := fun inb => View.ld_unit_lit (Val := Elt Ideal) (e := .bf16) (S := S4096x256) (off := ![0, 0]) inb x0 (by intro a; fin_cases a <;> rfl)
  have ld1 := fun inb => View.ld_unit_lit (Val := Elt Ideal) (e := .bf16) (S := S1x256x256) (off := ![0, 0, 0]) inb x1 (by intro a; fin_cases a <;> rfl)
  unfold out0_A_2 kernelRun0_A
  dsimp only
  rw [View.read_writes_junk_apply_eq_canon]
  by_cases hl : 128 ≤ l.val
  · have he : ix2 r l = (Rect.unit (s := S4096x256) ![0, 128] ![4096, 128] inb_S4096x256_S4096x128_0_128).emb
        (ix2 r (⟨l.val - 128, by omega⟩ : Fin 128)) := by
      funext a
      apply Fin.ext
      match a with
      | ⟨0, _⟩ => show r.val = 0 + 1 * r.val; omega
      | ⟨1, _⟩ => show l.val = 128 + 1 * (l.val - 128); omega
    conv_lhs => rw [he]
    rw [View.canon_cons_emb]
    sl_unfold_words
    simp only [View.readAt_eq_ld, harg1.read_unread, harg2.read_unread]
    rw [ld0, ld1, right_eq]
    exact half_apply i x0 x1 _ ⟨l.val - 128, by omega⟩ l
      (fun s => pay10_apply x0 x1 h0 h1 s _ l (by show l.val = 128 + (l.val - 128); omega)) r
  · have he : ix2 r l = (Rect.unit (s := S4096x256) ![0, 0] ![4096, 128] inb_S4096x256_S4096x128_0_0).emb
        (ix2 r (⟨l.val, by omega⟩ : Fin 128)) := by
      funext a
      apply Fin.ext
      match a with
      | ⟨0, _⟩ => show r.val = 0 + 1 * r.val; omega
      | ⟨1, _⟩ => show l.val = 0 + 1 * l.val; omega
    rw [View.canon_cons_of_not_mem _ _ (by
      intro hm
      have hm' : ix2 r l ∈ (Rect.unit (s := S4096x256) ![0, 128] ![4096, 128] inb_S4096x256_S4096x128_0_128).set := hm
      rw [Rect.mem_set_unit] at hm'
      have h2 : (128 : ℕ) ≤ l.val := (hm' 1).1
      omega)]
    conv_lhs => rw [he]
    rw [View.canon_cons_emb]
    sl_unfold_words
    simp only [View.readAt_eq_ld, harg1.read_unread, harg2.read_unread]
    rw [ld0, ld1, left_eq]
    exact half_apply i x0 x1 _ ⟨l.val, by omega⟩ l (fun s => pay4_apply x0 x1 h0 h1 s _ l rfl) r

end Cert.Pool

end
-- ==== Proof.Pool.Array.lean ====
/- The pooling gradient's result array after the run, as one function of the argument arrays. -/
module

public import proofs.«01_k».proof.Proof.Pool.Kernel

@[expose] public section

set_option maxRecDepth 16384

noncomputable section

namespace Cert.Pool

open Idealize.ShloMosaic Cert.KernelIdeal Cert.KernelIdeal.Gen Cert.Common
open Idealize.ShloMosaic.TcCoe Idealize.SL.Sem

/-- A group's columns of the cotangent. -/
def cols (x : FVec Ideal S4096x1024 .bf16) (g : Fin 4) : FVec Ideal S4096x256 .bf16 :=
  fun i => x (ix2 (i 0) (⟨256 * g.val + (i 1).val, by have h1 : (i 1).val < 256 := (i 1).isLt; omega⟩ : Fin 1024))

/-- A group's weights. -/
def part (x : FVec Ideal S4x256x256 .bf16) (g : Fin 4) : FVec Ideal S1x256x256 .bf16 := fun i => x (ix3 g (i 1) (i 2))

/-- The gradient of the projected rows: in the first 1024 columns the pooling's, in the others what was there. -/
def result (x1 : FVec Ideal S4x256x256 .bf16) (x2 : FVec Ideal S4096x1024 .bf16) (x3 : FVec Ideal S4096x4096 .bf16) :
    FVec Ideal S4096x4096 .bf16 := fun i =>
  if h : (i 1).val < 1024 then
    (grad (cols x2 ⟨(i 1).val / 256, by omega⟩) (part x1 ⟨(i 1).val / 256, by omega⟩) (2 * 2 ^ ((i 1).val / 256)) (i 0)
      ⟨(i 1).val % 256, Nat.mod_lt _ (by norm_num)⟩ : EReal)
  else x3 i

variable (m : (ℓ : Loc nD τ sig) → Buf (Elt Ideal) ℓ) (ρ : Dev nD → PrngReg)

theorem idx_facts : ∀ t : Fin cfg0.N, win0_0.index t (0 : Fin 2) = 0 ∧ win0_0.index t (1 : Fin 2) = t.val
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val ∧ (grid0.coords t 0).val = t.val :=
  (by decide +kernel : ∀ t : Fin grid0.N, _)

theorem iblk0_eq (c : Dev nD) (t : Fin cfg0.N) : iblk m c 0 t = cols (m ((c : Thread nD τ).loc main_arg2)) t := by
  obtain ⟨e0, e1, _⟩ := idx_facts t
  funext j
  show V m c main_arg2 (((cfg0.win 0).blk t).view.emb j) = _
  rw [V_main_arg2]
  refine congrArg _ (funext fun a => Fin.ext ?_)
  match a with
  | ⟨0, _⟩ => show win0_0.index t (0 : Fin 2) * 4096 + 1 * (j 0).val = (j 0).val; omega
  | ⟨1, _⟩ => show win0_0.index t (1 : Fin 2) * 256 + 1 * (j 1).val = 256 * t.val + (j 1).val; omega

theorem iblk1_eq (c : Dev nD) (t : Fin cfg0.N) : iblk m c 1 t = part (m ((c : Thread nD τ).loc main_arg1)) t := by
  obtain ⟨_, _, e0, e1, e2, _⟩ := idx_facts t
  funext j
  show V m c main_arg1 (((cfg0.win 1).blk t).view.emb j) = _
  rw [V_main_arg1]
  have h0 : (j 0).val < 1 := (j 0).isLt
  refine congrArg _ (funext fun a => Fin.ext ?_)
  match a with
  | ⟨0, _⟩ => show win0_1.index t (0 : Fin 3) * 1 + 1 * (j 0).val = t.val; omega
  | ⟨1, _⟩ => show win0_1.index t (1 : Fin 3) * 256 + 1 * (j 1).val = (j 1).val; omega
  | ⟨2, _⟩ => show win0_1.index t (2 : Fin 3) * 256 + 1 * (j 2).val = (j 2).val; omega

theorem emb2_val (t : Fin cfg0.N) (j : S4096x256.Idx) :
    ((((cfg0.win 2).blk t).view.emb j 0).val = (j 0).val) ∧ ((((cfg0.win 2).blk t).view.emb j 1).val = 256 * t.val + (j 1).val) := by
  obtain ⟨_, _, _, _, _, e0, e1, _⟩ := idx_facts t
  constructor
  · show win0_2.index t (0 : Fin 2) * 4096 + 1 * (j 0).val = (j 0).val; omega
  · show win0_2.index t (1 : Fin 2) * 256 + 1 * (j 1).val = 256 * t.val + (j 1).val; omega

theorem final (c : Dev nD) (h1 : ∀ i, IsR (m ((c : Thread nD τ).loc main_arg1) i)) (h2 : ∀ i, IsR (m ((c : Thread nD τ).loc main_arg2) i)) :
    (dats m 0 c).arrAt 2 cfg0.N = result (m ((c : Thread nD τ).loc main_arg1)) (m ((c : Thread nD τ).loc main_arg2))
      (m ((c : Thread nD τ).loc main_arg3)) := by
  funext i
  by_cases hi : (i 1).val < 1024
  · have ht : (i 1).val / 256 < 4 := by omega
    have b := congrFun (Cert.KernelIdeal.Value.blocks2 m c ⟨(i 1).val / 256, ht⟩ (flush0_2 _))
      (ix2 (i 0) (⟨(i 1).val % 256, Nat.mod_lt _ (by norm_num)⟩ : Fin 256))
    rw [Cert.KernelIdeal.Value.flushed2_A] at b
    have b' : (dats m 0 c).arrAt 2 cfg0.N (((cfg0.win 2).blk ⟨(i 1).val / 256, ht⟩).view.emb
        (ix2 (i 0) (⟨(i 1).val % 256, Nat.mod_lt _ (by norm_num)⟩ : Fin 256))) = _ := b
    have he : ((cfg0.win 2).blk ⟨(i 1).val / 256, ht⟩).view.emb
        (ix2 (i 0) (⟨(i 1).val % 256, Nat.mod_lt _ (by norm_num)⟩ : Fin 256)) = i := by
      obtain ⟨e0, e1⟩ := emb2_val ⟨(i 1).val / 256, ht⟩ (ix2 (i 0) (⟨(i 1).val % 256, Nat.mod_lt _ (by norm_num)⟩ : Fin 256))
      funext a
      apply Fin.ext
      match a with
      | ⟨0, _⟩ => exact e0
      | ⟨1, _⟩ => refine e1.trans ?_; show 256 * ((i 1).val / 256) + (i 1).val % 256 = (i 1).val; omega
    rw [he] at b'
    rw [b']
    refine (out_apply c _ _ _ _ _ _ _ (iblk m c 0 _) (iblk m c 1 _) ?_ ?_ (i 0) ⟨(i 1).val % 256, Nat.mod_lt _ (by norm_num)⟩).trans ?_
    · rw [iblk0_eq]; exact fun j => h2 _
    · rw [iblk1_eq]; exact fun j => h1 _
    · obtain ⟨_, _, _, _, _, _, _, e⟩ := idx_facts ⟨(i 1).val / 256, ht⟩
      rw [iblk0_eq, iblk1_eq, e]
      unfold result
      rw [dif_pos hi]
      rfl
  · rw [Cert.KernelIdeal.Value.entry2 m c i]
    · unfold result
      rw [dif_neg hi]
      rfl
    · intro t _ hm
      obtain ⟨j, hj⟩ := View.exists_emb_of_mem_set _ hm
      have e1 := (emb2_val t j).2
      rw [hj] at e1
      have h3 : (j 1).val < 256 := (j 1).isLt
      have h4 : t.val < 4 := t.isLt
      omega

/-- The run with the result array at its function of the arguments. -/
theorem run (h1 : ∀ (c : Dev nD) i, IsR (m ((c : Thread nD τ).loc main_arg1) i))
    (h2 : ∀ (c : Dev nD) i, IsR (m ((c : Thread nD τ).loc main_arg2) i)) :
    θ_run defs (onTc (τ := τ) (main (F := Ideal))) ⟨m, fun _ => 0, ρ⟩ fun r => ∀ c : Dev nD,
      r.2.mem ((c : Thread nD τ).loc main_v0) = result (m ((c : Thread nD τ).loc main_arg1)) (m ((c : Thread nD τ).loc main_arg2))
        (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c (h1 c) (h2 c)), (h c).2⟩)
    (Cert.KernelIdeal.Value.run_blocks m ρ)

end Cert.Pool

end
-- ==== Proof.Pool.Reference.lean ====
/- The pooling gradient's reference, read at an index at the ideal instance. -/
module

public import proofs.«01_k».proof.Proof.Pool.Array
public import proofs.«01_k».proof.Proof.Gen.ReferenceIdeal.Read

@[expose] public section

set_option maxRecDepth 16384

noncomputable section

namespace Cert.Pool

open Idealize.ShloMosaic Cert.ReferenceIdeal Cert.ReferenceIdeal.Read Cert.Common
open Idealize.ShloMosaic.TcCoe Idealize.SL.Sem

/-- A group's gradient as the reverse pass of the cumulative sum prints it: the negated cotangent, and the sum, from the
row on, of the shares less the shares a window further down. -/
theorem group_apply (D q y z : FVec Ideal ⟨2, ![4096, 256]⟩ .f32) (init : FVec Ideal ⟨0, ![]⟩ .f32) (w : ℕ)
    (h : (⟨2, ![4096, 256]⟩ : Shape).ReduceWindows (![4096, 1] : Fin 2 → Nat) ![1, 1] ![0, 0] ![4095, 0] ⟨2, ![4096, 256]⟩)
    (hu : 0 < (⟨0, ![]⟩ : Shape).numel) (hinit : init (Shape.Idx.first hu) = 0) (c : Fin 256) (f : ℕ → ℝ) (d : Fin 4096 → ℝ)
    (hf : ∀ n, 4096 ≤ n → f n = 0) (hq : ∀ s : Fin 4096, q (ix2 s c) = (f s.val : EReal))
    (hy : ∀ s : Fin 4096, y (ix2 s c) = ((-f (s.val + w) : ℝ) : EReal)) (hz : ∀ s : Fin 4096, z (ix2 s c) = ((-d s : ℝ) : EReal))
    (r : Fin 4096) :
    addf z (Host.reduceWindowAdd ![4096, 1] ![1, 1] ![0, 0] ![4095, 0] (addf q y) init h hu) (ix2 r c)
      = ((win f w r.val - d r : ℝ) : EReal) := by
  show z (ix2 r c) + _ = _
  rw [sum_from (addf q y) init h hu hinit r c, hz]
  have hs : ∀ s : Fin 4096, (if hs : r.val + s.val < 4096 then addf q y (ix2 ⟨r.val + s.val, hs⟩ c) else 0)
      = ((if r.val + s.val < 4096 then f (r.val + s.val) - f (r.val + s.val + w) else 0 : ℝ) : EReal) := by
    intro s
    split
    · show q _ + y _ = _
      rw [hq, hy, ← EReal.coe_add, sub_eq_add_neg]
    · rfl
  rw [Finset.sum_congr rfl fun s _ => hs s, ← coe_sum, telescope f 4096 w r.val hf r.isLt.le, ← EReal.coe_add]
  unfold win
  congr 1
  ring

/-- The same, of the printed terms: `X` the group's cotangent, `W` its weights, `cnt` the number of rows of each window and
`y` the shares a window further down, zero past the end. -/
theorem group_grad (X : FVec Ideal ⟨2, ![4096, 256]⟩ .bf16) (W : FVec Ideal ⟨3, ![1, 256, 256]⟩ .bf16)
    (D cnt y : FVec Ideal ⟨2, ![4096, 256]⟩ .f32) (init : FVec Ideal ⟨0, ![]⟩ .f32) (w : ℕ) (hw : 0 < w)
    (h : (⟨2, ![4096, 256]⟩ : Shape).ReduceWindows (![4096, 1] : Fin 2 → Nat) ![1, 1] ![0, 0] ![4095, 0] ⟨2, ![4096, 256]⟩)
    (hu : 0 < (⟨0, ![]⟩ : Shape).numel) (hinit : init (Shape.Idx.first hu) = 0) (c : Fin 256)
    (hD : ∀ r, D (ix2 r c) = (dpool X W r c : EReal))
    (hc : ∀ r : Fin 4096, cnt (ix2 r c) = (((min (r.val + 1) w : ℕ) : ℝ) : EReal))
    (hy : ∀ s : Fin 4096, y (ix2 s c) = if h : s.val + w < 4096 then
      Host.negf (F := Ideal) (Host.divf D cnt) (ix2 (⟨s.val + w, h⟩ : Fin 4096) c) else 0) (r : Fin 4096) :
    addf (Host.negf D) (Host.reduceWindowAdd ![4096, 1] ![1, 1] ![0, 0] ![4095, 0] (addf (Host.divf D cnt) y) init h hu) (ix2 r c)
      = (grad X W w r c : EReal) := by
  have hq : ∀ s : Fin 4096, Host.divf (F := Ideal) D cnt (ix2 s c) = (share X W w c s.val : EReal) := by
    intro s
    show Ideal.div (D (ix2 s c)) (cnt (ix2 s c)) = _
    rw [hD, hc, div_coe _ _ (by
      have : 0 < min (s.val + 1) w := by omega
      positivity), share, dif_pos s.isLt]
  refine group_apply D _ y _ init w h hu hinit c (share X W w c) (fun r => dpool X W r c) (share_past _ _ _ _) hq (fun s => ?_)
    (fun s => ?_) r
  · rw [hy]
    split
    · rename_i h1
      show -(Host.divf (F := Ideal) D cnt (ix2 (⟨s.val + w, h1⟩ : Fin 4096) c)) = _
      rw [hq, EReal.coe_neg]
    · rw [share_past _ _ _ _ _ (by omega), neg_zero]
      rfl
  · show -(D (ix2 s c)) = _
    rw [hD, EReal.coe_neg]

variable (x1 : FVec Ideal S4x256x256 .bf16) (x2 : FVec Ideal S4096x1024 .bf16)
  (x3 : FVec Ideal S4096x4096 .bf16)

theorem v84_apply (h1 : ∀ i, IsR (x1 i)) (h2 : ∀ i, IsR (x2 i)) (r : Fin 4096) (g : Fin 4) (c : Fin 256) :
    val_main_v84 (F := Ideal) x1 x2 (ix3 r g c) = (dpool (cols x2 g) (part x1 g) r c : EReal) := by
  rw [val_main_v84_apply, val_main_v83_apply]
  unfold dpool
  rw [← sum_mul_coe Finset.univ (f := fun k => cols x2 g (ix2 r k)) (g := fun k => part x1 g (ix3 0 c k)) (fun k => h2 _) (fun k => h1 _)]
  refine Finset.sum_congr rfl fun k _ => ?_
  refine congrArg₂ (· * ·) ?_ (congrArg x1 (funext fun a => by match a with | ⟨0, _⟩ => rfl | ⟨1, _⟩ => rfl | ⟨2, _⟩ => rfl))
  rw [val_main_v82_apply, val_main_v81_apply, val_main_v80_apply]
  refine congrArg x2 (funext fun a => Fin.ext ?_)
  have hr := r.isLt
  have hg := g.isLt
  have hk := k.isLt
  match a with
  | ⟨0, _⟩ => show ((r.val * 4 + g.val) * 256 + k.val) / 1024 = r.val; omega
  | ⟨1, _⟩ => show ((r.val * 4 + g.val) * 256 + k.val) % 1024 = 256 * g.val + k.val; omega

theorem at_group (r : Fin 4096) (g : Fin 4) (c : Fin 256) (i : S4096x4x256.Idx) (h0 : (i 0).val = r.val) (h1 : (i 1).val = g.val)
    (h2 : (i 2).val = c.val) : i = ix3 r g c := by
  funext a
  apply Fin.ext
  match a with
  | ⟨0, _⟩ => exact h0
  | ⟨1, _⟩ => exact h1
  | ⟨2, _⟩ => exact h2

theorem count_of (r w : ℕ) (hr : r < 4096) (hw : w ≤ 16) :
    FloatOps.sitofp (F := Ideal) .f32 (IntOp.minsi (BitVec.ofNat 32 r + BitVec.ofNat 32 1) (BitVec.ofNat 32 w))
      = (((min (r + 1) w : ℕ) : ℝ) : EReal) := by
  rw [← BitVec.ofNat_add]
  show (((IntOp.minsi (BitVec.ofNat 32 (r + 1)) (BitVec.ofNat 32 w)).toInt : ℝ) : EReal) = _
  rw [minsi_ofNat _ _ (by omega) (by omega)]
  norm_cast

/-- Reading a padded slice: the bound on the row may be stated of the slice or of the array. -/
theorem below (n w rows : ℕ) (hw : rows + w = 4096) {x : n < rows → EReal} {y : n + w < 4096 → EReal}
    (h : ∀ (h : n + w < 4096), x (by omega) = y h) :
    (if h : n < rows then x h else Ideal.ofBits .f32 0x00000000#32) = if h : n + w < 4096 then y h else 0 := by
  by_cases hn : n < rows
  · rw [dif_pos hn, dif_pos (by omega), h (by omega)]
  · rw [dif_neg hn, dif_neg (by omega)]
    exact Ideal.ofBits_zero .f32

theorem first_group (h1 : ∀ i, IsR (x1 i)) (h2 : ∀ i, IsR (x2 i)) (r : Fin 4096) (c : Fin 256) :
    val_main_v140 (F := Ideal) x1 x2 (ix2 r c) = (grad (cols x2 0) (part x1 0) 2 r c : EReal) := by
  refine group_grad (cols x2 0) (part x1 0) (val_main_v86 (F := Ideal) x1 x2) (val_main_v132 (F := Ideal))
    (val_main_v137 (F := Ideal) x1 x2) _ 2 (by omega) _ _ (Ideal.ofBits_zero .f32) c (fun s => ?_) (fun s => ?_) (fun s => ?_) r
  · rw [val_main_v86_apply, val_main_v85_apply, at_group s 0 c (idx_main_v85 (idx_main_v86 (ix2 s c)))
      (by show (s.val * 256 + c.val) / 256 = s.val; omega) rfl (by show (s.val * 256 + c.val) % 256 = c.val; omega),
      v84_apply x1 x2 h1 h2]
  · rw [val_main_v132_apply, val_main_v15_apply]
    exact count_of s.val 2 s.isLt (by omega)
  · unfold val_main_v137
    pointwise
    exact below s.val 2 4094 (by omega) (fun h => (val_main_v136_apply _ _ _).trans (congrArg _ (by
      funext a
      apply Fin.ext
      match a with
      | ⟨0, _⟩ => exact Nat.add_comm _ _
      | ⟨1, _⟩ => rfl)))

theorem second_group (h1 : ∀ i, IsR (x1 i)) (h2 : ∀ i, IsR (x2 i)) (r : Fin 4096) (c : Fin 256) :
    val_main_v127 (F := Ideal) x1 x2 (ix2 r c) = (grad (cols x2 1) (part x1 1) 4 r c : EReal) := by
  refine group_grad (cols x2 1) (part x1 1) (val_main_v88 (F := Ideal) x1 x2) (val_main_v119 (F := Ideal))
    (val_main_v124 (F := Ideal) x1 x2) _ 4 (by omega) _ _ (Ideal.ofBits_zero .f32) c (fun s => ?_) (fun s => ?_) (fun s => ?_) r
  · rw [val_main_v88_apply, val_main_v87_apply, at_group s 1 c (idx_main_v87 (idx_main_v88 (ix2 s c)))
      (by show (s.val * 256 + c.val) / 256 = s.val; omega) rfl (by show (s.val * 256 + c.val) % 256 = c.val; omega),
      v84_apply x1 x2 h1 h2]
  · rw [val_main_v119_apply, val_main_v32_apply]
    exact count_of s.val 4 s.isLt (by omega)
  · unfold val_main_v124
    pointwise
    exact below s.val 4 4092 (by omega) (fun h => (val_main_v123_apply _ _ _).trans (congrArg _ (by
      funext a
      apply Fin.ext
      match a with
      | ⟨0, _⟩ => exact Nat.add_comm _ _
      | ⟨1, _⟩ => rfl)))

theorem third_group (h1 : ∀ i, IsR (x1 i)) (h2 : ∀ i, IsR (x2 i)) (r : Fin 4096) (c : Fin 256) :
    val_main_v114 (F := Ideal) x1 x2 (ix2 r c) = (grad (cols x2 2) (part x1 2) 8 r c : EReal) := by
  refine group_grad (cols x2 2) (part x1 2) (val_main_v90 (F := Ideal) x1 x2) (val_main_v106 (F := Ideal))
    (val_main_v111 (F := Ideal) x1 x2) _ 8 (by omega) _ _ (Ideal.ofBits_zero .f32) c (fun s => ?_) (fun s => ?_) (fun s => ?_) r
  · rw [val_main_v90_apply, val_main_v89_apply, at_group s 2 c (idx_main_v89 (idx_main_v90 (ix2 s c)))
      (by show (s.val * 256 + c.val) / 256 = s.val; omega) rfl (by show (s.val * 256 + c.val) % 256 = c.val; omega),
      v84_apply x1 x2 h1 h2]
  · rw [val_main_v106_apply, val_main_v49_apply]
    exact count_of s.val 8 s.isLt (by omega)
  · unfold val_main_v111
    pointwise
    exact below s.val 8 4088 (by omega) (fun h => (val_main_v110_apply _ _ _).trans (congrArg _ (by
      funext a
      apply Fin.ext
      match a with
      | ⟨0, _⟩ => exact Nat.add_comm _ _
      | ⟨1, _⟩ => rfl)))

theorem fourth_group (h1 : ∀ i, IsR (x1 i)) (h2 : ∀ i, IsR (x2 i)) (r : Fin 4096) (c : Fin 256) :
    val_main_v102 (F := Ideal) x1 x2 (ix2 r c) = (grad (cols x2 3) (part x1 3) 16 r c : EReal) := by
  refine group_grad (cols x2 3) (part x1 3) (val_main_v92 (F := Ideal) x1 x2) (val_main_v94 (F := Ideal))
    (val_main_v99 (F := Ideal) x1 x2) _ 16 (by omega) _ _ (Ideal.ofBits_zero .f32) c (fun s => ?_) (fun s => ?_) (fun s => ?_) r
  · rw [val_main_v92_apply, val_main_v91_apply, at_group s 3 c (idx_main_v91 (idx_main_v92 (ix2 s c)))
      (by show (s.val * 256 + c.val) / 256 = s.val; omega) rfl (by show (s.val * 256 + c.val) % 256 = c.val; omega),
      v84_apply x1 x2 h1 h2]
  · rw [val_main_v94_apply, val_main_v66_apply]
    exact count_of s.val 16 s.isLt (by omega)
  · unfold val_main_v99
    pointwise
    exact below s.val 16 4080 (by omega) (fun h => (val_main_v98_apply _ _ _).trans (congrArg _ (by
      funext a
      apply Fin.ext
      match a with
      | ⟨0, _⟩ => exact Nat.add_comm _ _
      | ⟨1, _⟩ => rfl)))

/-- The four groups' gradients, added: each is padded with zeros in the places of the other groups. -/
theorem v143_apply (h1 : ∀ i, IsR (x1 i)) (h2 : ∀ i, IsR (x2 i)) (r : Fin 4096) (g : Fin 4) (c : Fin 256) :
    val_main_v143 (F := Ideal) x1 x2 (ix3 r g c) = (grad (cols x2 g) (part x1 g) (2 * 2 ^ g.val) r c : EReal) := by
  have e0 := first_group x1 x2 h1 h2 r c
  have e1 := second_group x1 x2 h1 h2 r c
  have e2 := third_group x1 x2 h1 h2 r c
  have e3 := fourth_group x1 x2 h1 h2 r c
  unfold val_main_v143 val_main_v130 val_main_v117 val_main_v104 val_main_v116 val_main_v129 val_main_v142
    val_main_v103 val_main_v115 val_main_v128 val_main_v141 val_main_cst_15 val_main_cst_17 val_main_cst_19 val_main_cst_21
  fin_cases g
  · pointwise
    exact e0
  · pointwise
    exact e1
  · pointwise
    exact e2
  · pointwise
    exact e3

/-- The whole array: the four groups side by side, then the columns that were there. -/
theorem reference_eq (h1 : ∀ i, IsR (x1 i)) (h2 : ∀ i, IsR (x2 i)) : val_main_v147 (F := Ideal) x1 x2 x3 = result x1 x2 x3 := by
  funext i
  idx_vars i
  unfold val_main_v147 result
  pointwise
  by_cases hi : i1.val < 1024
  · rw [dif_pos hi, dif_pos hi, val_main_v145_apply]
    show val_main_v144 (F := Ideal) x1 x2 _ = _
    rw [val_main_v144_apply, at_group i0 ⟨i1.val / 256, by omega⟩ ⟨i1.val % 256, by omega⟩
      (idx_main_v144 (ix2 i0 (⟨i1.val, hi⟩ : Fin 1024)))
      (by show (i0.val * 1024 + i1.val) / 1024 = i0.val; omega)
      (by show (i0.val * 1024 + i1.val) / 256 % 4 = i1.val / 256; omega)
      (by show (i0.val * 1024 + i1.val) % 256 = i1.val % 256; omega), v143_apply x1 x2 h1 h2]
  · rw [dif_neg hi, dif_neg hi, val_main_v146_apply]
    refine congrArg x3 (funext fun a => Fin.ext ?_)
    match a with
    | ⟨0, _⟩ => rfl
    | ⟨1, _⟩ => show 1024 + (i1.val - 1024) = i1.val; omega

end Cert.Pool

end
-- ==== Proof.Pool.Claims.lean ====
/- The claims about the pooling gradient. -/
module

public import proofs.«01_k».proof.Defs
public import proofs.«01_k».proof.Proof.Gen.Kernel.Frame
public import proofs.«01_k».proof.Proof.Gen.ReferenceIdeal.Run
public import proofs.«01_k».proof.Proof.Pool.Reference
public import Idealize.ShloMosaic.Adequacy
public import Idealize.ShloMosaic.Init

@[expose] public section

set_option maxRecDepth 16384

noncomputable section

namespace Cert.Pool

open Idealize.ShloMosaic Cert.Common
open Idealize.ShloMosaic.TcCoe Idealize.SL.Sem

instance preFacts : Cert.Pre_finite.Facts where
  bitsLt_bf16_f32 := by decide
  bcast_S_S4x256x256 := by decide
  bcast_S_S4096x1024 := by decide

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite := fun m ρ _ => frame_reference m ρ trivial

theorem algebraic : Cert.algebraic_KernelIdeal_ReferenceIdeal_pre_finite := by
  intro m ρ m' ρ' hpre hagree
  have h1 : ∀ (c : Dev Cert.KernelIdeal.nD) i, IsR (m ((c : Thread Cert.KernelIdeal.nD Cert.KernelIdeal.τ).loc Cert.KernelIdeal.main_arg1) i) :=
    fun c => isR_of_cmp _ _ _ (fun _ => rfl) (hpre c).1
  have h2 : ∀ (c : Dev Cert.KernelIdeal.nD) i, IsR (m ((c : Thread Cert.KernelIdeal.nD Cert.KernelIdeal.τ).loc Cert.KernelIdeal.main_arg2) i) :=
    fun c => isR_of_cmp _ _ _ (fun _ => rfl) (hpre c).2
  refine ⟨fun c => result (m ((c : Thread Cert.KernelIdeal.nD Cert.KernelIdeal.τ).loc Cert.KernelIdeal.main_arg1))
    (m ((c : Thread Cert.KernelIdeal.nD Cert.KernelIdeal.τ).loc Cert.KernelIdeal.main_arg2))
    (m ((c : Thread Cert.KernelIdeal.nD Cert.KernelIdeal.τ).loc Cert.KernelIdeal.main_arg3)), run m ρ h1 h2, ?_⟩
  refine (θ_run Cert.ReferenceIdeal.defs _ _).mono (fun r h c => ⟨?_, (h c).2⟩) (Cert.ReferenceIdeal.Value.run (F := Ideal) m' ρ')
  obtain ⟨_, e1, e2, e3⟩ := hagree c
  refine (h c).1.trans ((Cert.ReferenceIdeal.Read.val_main_v147_eq (F := Ideal) (StableHlo.launchContents m' c)).trans ?_)
  show Cert.ReferenceIdeal.Read.val_main_v147 (F := Ideal)
    (m' ((c : Thread Cert.ReferenceIdeal.nD Cert.ReferenceIdeal.τ).loc Cert.ReferenceIdeal.main_arg1))
    (m' ((c : Thread Cert.ReferenceIdeal.nD Cert.ReferenceIdeal.τ).loc Cert.ReferenceIdeal.main_arg2))
    (m' ((c : Thread Cert.ReferenceIdeal.nD Cert.ReferenceIdeal.τ).loc Cert.ReferenceIdeal.main_arg3)) = _
  rw [e1, e2, e3]
  exact reference_eq _ _ _ (h1 c) (h2 c)

end Cert.Pool

end
-- ==== Proof.Common.Logistic.lean ====
/- The logistic function over the extended reals, and the two spellings of the gated unit's derivative. -/
module

public import proofs.«01_k».proof.Proof.Common.Reals

@[expose] public section

noncomputable section

namespace Cert.Common

open Idealize.ShloMosaic

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type} (s : Finset ι) {f : ι → EReal} (h : ∀ i, IsR (f i)) : IsR (∑ i ∈ s, f i) :=
  ⟨∑ i ∈ s, (f i).toReal, by rw [coe_sum]; exact Finset.sum_congr rfl fun i _ => (h i).toReal.symm⟩

theorem isR_zero : IsR 0 := ⟨0, rfl⟩

theorem isR_one : IsR 1 := ⟨1, rfl⟩

/-- The logistic function. -/
def sg (v : EReal) : EReal := Ideal.div 1 (1 + Ideal.exp (0 - v))

/-- The derivative of `v * sg v`. -/
def dsilu (v : EReal) : EReal := sg v * (1 + v * (1 - sg v))

theorem sg_neg (v : EReal) : Ideal.div 1 (1 + Ideal.exp (-v)) = sg v := by rw [sg, zero_sub]

theorem sg_top : sg ⊤ = 1 := by
  have e : (0 : EReal) - ⊤ = ⊥ := by rw [zero_sub, EReal.neg_top]
  rw [sg, e, Ideal.exp_bot, add_zero]
  have := div_coe 1 1 one_ne_zero
  simpa using this

theorem sg_bot : sg ⊥ = 0 := by
  have e : (0 : EReal) - ⊥ = ⊤ := by rw [zero_sub, EReal.neg_bot]
  have e2 : (1 : EReal) + ⊤ = ⊤ := EReal.add_top_of_ne_bot (by decide)
  rw [sg, e, Ideal.exp_top, e2, Ideal.div, if_neg (by simp)]
  simp

theorem isR_sg (v : EReal) : IsR (sg v) := by
  induction v with
  | bot => rw [sg_bot]; exact isR_zero
  | top => rw [sg_top]; exact isR_one
  | coe r =>
    refine ⟨1 / (1 + Real.exp (-r)), ?_⟩
    rw [sg, zero_sub, ← EReal.coe_neg, Ideal.exp_coe, ← EReal.coe_one, ← EReal.coe_add, div_coe]
    have := Real.exp_pos (-r)
    positivity

/-- The gated unit's gradient as one factor, and as the product rule has it. -/
theorem silu_grad {y : EReal} (hy : IsR y) (v : EReal) : y * dsilu v = y * sg v + v * y * (sg v * (1 - sg v)) := by
  have h11 : (1 : EReal) - 1 = 0 := by
    rw [← EReal.coe_one, ← EReal.coe_sub, sub_self]; rfl
  induction v with
  | bot => simp [dsilu, sg_bot]
  | top => simp [dsilu, sg_top, h11]
  | coe r =>
    obtain ⟨s, hs⟩ := isR_sg r
    obtain ⟨b, rfl⟩ := hy
    rw [dsilu, hs]
    norm_cast
    ring

end Cert.Common

end
-- ==== Proof.Gate.Kernel.lean ====
/- The gates' gradient: what the pipelined call leaves in its four result arrays, as functions of its argument arrays. -/
module

public import Idealize.ShloMosaic.Lib.Pipeline.ValueKit.Tiles
public import Idealize.ShloMosaic.Lib.Pipeline.ValueKit.Geometry
public import proofs.«01_k».proof.Proof.Common.Logistic
public import proofs.«01_k».proof.Proof.Gen.GateIdeal.Value

@[expose] public section

set_option maxRecDepth 16384

noncomputable section

namespace Cert.Gates

open Idealize.ShloMosaic Cert.GateIdeal Cert.GateIdeal.Gen Cert.Common
open Idealize.ShloMosaic.TcCoe Idealize.SL.Sem

/-- A column of the second 1024. -/
def up (l : Fin 1024) : Fin 2048 := ⟨1024 + l.val, by omega⟩

/-- A column of the first 1024. -/
def lo (l : Fin 1024) : Fin 2048 := ⟨l.val, by omega⟩

/-- A column of the `b`-th 1024. -/
def blk (b : Fin 4) (l : Fin 1024) : Fin 4096 := ⟨1024 * b.val + l.val, by omega⟩

section

variable (mixed : FVec Ideal S4096x1024 .f32) (proj : FVec Ideal S4096x4096 .f32) (hg : FVec Ideal S4096x2048 .f32)
  (scale : FVec Ideal S1x1024 .f32) (w : FVec Ideal S2048x2048 .bf16) (dh : FVec Ideal S4096x2048 .bf16)

/-- The cotangent through the output projection. -/
def dcat (r : Fin 4096) (k : Fin 2048) : EReal := ∑ x : Fin 2048, dh (ix2 r x) * w (ix2 k x)

/-- The pooled half's cotangent through its gate. -/
def dpool (r : Fin 4096) (l : Fin 1024) : EReal :=
  dcat w dh r (lo l) * (proj (ix2 r (blk 1 l)) * sg (proj (ix2 r (blk 1 l))))

/-- The recurrence half's cotangent through its gate. -/
def dssm (r : Fin 4096) (l : Fin 1024) : EReal :=
  dcat w dh r (up l) * (proj (ix2 r (blk 3 l)) * sg (proj (ix2 r (blk 3 l))))

def gMixed : FVec Ideal S4096x1024 .f32 := fun i => (dpool proj w dh (i 0) (i 1) * scale (ix2 (0 : Fin 1) (i 1)) : EReal)

/-- The pooled half's gate. -/
def gateA (r : Fin 4096) (l : Fin 1024) : EReal :=
  dcat w dh r (lo l) * mixed (ix2 r l) * scale (ix2 (0 : Fin 1) l) * dsilu (proj (ix2 r (blk 1 l)))

/-- The recurrence half's gate. -/
def gateB (r : Fin 4096) (l : Fin 1024) : EReal :=
  dcat w dh r (up l) * hg (ix2 r (lo l)) * sg (hg (ix2 r (up l))) * dsilu (proj (ix2 r (blk 3 l)))

/-- The input projection's cotangent at a row and a column. -/
def projAt (r k : Fin 4096) : EReal :=
  if h : 3072 ≤ k.val then gateB proj hg w dh r ⟨k.val - 3072, by omega⟩
  else if h1 : 1024 ≤ k.val ∧ k.val < 2048 then gateA mixed proj scale w dh r ⟨k.val - 1024, by omega⟩
  else 0

def gProj : FVec Ideal S4096x4096 .f32 := fun i => projAt mixed proj hg scale w dh (i 0) (i 1)

/-- The gated linear unit's cotangent in its second half of columns. -/
def hgUp (r : Fin 4096) (l : Fin 1024) : EReal :=
  dssm proj w dh r l * hg (ix2 r (lo l)) * sg (hg (ix2 r (up l))) * (1 - sg (hg (ix2 r (up l))))

/-- The gated linear unit's cotangent at a row and a column. -/
def hgAt (r : Fin 4096) (k : Fin 2048) : EReal :=
  if h : k.val < 1024 then dssm proj w dh r ⟨k.val, h⟩ * sg (hg (ix2 r (up ⟨k.val, h⟩)))
  else hgUp proj hg w dh r ⟨k.val - 1024, by omega⟩

def gHg : FVec Ideal S4096x2048 .f32 := fun i => hgAt proj hg w dh (i 0) (i 1)

def gScale : FVec Ideal S1x1024 .f32 := fun i => (∑ r : Fin 4096, dpool proj w dh r (i 1) * mixed (ix2 r (i 1)) : EReal)

theorem projAt_0 (r : Fin 4096) (l : Fin 1024) : projAt mixed proj hg scale w dh r (blk 0 l) = 0 := by
  have := l.isLt
  unfold projAt blk
  rw [dif_neg (by simp; omega), dif_neg (by simp)]

theorem projAt_1 (r : Fin 4096) (l : Fin 1024) : projAt mixed proj hg scale w dh r (blk 1 l) = gateA mixed proj scale w dh r l := by
  have := l.isLt
  unfold projAt blk
  rw [dif_neg (by simp; omega), dif_pos (by simp; omega)]
  congr 1
  apply Fin.ext; simp

theorem projAt_2 (r : Fin 4096) (l : Fin 1024) : projAt mixed proj hg scale w dh r (blk 2 l) = 0 := by
  have := l.isLt
  unfold projAt blk
  rw [dif_neg (by simp; omega), dif_neg (by simp)]

theorem projAt_3 (r : Fin 4096) (l : Fin 1024) : projAt mixed proj hg scale w dh r (blk 3 l) = gateB proj hg w dh r l := by
  unfold projAt blk
  rw [dif_pos (by simp)]
  congr 1
  apply Fin.ext; simp

theorem hgAt_lo (r : Fin 4096) (l : Fin 1024) : hgAt proj hg w dh r (lo l) = dssm proj w dh r l * sg (hg (ix2 r (up l))) := by
  unfold hgAt lo
  rw [dif_pos l.isLt]

theorem hgAt_up (r : Fin 4096) (l : Fin 1024) : hgAt proj hg w dh r (up l) = hgUp proj hg w dh r l := by
  unfold hgAt up
  rw [dif_neg (by simp)]
  congr 1
  apply Fin.ext; simp

end

variable (m : (ℓ : Loc nD τ sig) → Buf (Elt Ideal) ℓ) (ρ : Dev nD → PrngReg)

theorem idx_facts : ∀ t : Fin cfg0.N, win0_0.index t = ![t.val, 0] ∧ win0_1.index t = ![0, 0] ∧ win0_2.index t = ![t.val, 0]
    ∧ win0_3.index t = ![t.val, 1] ∧ win0_4.index t = ![t.val, 3] ∧ win0_5.index t = ![t.val, 0] ∧ win0_6.index t = ![0, 0]
    ∧ win0_7.index t = ![t.val, 0] ∧ win0_8.index t = ![t.val, 0] ∧ win0_9.index t = ![t.val, 0] ∧ win0_10.index t = ![0, 0] :=
  (by decide +kernel : ∀ t : Fin grid0.N, _)

/-- The array's row that a tile's row is. -/
def row (t : Fin cfg0.N) (r : Fin 256) : Fin 4096 :=
  ⟨t.val * 256 + r.val, by have := t.isLt; have := r.isLt; have h : cfg0.N = 16 := N_0; omega⟩

section

variable (c : Dev nD) (t : Fin cfg0.N)

theorem blk0 (r : Fin 256) (k : Fin 2048) : iblk m c 0 t (ix2 r k) = m ((c : Thread nD τ).loc main_arg5) (ix2 (row t r) k) := by
  obtain ⟨e, _⟩ := idx_facts t
  blk_ext [iblk, V_main_arg5, e, row]

theorem blk1 (r k : Fin 2048) : iblk m c 1 t (ix2 r k) = m ((c : Thread nD τ).loc main_arg4) (ix2 r k) := by
  obtain ⟨_, e, _⟩ := idx_facts t
  blk_ext [iblk, V_main_arg4, e, row]

theorem blk2 (r : Fin 256) (l : Fin 1024) : iblk m c 2 t (ix2 r l) = m ((c : Thread nD τ).loc main_arg0) (ix2 (row t r) l) := by
  obtain ⟨_, _, e, _⟩ := idx_facts t
  blk_ext [iblk, V_main_arg0, e, row]

theorem blk3 (r : Fin 256) (l : Fin 1024) : iblk m c 3 t (ix2 r l) = m ((c : Thread nD τ).loc main_arg1) (ix2 (row t r) (blk 1 l)) := by
  obtain ⟨_, _, _, e, _⟩ := idx_facts t
  blk_ext [iblk, V_main_arg1, e, row, blk]

theorem blk4 (r : Fin 256) (l : Fin 1024) : iblk m c 4 t (ix2 r l) = m ((c : Thread nD τ).loc main_arg1) (ix2 (row t r) (blk 3 l)) := by
  obtain ⟨_, _, _, _, e, _⟩ := idx_facts t
  blk_ext [iblk, V_main_arg1, e, row, blk]

theorem blk5_lo (r : Fin 256) (l : Fin 1024) :
    View.ld (iblk m c 5 t) (Rect.unit ![0, 0] ![256, 1024] inb_S256x2048_S256x1024_0_0) (ix2 r l)
      = m ((c : Thread nD τ).loc main_arg2) (ix2 (row t r) (lo l)) := by
  obtain ⟨_, _, _, _, _, e, _⟩ := idx_facts t
  rw [View.ld_apply]
  blk_ext [iblk, V_main_arg2, e, row, lo, Rect.idx_unit_val]

theorem blk5_up (r : Fin 256) (l : Fin 1024) :
    View.ld (iblk m c 5 t) (Rect.unit ![0, 1024] ![256, 1024] inb_S256x2048_S256x1024_0_1024) (ix2 r l)
      = m ((c : Thread nD τ).loc main_arg2) (ix2 (row t r) (up l)) := by
  obtain ⟨_, _, _, _, _, e, _⟩ := idx_facts t
  rw [View.ld_apply]
  blk_ext [iblk, V_main_arg2, e, row, up, Rect.idx_unit_val]

theorem blk6 (l : Fin 1024) : iblk m c 6 t (ix2 (0 : Fin 1) l) = m ((c : Thread nD τ).loc main_arg3) (ix2 (0 : Fin 1) l) := by
  obtain ⟨_, _, _, _, _, _, e, _⟩ := idx_facts t
  blk_ext [iblk, V_main_arg3, e]

theorem pay8 (a : FVec Ideal S256x1024 .f32) (r : Fin 256) (l : Fin 1024) : k0_pay8 (F := Ideal) a (ix2 r l) = sg (a (ix2 r l)) := by
  pointwise [k0_pay8]
  rfl

theorem pay19 (a : FVec Ideal S256x1024 .f32) (r : Fin 256) (l : Fin 1024) : k0_pay19 (F := Ideal) a (ix2 r l) = sg (a (ix2 r l)) := by
  pointwise [k0_pay19]
  rfl

theorem pay17 (a : FVec Ideal S256x1024 .f32) (r : Fin 256) (l : Fin 1024) : k0_pay17 (F := Ideal) a (ix2 r l) = sg (a (ix2 r l)) := by
  pointwise [k0_pay17]
  rfl

theorem pay9 (a : FVec Ideal S256x1024 .f32) (r : Fin 256) (l : Fin 1024) : k0_pay9 (F := Ideal) a (ix2 r l) = dsilu (a (ix2 r l)) := by
  pointwise [k0_pay9]
  rw [pay8]
  rfl

theorem pay18 (a : FVec Ideal S256x1024 .f32) (r : Fin 256) (l : Fin 1024) : k0_pay18 (F := Ideal) a (ix2 r l) = dsilu (a (ix2 r l)) := by
  pointwise [k0_pay18]
  rw [pay17]
  rfl

theorem pay6 (r : Fin 256) (k : Fin 2048) : k0_pay6 (F := Ideal) (iblk m c 0 t) (iblk m c 1 t) (ix2 r k)
    = dcat (m ((c : Thread nD τ).loc main_arg4)) (m ((c : Thread nD τ).loc main_arg5)) (row t r) k := by
  unfold dcat
  rw [← Finset.sum_congr rfl fun x _ => congrArg₂ (fun u v : EReal => u * v) (blk0 m c t r x) (blk1 m c t k x)]
  generalize iblk m c 0 t = a
  generalize iblk m c 1 t = b
  pointwise [k0_pay6]

theorem pay7 (r : Fin 256) (l : Fin 1024) : k0_pay7 (F := Ideal) (iblk m c 0 t) (iblk m c 1 t) (ix2 r l)
    = dcat (m ((c : Thread nD τ).loc main_arg4)) (m ((c : Thread nD τ).loc main_arg5)) (row t r) (lo l) := by
  rw [← pay6]
  generalize iblk m c 0 t = a
  generalize iblk m c 1 t = b
  pointwise [k0_pay7]
  rfl

theorem pay16 (r : Fin 256) (l : Fin 1024) : k0_pay16 (F := Ideal) (k0_pay6 (F := Ideal) (iblk m c 0 t) (iblk m c 1 t)) (ix2 r l)
    = dcat (m ((c : Thread nD τ).loc main_arg4)) (m ((c : Thread nD τ).loc main_arg5)) (row t r) (up l) := by
  rw [← pay6]
  generalize k0_pay6 (F := Ideal) (iblk m c 0 t) (iblk m c 1 t) = a
  pointwise [k0_pay16]
  rfl

theorem pay10 (r : Fin 256) (l : Fin 1024) : k0_pay10 (F := Ideal) (iblk m c 0 t) (iblk m c 1 t) (iblk m c 3 t) (ix2 r l)
    = dpool (m ((c : Thread nD τ).loc main_arg1)) (m ((c : Thread nD τ).loc main_arg4)) (m ((c : Thread nD τ).loc main_arg5)) (row t r) l := by
  have e := pay7 m c t r l
  have e3 := blk3 m c t r l
  generalize iblk m c 3 t = d at e3 ⊢
  unfold k0_pay10
  generalize k0_pay7 (F := Ideal) (iblk m c 0 t) (iblk m c 1 t) = a at e ⊢
  pointwise
  rw [pay8, e, e3]
  rfl

theorem pay20 (r : Fin 256) (l : Fin 1024) :
    k0_pay20 (F := Ideal) (k0_pay6 (F := Ideal) (iblk m c 0 t) (iblk m c 1 t)) (iblk m c 4 t) (ix2 r l)
    = dssm (m ((c : Thread nD τ).loc main_arg1)) (m ((c : Thread nD τ).loc main_arg4)) (m ((c : Thread nD τ).loc main_arg5)) (row t r) l := by
  have e := pay16 m c t r l
  have e4 := blk4 m c t r l
  generalize iblk m c 4 t = d at e4 ⊢
  generalize k0_pay6 (F := Ideal) (iblk m c 0 t) (iblk m c 1 t) = a at e ⊢
  pointwise [k0_pay20]
  rw [pay17, e, e4]
  rfl

end

end Cert.Gates

end
-- ==== Proof.Gate.Array.lean ====
/- The gates' gradient: the call's four result arrays after the run. -/
module

public import proofs.«01_k».proof.Proof.Gate.Kernel

@[expose] public section

set_option maxRecDepth 16384

noncomputable section

namespace Cert.Gates

open Idealize.ShloMosaic Cert.GateIdeal Cert.GateIdeal.Gen Cert.Common
open Idealize.ShloMosaic.TcCoe Idealize.SL.Sem

variable (m : (ℓ : Loc nD τ sig) → Buf (Elt Ideal) ℓ) (ρ : Dev nD → PrngReg)

section

variable (c : Dev nD) (t : Fin cfg0.N)

theorem out7 (y : S256x1024.Idx) :
    k0_pay13 (F := Ideal) (k0_pay12 (iblk m c 0 t) (iblk m c 1 t) (iblk m c 6 t) (iblk m c 3 t)) y
    = gMixed (m ((c : Thread nD τ).loc main_arg1)) (m ((c : Thread nD τ).loc main_arg3)) (m ((c : Thread nD τ).loc main_arg4))
      (m ((c : Thread nD τ).loc main_arg5)) (((View.whole main_v0_0).slice (win0_7.rect t)).emb y) := by
  idx_vars y
  have he : ((View.whole main_v0_0).slice (win0_7.rect t)).emb (ix2 y0 y1) = ix2 (row t y0) y1 := by
    obtain ⟨_, _, _, _, _, _, _, e, _⟩ := idx_facts t
    blk_ext [e, row]
  rw [he]
  have e := pay10 m c t y0 y1
  have e6 := blk6 m c t y1
  generalize iblk m c 6 t = d at e6 ⊢
  unfold k0_pay12
  generalize k0_pay10 (F := Ideal) (iblk m c 0 t) (iblk m c 1 t) (iblk m c 3 t) = a at e ⊢
  pointwise [k0_pay13]
  rw [e, e6]
  rfl

theorem out10 (p : FVec Ideal S1x1024 .f32) (y : S1x1024.Idx) :
    k0_pay11 (F := Ideal) (iblk m c 0 t) (iblk m c 1 t) (iblk m c 2 t) (iblk m c 3 t) p y
    = (p y : EReal) + ∑ r : Fin 256, dpool (m ((c : Thread nD τ).loc main_arg1)) (m ((c : Thread nD τ).loc main_arg4))
      (m ((c : Thread nD τ).loc main_arg5)) (row t r) (y 1) * m ((c : Thread nD τ).loc main_arg0) (ix2 (row t r) (y 1)) := by
  idx_vars y
  have e := fun r => pay10 m c t r y1
  have e2 := fun r => blk2 m c t r y1
  generalize iblk m c 2 t = d at e2 ⊢
  unfold k0_pay11
  generalize k0_pay10 (F := Ideal) (iblk m c 0 t) (iblk m c 1 t) (iblk m c 3 t) = a at e ⊢
  pointwise
  refine congrArg _ (Finset.sum_congr rfl fun r _ => ?_)
  rw [e, e2]

theorem out8_1 (y : S256x1024.Idx) : k0_pay15 (F := Ideal) (iblk m c 6 t) (iblk m c 2 t) (k0_pay7 (iblk m c 0 t) (iblk m c 1 t))
      (k0_pay9 (iblk m c 3 t)) y
    = gateA (m ((c : Thread nD τ).loc main_arg0)) (m ((c : Thread nD τ).loc main_arg1)) (m ((c : Thread nD τ).loc main_arg3))
      (m ((c : Thread nD τ).loc main_arg4)) (m ((c : Thread nD τ).loc main_arg5)) (row t (y 0)) (y 1) := by
  idx_vars y
  have e := pay7 m c t y0 y1
  have e2 := blk2 m c t y0 y1
  have e3 := blk3 m c t y0 y1
  have e6 := blk6 m c t y1
  generalize iblk m c 2 t = d at e2 ⊢
  generalize iblk m c 3 t = d' at e3 ⊢
  generalize iblk m c 6 t = d'' at e6 ⊢
  generalize k0_pay7 (F := Ideal) (iblk m c 0 t) (iblk m c 1 t) = a at e ⊢
  pointwise [k0_pay15]
  rw [pay9, e, e2, e3, e6]
  rfl

theorem out8_3 (y : S256x1024.Idx) : k0_pay2 (F := Ideal) (k0_pay16 (k0_pay6 (iblk m c 0 t) (iblk m c 1 t))) (k0_pay18 (iblk m c 4 t))
      (View.ld (iblk m c 5 t) (Rect.unit ![0, 0] ![256, 1024] inb_S256x2048_S256x1024_0_0))
      (k0_pay19 (View.ld (iblk m c 5 t) (Rect.unit ![0, 1024] ![256, 1024] inb_S256x2048_S256x1024_0_1024))) y
    = gateB (m ((c : Thread nD τ).loc main_arg1)) (m ((c : Thread nD τ).loc main_arg2))
      (m ((c : Thread nD τ).loc main_arg4)) (m ((c : Thread nD τ).loc main_arg5)) (row t (y 0)) (y 1) := by
  idx_vars y
  have e := pay16 m c t y0 y1
  have e4 := blk4 m c t y0 y1
  have e5 := blk5_lo m c t y0 y1
  have e6 := blk5_up m c t y0 y1
  generalize iblk m c 4 t = d at e4 ⊢
  generalize View.ld (iblk m c 5 t) (Rect.unit ![0, 0] ![256, 1024] inb_S256x2048_S256x1024_0_0) = d' at e5 ⊢
  generalize View.ld (iblk m c 5 t) (Rect.unit ![0, 1024] ![256, 1024] inb_S256x2048_S256x1024_0_1024) = d'' at e6 ⊢
  generalize k0_pay16 (F := Ideal) (k0_pay6 (iblk m c 0 t) (iblk m c 1 t)) = a at e ⊢
  pointwise [k0_pay2]
  rw [pay18, pay19, e, e4, e5, e6]
  rfl

theorem out9_lo (y : S256x1024.Idx) : k0_pay3 (F := Ideal)
      (k0_pay19 (View.ld (iblk m c 5 t) (Rect.unit ![0, 1024] ![256, 1024] inb_S256x2048_S256x1024_0_1024)))
      (k0_pay20 (k0_pay6 (iblk m c 0 t) (iblk m c 1 t)) (iblk m c 4 t)) y
    = dssm (m ((c : Thread nD τ).loc main_arg1)) (m ((c : Thread nD τ).loc main_arg4)) (m ((c : Thread nD τ).loc main_arg5)) (row t (y 0)) (y 1)
      * sg (m ((c : Thread nD τ).loc main_arg2) (ix2 (row t (y 0)) (up (y 1)))) := by
  idx_vars y
  have e := pay20 m c t y0 y1
  have e6 := blk5_up m c t y0 y1
  generalize View.ld (iblk m c 5 t) (Rect.unit ![0, 1024] ![256, 1024] inb_S256x2048_S256x1024_0_1024) = d'' at e6 ⊢
  generalize k0_pay20 (F := Ideal) (k0_pay6 (iblk m c 0 t) (iblk m c 1 t)) (iblk m c 4 t) = a at e ⊢
  pointwise [k0_pay3]
  rw [pay19, e, e6]

theorem out9_up (y : S256x1024.Idx) : k0_pay4 (F := Ideal)
      (View.ld (iblk m c 5 t) (Rect.unit ![0, 0] ![256, 1024] inb_S256x2048_S256x1024_0_0))
      (k0_pay19 (View.ld (iblk m c 5 t) (Rect.unit ![0, 1024] ![256, 1024] inb_S256x2048_S256x1024_0_1024)))
      (k0_pay20 (k0_pay6 (iblk m c 0 t) (iblk m c 1 t)) (iblk m c 4 t)) y
    = hgUp (m ((c : Thread nD τ).loc main_arg1)) (m ((c : Thread nD τ).loc main_arg2)) (m ((c : Thread nD τ).loc main_arg4))
      (m ((c : Thread nD τ).loc main_arg5)) (row t (y 0)) (y 1) := by
  idx_vars y
  have e := pay20 m c t y0 y1
  have e5 := blk5_lo m c t y0 y1
  have e6 := blk5_up m c t y0 y1
  generalize View.ld (iblk m c 5 t) (Rect.unit ![0, 0] ![256, 1024] inb_S256x2048_S256x1024_0_0) = d' at e5 ⊢
  generalize View.ld (iblk m c 5 t) (Rect.unit ![0, 1024] ![256, 1024] inb_S256x2048_S256x1024_0_1024) = d'' at e6 ⊢
  generalize k0_pay20 (F := Ideal) (k0_pay6 (iblk m c 0 t) (iblk m c 1 t)) (iblk m c 4 t) = a at e ⊢
  pointwise [k0_pay4]
  rw [pay19, e, e5, e6]
  rfl

theorem zero1 (y : S256x1024.Idx) : k0_pay1 (F := Ideal) y = (0 : EReal) := by
  idx_vars y
  pointwise [k0_pay1]

theorem zero14 (y : S256x1024.Idx) : k0_pay14 (F := Ideal) y = (0 : EReal) := by
  idx_vars y
  pointwise [k0_pay14]

theorem zero5 (y : S1x1024.Idx) : k0_pay5 (F := Ideal) y = (0 : EReal) := by
  idx_vars y
  pointwise [k0_pay5]

theorem emb8 (y : S256x4096.Idx) (x : S256x1024.Idx) (b : Fin 4) (h0 : (y 0).val = (x 0).val) (h1 : (y 1).val = 1024 * b.val + (x 1).val) :
    ((View.whole main_v0_1).slice (win0_8.rect t)).emb y = ix2 (row t (x 0)) (blk b (x 1)) := by
  obtain ⟨_, _, _, _, _, _, _, _, e, _⟩ := idx_facts t
  blk_ext [e, row, blk]

theorem emb9 (y : S256x2048.Idx) (x : S256x1024.Idx) (k : Fin 2048) (h0 : (y 0).val = (x 0).val) (h1 : (y 1).val = k.val) :
    ((View.whole main_v0_2).slice (win0_9.rect t)).emb y = ix2 (row t (x 0)) k := by
  obtain ⟨_, _, _, _, _, _, _, _, _, e, _⟩ := idx_facts t
  blk_ext [e, row]

end

theorem final7 (c : Dev nD) : (dats m 0 c).arrAt 7 cfg0.N = gMixed (m ((c : Thread nD τ).loc main_arg1))
    (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  by_cases h : t.val % 16 = 0
  · rw [outsAt0_A m c t h]
    frame_out
    exact out7 m c t y
  · rw [outsAt0_B m c t h]
    frame_out
    exact out7 m c t y

theorem final8 (c : Dev nD) : (dats m 0 c).arrAt 8 cfg0.N = gProj (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 8 _ (by decide +kernel) fun t hf y => ?_
  blk_simp
  rw [after0_8]
  by_cases h : t.val % 16 = 0
  · rw [outsAt0_A m c t h]
    frame_out
    canon_tiles x hx
    · rw [emb8 t y x 3 hx0 hx1]
      exact (out8_3 m c t x).trans (projAt_3 ..).symm
    · rw [emb8 t y x 2 hx0 hx1]
      exact (zero1 x).trans (projAt_2 ..).symm
    · rw [emb8 t y x 1 hx0 hx1]
      exact (out8_1 m c t x).trans (projAt_1 ..).symm
    · rw [emb8 t y x 0 hx0 (by simpa using hx1)]
      exact (zero14 x).trans (projAt_0 ..).symm
  · rw [outsAt0_B m c t h]
    frame_out
    canon_tiles x hx
    · rw [emb8 t y x 3 hx0 hx1]
      exact (out8_3 m c t x).trans (projAt_3 ..).symm
    · rw [emb8 t y x 2 hx0 hx1]
      exact (zero1 x).trans (projAt_2 ..).symm
    · rw [emb8 t y x 1 hx0 hx1]
      exact (out8_1 m c t x).trans (projAt_1 ..).symm
    · rw [emb8 t y x 0 hx0 (by simpa using hx1)]
      exact (zero14 x).trans (projAt_0 ..).symm

theorem final9 (c : Dev nD) : (dats m 0 c).arrAt 9 cfg0.N = gHg (m ((c : Thread nD τ).loc main_arg1))
    (m ((c : Thread nD τ).loc main_arg2)) (m ((c : Thread nD τ).loc main_arg4)) (m ((c : Thread nD τ).loc main_arg5)) := by
  refine (dats m 0 c).arrAt_eq_of_covers 9 _ (by decide +kernel) fun t hf y => ?_
  blk_simp
  rw [after0_9]
  by_cases h : t.val % 16 = 0
  · rw [outsAt0_A m c t h]
    frame_out
    canon_tiles x hx
    · rw [emb9 t y x (up (x 1)) hx0 hx1]
      exact (out9_up m c t x).trans (hgAt_up ..).symm
    · rw [emb9 t y x (lo (x 1)) hx0 hx1]
      exact (out9_lo m c t x).trans (hgAt_lo ..).symm
  · rw [outsAt0_B m c t h]
    frame_out
    canon_tiles x hx
    · rw [emb9 t y x (up (x 1)) hx0 hx1]
      exact (out9_up m c t x).trans (hgAt_up ..).symm
    · rw [emb9 t y x (lo (x 1)) hx0 hx1]
      exact (out9_lo m c t x).trans (hgAt_lo ..).symm

/-- The last tile. -/
def tlast : Fin cfg0.N := ⟨15, by decide⟩

theorem final10 (c : Dev nD) : (dats m 0 c).arrAt 10 cfg0.N = gScale (m ((c : Thread nD τ).loc main_arg0))
    (m ((c : Thread nD τ).loc main_arg1)) (m ((c : Thread nD τ).loc main_arg4)) (m ((c : Thread nD τ).loc main_arg5)) := by
  refine (dats m 0 c).arrAt_eq_of_after_last 10 tlast (by decide +kernel) _ fun y => ?_
  blk_simp
  rw [after0_10, Pipeline.eq_sum_fin_of_reset_step_apply_last (fun n h => (outsAt0 m c n h).2.2.2) 16 (fun _ => 0)
      (fun t y => (∑ r : Fin 256, dpool (m ((c : Thread nD τ).loc main_arg1)) (m ((c : Thread nD τ).loc main_arg4))
        (m ((c : Thread nD τ).loc main_arg5)) (row t r) (y 1) * m ((c : Thread nD τ).loc main_arg0) (ix2 (row t r) (y 1)) : EReal))
      (fun t h j => by rw [outsAt0_A m c t h]; frame_out; rw [out10, zero5])
      (fun t h j => by rw [outsAt0_B m c t h]; frame_out; rw [out10])
      (le_of_eq N_0) tlast rfl]
  rw [zero_add]
  exact Fin.sum_mul_add_fin 16 256 (fun r : Fin 4096 => (dpool (m ((c : Thread nD τ).loc main_arg1))
    (m ((c : Thread nD τ).loc main_arg4)) (m ((c : Thread nD τ).loc main_arg5)) r (y 1)
      * m ((c : Thread nD τ).loc main_arg0) (ix2 r (y 1)) : EReal)) rfl

/-- The run with the four result arrays at their functions of the arguments. -/
theorem run : θ_run defs (onTc (τ := τ) (main (F := Ideal))) ⟨m, fun _ => 0, ρ⟩ fun r => ∀ c : Dev nD,
      r.2.mem ((c : Thread nD τ).loc main_v0_0) = gMixed (m ((c : Thread nD τ).loc main_arg1))
        (m ((c : Thread nD τ).loc main_arg3)) (m ((c : Thread nD τ).loc main_arg4)) (m ((c : Thread nD τ).loc main_arg5))
      ∧ r.2.mem ((c : Thread nD τ).loc main_v0_1) = gProj (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_v0_2) = gHg (m ((c : Thread nD τ).loc main_arg1))
        (m ((c : Thread nD τ).loc main_arg2)) (m ((c : Thread nD τ).loc main_arg4)) (m ((c : Thread nD τ).loc main_arg5))
      ∧ r.2.mem ((c : Thread nD τ).loc main_v0_3) = gScale (m ((c : Thread nD τ).loc main_arg0))
        (m ((c : Thread nD τ).loc main_arg1)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final7 m c), (h c).2.1.trans (final8 m c), (h c).2.2.1.trans (final9 m c),
    (h c).2.2.2.1.trans (final10 m c), (h c).2.2.2.2⟩) (Cert.GateIdeal.Value.run_blocks m ρ)

end Cert.Gates

end
-- ==== Proof.Gate.Reference.lean ====
/- The gates' gradient: the reference's four results are the call's. -/
module

public import proofs.«01_k».proof.Proof.Gate.Kernel
public import proofs.«01_k».proof.Proof.Gen.GateRefIdeal.Read

@[expose] public section

set_option maxRecDepth 16384

noncomputable section

namespace Cert.Gates

open Idealize.ShloMosaic Cert.GateRefIdeal Cert.GateRefIdeal.Read Cert.Common

variable (x0 : FVec Ideal S4096x1024 .f32) (x1 : FVec Ideal S4096x4096 .f32) (x2 : FVec Ideal S4096x2048 .f32)
  (x3 : FVec Ideal S1x1024 .f32) (x4 : FVec Ideal S2048x2048 .bf16) (x5 : FVec Ideal S4096x2048 .bf16)

section

variable (r : Fin 4096) (l : Fin 1024)

theorem v4 : val_main_v4 (F := Ideal) x1 (ix2 r l) = x1 (ix2 r (blk 1 l)) := by
  unfold val_main_v4
  pointwise
  rfl

theorem v19 : val_main_v19 (F := Ideal) x1 (ix2 r l) = x1 (ix2 r (blk 3 l)) := by
  unfold val_main_v19
  pointwise
  rfl

theorem v7 : val_main_v7 (F := Ideal) x2 (ix2 r l) = x2 (ix2 r (lo l)) := by
  unfold val_main_v7
  pointwise
  rfl

theorem v5_2 : val_main_v5_2 (F := Ideal) x1 (ix2 r l) = sg (x1 (ix2 r (blk 1 l))) := by
  rw [← v4 x1 r l]
  unfold val_main_v5_2 val_main_call0_v4 val_main_call0_v3 val_main_call0_v2 val_main_call0_v1 val_main_call0_v0 val_main_call0_cst
    val_main_call0_cst_0
  generalize val_main_v4 (F := Ideal) x1 = a
  pointwise
  exact sg_neg _

theorem v20_2 : val_main_v20_2 (F := Ideal) x1 (ix2 r l) = sg (x1 (ix2 r (blk 3 l))) := by
  rw [← v19 x1 r l]
  unfold val_main_v20_2 val_main_call1_v4 val_main_call1_v3 val_main_call1_v2 val_main_call1_v1 val_main_call1_v0 val_main_call1_cst
    val_main_call1_cst_0
  generalize val_main_v19 (F := Ideal) x1 = a
  pointwise
  exact sg_neg _

theorem v14 : val_main_v14 (F := Ideal) x2 (ix2 r l) = sg (x2 (ix2 r (up l))) := by
  unfold val_main_v14 val_main_v13 val_main_v12 val_main_v11 val_main_v10 val_main_v9 val_main_v8 val_main_cst val_main_cst_0
  pointwise
  exact sg_neg _

theorem v26 (k : Fin 2048) : val_main_v26 (F := Ideal) x4 x5 (ix2 r k) = dcat x4 x5 r k := by
  unfold val_main_v26 val_main_v25 val_main_v23
  pointwise
  rfl

theorem v27 : val_main_v27 (F := Ideal) x4 x5 (ix2 r l) = dcat x4 x5 r (lo l) := by
  rw [← v26]
  unfold val_main_v27
  pointwise
  rfl

theorem v28 : val_main_v28 (F := Ideal) x4 x5 (ix2 r l) = dcat x4 x5 r (up l) := by
  rw [← v26]
  unfold val_main_v28
  pointwise
  rfl

theorem v30 : val_main_v30 (F := Ideal) x1 x4 x5 (ix2 r l) = dssm x1 x4 x5 r l := by
  rw [val_main_v30_apply, v28, val_main_v20_0_apply, v19, v20_2]
  rfl

theorem v40 : val_main_v40 (F := Ideal) x1 x4 x5 (ix2 r l) = dpool x1 x4 x5 r l := by
  rw [val_main_v40_apply, v27, val_main_v5_0_apply, v4, v5_2]
  rfl

theorem v51_eq : val_main_v51 (F := Ideal) x1 x3 x4 x5 = gMixed x1 x3 x4 x5 := by
  funext i
  idx_vars i
  have e := v40 x1 x4 x5 i0 i1
  unfold val_main_v51 val_main_v48 val_main_v47 val_main_v1 val_main_v0
  generalize val_main_v40 (F := Ideal) x1 x4 x5 = a at e ⊢
  pointwise
  rw [e]
  rfl

theorem v50_eq : val_main_v50 (F := Ideal) x0 x1 x4 x5 = gScale x0 x1 x4 x5 := by
  funext i
  idx_vars i
  have e := fun s => v40 x1 x4 x5 s i1
  unfold val_main_v50 val_main_v49 val_main_v46 val_main_v45 val_main_v44 val_main_cst_6 val_main_cst_7
  generalize val_main_v40 (F := Ideal) x1 x4 x5 = a at e ⊢
  pointwise
  rw [Fin.sum_univ_one]
  exact Finset.sum_congr rfl fun s _ => by rw [e, mul_comm]; rfl

theorem dcat_isR (h4 : ∀ i, IsR (x4 i)) (h5 : ∀ i, IsR (x5 i)) (k : Fin 2048) : IsR (dcat x4 x5 r k) :=
  IsR.sum _ fun _ => (h5 _).mul (h4 _)

theorem v31 (h2 : ∀ i, IsR (x2 i)) (h4 : ∀ i, IsR (x4 i)) (h5 : ∀ i, IsR (x5 i)) :
    val_main_v31 (F := Ideal) x1 x2 x4 x5 (ix2 r l) = gateB x1 x2 x4 x5 r l := by
  have hy : IsR (dcat x4 x5 r (up l) * x2 (ix2 r (lo l)) * sg (x2 (ix2 r (up l)))) :=
    ((dcat_isR x4 x5 r h4 h5 _).mul (h2 _)).mul (isR_sg _)
  have e29 : val_main_v29 (F := Ideal) x2 x4 x5 (ix2 r l) = (dcat x4 x5 r (up l) * x2 (ix2 r (lo l)) * sg (x2 (ix2 r (up l))) : EReal) := by
    rw [val_main_v29_apply, val_main_v18_apply, v7, v14, v28]
    show (x2 (ix2 r (lo l)) * sg (x2 (ix2 r (up l))) * dcat x4 x5 r (up l) : EReal) = _
    rw [mul_comm, mul_assoc]
  unfold gateB
  rw [silu_grad hy]
  unfold val_main_v31 val_main_call2_v1 val_main_call2_v2 val_main_call2_v0 val_main_v20_1 val_main_call1_v7 val_main_call1_v6
    val_main_call1_cst_1
  have e19 := v19 x1 r l
  have e20 := v20_2 x1 r l
  generalize val_main_v29 (F := Ideal) x2 x4 x5 = a at e29 ⊢
  generalize val_main_v19 (F := Ideal) x1 = b at e19 ⊢
  generalize val_main_v20_2 (F := Ideal) x1 = d at e20 ⊢
  pointwise
  rw [e29, e19, e20]

theorem v41 (h0 : ∀ i, IsR (x0 i)) (h3 : ∀ i, IsR (x3 i)) (h4 : ∀ i, IsR (x4 i)) (h5 : ∀ i, IsR (x5 i)) :
    val_main_v41 (F := Ideal) x0 x1 x3 x4 x5 (ix2 r l) = gateA x0 x1 x3 x4 x5 r l := by
  have hy : IsR (dcat x4 x5 r (lo l) * x0 (ix2 r l) * x3 (ix2 (0 : Fin 1) l)) :=
    ((dcat_isR x4 x5 r h4 h5 _).mul (h0 _)).mul (h3 _)
  have e39 : val_main_v39 (F := Ideal) x0 x3 x4 x5 (ix2 r l) = (dcat x4 x5 r (lo l) * x0 (ix2 r l) * x3 (ix2 (0 : Fin 1) l) : EReal) := by
    have e2 : val_main_v2 (F := Ideal) x3 (ix2 r l) = x3 (ix2 (0 : Fin 1) l) := by
      unfold val_main_v2 val_main_v1 val_main_v0
      pointwise
    rw [val_main_v39_apply, val_main_v3_apply, v27, e2]
    show (x0 (ix2 r l) * x3 (ix2 (0 : Fin 1) l) * dcat x4 x5 r (lo l) : EReal) = _
    rw [mul_comm, mul_assoc]
  unfold gateA
  rw [silu_grad hy]
  unfold val_main_v41 val_main_call3_v1 val_main_call3_v2 val_main_call3_v0 val_main_v5_1 val_main_call0_v7 val_main_call0_v6
    val_main_call0_cst_1
  have e19 := v4 x1 r l
  have e20 := v5_2 x1 r l
  generalize val_main_v39 (F := Ideal) x0 x3 x4 x5 = a at e39 ⊢
  generalize val_main_v4 (F := Ideal) x1 = b at e19 ⊢
  generalize val_main_v5_2 (F := Ideal) x1 = d at e20 ⊢
  pointwise
  rw [e39, e19, e20]

theorem v34 : val_main_v34 (F := Ideal) x1 x2 x4 x5 (ix2 r l) = (dssm x1 x4 x5 r l * sg (x2 (ix2 r (up l))) : EReal) := by
  rw [val_main_v34_apply, v30, v14]
  rfl

theorem v35 : val_main_v35 (F := Ideal) x1 x2 x4 x5 (ix2 r l) = hgUp x1 x2 x4 x5 r l := by
  have e33 : val_main_v33 (F := Ideal) x1 x2 x4 x5 (ix2 r l) = (x2 (ix2 r (lo l)) * dssm x1 x4 x5 r l : EReal) := by
    rw [val_main_v33_apply, v7, v30]
    rfl
  have e14 := v14 x2 r l
  unfold val_main_v35 val_main_v17 val_main_v16 val_main_v15 val_main_cst_1
  generalize val_main_v33 (F := Ideal) x1 x2 x4 x5 = a at e33 ⊢
  generalize val_main_v14 (F := Ideal) x2 = b at e14 ⊢
  pointwise
  rw [e33, e14, hgUp, mul_comm (x2 _ : EReal), ← mul_assoc]

end

theorem v53_eq : val_main_v53 (F := Ideal) x1 x2 x4 x5 = gHg x1 x2 x4 x5 := by
  funext i
  idx_vars i
  have e34 := fun l => v34 x1 x2 x4 x5 i0 l
  have e35 := fun l => v35 x1 x2 x4 x5 i0 l
  show _ = hgAt x1 x2 x4 x5 i0 i1
  unfold val_main_v53 val_main_v38 val_main_v36 val_main_v37 hgAt
  unfold val_main_cst_3 val_main_cst_4
  generalize val_main_v34 (F := Ideal) x1 x2 x4 x5 = a at e34 ⊢
  generalize val_main_v35 (F := Ideal) x1 x2 x4 x5 = b at e35 ⊢
  pointwise
  by_cases h : i1.val < 1024
  · rw [dif_neg (by omega), dif_pos h, dif_pos h, zero_add, e34]
  · rw [dif_pos (by omega), dif_neg h, dif_neg h, add_zero, e35]

theorem v52_eq (h0 : ∀ i, IsR (x0 i)) (h2 : ∀ i, IsR (x2 i)) (h3 : ∀ i, IsR (x3 i)) (h4 : ∀ i, IsR (x4 i)) (h5 : ∀ i, IsR (x5 i)) :
    val_main_v52 (F := Ideal) x0 x1 x2 x3 x4 x5 = gProj x0 x1 x2 x3 x4 x5 := by
  funext i
  idx_vars i
  have e31 := fun l => v31 x1 x2 x4 x5 i0 l h2 h4 h5
  have e41 := fun l => v41 x0 x1 x3 x4 x5 i0 l h0 h3 h4 h5
  show _ = projAt x0 x1 x2 x3 x4 x5 i0 i1
  unfold val_main_v52 val_main_v43 val_main_v42 val_main_v32 projAt
  unfold val_main_cst_2 val_main_cst_5
  generalize val_main_v41 (F := Ideal) x0 x1 x3 x4 x5 = a at e41 ⊢
  generalize val_main_v31 (F := Ideal) x1 x2 x4 x5 = b at e31 ⊢
  pointwise
  by_cases h : 3072 ≤ i1.val
  · rw [dif_pos (by omega), dif_neg (by omega), dif_pos h, add_zero, e31]
  · rw [dif_neg (by omega), dif_neg h, zero_add]
    by_cases h' : 1024 ≤ i1.val ∧ i1.val < 2048
    · rw [dif_pos (by omega), dif_pos h', e41]
    · rw [dif_neg (by omega), dif_neg h']

end Cert.Gates

end
-- ==== Proof.Gate.Claims.lean ====
/- The claims about the gates' gradient. -/
module

public import proofs.«01_k».proof.Defs
public import proofs.«01_k».proof.Proof.Gen.Gate.Frame
public import proofs.«01_k».proof.Proof.Gen.GateRefIdeal.Run
public import proofs.«01_k».proof.Proof.Gate.Array
public import proofs.«01_k».proof.Proof.Gate.Reference
public import Idealize.ShloMosaic.Adequacy
public import Idealize.ShloMosaic.Init

@[expose] public section

set_option maxRecDepth 16384

noncomputable section

namespace Cert.Gates

open Idealize.ShloMosaic Cert.Common
open Idealize.ShloMosaic.TcCoe Idealize.SL.Sem

instance preFacts : Cert.Pre_finite_gate.Facts where
  bcast_S_S4096x1024 := by decide
  bcast_S_S4096x2048 := by decide
  bcast_S_S1x1024 := by decide
  bitsLt_bf16_f32 := by decide
  bcast_S_S2048x2048 := by decide

theorem frame_kernel : Cert.quiescent_Gate := fun m ρ _ => Cert.Gate.Gen.frame m ρ

theorem frame_ideal : Cert.quiescent_GateIdeal := fun m ρ _ => Cert.GateIdeal.Gen.frame m ρ

theorem frame_ideal_pre : Cert.quiescent_GateIdeal_pre_finite_gate := fun m ρ _ => Cert.GateIdeal.Gen.frame m ρ

theorem frame_reference : Cert.quiescent_GateRefIdeal := fun m ρ _ =>
  (θ_run Cert.GateRefIdeal.defs _ _).mono
    (fun r h => ⟨fun c => (h c).2.2.2.2, sem_eq_zero_of_no_sems (by decide) r.2⟩)
    (Cert.GateRefIdeal.Value.run (F := Ideal) m ρ)

theorem frame_reference_pre : Cert.quiescent_GateRefIdeal_pre_finite_gate := fun m ρ _ => frame_reference m ρ trivial

open Cert.GateRefIdeal.Read in
theorem algebraic : Cert.algebraic_GateIdeal_GateRefIdeal_pre_finite_gate := by
  intro m ρ m' ρ' hpre hagree
  refine ⟨_, _, _, _, run m ρ, ?_⟩
  refine (θ_run Cert.GateRefIdeal.defs _ _).mono (fun r h c => ?_) (Cert.GateRefIdeal.Value.run (F := Ideal) m' ρ')
  obtain ⟨r0, r1, r2, r3, rest⟩ := h c
  obtain ⟨e0, e1, e2, e3, e4, e5⟩ := hagree c
  obtain ⟨p0, p2, p3, p4, p5⟩ := hpre c
  have h0 := isR_of_cmp _ _ _ (fun _ => rfl) p0
  have h2 := isR_of_cmp _ _ _ (fun _ => rfl) p2
  have h3 := isR_of_cmp _ _ _ (fun _ => rfl) p3
  have h4 := isR_of_cmp _ _ _ (fun _ => rfl) p4
  have h5 := isR_of_cmp _ _ _ (fun _ => rfl) p5
  refine ⟨r0.trans ((val_main_v51_eq (F := Ideal) _ _ _ _).trans ?_), r1.trans ((val_main_v52_eq (F := Ideal) m' c).trans ?_),
    r2.trans ((val_main_v53_eq (F := Ideal) _ _ _ _).trans ?_), r3.trans ((val_main_v50_eq (F := Ideal) _ _ _ _).trans ?_), rest⟩
  · rw [e1, e3, e4, e5]
    exact v51_eq _ _ _ _
  · rw [e0, e1, e2, e3, e4, e5]
    exact v52_eq _ _ _ _ _ _ h0 h2 h3 h4 h5
  · rw [e1, e2, e4, e5]
    exact v53_eq _ _ _ _
  · rw [e0, e1, e4, e5]
    exact v50_eq _ _ _ _

end Cert.Gates

end
-- ==== Proof.Common.Rms.lean ====
/- The root-mean-square norm of a row of 2048 over the extended reals, and the two spellings of its gradient. -/
module

public import proofs.«01_k».proof.Proof.Common.Logistic

@[expose] public section

noncomputable section

namespace Cert.Common

open Idealize.ShloMosaic

/-- The constants of the norm: the row's length, the offset under the root, and minus a half. -/
def c2048 : EReal := Ideal.ofBits .f32 0x45000000#32
def eps : EReal := Ideal.ofBits .f32 0x358637BD#32
def mhalf : EReal := Ideal.ofBits .f32 0xBF000000#32

theorem c2048_eq : c2048 = ((2048 : ℝ) : EReal) := by
  simp [c2048, Ideal.ofBits, Ideal.ieee, -EReal.coe_mul]; norm_num

theorem mhalf_eq : mhalf = ((-1 / 2 : ℝ) : EReal) := by
  simp [mhalf, Ideal.ofBits, Ideal.ieee, -EReal.coe_mul, -EReal.coe_neg]; norm_num

theorem eps_eq : ∃ e : ℝ, 0 < e ∧ eps = (e : EReal) := by
  refine ⟨8796093 * 2 ^ (-43 : Int), by positivity, ?_⟩
  simp [eps, Ideal.ofBits, Ideal.ieee, -EReal.coe_mul]

/-- The mean of the squares, with the offset. -/
def msq (f : Fin 2048 → EReal) : EReal := Ideal.div (∑ k, f k * f k) c2048 + eps

/-- The row's factor. -/
def rms (f : Fin 2048 → EReal) : EReal := Ideal.rsqrt (msq f)

/-- The gradient through the row's norm, as the kernels have it. -/
def rmsGrad (f d : Fin 2048 → EReal) (k : Fin 2048) : EReal :=
  rms f * (d k - f k * rms f * Ideal.div (∑ j, d j * (f j * rms f)) c2048)

/-- What the reference's product rule multiplies the row by, twice. -/
def rmsTail (f d : Fin 2048 → EReal) : EReal :=
  Ideal.div ((∑ j, f j * d j) * (mhalf * Ideal.div (rms f) (msq f))) c2048

/-- A real row: its mean square with the offset is a positive real, and its factor the inverse of that one's root. -/
theorem rms_real {f : Fin 2048 → EReal} (hf : ∀ k, IsR (f k)) : ∃ t r : ℝ, 0 < t ∧ r * r * t = 1 ∧ msq f = t ∧ rms f = r := by
  obtain ⟨e, he, ee⟩ := eps_eq
  have hs : 0 ≤ ∑ k, (f k).toReal * (f k).toReal := Finset.sum_nonneg fun k _ => mul_self_nonneg _
  have hm : msq f = (((∑ k, (f k).toReal * (f k).toReal) / 2048 + e : ℝ) : EReal) := by
    rw [msq, sum_mul_coe _ hf hf, c2048_eq, div_coe _ _ (by norm_num), ee, EReal.coe_add]
  have ht : 0 < (∑ k, (f k).toReal * (f k).toReal) / 2048 + e := by positivity
  refine ⟨_, (Real.sqrt ((∑ k, (f k).toReal * (f k).toReal) / 2048 + e))⁻¹, ht, ?_, hm, ?_⟩
  · have h := Real.mul_self_sqrt ht.le
    have h0 := (Real.sqrt_pos.mpr ht).ne'
    rw [← mul_inv, h, inv_mul_cancel₀ ht.ne']
  · rw [rms, hm, Ideal.rsqrt_coe, if_neg (not_lt.mpr ht.le), if_neg ht.ne']

theorem isR_rms {f : Fin 2048 → EReal} (hf : ∀ k, IsR (f k)) : IsR (rms f) := by
  obtain ⟨_, r, _, _, _, h⟩ := rms_real hf
  exact ⟨r, h⟩

/-- The two spellings of the gradient, whatever they are added to. -/
theorem rms_grad (z : EReal) {f d : Fin 2048 → EReal} (hf : ∀ k, IsR (f k)) (hd : ∀ k, IsR (d k)) (k : Fin 2048) :
    z + d k * rms f + f k * rmsTail f d + rmsTail f d * f k = z + rmsGrad f d k := by
  obtain ⟨t, r, ht, hr, em, er⟩ := rms_real hf
  have e1 : ∑ j, d j * (f j * rms f) = ((∑ j, (d j).toReal * ((f j).toReal * r) : ℝ) : EReal) := by
    rw [coe_sum]
    exact Finset.sum_congr rfl fun j _ => by rw [er, EReal.coe_mul, EReal.coe_mul, (hd j).toReal, (hf j).toReal]
  have e2 : ∑ j, (d j).toReal * ((f j).toReal * r) = (∑ j, (f j).toReal * (d j).toReal) * r := by
    rw [Finset.sum_mul]
    exact Finset.sum_congr rfl fun j _ => by ring
  have et : rmsTail f d = (((∑ j, (f j).toReal * (d j).toReal) * (-1 / 2 * (r / t)) / 2048 : ℝ) : EReal) := by
    rw [rmsTail, em, er, sum_mul_coe _ hf hd, mhalf_eq, div_coe _ _ ht.ne', ← EReal.coe_mul, ← EReal.coe_mul, c2048_eq,
      div_coe _ _ (by norm_num)]
  rw [et, rmsGrad, e1, e2, er, c2048_eq, div_coe _ _ (by norm_num), ← (hd k).toReal, ← (hf k).toReal]
  generalize ∑ j, (f j).toReal * (d j).toReal = s
  generalize (d k).toReal = a
  generalize (f k).toReal = b
  rw [add_assoc, add_assoc]
  congr 1
  simp only [← EReal.coe_mul, ← EReal.coe_add, ← EReal.coe_sub]
  refine congrArg _ ?_
  have : r / t = r * r * r := by
    rw [div_eq_iff ht.ne']
    linear_combination -r * hr
  rw [this]
  ring

end Cert.Common

end
-- ==== Proof.Norm.Kernel.lean ====
/- The first norm's gradient: what the pipelined call leaves in its two result arrays, as functions of its argument arrays. -/
module

public import Idealize.ShloMosaic.Lib.Pipeline.ValueKit.Tiles
public import Idealize.ShloMosaic.Lib.Pipeline.ValueKit.Geometry
public import proofs.«01_k».proof.Proof.Common.Rms
public import proofs.«01_k».proof.Proof.Gen.NormIdeal.Value

@[expose] public section

set_option maxRecDepth 16384

noncomputable section

namespace Cert.Norms

open Idealize.ShloMosaic Cert.NormIdeal Cert.NormIdeal.Gen Cert.Common
open Idealize.ShloMosaic.TcCoe Idealize.SL.Sem

section

variable (x : FVec Ideal S4096x2048 .f32) (gain : FVec Ideal S1x2048 .f32) (w : FVec Ideal S2048x4096 .bf16)
  (dh : FVec Ideal S4096x2048 .f32) (dproj : FVec Ideal S4096x4096 .bf16)

/-- A row of the input. -/
def line (r : Fin 4096) (k : Fin 2048) : EReal := x (ix2 r k)

/-- The normalised input's cotangent: the projection's, through its weights. -/
def dnorm (r : Fin 4096) (k : Fin 2048) : EReal := ∑ j : Fin 4096, dproj (ix2 r j) * w (ix2 k j)

/-- The same through the gain. -/
def dhat (r : Fin 4096) (k : Fin 2048) : EReal := dnorm w dproj r k * gain (ix2 (0 : Fin 1) k)

def gX : FVec Ideal S4096x2048 .f32 := fun i =>
  ((dh i : EReal) + rmsGrad (line x (i 0)) (dhat gain w dproj (i 0)) (i 1) : EReal)

def gGain : FVec Ideal S1x2048 .f32 := fun i =>
  (∑ r : Fin 4096, dnorm w dproj r (i 1) * (line x r (i 1) * rms (line x r)) : EReal)

end

variable (m : (ℓ : Loc nD τ sig) → Buf (Elt Ideal) ℓ) (ρ : Dev nD → PrngReg)

theorem idx_facts : ∀ t : Fin cfg0.N, win0_0.index t = ![t.val, 0] ∧ win0_1.index t = ![0, 0] ∧ win0_2.index t = ![t.val, 0]
    ∧ win0_3.index t = ![t.val, 0] ∧ win0_4.index t = ![0, 0] ∧ win0_6.index t = ![t.val, 0] ∧ win0_7.index t = ![0, 0] :=
  (by decide +kernel : ∀ t : Fin grid0.N, _)

/-- The array's row that a tile's row is. -/
def row (t : Fin cfg0.N) (r : Fin 256) : Fin 4096 :=
  ⟨t.val * 256 + r.val, by have := t.isLt; have := r.isLt; have h : cfg0.N = 16 := N_0; omega⟩

section

variable (c : Dev nD) (t : Fin cfg0.N)

theorem blk0 (r : Fin 256) (k : Fin 4096) : iblk m c 0 t (ix2 r k) = m ((c : Thread nD τ).loc main_arg4) (ix2 (row t r) k) := by
  obtain ⟨e, _⟩ := idx_facts t
  blk_ext [iblk, V_main_arg4, e, row]

theorem blk1 (r : Fin 2048) (k : Fin 4096) : iblk m c 1 t (ix2 r k) = m ((c : Thread nD τ).loc main_arg2) (ix2 r k) := by
  obtain ⟨_, e, _⟩ := idx_facts t
  blk_ext [iblk, V_main_arg2, e]

theorem blk2 (r : Fin 256) (k : Fin 2048) : iblk m c 2 t (ix2 r k) = line (m ((c : Thread nD τ).loc main_arg0)) (row t r) k := by
  obtain ⟨_, _, e, _⟩ := idx_facts t
  unfold line
  blk_ext [iblk, V_main_arg0, e, row]

theorem blk3 (r : Fin 256) (k : Fin 2048) : iblk m c 3 t (ix2 r k) = m ((c : Thread nD τ).loc main_arg3) (ix2 (row t r) k) := by
  obtain ⟨_, _, _, e, _⟩ := idx_facts t
  blk_ext [iblk, V_main_arg3, e, row]

theorem blk4 (k : Fin 2048) : iblk m c 4 t (ix2 (0 : Fin 1) k) = m ((c : Thread nD τ).loc main_arg1) (ix2 (0 : Fin 1) k) := by
  obtain ⟨_, _, _, _, e, _⟩ := idx_facts t
  blk_ext [iblk, V_main_arg1, e]

theorem pay4 (r : Fin 256) (u : Fin 1) :
    k0_pay4 (F := Ideal) (iblk m c 2 t) (ix2 r u) = rms (line (m ((c : Thread nD τ).loc main_arg0)) (row t r)) := by
  have e := fun k => blk2 m c t r k
  generalize iblk m c 2 t = a at e ⊢
  pointwise [k0_pay4]
  simp only [e]
  rfl

theorem pay5 (r : Fin 256) (k : Fin 2048) : k0_pay5 (F := Ideal) (iblk m c 2 t) (ix2 r k)
    = line (m ((c : Thread nD τ).loc main_arg0)) (row t r) k * rms (line (m ((c : Thread nD τ).loc main_arg0)) (row t r)) := by
  have e := blk2 m c t r k
  have e4 := pay4 m c t r 0
  unfold k0_pay5
  generalize k0_pay4 (F := Ideal) (iblk m c 2 t) = b at e4 ⊢
  generalize iblk m c 2 t = a at e ⊢
  pointwise
  rw [e, e4]

theorem pay3 (r : Fin 256) (k : Fin 2048) : k0_pay3 (F := Ideal) (iblk m c 0 t) (iblk m c 1 t) (ix2 r k)
    = dnorm (m ((c : Thread nD τ).loc main_arg2)) (m ((c : Thread nD τ).loc main_arg4)) (row t r) k := by
  unfold dnorm
  rw [← Finset.sum_congr rfl fun x _ => congrArg₂ (fun u v : EReal => u * v) (blk0 m c t r x) (blk1 m c t k x)]
  generalize iblk m c 0 t = a
  generalize iblk m c 1 t = b
  pointwise [k0_pay3]

theorem pay7 (r : Fin 256) (k : Fin 2048) : k0_pay7 (F := Ideal) (iblk m c 0 t) (iblk m c 1 t) (iblk m c 4 t) (ix2 r k)
    = dhat (m ((c : Thread nD τ).loc main_arg1)) (m ((c : Thread nD τ).loc main_arg2)) (m ((c : Thread nD τ).loc main_arg4))
      (row t r) k := by
  have e := pay3 m c t r k
  have e4 := blk4 m c t k
  unfold k0_pay7
  generalize iblk m c 4 t = b at e4 ⊢
  generalize k0_pay3 (F := Ideal) (iblk m c 0 t) (iblk m c 1 t) = a at e ⊢
  pointwise
  rw [e, e4]
  rfl

theorem out6 (y : S256x2048.Idx) : k0_pay1 (F := Ideal) (k0_pay4 (iblk m c 2 t)) (k0_pay5 (iblk m c 2 t))
      (k0_pay7 (iblk m c 0 t) (iblk m c 1 t) (iblk m c 4 t)) (iblk m c 3 t)
      (k0_pay8 (iblk m c 0 t) (iblk m c 1 t) (iblk m c 2 t) (iblk m c 4 t)) y
    = gX (m ((c : Thread nD τ).loc main_arg0)) (m ((c : Thread nD τ).loc main_arg1)) (m ((c : Thread nD τ).loc main_arg2))
      (m ((c : Thread nD τ).loc main_arg3)) (m ((c : Thread nD τ).loc main_arg4))
      (((View.whole main_v1_0).slice (win0_6.rect t)).emb y) := by
  idx_vars y
  have he : ((View.whole main_v1_0).slice (win0_6.rect t)).emb (ix2 y0 y1) = ix2 (row t y0) y1 := by
    obtain ⟨_, _, _, _, _, e, _⟩ := idx_facts t
    blk_ext [e, row]
  rw [he]
  have e3 := blk3 m c t y0 y1
  have e4 := pay4 m c t y0 0
  have e5 := fun k => pay5 m c t y0 k
  have e7 := fun k => pay7 m c t y0 k
  unfold k0_pay8
  generalize iblk m c 3 t = a3 at e3 ⊢
  generalize k0_pay4 (F := Ideal) (iblk m c 2 t) = a4 at e4 ⊢
  generalize k0_pay5 (F := Ideal) (iblk m c 2 t) = a5 at e5 ⊢
  generalize k0_pay7 (F := Ideal) (iblk m c 0 t) (iblk m c 1 t) (iblk m c 4 t) = a7 at e7 ⊢
  pointwise [k0_pay1]
  rw [e3, e4]
  simp only [e5, e7]
  rfl

theorem out7 (p : FVec Ideal S1x2048 .f32) (y : S1x2048.Idx) :
    k0_pay6 (F := Ideal) (iblk m c 0 t) (iblk m c 1 t) (iblk m c 2 t) p y
    = (p y : EReal) + ∑ r : Fin 256, dnorm (m ((c : Thread nD τ).loc main_arg2)) (m ((c : Thread nD τ).loc main_arg4)) (row t r) (y 1)
      * (line (m ((c : Thread nD τ).loc main_arg0)) (row t r) (y 1) * rms (line (m ((c : Thread nD τ).loc main_arg0)) (row t r))) := by
  idx_vars y
  have e3 := fun r => pay3 m c t r y1
  have e5 := fun r => pay5 m c t r y1
  unfold k0_pay6
  generalize k0_pay3 (F := Ideal) (iblk m c 0 t) (iblk m c 1 t) = a at e3 ⊢
  generalize k0_pay5 (F := Ideal) (iblk m c 2 t) = b at e5 ⊢
  pointwise
  exact congrArg _ (Finset.sum_congr rfl fun r _ => by rw [e3, e5])

theorem zero2 (y : S1x2048.Idx) : k0_pay2 (F := Ideal) y = (0 : EReal) := by
  idx_vars y
  pointwise [k0_pay2]

end

theorem final6 (c : Dev nD) : (dats m 0 c).arrAt 6 cfg0.N = gX (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t hf y => ?_
  blk_simp
  rw [after0_6]
  by_cases h : t.val % 16 = 0
  · rw [outsAt0_A m c t h]
    frame_out
    exact out6 m c t y
  · rw [outsAt0_B m c t h]
    frame_out
    exact out6 m c t y

/-- The last tile. -/
def tlast : Fin cfg0.N := ⟨15, by decide⟩

theorem final7 (c : Dev nD) : (dats m 0 c).arrAt 7 cfg0.N = gGain (m ((c : Thread nD τ).loc main_arg0))
    (m ((c : Thread nD τ).loc main_arg2)) (m ((c : Thread nD τ).loc main_arg4)) := by
  refine (dats m 0 c).arrAt_eq_of_after_last 7 tlast (by decide +kernel) _ fun y => ?_
  blk_simp
  rw [after0_7, Pipeline.eq_sum_fin_of_reset_step_apply_last (fun n h => (outsAt0 m c n h).2) 16 (fun _ => 0)
      (fun t y => (∑ r : Fin 256, dnorm (m ((c : Thread nD τ).loc main_arg2)) (m ((c : Thread nD τ).loc main_arg4)) (row t r) (y 1)
        * (line (m ((c : Thread nD τ).loc main_arg0)) (row t r) (y 1) * rms (line (m ((c : Thread nD τ).loc main_arg0)) (row t r))) : EReal))
      (fun t h j => by rw [outsAt0_A m c t h]; frame_out; rw [out7, zero2])
      (fun t h j => by rw [outsAt0_B m c t h]; frame_out; rw [out7])
      (le_of_eq N_0) tlast rfl]
  rw [zero_add]
  exact Fin.sum_mul_add_fin 16 256 (fun r : Fin 4096 => (dnorm (m ((c : Thread nD τ).loc main_arg2))
    (m ((c : Thread nD τ).loc main_arg4)) r (y 1) * (line (m ((c : Thread nD τ).loc main_arg0)) r (y 1)
      * rms (line (m ((c : Thread nD τ).loc main_arg0)) r)) : EReal)) rfl

/-- The run with the two result arrays at their functions of the arguments. -/
theorem run : θ_run defs (onTc (τ := τ) (main (F := Ideal))) ⟨m, fun _ => 0, ρ⟩ fun r => ∀ c : Dev nD,
      r.2.mem ((c : Thread nD τ).loc main_v1_0) = gX (m ((c : Thread nD τ).loc main_arg0))
        (m ((c : Thread nD τ).loc main_arg1)) (m ((c : Thread nD τ).loc main_arg2)) (m ((c : Thread nD τ).loc main_arg3))
        (m ((c : Thread nD τ).loc main_arg4))
      ∧ r.2.mem ((c : Thread nD τ).loc main_v1_1) = gGain (m ((c : Thread nD τ).loc main_arg0))
        (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final6 m c), (h c).2.1.trans (final7 m c), (h c).2.2⟩)
    (Cert.NormIdeal.Value.run_blocks m ρ)

end Cert.Norms

end
-- ==== Proof.Norm.Reference.lean ====
/- The first norm's gradient: the reference's two results are the call's. -/
module

public import proofs.«01_k».proof.Proof.Norm.Kernel
public import proofs.«01_k».proof.Proof.Gen.NormRefIdeal.Read

@[expose] public section

set_option maxRecDepth 16384

noncomputable section

namespace Cert.Norms

open Idealize.ShloMosaic Cert.NormRefIdeal Cert.NormRefIdeal.Read Cert.Common

variable (x0 : FVec Ideal S4096x2048 .f32) (x1 : FVec Ideal S1x2048 .f32) (x2 : FVec Ideal S2048x4096 .bf16)
  (x3 : FVec Ideal S4096x2048 .f32) (x4 : FVec Ideal S4096x4096 .bf16)

section

variable (r : Fin 4096)

theorem v7 (u : Fin 1) : val_main_v7 (F := Ideal) x0 (ix2 r u) = msq (line x0 r) := by
  unfold val_main_v7 val_main_v6 val_main_v5 val_main_v4 val_main_v3 val_main_v2 val_main_v1 val_main_cst val_main_cst_1 val_main_cst_0
  pointwise
  rfl

theorem v8 (u : Fin 1) : val_main_v8 (F := Ideal) x0 (ix2 r u) = rms (line x0 r) := by
  rw [val_main_v8_apply, v7]
  rfl

theorem v11 (u : Fin 1) : val_main_v11 (F := Ideal) x0 (ix2 r u) = mhalf * Ideal.div (rms (line x0 r)) (msq (line x0 r)) := by
  have e7 := v7 x0 r u
  have e8 := v8 x0 r u
  unfold val_main_v11 val_main_v10 val_main_v9 val_main_cst_2
  generalize val_main_v7 (F := Ideal) x0 = a at e7 ⊢
  generalize val_main_v8 (F := Ideal) x0 = b at e8 ⊢
  pointwise
  rw [e7, e8]
  rfl

theorem v20 (k : Fin 2048) : val_main_v20 (F := Ideal) x2 x4 (ix2 r k) = dnorm x2 x4 r k := by
  unfold val_main_v20 val_main_v19 val_main_v17
  pointwise
  rfl

theorem v25 (k : Fin 2048) : val_main_v25 (F := Ideal) x1 x2 x4 (ix2 r k) = dhat x1 x2 x4 r k := by
  have e := v20 x2 x4 r k
  unfold val_main_v25 val_main_v24 val_main_v14 val_main_v0
  generalize val_main_v20 (F := Ideal) x2 x4 = a at e ⊢
  pointwise
  rw [e]
  rfl

theorem v36 : val_main_v36 (F := Ideal) x0 x1 x2 x4 (ix1 r) = rmsTail (line x0 r) (dhat x1 x2 x4 r) := by
  have e11 := v11 x0 r 0
  have e25 := fun k => v25 x1 x2 x4 r k
  unfold val_main_v36 val_main_cst_7 val_main_v35 val_main_v34 val_main_v33 val_main_v29 val_main_v28 val_main_cst_6 val_main_v27
    val_main_cst_5
  generalize val_main_v11 (F := Ideal) x0 = a at e11 ⊢
  generalize val_main_v25 (F := Ideal) x1 x2 x4 = b at e25 ⊢
  pointwise
  rw [Fin.sum_univ_one]
  simp only [e25]
  rw [e11]
  rfl

end

theorem dnorm_isR (h2 : ∀ i, IsR (x2 i)) (h4 : ∀ i, IsR (x4 i)) (r : Fin 4096) (k : Fin 2048) : IsR (dnorm x2 x4 r k) :=
  IsR.sum _ fun _ => (h4 _).mul (h2 _)

theorem v41_eq (h0 : ∀ i, IsR (x0 i)) (h1 : ∀ i, IsR (x1 i)) (h2 : ∀ i, IsR (x2 i)) (h4 : ∀ i, IsR (x4 i)) :
    val_main_v41 (F := Ideal) x0 x1 x2 x3 x4 = gX x0 x1 x2 x3 x4 := by
  funext i
  idx_vars i
  have e8 := v8 x0 i0 0
  have e25 := v25 x1 x2 x4 i0 i1
  have e36 := v36 x0 x1 x2 x4 i0
  unfold val_main_v41 val_main_v40 val_main_v39 val_main_v38 val_main_v37 val_main_v32 val_main_v31 val_main_v30
  generalize val_main_v8 (F := Ideal) x0 = a at e8 ⊢
  generalize val_main_v25 (F := Ideal) x1 x2 x4 = b at e25 ⊢
  generalize val_main_v36 (F := Ideal) x0 x1 x2 x4 = d at e36 ⊢
  pointwise
  rw [e8, e25, e36]
  exact rms_grad (x3 (ix2 i0 i1)) (f := line x0 i0) (fun k => h0 _) (fun k => (dnorm_isR x2 x4 h2 h4 i0 k).mul (h1 _)) i1

theorem v42_eq : val_main_v42 (F := Ideal) x0 x2 x4 = gGain x0 x2 x4 := by
  funext i
  idx_vars i
  have e8 := fun r => v8 x0 r 0
  have e20 := fun r => v20 x2 x4 r i1
  unfold val_main_v42 val_main_v26 val_main_v23 val_main_v22 val_main_v21 val_main_v13 val_main_v12 val_main_cst_3 val_main_cst_4
  generalize val_main_v8 (F := Ideal) x0 = a at e8 ⊢
  generalize val_main_v20 (F := Ideal) x2 x4 = b at e20 ⊢
  pointwise
  rw [Fin.sum_univ_one]
  exact Finset.sum_congr rfl fun r _ => by rw [e8, e20, mul_comm]; rfl

end Cert.Norms

end
-- ==== Proof.Norm.Claims.lean ====
/- The claims about the first norm's gradient. -/
module

public import proofs.«01_k».proof.Defs
public import proofs.«01_k».proof.Proof.Gen.Norm.Frame
public import proofs.«01_k».proof.Proof.Gen.NormRefIdeal.Run
public import proofs.«01_k».proof.Proof.Norm.Reference
public import Idealize.ShloMosaic.Adequacy
public import Idealize.ShloMosaic.Init

@[expose] public section

set_option maxRecDepth 16384

noncomputable section

namespace Cert.Norms

open Idealize.ShloMosaic Cert.Common
open Idealize.ShloMosaic.TcCoe Idealize.SL.Sem

instance preFacts : Cert.Pre_finite_norm.Facts where
  bcast_S_S4096x2048 := by decide
  bcast_S_S1x2048 := by decide
  bitsLt_bf16_f32 := by decide
  bcast_S_S2048x4096 := by decide
  bcast_S_S4096x4096 := by decide

theorem frame_kernel : Cert.quiescent_Norm := fun m ρ _ => Cert.Norm.Gen.frame m ρ

theorem frame_ideal : Cert.quiescent_NormIdeal := fun m ρ _ => Cert.NormIdeal.Gen.frame m ρ

theorem frame_ideal_pre : Cert.quiescent_NormIdeal_pre_finite_norm := fun m ρ _ => Cert.NormIdeal.Gen.frame m ρ

theorem frame_reference : Cert.quiescent_NormRefIdeal := fun m ρ _ =>
  (θ_run Cert.NormRefIdeal.defs _ _).mono (fun r h => ⟨fun c => (h c).2.2, sem_eq_zero_of_no_sems (by decide) r.2⟩)
    (Cert.NormRefIdeal.Value.run (F := Ideal) m ρ)

theorem frame_reference_pre : Cert.quiescent_NormRefIdeal_pre_finite_norm := fun m ρ _ => frame_reference m ρ trivial

open Cert.NormRefIdeal.Read in
theorem algebraic : Cert.algebraic_NormIdeal_NormRefIdeal_pre_finite_norm := by
  intro m ρ m' ρ' hpre hagree
  refine ⟨_, _, run m ρ, ?_⟩
  refine (θ_run Cert.NormRefIdeal.defs _ _).mono (fun r h c => ?_) (Cert.NormRefIdeal.Value.run (F := Ideal) m' ρ')
  obtain ⟨r0, r1, rest⟩ := h c
  obtain ⟨e0, e1, e2, e3, e4⟩ := hagree c
  obtain ⟨p0, p1, p2, p4⟩ := hpre c
  have h0 := isR_of_cmp _ _ _ (fun _ => rfl) p0
  have h1 := isR_of_cmp _ _ _ (fun _ => rfl) p1
  have h2 := isR_of_cmp _ _ _ (fun _ => rfl) p2
  have h4 := isR_of_cmp _ _ _ (fun _ => rfl) p4
  refine ⟨r0.trans ((val_main_v41_eq (F := Ideal) m' c).trans ?_), r1.trans ((val_main_v42_eq (F := Ideal) _ _ _).trans ?_), rest⟩
  · rw [e0, e1, e2, e3, e4]
    exact v41_eq _ _ _ _ _ h0 h1 h2 h4
  · rw [e0, e2, e4]
    exact v42_eq _ _ _

end Cert.Norms

end
-- ==== Proof.Ple.Kernel.lean ====
/- The last layer's embedding, norm and loss, with their gradients: what the pipelined call leaves in its five result arrays, as
   functions of its argument arrays. -/
module

public import Idealize.ShloMosaic.Lib.Pipeline.ValueKit.Tiles
public import Idealize.ShloMosaic.Lib.Pipeline.ValueKit.Geometry
public import proofs.«01_k».proof.Proof.Common.Rms
public import proofs.«01_k».proof.Proof.Gen.PleIdeal.Value

@[expose] public section

set_option maxRecDepth 16384

noncomputable section

namespace Cert.Ples

open Idealize.ShloMosaic Cert.PleIdeal Cert.PleIdeal.Gen Cert.Common
open Idealize.ShloMosaic.TcCoe Idealize.SL.Sem

/-- The argument arrays: the hidden rows, the embeddings, the gate's and the embedding's weights, the target and the gain. -/
structure Args where
  hid : FVec Ideal S4096x2048 .f32
  emb : FVec Ideal S4096x256 .f32
  wGate : FVec Ideal S2048x2048 .bf16
  wEmb : FVec Ideal S256x2048 .bf16
  target : FVec Ideal S4096x2048 .f32
  gain : FVec Ideal S1x2048 .f32

/-- A half of the row's inverse length, and the row's inverse length, which the loss and its gradient are scaled by. -/
def c4096 : EReal := Ideal.ofBits .f32 0x39800000#32
def cinv : EReal := Ideal.ofBits .f32 0x3A000000#32

section

variable (a : Args) (r : Fin 4096) (k : Fin 2048)

/-- The embedding through its weights. -/
def ev : EReal := ∑ j : Fin 256, a.emb (ix2 r j) * a.wEmb (ix2 j k)

/-- The gate. -/
def gate : EReal := sg (∑ j : Fin 2048, a.hid (ix2 r j) * a.wGate (ix2 j k))

/-- The last hidden row. -/
def last : EReal := a.hid (ix2 r k) + ev a r k * gate a r k

/-- The same, normalised. -/
def nrm : EReal := last a r k * rms (last a r)

/-- The output's difference from the target. -/
def err : EReal := nrm a r k * a.gain (ix2 (0 : Fin 1) k) - a.target (ix2 r k)

/-- The output's cotangent. -/
def dout : EReal := err a r k * cinv

/-- The normalised row's cotangent. -/
def dnrm : EReal := dout a r k * a.gain (ix2 (0 : Fin 1) k)

/-- The last hidden row's gradient. -/
def dlast : EReal := rmsGrad (last a r) (dnrm a r) k

/-- A row's part of the loss. -/
def lossRow : EReal := ∑ k : Fin 2048, err a r k * err a r k

def gE : FVec Ideal S4096x2048 .bf16 := fun i => (dlast a (i 0) (i 1) * gate a (i 0) (i 1) : EReal)

def gQ : FVec Ideal S4096x2048 .bf16 := fun i =>
  (dlast a (i 0) (i 1) * ev a (i 0) (i 1) * gate a (i 0) (i 1) * (1 - gate a (i 0) (i 1)) : EReal)

def gH : FVec Ideal S4096x2048 .f32 := fun i => dlast a (i 0) (i 1)

def gGain : FVec Ideal S1x2048 .f32 := fun i => (∑ r : Fin 4096, dout a r (i 1) * nrm a r (i 1) : EReal)

def gLoss : FVec Ideal S1x1 .f32 := fun _ => (∑ r : Fin 4096, c4096 * lossRow a r : EReal)

end

theorem c4096_eq : c4096 = ((1 / 4096 : ℝ) : EReal) := by
  simp [c4096, Ideal.ofBits, Ideal.ieee, -EReal.coe_mul]; norm_num

/-- A real factor that is not negative goes into a sum. -/
theorem coe_mul_sum {ι : Type} (s : Finset ι) (x : ℝ) (hx : 0 ≤ x) (f : ι → EReal) :
    (x : EReal) * ∑ i ∈ s, f i = ∑ i ∈ s, (x : EReal) * f i := by
  classical
  induction s using Finset.induction_on with
  | empty => simp
  | insert i s hi ih =>
    rw [Finset.sum_insert hi, Finset.sum_insert hi, ← ih,
      EReal.left_distrib_of_nonneg_of_ne_top (EReal.coe_nonneg.mpr hx) (EReal.coe_ne_top x)]

variable (m : (ℓ : Loc nD τ sig) → Buf (Elt Ideal) ℓ) (ρ : Dev nD → PrngReg)

/-- The arguments a core finds. -/
def args (c : Dev nD) : Args where
  hid := m ((c : Thread nD τ).loc main_arg0)
  emb := m ((c : Thread nD τ).loc main_arg1)
  wGate := m ((c : Thread nD τ).loc main_arg2)
  wEmb := m ((c : Thread nD τ).loc main_arg3)
  target := m ((c : Thread nD τ).loc main_arg4)
  gain := m ((c : Thread nD τ).loc main_arg5)

theorem idx_facts : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

theorem out_facts : ∀ t : Fin cfg0.N, win0_7.index t = ![t.val, 0] ∧ win0_8.index t = ![t.val, 0] ∧ win0_9.index t = ![t.val, 0]
    ∧ win0_10.index t = ![0, 0] ∧ win0_11.index t = ![0, 0] :=
  (by decide +kernel : ∀ t : Fin grid0.N, _)

/-- The array's row that a tile's row is. -/
def row (t : Fin cfg0.N) (r : Fin 256) : Fin 4096 :=
  ⟨t.val * 256 + r.val, by have := t.isLt; have := r.isLt; have h : cfg0.N = 16 := N_0; omega⟩

section

variable (c : Dev nD) (t : Fin cfg0.N)

/-- The rounded copy of the hidden rows is the rows. -/
theorem V_cast : V m c main_v0 = m ((c : Thread nD τ).loc main_arg0) := rfl

theorem blk0 (r : Fin 256) (k : Fin 2048) : iblk m c 0 t (ix2 r k) = (args m c).hid (ix2 (row t r) k) := by
  obtain ⟨e, _⟩ := idx_facts t
  unfold args
  blk_ext [iblk, V_main_arg0, e, row]

theorem blk1 (r : Fin 256) (k : Fin 2048) : iblk m c 1 t (ix2 r k) = (args m c).hid (ix2 (row t r) k) := by
  obtain ⟨_, e, _⟩ := idx_facts t
  unfold args
  blk_ext [iblk, V_cast, e, row]

theorem blk2 (r : Fin 256) (k : Fin 256) : iblk m c 2 t (ix2 r k) = (args m c).emb (ix2 (row t r) k) := by
  obtain ⟨_, _, e, _⟩ := idx_facts t
  unfold args
  blk_ext [iblk, V_main_arg1, e, row]

theorem blk3 (r : Fin 2048) (k : Fin 2048) : iblk m c 3 t (ix2 r k) = (args m c).wGate (ix2 r k) := by
  obtain ⟨_, _, _, e, _⟩ := idx_facts t
  unfold args
  blk_ext [iblk, V_main_arg2, e]

theorem blk4 (r : Fin 256) (k : Fin 2048) : iblk m c 4 t (ix2 r k) = (args m c).wEmb (ix2 r k) := by
  obtain ⟨_, _, _, _, e, _⟩ := idx_facts t
  unfold args
  blk_ext [iblk, V_main_arg3, e]

theorem blk5 (r : Fin 256) (k : Fin 2048) : iblk m c 5 t (ix2 r k) = (args m c).target (ix2 (row t r) k) := by
  obtain ⟨_, _, _, _, _, e, _⟩ := idx_facts t
  unfold args
  blk_ext [iblk, V_main_arg4, e, row]

theorem blk6 (k : Fin 2048) : iblk m c 6 t (ix2 (0 : Fin 1) k) = (args m c).gain (ix2 (0 : Fin 1) k) := by
  obtain ⟨_, _, _, _, _, _, e⟩ := idx_facts t
  unfold args
  blk_ext [iblk, V_main_arg5, e]

/-- The tile's values, one array for each of the call's named steps. -/
def evT : FVec Ideal S256x2048 .f32 := k0_pay4 (iblk m c 2 t) (iblk m c 4 t)
def gateT : FVec Ideal S256x2048 .f32 := k0_pay5 (iblk m c 1 t) (iblk m c 3 t)
def lastT : FVec Ideal S256x2048 .f32 := k0_pay6 (iblk m c 2 t) (iblk m c 4 t) (iblk m c 1 t) (iblk m c 3 t) (iblk m c 0 t)
def rmsT : FVec Ideal S256x1 .f32 := k0_pay7 (iblk m c 2 t) (iblk m c 4 t) (iblk m c 1 t) (iblk m c 3 t) (iblk m c 0 t)
def nrmT : FVec Ideal S256x2048 .f32 := k0_pay8 (iblk m c 2 t) (iblk m c 4 t) (iblk m c 1 t) (iblk m c 3 t) (iblk m c 0 t)
def yT : FVec Ideal S256x2048 .f32 :=
  k0_pay9 (iblk m c 2 t) (iblk m c 4 t) (iblk m c 1 t) (iblk m c 3 t) (iblk m c 0 t) (iblk m c 6 t)
def errT : FVec Ideal S256x2048 .f32 := k0_pay10 (yT m c t) (iblk m c 5 t)
def doutT : FVec Ideal S256x2048 .f32 := k0_pay12 (yT m c t) (iblk m c 5 t)
def dlastT : FVec Ideal S256x2048 .f32 := k0_pay14 (rmsT m c t) (nrmT m c t) (iblk m c 6 t) (yT m c t) (iblk m c 5 t)

/-! Their names put back where the steps are spelled out. -/

theorem evT_fold : k0_pay4 (F := Ideal) (iblk m c 2 t) (iblk m c 4 t) = evT m c t := rfl

theorem gateT_fold : k0_pay5 (F := Ideal) (iblk m c 1 t) (iblk m c 3 t) = gateT m c t := rfl

theorem lastT_fold : k0_pay6 (F := Ideal) (iblk m c 2 t) (iblk m c 4 t) (iblk m c 1 t) (iblk m c 3 t) (iblk m c 0 t) = lastT m c t := rfl

theorem rmsT_fold : k0_pay7 (F := Ideal) (iblk m c 2 t) (iblk m c 4 t) (iblk m c 1 t) (iblk m c 3 t) (iblk m c 0 t) = rmsT m c t := rfl

theorem nrmT_fold : k0_pay8 (F := Ideal) (iblk m c 2 t) (iblk m c 4 t) (iblk m c 1 t) (iblk m c 3 t) (iblk m c 0 t) = nrmT m c t := rfl

theorem yT_fold : k0_pay9 (F := Ideal) (iblk m c 2 t) (iblk m c 4 t) (iblk m c 1 t) (iblk m c 3 t) (iblk m c 0 t) (iblk m c 6 t)
    = yT m c t := rfl

theorem errT_fold : k0_pay10 (F := Ideal) (yT m c t) (iblk m c 5 t) = errT m c t := rfl

theorem doutT_fold : k0_pay12 (F := Ideal) (yT m c t) (iblk m c 5 t) = doutT m c t := rfl

theorem dlastT_fold : k0_pay14 (F := Ideal) (rmsT m c t) (nrmT m c t) (iblk m c 6 t) (yT m c t) (iblk m c 5 t) = dlastT m c t := rfl

theorem evT_eq (r : Fin 256) (k : Fin 2048) : evT m c t (ix2 r k) = ev (args m c) (row t r) k := by
  unfold evT ev
  rw [← Finset.sum_congr rfl fun x _ => congrArg₂ (fun u v : EReal => u * v) (blk2 m c t r x) (blk4 m c t x k)]
  generalize iblk m c 2 t = a
  generalize iblk m c 4 t = b
  pointwise [k0_pay4]

theorem gateT_eq (r : Fin 256) (k : Fin 2048) : gateT m c t (ix2 r k) = gate (args m c) (row t r) k := by
  unfold gateT gate
  rw [← Finset.sum_congr rfl fun x _ => congrArg₂ (fun u v : EReal => u * v) (blk1 m c t r x) (blk3 m c t x k)]
  generalize iblk m c 1 t = a
  generalize iblk m c 3 t = b
  pointwise [k0_pay5]
  rfl

theorem lastT_eq (r : Fin 256) (k : Fin 2048) : lastT m c t (ix2 r k) = last (args m c) (row t r) k := by
  have e := evT_eq m c t r k
  have e1 := gateT_eq m c t r k
  have e2 := blk0 m c t r k
  unfold lastT k0_pay6
  rw [evT_fold, gateT_fold]
  generalize evT m c t = a at e ⊢
  generalize gateT m c t = b at e1 ⊢
  generalize iblk m c 0 t = d at e2 ⊢
  pointwise
  rw [e, e1, e2]
  rfl

theorem rmsT_eq (r : Fin 256) (u : Fin 1) : rmsT m c t (ix2 r u) = rms (last (args m c) (row t r)) := by
  have e := fun k => lastT_eq m c t r k
  unfold rmsT k0_pay7
  rw [lastT_fold]
  generalize lastT m c t = a at e ⊢
  pointwise
  simp only [e]
  rfl

theorem nrmT_eq (r : Fin 256) (k : Fin 2048) : nrmT m c t (ix2 r k) = nrm (args m c) (row t r) k := by
  have e := lastT_eq m c t r k
  have e1 := rmsT_eq m c t r 0
  unfold nrmT k0_pay8
  rw [lastT_fold, rmsT_fold]
  generalize lastT m c t = a at e ⊢
  generalize rmsT m c t = b at e1 ⊢
  pointwise
  rw [e, e1]
  rfl

theorem errT_eq (r : Fin 256) (k : Fin 2048) : errT m c t (ix2 r k) = err (args m c) (row t r) k := by
  have e := nrmT_eq m c t r k
  have e1 := blk5 m c t r k
  have e2 := blk6 m c t k
  unfold errT yT k0_pay10 k0_pay9
  rw [nrmT_fold]
  generalize nrmT m c t = a at e ⊢
  generalize iblk m c 5 t = b at e1 ⊢
  generalize iblk m c 6 t = d at e2 ⊢
  pointwise
  rw [e, e1, e2]
  rfl

theorem doutT_eq (r : Fin 256) (k : Fin 2048) : doutT m c t (ix2 r k) = dout (args m c) (row t r) k := by
  have e := errT_eq m c t r k
  unfold doutT k0_pay12
  rw [errT_fold]
  generalize errT m c t = a at e ⊢
  pointwise
  rw [e]
  rfl

theorem dlastT_eq (r : Fin 256) (k : Fin 2048) : dlastT m c t (ix2 r k) = dlast (args m c) (row t r) k := by
  have e := fun k => doutT_eq m c t r k
  have e1 := rmsT_eq m c t r 0
  have e2 := fun k => nrmT_eq m c t r k
  have e3 := fun k => blk6 m c t k
  unfold dlastT k0_pay14
  rw [doutT_fold]
  generalize doutT m c t = a at e ⊢
  generalize rmsT m c t = b at e1 ⊢
  generalize nrmT m c t = d at e2 ⊢
  generalize iblk m c 6 t = f at e3 ⊢
  pointwise
  simp only [e, e2, e3]
  rw [e1]
  rfl

theorem emb7 (r : Fin 256) (k : Fin 2048) : ((View.whole main_v1_0).slice (win0_7.rect t)).emb (ix2 r k) = ix2 (row t r) k := by
  obtain ⟨e, _⟩ := out_facts t
  blk_ext [e, row]

theorem emb8 (r : Fin 256) (k : Fin 2048) : ((View.whole main_v1_1).slice (win0_8.rect t)).emb (ix2 r k) = ix2 (row t r) k := by
  obtain ⟨_, e, _⟩ := out_facts t
  blk_ext [e, row]

theorem emb9 (r : Fin 256) (k : Fin 2048) : ((View.whole main_v1_2).slice (win0_9.rect t)).emb (ix2 r k) = ix2 (row t r) k := by
  obtain ⟨_, _, e, _⟩ := out_facts t
  blk_ext [e, row]

theorem out7 (y : S256x2048.Idx) :
    k0_pay15 (gateT m c t) (rmsT m c t) (nrmT m c t) (iblk m c 6 t) (yT m c t) (iblk m c 5 t) y
    = gE (args m c) (((View.whole main_v1_0).slice (win0_7.rect t)).emb y) := by
  idx_vars y
  rw [emb7]
  have e := dlastT_eq m c t y0 y1
  have e1 := gateT_eq m c t y0 y1
  unfold k0_pay15
  rw [dlastT_fold]
  generalize dlastT m c t = a at e ⊢
  generalize gateT m c t = b at e1 ⊢
  pointwise
  rw [e, e1]
  rfl

theorem out8 (y : S256x2048.Idx) : k0_pay1 (evT m c t) (gateT m c t) (dlastT m c t) y
    = gQ (args m c) (((View.whole main_v1_1).slice (win0_8.rect t)).emb y) := by
  idx_vars y
  rw [emb8]
  have e := dlastT_eq m c t y0 y1
  have e1 := gateT_eq m c t y0 y1
  have e2 := evT_eq m c t y0 y1
  generalize dlastT m c t = a at e ⊢
  generalize gateT m c t = b at e1 ⊢
  generalize evT m c t = d at e2 ⊢
  pointwise [k0_pay1]
  rw [e, e1, e2]
  rfl

theorem out9 (y : S256x2048.Idx) : dlastT m c t y = gH (args m c) (((View.whole main_v1_2).slice (win0_9.rect t)).emb y) := by
  idx_vars y
  rw [emb9]
  exact dlastT_eq m c t y0 y1

theorem out10 (p : FVec Ideal S1x2048 .f32) (y : S1x2048.Idx) : k0_pay13 (nrmT m c t) (yT m c t) (iblk m c 5 t) p y
    = (p y : EReal) + ∑ r : Fin 256, dout (args m c) (row t r) (y 1) * nrm (args m c) (row t r) (y 1) := by
  idx_vars y
  have e := fun r => doutT_eq m c t r y1
  have e1 := fun r => nrmT_eq m c t r y1
  unfold k0_pay13
  rw [doutT_fold]
  generalize doutT m c t = a at e ⊢
  generalize nrmT m c t = b at e1 ⊢
  pointwise
  exact congrArg _ (Finset.sum_congr rfl fun r _ => by rw [e, e1])

theorem out11 (p : FVec Ideal S1x1 .f32) (y : S1x1.Idx) : k0_pay11 (yT m c t) (iblk m c 5 t) p y
    = (p y : EReal) + ∑ r : Fin 256, c4096 * lossRow (args m c) (row t r) := by
  idx_vars y
  have e := fun r k => errT_eq m c t r k
  unfold k0_pay11
  rw [errT_fold]
  generalize errT m c t = a at e ⊢
  pointwise
  refine congrArg _ ?_
  rw [c4096_eq, ← coe_mul_sum _ _ (by norm_num), ← c4096_eq]
  refine congrArg (c4096 * ·) (Finset.sum_congr rfl fun r _ => ?_)
  exact Finset.sum_congr rfl fun k _ => by rw [e]

theorem zero10 (y : S1x2048.Idx) : k0_pay2 (F := Ideal) y = (0 : EReal) := by
  idx_vars y
  pointwise [k0_pay2]

theorem zero11 (y : S1x1.Idx) : k0_pay3 (F := Ideal) y = (0 : EReal) := by
  idx_vars y
  pointwise [k0_pay3]

end

theorem final7 (c : Dev nD) : (dats m 0 c).arrAt 7 cfg0.N = gE (args m c) := by
  refine (dats m 0 c).arrAt_eq_of_covers 7 _ (by decide +kernel) fun t hf y => ?_
  blk_simp
  rw [after0_7]
  by_cases h : t.val % 16 = 0
  · rw [outsAt0_A m c t h]
    frame_out
    exact out7 m c t y
  · rw [outsAt0_B m c t h]
    frame_out
    exact out7 m c t y

theorem final8 (c : Dev nD) : (dats m 0 c).arrAt 8 cfg0.N = gQ (args m c) := by
  refine (dats m 0 c).arrAt_eq_of_covers 8 _ (by decide +kernel) fun t hf y => ?_
  blk_simp
  rw [after0_8]
  by_cases h : t.val % 16 = 0
  · rw [outsAt0_A m c t h]
    frame_out
    exact out8 m c t y
  · rw [outsAt0_B m c t h]
    frame_out
    exact out8 m c t y

theorem final9 (c : Dev nD) : (dats m 0 c).arrAt 9 cfg0.N = gH (args m c) := by
  refine (dats m 0 c).arrAt_eq_of_covers 9 _ (by decide +kernel) fun t hf y => ?_
  blk_simp
  rw [after0_9]
  by_cases h : t.val % 16 = 0
  · rw [outsAt0_A m c t h]
    frame_out
    exact out9 m c t y
  · rw [outsAt0_B m c t h]
    frame_out
    exact out9 m c t y

/-- The last tile. -/
def tlast : Fin cfg0.N := ⟨15, by decide⟩

theorem final10 (c : Dev nD) : (dats m 0 c).arrAt 10 cfg0.N = gGain (args m c) := by
  refine (dats m 0 c).arrAt_eq_of_after_last 10 tlast (by decide +kernel) _ fun y => ?_
  blk_simp
  rw [after0_10, Pipeline.eq_sum_fin_of_reset_step_apply_last (fun n h => (outsAt0 m c n h).2.2.2.1) 16 (fun _ => 0)
      (fun t y => (∑ r : Fin 256, dout (args m c) (row t r) (y 1) * nrm (args m c) (row t r) (y 1) : EReal))
      (fun t h j => by rw [outsAt0_A m c t h]; frame_out; rw [nrmT_fold, yT_fold, out10, zero10])
      (fun t h j => by rw [outsAt0_B m c t h]; frame_out; rw [nrmT_fold, yT_fold, out10])
      (le_of_eq N_0) tlast rfl]
  rw [zero_add]
  exact Fin.sum_mul_add_fin 16 256 (fun r : Fin 4096 => (dout (args m c) r (y 1) * nrm (args m c) r (y 1) : EReal)) rfl

theorem final11 (c : Dev nD) : (dats m 0 c).arrAt 11 cfg0.N = gLoss (args m c) := by
  refine (dats m 0 c).arrAt_eq_of_after_last 11 tlast (by decide +kernel) _ fun y => ?_
  blk_simp
  rw [after0_11, Pipeline.eq_sum_fin_of_reset_step_apply_last (fun n h => (outsAt0 m c n h).2.2.2.2) 16 (fun _ => 0)
      (fun t y => (∑ r : Fin 256, c4096 * lossRow (args m c) (row t r) : EReal))
      (fun t h j => by rw [outsAt0_A m c t h]; frame_out; rw [yT_fold, out11, zero11])
      (fun t h j => by rw [outsAt0_B m c t h]; frame_out; rw [yT_fold, out11])
      (le_of_eq N_0) tlast rfl]
  rw [zero_add]
  exact Fin.sum_mul_add_fin 16 256 (fun r : Fin 4096 => (c4096 * lossRow (args m c) r : EReal)) rfl

/-- The run with the five result arrays at their functions of the arguments. -/
theorem run : θ_run defs (onTc (τ := τ) (main (F := Ideal))) ⟨m, fun _ => 0, ρ⟩ fun r => ∀ c : Dev nD,
      r.2.mem ((c : Thread nD τ).loc main_v1_0) = gE (args m c)
      ∧ r.2.mem ((c : Thread nD τ).loc main_v1_1) = gQ (args m c)
      ∧ r.2.mem ((c : Thread nD τ).loc main_v1_2) = gH (args m c)
      ∧ r.2.mem ((c : Thread nD τ).loc main_v1_3) = gGain (args m c)
      ∧ r.2.mem ((c : Thread nD τ).loc main_v1_4) = gLoss (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final7 m c), (h c).2.1.trans (final8 m c), (h c).2.2.1.trans (final9 m c),
    (h c).2.2.2.1.trans (final10 m c), (h c).2.2.2.2.1.trans (final11 m c), (h c).2.2.2.2.2⟩)
    (Cert.PleIdeal.Value.run_blocks m ρ)

end Cert.Ples

end
-- ==== Proof.Ple.Reference.lean ====
/- The last layer's embedding, norm and loss: the reference's five results are the call's. -/
module

public import proofs.«01_k».proof.Proof.Ple.Kernel
public import proofs.«01_k».proof.Proof.Gen.PleRefIdeal.Read

@[expose] public section

set_option maxRecDepth 16384

noncomputable section

namespace Cert.Ples

open Idealize.ShloMosaic Cert.PleRefIdeal Cert.PleRefIdeal.Read Cert.Common

variable (a : Args)

section

variable (r : Fin 4096) (k : Fin 2048)

theorem v1 : val_main_v1 (F := Ideal) a.emb a.wEmb (ix2 r k) = ev a r k := by
  unfold val_main_v1 val_main_v0
  pointwise
  rfl

theorem v9 : val_main_v9 (F := Ideal) a.hid a.wGate (ix2 r k) = gate a r k := by
  unfold val_main_v9 val_main_v8 val_main_cst_0 val_main_v7 val_main_v6 val_main_cst val_main_v5 val_main_v4 val_main_v3 val_main_v2
  pointwise
  rw [sg_neg]
  rfl

theorem v12 : val_main_v12 (F := Ideal) a.hid a.wGate (ix2 r k) = gate a r k * (1 - gate a r k) := by
  have e := v9 a r k
  unfold val_main_v12 val_main_v11 val_main_v10 val_main_cst_1
  generalize val_main_v9 (F := Ideal) a.hid a.wGate = b at e ⊢
  pointwise
  rw [e]

theorem v14 : val_main_v14 (F := Ideal) a.hid a.emb a.wGate a.wEmb (ix2 r k) = last a r k := by
  rw [val_main_v14_apply, val_main_v13_apply, v1, v9]
  rfl

theorem v22 (u : Fin 1) : val_main_v22 (F := Ideal) a.hid a.emb a.wGate a.wEmb (ix2 r u) = msq (last a r) := by
  have e := fun k => v14 a r k
  unfold val_main_v22 val_main_v21 val_main_cst_4 val_main_v20 val_main_v19 val_main_cst_3 val_main_v18 val_main_v17 val_main_cst_2
    val_main_v16
  generalize val_main_v14 (F := Ideal) a.hid a.emb a.wGate a.wEmb = b at e ⊢
  pointwise
  simp only [e]
  rfl

theorem v23 (u : Fin 1) : val_main_v23 (F := Ideal) a.hid a.emb a.wGate a.wEmb (ix2 r u) = rms (last a r) := by
  rw [val_main_v23_apply, v22]
  rfl

theorem v26 (u : Fin 1) : val_main_v26 (F := Ideal) a.hid a.emb a.wGate a.wEmb (ix2 r u)
    = mhalf * Ideal.div (rms (last a r)) (msq (last a r)) := by
  have e := v22 a r u
  have e1 := v23 a r u
  unfold val_main_v26 val_main_v25 val_main_cst_5 val_main_v24
  generalize val_main_v22 (F := Ideal) a.hid a.emb a.wGate a.wEmb = b at e ⊢
  generalize val_main_v23 (F := Ideal) a.hid a.emb a.wGate a.wEmb = d at e1 ⊢
  pointwise
  rw [e, e1]
  rfl

theorem v28 : val_main_v28 (F := Ideal) a.hid a.emb a.wGate a.wEmb (ix2 r k) = nrm a r k := by
  have e := v14 a r k
  have e1 := v23 a r 0
  unfold val_main_v28 val_main_v27
  generalize val_main_v14 (F := Ideal) a.hid a.emb a.wGate a.wEmb = b at e ⊢
  generalize val_main_v23 (F := Ideal) a.hid a.emb a.wGate a.wEmb = d at e1 ⊢
  pointwise
  rw [e, e1]
  rfl

theorem v32 : val_main_v32 (F := Ideal) a.hid a.emb a.wGate a.wEmb a.target a.gain (ix2 r k) = err a r k := by
  have e := v28 a r k
  unfold val_main_v32 val_main_v31 val_main_v30 val_main_v29 val_main_v15
  generalize val_main_v28 (F := Ideal) a.hid a.emb a.wGate a.wEmb = b at e ⊢
  pointwise
  rw [e]
  rfl

/-- The reference's constants. -/
def half : EReal := Ideal.ofBits .f32 0x3F000000#32
def two : EReal := Ideal.ofBits .f32 0x40000000#32

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

theorem cinv_eq : cinv = ((1 / 2048 : ℝ) : EReal) := by
  simp [cinv, Ideal.ofBits, Ideal.ieee, -EReal.coe_mul]; norm_num

/-- The loss's two factors over the row's length are one factor. -/
theorem scale_eq (x : EReal) : Ideal.div half c2048 * (two * x) = x * cinv := by
  rw [half_eq, c2048_eq, div_coe _ _ (by norm_num), two_eq, cinv_eq, ← mul_assoc, ← EReal.coe_mul, mul_comm]
  norm_num

theorem v46 : val_main_v46 (F := Ideal) a.hid a.emb a.wGate a.wEmb a.target a.gain (ix2 r k) = dout a r k := by
  have e := v32 a r k
  unfold val_main_v46 val_main_v45 val_main_v44 val_main_v43 val_main_cst_13 val_main_v42 val_main_v41 val_main_cst_11 val_main_cst_12
    val_main_v35 val_main_v34 val_main_cst_6
  generalize val_main_v32 (F := Ideal) a.hid a.emb a.wGate a.wEmb a.target a.gain = b at e ⊢
  pointwise
  rw [e]
  exact scale_eq _

theorem v51 : val_main_v51 (F := Ideal) a.hid a.emb a.wGate a.wEmb a.target a.gain (ix2 r k) = dnrm a r k := by
  have e := v46 a r k
  unfold val_main_v51 val_main_v50 val_main_v29 val_main_v15
  generalize val_main_v46 (F := Ideal) a.hid a.emb a.wGate a.wEmb a.target a.gain = b at e ⊢
  pointwise
  rw [e]
  rfl

theorem v61 : val_main_v61 (F := Ideal) a.hid a.emb a.wGate a.wEmb a.target a.gain (ix1 r) = rmsTail (last a r) (dnrm a r) := by
  have e := fun k => v14 a r k
  have e1 := v26 a r 0
  have e2 := fun k => v51 a r k
  unfold val_main_v61 val_main_cst_18 val_main_v60 val_main_v59 val_main_cst_17 val_main_v58 val_main_v55 val_main_v54 val_main_cst_16
    val_main_v53
  generalize val_main_v14 (F := Ideal) a.hid a.emb a.wGate a.wEmb = b at e ⊢
  generalize val_main_v26 (F := Ideal) a.hid a.emb a.wGate a.wEmb = d at e1 ⊢
  generalize val_main_v51 (F := Ideal) a.hid a.emb a.wGate a.wEmb a.target a.gain = f at e2 ⊢
  pointwise
  rw [Fin.sum_univ_one]
  simp only [e, e2]
  rw [e1]
  rfl

end

/-- What the precondition gives. -/
structure Real : Prop where
  hid : ∀ i, IsR (a.hid i)
  emb : ∀ i, IsR (a.emb i)
  wEmb : ∀ i, IsR (a.wEmb i)
  target : ∀ i, IsR (a.target i)
  gain : ∀ i, IsR (a.gain i)

variable {a} (h : Real a)

include h

theorem last_isR (r : Fin 4096) (k : Fin 2048) : IsR (last a r k) :=
  (h.hid _).add ((IsR.sum _ fun _ => (h.emb _).mul (h.wEmb _)).mul (isR_sg _))

theorem err_isR (r : Fin 4096) (k : Fin 2048) : IsR (err a r k) :=
  (((last_isR h r k).mul (isR_rms fun k => last_isR h r k)).mul (h.gain _)).sub (h.target _)

theorem dnrm_isR (r : Fin 4096) (k : Fin 2048) : IsR (dnrm a r k) :=
  ((err_isR h r k).mul ⟨_, cinv_eq⟩).mul (h.gain _)

theorem v66 (r : Fin 4096) (k : Fin 2048) :
    val_main_v66 (F := Ideal) a.hid a.emb a.wGate a.wEmb a.target a.gain (ix2 r k) = dlast a r k := by
  have e := v14 a r k
  have e1 := v23 a r 0
  have e2 := v51 a r k
  have e3 := v61 a r
  unfold val_main_v66 val_main_v65 val_main_v64 val_main_v63 val_main_v62 val_main_v57 val_main_v56
  generalize val_main_v14 (F := Ideal) a.hid a.emb a.wGate a.wEmb = b at e ⊢
  generalize val_main_v23 (F := Ideal) a.hid a.emb a.wGate a.wEmb = d at e1 ⊢
  generalize val_main_v51 (F := Ideal) a.hid a.emb a.wGate a.wEmb a.target a.gain = f at e2 ⊢
  generalize val_main_v61 (F := Ideal) a.hid a.emb a.wGate a.wEmb a.target a.gain = g at e3 ⊢
  pointwise
  rw [e, e1, e2, e3]
  have := rms_grad 0 (fun k => last_isR h r k) (fun k => dnrm_isR h r k) k
  rwa [zero_add, zero_add] at this

theorem v66_eq : val_main_v66 (F := Ideal) a.hid a.emb a.wGate a.wEmb a.target a.gain = gH a := by
  funext i
  idx_vars i
  exact v66 h i0 i1

theorem v71_eq : val_main_v71 (F := Ideal) a.hid a.emb a.wGate a.wEmb a.target a.gain = gE a := by
  funext i
  idx_vars i
  rw [val_main_v71_apply, val_main_v69_apply, v66 h, v9]
  rfl

theorem v72_eq : val_main_v72 (F := Ideal) a.hid a.emb a.wGate a.wEmb a.target a.gain = gQ a := by
  funext i
  idx_vars i
  rw [val_main_v72_apply, val_main_v70_apply, val_main_v68_apply, v66 h, v1, v12]
  show ev a i0 i1 * dlast a i0 i1 * (gate a i0 i1 * (1 - gate a i0 i1)) = dlast a i0 i1 * ev a i0 i1 * gate a i0 i1 * (1 - gate a i0 i1)
  rw [mul_comm (ev a i0 i1), mul_assoc, mul_assoc, mul_assoc]

omit h in
theorem v67_eq : val_main_v67 (F := Ideal) a.hid a.emb a.wGate a.wEmb a.target a.gain = gGain a := by
  funext i
  idx_vars i
  have e := fun r => v28 a r i1
  have e1 := fun r => v46 a r i1
  unfold val_main_v67 val_main_v52 val_main_cst_15 val_main_v49 val_main_v48 val_main_cst_14 val_main_v47
  generalize val_main_v28 (F := Ideal) a.hid a.emb a.wGate a.wEmb = b at e ⊢
  generalize val_main_v46 (F := Ideal) a.hid a.emb a.wGate a.wEmb a.target a.gain = d at e1 ⊢
  pointwise
  rw [Fin.sum_univ_one]
  exact Finset.sum_congr rfl fun r _ => by rw [e, e1, mul_comm]; rfl

theorem v73_eq : val_main_v73 (F := Ideal) a.hid a.emb a.wGate a.wEmb a.target a.gain = gLoss a := by
  funext i
  idx_vars i
  have e := fun r k => v32 a r k
  unfold val_main_v73 val_main_v40 val_main_cst_10 val_main_v39 val_main_cst_9 val_main_v38 val_main_v37 val_main_cst_8 val_main_v36
    val_main_cst_7 val_main_v33
  generalize val_main_v32 (F := Ideal) a.hid a.emb a.wGate a.wEmb a.target a.gain = b at e ⊢
  pointwise
  simp only [e]
  show half * ∑ r : Fin 4096, Ideal.div (lossRow a r) c2048 = ∑ r : Fin 4096, c4096 * lossRow a r
  rw [half_eq, coe_mul_sum _ _ (by norm_num)]
  refine Finset.sum_congr rfl fun r _ => ?_
  obtain ⟨s, hs⟩ : IsR (lossRow a r) := IsR.sum _ fun k => (err_isR h r k).mul (err_isR h r k)
  rw [hs, c2048_eq, div_coe _ _ (by norm_num), c4096_eq, ← EReal.coe_mul, ← EReal.coe_mul]
  refine congrArg _ ?_
  ring

end Cert.Ples

end
-- ==== Proof.Ple.Claims.lean ====
/- The claims about the last layer's embedding, norm and loss. -/
module

public import proofs.«01_k».proof.Defs
public import proofs.«01_k».proof.Proof.Gen.Ple.Frame
public import proofs.«01_k».proof.Proof.Gen.PleRefIdeal.Run
public import proofs.«01_k».proof.Proof.Ple.Reference
public import Idealize.ShloMosaic.Adequacy
public import Idealize.ShloMosaic.Init

@[expose] public section

set_option maxRecDepth 16384

noncomputable section

namespace Cert.Ples

open Idealize.ShloMosaic Cert.Common
open Idealize.ShloMosaic.TcCoe Idealize.SL.Sem

instance preFacts : Cert.Pre_finite_ple.Facts where
  bcast_S_S4096x2048 := by decide
  bcast_S_S4096x256 := by decide
  bitsLt_bf16_f32 := by decide
  bcast_S_S256x2048 := by decide
  bcast_S_S1x2048 := by decide

theorem frame_kernel : Cert.quiescent_Ple := fun m ρ _ => Cert.Ple.Gen.frame m ρ

theorem frame_ideal : Cert.quiescent_PleIdeal := fun m ρ _ => Cert.PleIdeal.Gen.frame m ρ

theorem frame_ideal_pre : Cert.quiescent_PleIdeal_pre_finite_ple := fun m ρ _ => Cert.PleIdeal.Gen.frame m ρ

theorem frame_reference : Cert.quiescent_PleRefIdeal := fun m ρ _ =>
  (θ_run Cert.PleRefIdeal.defs _ _).mono (fun r h => ⟨fun c => (h c).2.2.2.2.2, sem_eq_zero_of_no_sems (by decide) r.2⟩)
    (Cert.PleRefIdeal.Value.run (F := Ideal) m ρ)

theorem frame_reference_pre : Cert.quiescent_PleRefIdeal_pre_finite_ple := fun m ρ _ => frame_reference m ρ trivial

open Cert.PleRefIdeal.Read in
theorem algebraic : Cert.algebraic_PleIdeal_PleRefIdeal_pre_finite_ple := by
  intro m ρ m' ρ' hpre hagree
  refine ⟨_, _, _, _, _, run m ρ, ?_⟩
  refine (θ_run Cert.PleRefIdeal.defs _ _).mono (fun r h c => ?_) (Cert.PleRefIdeal.Value.run (F := Ideal) m' ρ')
  obtain ⟨r0, r1, r2, r3, r4, rest⟩ := h c
  obtain ⟨e0, e1, e2, e3, e4, e5⟩ := hagree c
  obtain ⟨p0, p1, p3, p4, p5⟩ := hpre c
  have hr : Real (args m c) :=
    { hid := isR_of_cmp _ _ _ (fun _ => rfl) p0
      emb := isR_of_cmp _ _ _ (fun _ => rfl) p1
      wEmb := isR_of_cmp _ _ _ (fun _ => rfl) p3
      target := isR_of_cmp _ _ _ (fun _ => rfl) p4
      gain := isR_of_cmp _ _ _ (fun _ => rfl) p5 }
  refine ⟨r0.trans ((val_main_v71_eq (F := Ideal) m' c).trans ?_), r1.trans ((val_main_v72_eq (F := Ideal) m' c).trans ?_),
    r2.trans ((val_main_v66_eq (F := Ideal) m' c).trans ?_), r3.trans ((val_main_v67_eq (F := Ideal) m' c).trans ?_),
    r4.trans ((val_main_v73_eq (F := Ideal) m' c).trans ?_), rest⟩ <;> rw [e0, e1, e2, e3, e4, e5]
  · exact (v71_eq hr :)
  · exact (v72_eq hr :)
  · exact (v66_eq hr :)
  · exact (v67_eq (a := args m c) :)
  · exact (v73_eq hr :)

end Cert.Ples

end
-- ==== Proof.Glu.Kernel.lean ====
/- The gated linear unit's gradient through the GELU: what the pipelined call leaves in its result array, as a function of its
   argument arrays. -/
module

public import Idealize.ShloMosaic.Lib.Pipeline.ValueKit.Tiles
public import Idealize.ShloMosaic.Lib.Pipeline.ValueKit.Geometry
public import proofs.«01_k».proof.Proof.Common.Logistic
public import proofs.«01_k».proof.Proof.Gen.GluIdeal.Value

@[expose] public section

set_option maxRecDepth 16384

noncomputable section

namespace Cert.Glus

open Idealize.ShloMosaic Cert.GluIdeal Cert.GluIdeal.Gen Cert.Common
open Idealize.ShloMosaic.TcCoe Idealize.SL.Sem

/-- The constants: the root of two over pi as it is rounded, a half, the cubic term's factor and three times it. -/
def root : EReal := Ideal.ofBits .f32 0x3F4C422A#32
def half : EReal := Ideal.ofBits .f32 0x3F000000#32
def ca : EReal := ((8943 / 200000 : ℝ) : EReal)
def ca3 : EReal := ((26829 / 200000 : ℝ) : EReal)

theorem named_ca : Named.named (F := Ideal) (φ := .f32) κ "gelu_a" 0x3D372713#32 = ca :=
  IdealRules.named_const.ideal_named_scalar _ _ _ _ rfl

theorem named_ca3 : Named.named (F := Ideal) (φ := .f32) κ "gelu_a3" 0x3E095D4F#32 = ca3 :=
  IdealRules.named_const.ideal_named_scalar _ _ _ _ rfl

/-- The hyperbolic tangent in the GELU. -/
def th (y : EReal) : EReal := Ideal.tanh (root * (y + ca * y * y * y))

/-- The GELU's derivative, as the kernel has it. -/
def dgelu (y : EReal) : EReal :=
  half * (1 + th y) + half * y * (1 - th y * th y) * root * (1 + ca3 * y * y)

section

variable (y : FVec Ideal S4096x1024 .f32) (w : FVec Ideal S1024x2048 .bf16) (d : FVec Ideal S4096x2048 .bf16)

/-- The cotangent through the weights. -/
def dact (r : Fin 4096) (k : Fin 1024) : EReal := ∑ j : Fin 2048, d (ix2 r j) * w (ix2 k j)

def gY : FVec Ideal S4096x1024 .f32 := fun i => (dact w d (i 0) (i 1) * dgelu (y i) : EReal)

end

variable (m : (ℓ : Loc nD τ sig) → Buf (Elt Ideal) ℓ) (ρ : Dev nD → PrngReg)

theorem idx_facts : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The array's row that a tile's row is. -/
def row (t : Fin cfg0.N) (r : Fin 1024) : Fin 4096 :=
  ⟨t.val * 1024 + r.val, by have := t.isLt; have := r.isLt; have h : cfg0.N = 4 := N_0; omega⟩

section

variable (c : Dev nD) (t : Fin cfg0.N)

theorem blk0 (r : Fin 1024) (k : Fin 2048) : iblk m c 0 t (ix2 r k) = m ((c : Thread nD τ).loc main_arg2) (ix2 (row t r) k) := by
  obtain ⟨e, _⟩ := idx_facts t
  blk_ext [iblk, V_main_arg2, e, row]

theorem blk1 (r : Fin 1024) (k : Fin 2048) : iblk m c 1 t (ix2 r k) = m ((c : Thread nD τ).loc main_arg1) (ix2 r k) := by
  obtain ⟨_, e, _⟩ := idx_facts t
  blk_ext [iblk, V_main_arg1, e]

theorem blk2 (r : Fin 1024) (k : Fin 1024) : iblk m c 2 t (ix2 r k) = m ((c : Thread nD τ).loc main_arg0) (ix2 (row t r) k) := by
  obtain ⟨_, _, e, _⟩ := idx_facts t
  blk_ext [iblk, V_main_arg0, e, row]

theorem pay1 (r k : Fin 1024) : k0_pay1 (F := Ideal) (ix2 r k) = (0 : EReal) := by
  pointwise [k0_pay1]

theorem pay2 (r k : Fin 1024) : k0_pay2 (F := Ideal) (iblk m c 0 t) (iblk m c 1 t) (k0_pay1 (F := Ideal)) (ix2 r k)
    = dact (m ((c : Thread nD τ).loc main_arg1)) (m ((c : Thread nD τ).loc main_arg2)) (row t r) k := by
  unfold dact
  rw [← Finset.sum_congr rfl fun x _ => congrArg₂ (fun u v : EReal => u * v) (blk0 m c t r x) (blk1 m c t k x)]
  have e := pay1 r k
  generalize k0_pay1 (F := Ideal) = z at e ⊢
  generalize iblk m c 0 t = a
  generalize iblk m c 1 t = b
  pointwise [k0_pay2]
  rw [e, zero_add]

theorem out3 (y : S1024x1024.Idx) : k0_pay3 (F := Ideal) (k0_pay2 (iblk m c 0 t) (iblk m c 1 t) (k0_pay1 (F := Ideal))) (iblk m c 2 t) y
    = gY (m ((c : Thread nD τ).loc main_arg0)) (m ((c : Thread nD τ).loc main_arg1)) (m ((c : Thread nD τ).loc main_arg2))
      (((View.whole main_v0).slice (win0_3.rect t)).emb y) := by
  idx_vars y
  have he : ((View.whole main_v0).slice (win0_3.rect t)).emb (ix2 y0 y1) = ix2 (row t y0) y1 := by
    obtain ⟨_, _, _, e⟩ := idx_facts t
    blk_ext [e, row]
  rw [he]
  have e := pay2 m c t y0 y1
  have e2 := blk2 m c t y0 y1
  generalize k0_pay2 (F := Ideal) (iblk m c 0 t) (iblk m c 1 t) (k0_pay1 (F := Ideal)) = a at e ⊢
  generalize iblk m c 2 t = b at e2 ⊢
  pointwise [k0_pay3, named_ca, named_ca3]
  rw [e, e2]
  rfl

end

theorem final3 (c : Dev nD) : (dats m 0 c).arrAt 3 cfg0.N = gY (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  exact out3 m c t y

/-- The run with the result array at its function of the arguments. -/
theorem run : θ_run defs (onTc (τ := τ) (main (F := Ideal))) ⟨m, fun _ => 0, ρ⟩ fun r => ∀ c : Dev nD,
      r.2.mem ((c : Thread nD τ).loc main_v0) = gY (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2⟩) (Cert.GluIdeal.Value.run_blocks m ρ)

end Cert.Glus

end
-- ==== Proof.Glu.Reference.lean ====
/- The gated linear unit's gradient through the GELU: the reference's result is the call's. -/
module

public import proofs.«01_k».proof.Proof.Glu.Kernel
public import proofs.«01_k».proof.Proof.Gen.GluRefIdeal.Read

@[expose] public section

set_option maxRecDepth 16384

noncomputable section

namespace Cert.Glus

open Idealize.ShloMosaic Cert.GluRefIdeal Cert.GluRefIdeal.Read Cert.Common

theorem half_eq : half = ((1 / 2 : ℝ) : EReal) := by
  simp [half, Ideal.ofBits, Ideal.ieee, -EReal.coe_mul]; norm_num

theorem root_isR : IsR root := by
  refine ⟨13386282 * 2 ^ (-24 : Int), ?_⟩
  simp [root, Ideal.ofBits, Ideal.ieee, -EReal.coe_mul]

/-- The quotient the reference writes the cubic term's factor as. -/
theorem quot_eq : Ideal.div (Ideal.ofBits .f32 0x472EAB00#32) (Ideal.ofBits .f32 0x49742400#32) = ca := by
  have e1 : Ideal.ofBits .f32 0x472EAB00#32 = ((44715 : ℝ) : EReal) := by
    simp [Ideal.ofBits, Ideal.ieee, -EReal.coe_mul]; norm_num
  have e2 : Ideal.ofBits .f32 0x49742400#32 = ((1000000 : ℝ) : EReal) := by
    simp [Ideal.ofBits, Ideal.ieee, -EReal.coe_mul]; norm_num
  rw [e1, e2, div_coe _ _ (by norm_num), ca]
  norm_num

theorem three_eq : Ideal.ofBits .f32 0x40400000#32 = ((3 : ℝ) : EReal) := by
  simp [Ideal.ofBits, Ideal.ieee, -EReal.coe_mul]; norm_num

/-- The reference's sum of the three parts of the product rule. -/
theorem gelu_grad {g y : EReal} (hg : IsR g) (hy : IsR y) :
    g * (half * (1 + th y)) + root * (half * (y * g) * ((1 + th y) * (1 - th y)))
      + ca * (root * (half * (y * g) * ((1 + th y) * (1 - th y)))) * (Ideal.ofBits .f32 0x40400000#32 * (y * y))
    = g * dgelu y := by
  obtain ⟨p, hp⟩ := root_isR
  obtain ⟨g, rfl⟩ := hg
  obtain ⟨y, rfl⟩ := hy
  obtain ⟨t, ht⟩ : IsR (th (y : EReal)) := by
    rw [th, hp, ca]
    simp only [← EReal.coe_mul, ← EReal.coe_add]
    exact ⟨_, Ideal.tanh_coe _⟩
  rw [dgelu, ht, hp, half_eq, three_eq, ca, ca3, ← EReal.coe_one]
  simp only [← EReal.coe_mul, ← EReal.coe_add, ← EReal.coe_sub]
  refine congrArg _ ?_
  ring

variable (x0 : FVec Ideal S4096x1024 .f32) (x1 : FVec Ideal S1024x2048 .bf16) (x2 : FVec Ideal S4096x2048 .bf16)

theorem v11 (r : Fin 4096) (k : Fin 1024) : val_main_v11 (F := Ideal) x0 (ix2 r k) = th (x0 (ix2 r k)) := by
  unfold val_main_v11 val_main_v10 val_main_v9 val_main_cst_2 val_main_v8 val_main_v7 val_main_v6 val_main_v0 val_main_cst
    val_main_cst_0 val_main_v2 val_main_v1
  pointwise
  rw [quot_eq, ← mul_assoc, ← mul_assoc]
  rfl

theorem v25 (r : Fin 4096) (k : Fin 1024) : val_main_v25 (F := Ideal) x1 x2 (ix2 r k) = dact x1 x2 r k := by
  unfold val_main_v25 val_main_v24 val_main_v22
  pointwise
  rfl

theorem v37_eq (h0 : ∀ i, IsR (x0 i)) (h1 : ∀ i, IsR (x1 i)) (h2 : ∀ i, IsR (x2 i)) :
    val_main_v37 (F := Ideal) x0 x1 x2 = gY x0 x1 x2 := by
  funext i
  idx_vars i
  have e := v11 x0 i0 i1
  have e2 := v25 x1 x2 i0 i1
  unfold val_main_v37 val_main_v36 val_main_v35 val_main_v34 val_main_v33 val_main_v32 val_main_v31 val_main_cst_8 val_main_v30
    val_main_v29 val_main_v28 val_main_cst_7 val_main_v27 val_main_v26 val_main_v20 val_main_v19 val_main_cst_6 val_main_v18
    val_main_v17 val_main_cst_5 val_main_v16 val_main_v15 val_main_v14 val_main_cst_4 val_main_v13 val_main_v12 val_main_cst_3
    val_main_v5 val_main_v4 val_main_cst_1 val_main_v3 val_main_v0 val_main_cst val_main_cst_0
  generalize val_main_v11 (F := Ideal) x0 = a at e ⊢
  generalize val_main_v25 (F := Ideal) x1 x2 = b at e2 ⊢
  pointwise
  rw [quot_eq, e, e2]
  exact gelu_grad (g := dact x1 x2 i0 i1) (IsR.sum _ fun _ => (h2 _).mul (h1 _)) (h0 _)

end Cert.Glus

end
-- ==== Proof.Glu.Claims.lean ====
/- The claims about the gated linear unit's gradient through the GELU. -/
module

public import proofs.«01_k».proof.Defs
public import proofs.«01_k».proof.Proof.Gen.Glu.Frame
public import proofs.«01_k».proof.Proof.Gen.GluRefIdeal.Run
public import proofs.«01_k».proof.Proof.Glu.Reference
public import Idealize.ShloMosaic.Adequacy
public import Idealize.ShloMosaic.Init

@[expose] public section

set_option maxRecDepth 16384

noncomputable section

namespace Cert.Glus

open Idealize.ShloMosaic Cert.Common
open Idealize.ShloMosaic.TcCoe Idealize.SL.Sem

instance preFacts : Cert.Pre_finite_glu.Facts where
  bcast_S_S4096x1024 := by decide
  bitsLt_bf16_f32 := by decide
  bcast_S_S1024x2048 := by decide
  bcast_S_S4096x2048 := by decide

theorem frame_kernel : Cert.quiescent_Glu := fun m ρ _ => Cert.Glu.Gen.frame m ρ

theorem frame_ideal : Cert.quiescent_GluIdeal := fun m ρ _ => Cert.GluIdeal.Gen.frame m ρ

theorem frame_ideal_pre : Cert.quiescent_GluIdeal_pre_finite_glu := fun m ρ _ => Cert.GluIdeal.Gen.frame m ρ

theorem frame_reference : Cert.quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

theorem frame_reference_pre : Cert.quiescent_GluRefIdeal_pre_finite_glu := fun m ρ _ => frame_reference m ρ trivial

theorem preserves : Cert.preserves_Glu_GluIdeal :=
  ⟨IdealRules.named_const.statement Cert.GluIdeal.κ "gelu_a" .f32 0x3D372713#32 ((8943 / 200000 : ℝ) : EReal) rfl,
    IdealRules.named_const.statement Cert.GluIdeal.κ "gelu_a3" .f32 0x3E095D4F#32 ((26829 / 200000 : ℝ) : EReal) rfl⟩

open Cert.GluRefIdeal.Read in
theorem algebraic : Cert.algebraic_GluIdeal_GluRefIdeal_pre_finite_glu := by
  intro m ρ m' ρ' hpre hagree
  refine ⟨_, run m ρ, ?_⟩
  refine (θ_run Cert.GluRefIdeal.defs _ _).mono (fun r h c => ?_) (Cert.GluRefIdeal.Value.run (F := Ideal) m' ρ')
  obtain ⟨r0, rest⟩ := h c
  obtain ⟨e0, e1, e2⟩ := hagree c
  obtain ⟨p0, p1, p2⟩ := hpre c
  have h0 := isR_of_cmp _ _ _ (fun _ => rfl) p0
  have h1 := isR_of_cmp _ _ _ (fun _ => rfl) p1
  have h2 := isR_of_cmp _ _ _ (fun _ => rfl) p2
  refine ⟨r0.trans ((val_main_v37_eq (F := Ideal) m' c).trans ?_), rest⟩
  rw [e0, e1, e2]
  exact v37_eq _ _ _ h0 h1 h2

end Cert.Glus

end
-- ==== Proof.Zoh.Kernel.lean ====
/- The gradient of the state space model's discretisation: the values the call's body names, each as the value of the same name in
   the reference. -/
module

public import Idealize.ShloMosaic.Lib.Pipeline.ValueKit.Tiles
public import Idealize.ShloMosaic.Lib.Pipeline.ValueKit.Geometry
public import proofs.«01_k».proof.Proof.Common.Reals
public import proofs.«01_k».proof.Proof.Gen.ZohIdeal.Frame
public import proofs.«01_k».proof.Proof.Gen.ZohRefIdeal.Read

@[expose] public section

set_option maxRecDepth 16384

noncomputable section

namespace Cert.Zohs

open Idealize.ShloMosaic Cert.ZohIdeal Cert.ZohIdeal.Gen Cert.ZohRefIdeal.Read Cert.Common
open Idealize.ShloMosaic.TcCoe Idealize.SL.Sem

/-- A column of the step sizes' logarithms. -/
def col (x : FVec Ideal S64 .f32) : FVec Ideal S64x1 .f32 := fun i => x (ix1 (i 0))

/-- An array with its last two axes exchanged. -/
def swap (x : FVec Ideal S64x64x16 .f32) : FVec Ideal S64x16x64 .f32 := fun i => x (ix3 (i 0) (i 2) (i 1))

variable (x0 x1 x5 x6 : FVec Ideal S64x64 .f32) (x2 : FVec Ideal S64 .f32) (x3 x4 x7 x8 : FVec Ideal S64x64x16 .f32)

theorem p7 : k0_pay7 (F := Ideal) x0 = val_main_v1 (F := Ideal) x0 := rfl
theorem p8 : k0_pay8 (F := Ideal) x0 = val_main_v10 (F := Ideal) x0 := rfl
theorem p9 : k0_pay9 (F := Ideal) (col x2) = val_main_v12 (F := Ideal) x2 := by
  funext i
  idx_vars i
  unfold val_main_v12 val_main_v11
  pointwise [k0_pay9]
  rfl

/-- A column along the rows: the kernel's broadcast and the host's. -/
theorem bcast_col (v : FVec Ideal S64x1 .f32) (h) :
    broadcastTo S64x64 v broadcasts_S64x1_S64x64 = broadcastInDim S64x64 ![0, 1] h v := by
  funext i
  idx_vars i
  pointwise

theorem p9b : broadcastTo S64x64 (k0_pay9 (F := Ideal) (col x2)) broadcasts_S64x1_S64x64 = val_main_v13 (F := Ideal) x2 := by
  rw [p9, bcast_col]; rfl

theorem p10 : k0_pay10 (F := Ideal) x0 (col x2) = val_main_v15 (F := Ideal) x0 x2 := by
  unfold k0_pay10; rw [p9b, p7]; rfl
theorem p11 : k0_pay11 (F := Ideal) x1 (col x2) = val_main_v17 (F := Ideal) x1 x2 := by
  unfold k0_pay11; rw [p9b]; rfl
theorem p12 : k0_pay12 (F := Ideal) x1 (col x2) = val_main_v18 (F := Ideal) x1 x2 := by
  unfold k0_pay12; rw [p11]; rfl
theorem p13 : k0_pay13 (F := Ideal) x1 (col x2) = val_main_v19 (F := Ideal) x1 x2 := by
  unfold k0_pay13; rw [p11]; rfl
theorem p14 : k0_pay14 (F := Ideal) x1 (col x2) = val_main_v21 (F := Ideal) x1 x2 := by
  unfold k0_pay14; rw [p11]; rfl
theorem p15 : k0_pay15 (F := Ideal) x1 (col x2) = val_main_v22 (F := Ideal) x1 x2 := by
  unfold k0_pay15; rw [p11]; rfl
theorem p16 : k0_pay16 (F := Ideal) x0 x1 (col x2) = val_main_v23 (F := Ideal) x0 x1 x2 := by
  unfold k0_pay16; rw [p10, p14]; rfl
theorem p17 : k0_pay17 (F := Ideal) x0 x1 = val_main_v26 (F := Ideal) x0 x1 := by
  unfold k0_pay17; rw [p7]; rfl
theorem p18 : k0_pay18 (F := Ideal) x0 x1 (col x2) = val_main_v28 (F := Ideal) x0 x1 x2 := by
  unfold k0_pay18; rw [p10, p12]; rfl
theorem p19 : k0_pay19 (F := Ideal) x0 x1 (col x2) = val_main_v31 (F := Ideal) x0 x1 x2 := by
  unfold k0_pay19; rw [p18, p16, p7]; rfl
theorem p20 : k0_pay20 (F := Ideal) x0 x1 (col x2) = val_main_v32 (F := Ideal) x0 x1 x2 := by
  unfold k0_pay20; rw [p19, p17]; rfl
theorem p22 : k0_pay22 (F := Ideal) (k0_pay21 x0 x1) = val_main_v35 (F := Ideal) x0 x1 := by
  unfold k0_pay22 k0_pay21; rw [p17]; rfl
theorem p23 : k0_pay23 (F := Ideal) x1 (val_main_v1 (F := Ideal) x0) (val_main_v23 (F := Ideal) x0 x1 x2) (val_main_v28 (F := Ideal) x0 x1 x2)
    = val_main_v38 (F := Ideal) x0 x1 x2 := rfl
theorem p24 : k0_pay24 (F := Ideal) x1 (val_main_v1 (F := Ideal) x0) (val_main_v23 (F := Ideal) x0 x1 x2) (val_main_v26 (F := Ideal) x0 x1)
    (val_main_v28 (F := Ideal) x0 x1 x2) = val_main_v39 (F := Ideal) x0 x1 x2 := rfl
theorem p25 : k0_pay25 (F := Ideal) (val_main_v26 (F := Ideal) x0 x1) = val_main_v42 (F := Ideal) x0 x1 := rfl

/-! ## The sums over a group's inputs -/

/-- A difference from nought is the negative. -/
theorem zero_sub_eq (x : EReal) : Ideal.ofBits .f32 0x00000000#32 - x = -x := by
  simp [Ideal.ofBits, Ideal.ieee, sub_eq_add_neg]

theorem subf_zero (x : FVec Ideal S64x64 .f32) :
    subf (broadcast S64x64 (Scalar.ofBits (F := Ideal) .f32 0x00000000#32)) x = Host.negf x :=
  funext fun i => zero_sub_eq (x i)

theorem p5 (x : FVec Ideal S64x16x64 .f32) : k0_pay5 (F := Ideal) x = x := by
  funext i; idx_vars i; pointwise [k0_pay5]
theorem p6 (x : FVec Ideal S64x16x64 .f32) : k0_pay6 (F := Ideal) x = x := by
  funext i; idx_vars i; pointwise [k0_pay6]
theorem p27 (x : FVec Ideal S64x16x64 .f32) : k0_pay27 (F := Ideal) x = x := by
  funext i; idx_vars i; pointwise [k0_pay27]
theorem p28 (x : FVec Ideal S64x16x64 .f32) : k0_pay28 (F := Ideal) x = x := by
  funext i; idx_vars i; pointwise [k0_pay28]

theorem p31 : k0_pay31 (F := Ideal) (swap x7) = swap (val_main_v72 (F := Ideal) x7) := by
  unfold k0_pay31; rw [p27]
  exact funext fun i => zero_sub_eq (swap x7 i)

theorem p30 : k0_pay30 (F := Ideal) (swap x4) (swap x8) = val_main_v70 (F := Ideal) x4 x8 := by
  unfold k0_pay30; rw [p28]
  funext i
  idx_vars i
  unfold val_main_v70 val_main_v69 val_main_v68 val_main_v67 val_main_v57 val_main_cst_10 val_main_cst_11
  pointwise
  rfl

theorem p33 : k0_pay33 (F := Ideal) (swap x3) (swap x4) (swap x7) (swap x8) = val_main_v80 (F := Ideal) x3 x4 x7 x8 := by
  unfold k0_pay33; rw [p28, p31]
  funext i
  idx_vars i
  unfold val_main_v80 val_main_v79 val_main_v78 val_main_v77 val_main_v76 val_main_v64 val_main_v63 val_main_v62 val_main_v61 val_main_v58
    val_main_cst_8 val_main_cst_9 val_main_cst_12 val_main_cst_13
  generalize val_main_v72 (F := Ideal) x7 = n
  pointwise
  rfl

theorem p35 : k0_pay35 (F := Ideal) (swap x3) (swap x7) (val_main_v70 (F := Ideal) x4 x8) = val_main_v88 (F := Ideal) x3 x4 x7 x8 := by
  funext i
  idx_vars i
  unfold val_main_v88 val_main_v87 val_main_v86 val_main_v85 val_main_v84 val_main_v71 val_main_cst_14 val_main_cst_15
  generalize val_main_v70 (F := Ideal) x4 x8 = n
  pointwise [k0_pay35]
  rfl

/-! ## The gradients with respect to the input matrix -/

theorem out12 : k0_pay34 (F := Ideal) (k0_pay26 (val_main_v32 (F := Ideal) x0 x1 x2)) (swap x7)
      (k0_pay29 x1 (val_main_v1 (F := Ideal) x0) (val_main_v23 (F := Ideal) x0 x1 x2) (val_main_v26 (F := Ideal) x0 x1)
        (val_main_v28 (F := Ideal) x0 x1 x2) (swap x8))
    = val_main_v148 (F := Ideal) x0 x1 x2 x7 x8 := by
  unfold k0_pay29; rw [p24, p28]
  funext i
  idx_vars i
  unfold val_main_v148 val_main_v83 val_main_v82 val_main_v81 val_main_v60 val_main_v59 val_main_v53 val_main_v43 val_main_v58 val_main_v71
  generalize val_main_v32 (F := Ideal) x0 x1 x2 = a
  generalize val_main_v39 (F := Ideal) x0 x1 x2 = b
  pointwise [k0_pay34, k0_pay26]
  rfl

theorem out13 : k0_pay32 (F := Ideal) x1 (val_main_v1 (F := Ideal) x0) (val_main_v23 (F := Ideal) x0 x1 x2) (val_main_v26 (F := Ideal) x0 x1)
        (val_main_v28 (F := Ideal) x0 x1 x2) (val_main_v32 (F := Ideal) x0 x1 x2) (swap x7) (swap x8)
    = val_main_v149 (F := Ideal) x0 x1 x2 x7 x8 := by
  unfold k0_pay32; rw [p24, p28, p31]
  funext i
  idx_vars i
  unfold val_main_v149 val_main_v75 val_main_v74 val_main_v73 val_main_v66 val_main_v65 val_main_v50 val_main_v46 val_main_v57
  generalize val_main_v32 (F := Ideal) x0 x1 x2 = a
  generalize val_main_v39 (F := Ideal) x0 x1 x2 = b
  generalize val_main_v72 (F := Ideal) x7 = n
  pointwise
  rfl

/-! ## The gradients with respect to the decays and the step sizes -/

theorem p36 : k0_pay36 (F := Ideal) (val_main_v26 (F := Ideal) x0 x1) (val_main_v80 (F := Ideal) x3 x4 x7 x8)
    = val_main_v92 (F := Ideal) x0 x1 x3 x4 x7 x8 := rfl
theorem p37 : k0_pay37 (F := Ideal) (val_main_v26 (F := Ideal) x0 x1) (val_main_v80 (F := Ideal) x3 x4 x7 x8)
    = val_main_v93 (F := Ideal) x0 x1 x3 x4 x7 x8 := by
  unfold k0_pay37; rw [p36]; dsimp only; rw [subf_zero]; rfl
theorem p38 : k0_pay38 (F := Ideal) (swap x3) (val_main_v31 (F := Ideal) x0 x1 x2) (val_main_v35 (F := Ideal) x0 x1)
      (val_main_v38 (F := Ideal) x0 x1 x2) (val_main_v42 (F := Ideal) x0 x1) (swap x7) (val_main_v70 (F := Ideal) x4 x8)
      (val_main_v80 (F := Ideal) x3 x4 x7 x8)
    = val_main_v103 (F := Ideal) x0 x1 x2 x3 x4 x7 x8 := by
  unfold k0_pay38; rw [p35]; dsimp only; rw [subf_zero, subf_zero]; rfl
theorem p39 : k0_pay39 (F := Ideal) (swap x3) (val_main_v26 (F := Ideal) x0 x1) (swap x7) (val_main_v70 (F := Ideal) x4 x8)
    = val_main_v104 (F := Ideal) x0 x1 x3 x4 x7 x8 := by
  unfold k0_pay39; rw [p35]; rfl
theorem p40 : k0_pay40 (F := Ideal) x1 (swap x3) (val_main_v1 (F := Ideal) x0) (val_main_v26 (F := Ideal) x0 x1) x6 (swap x7)
      (val_main_v70 (F := Ideal) x4 x8) (val_main_v80 (F := Ideal) x3 x4 x7 x8)
    = val_main_v108 (F := Ideal) x0 x1 x3 x4 x6 x7 x8 := by
  unfold k0_pay40; rw [p36, p39]; rfl
theorem p41 : k0_pay41 (F := Ideal) x1 (swap x3) (val_main_v1 (F := Ideal) x0) (val_main_v26 (F := Ideal) x0 x1) x5 (swap x7)
      (val_main_v70 (F := Ideal) x4 x8) (val_main_v80 (F := Ideal) x3 x4 x7 x8)
    = val_main_v112 (F := Ideal) x0 x1 x3 x4 x5 x7 x8 := by
  unfold k0_pay41; rw [p37, p39]; rfl
theorem p42 : k0_pay42 (F := Ideal) x1 (swap x3) (val_main_v23 (F := Ideal) x0 x1 x2) (val_main_v26 (F := Ideal) x0 x1)
      (val_main_v28 (F := Ideal) x0 x1 x2) (val_main_v31 (F := Ideal) x0 x1 x2) (val_main_v35 (F := Ideal) x0 x1)
      (val_main_v38 (F := Ideal) x0 x1 x2) (val_main_v42 (F := Ideal) x0 x1) (swap x7) (val_main_v70 (F := Ideal) x4 x8)
      (val_main_v80 (F := Ideal) x3 x4 x7 x8)
    = val_main_v116 (F := Ideal) x0 x1 x2 x3 x4 x7 x8 := by
  unfold k0_pay42; rw [p37, p38, p39]; rfl
theorem p43 : k0_pay43 (F := Ideal) (swap x3) (val_main_v1 (F := Ideal) x0) (val_main_v23 (F := Ideal) x0 x1 x2) (val_main_v26 (F := Ideal) x0 x1)
      (val_main_v28 (F := Ideal) x0 x1 x2) (val_main_v31 (F := Ideal) x0 x1 x2) (val_main_v35 (F := Ideal) x0 x1)
      (val_main_v38 (F := Ideal) x0 x1 x2) (val_main_v42 (F := Ideal) x0 x1) (swap x7) (val_main_v70 (F := Ideal) x4 x8)
      (val_main_v80 (F := Ideal) x3 x4 x7 x8)
    = val_main_v120 (F := Ideal) x0 x1 x2 x3 x4 x7 x8 := by
  unfold k0_pay43; rw [p36, p38, p39]; rfl
theorem p44 : k0_pay44 (F := Ideal) x1 (swap x3) (val_main_v1 (F := Ideal) x0) (val_main_v18 (F := Ideal) x1 x2) (val_main_v21 (F := Ideal) x1 x2)
      (val_main_v26 (F := Ideal) x0 x1) x5 x6 (swap x7) (val_main_v70 (F := Ideal) x4 x8) (val_main_v80 (F := Ideal) x3 x4 x7 x8)
    = val_main_v126 (F := Ideal) x0 x1 x2 x3 x4 x5 x6 x7 x8 := by
  unfold k0_pay44; rw [p40, p41]; rfl
theorem p45 : k0_pay45 (F := Ideal) x1 (swap x3) (val_main_v1 (F := Ideal) x0) (val_main_v15 (F := Ideal) x0 x2) (val_main_v19 (F := Ideal) x1 x2)
      (val_main_v22 (F := Ideal) x1 x2) (val_main_v26 (F := Ideal) x0 x1) x5 x6 (swap x7) (val_main_v70 (F := Ideal) x4 x8)
      (val_main_v80 (F := Ideal) x3 x4 x7 x8)
    = val_main_v129 (F := Ideal) x0 x1 x2 x3 x4 x5 x6 x7 x8 := by
  unfold k0_pay45; rw [p40, p41]; dsimp only; rw [subf_zero]; rfl
theorem p46 : k0_pay46 (F := Ideal) x1 (swap x3) (val_main_v1 (F := Ideal) x0) (val_main_v15 (F := Ideal) x0 x2) (val_main_v19 (F := Ideal) x1 x2)
      (val_main_v22 (F := Ideal) x1 x2) (val_main_v26 (F := Ideal) x0 x1) x5 x6 (swap x7) (val_main_v70 (F := Ideal) x4 x8)
      (val_main_v80 (F := Ideal) x3 x4 x7 x8)
    = val_main_v130 (F := Ideal) x0 x1 x2 x3 x4 x5 x6 x7 x8 := by
  unfold k0_pay46; rw [p45]; rfl

theorem out10 : k0_pay1 (F := Ideal) (val_main_v12 (F := Ideal) x2) (val_main_v116 (F := Ideal) x0 x1 x2 x3 x4 x7 x8)
      (val_main_v129 (F := Ideal) x0 x1 x2 x3 x4 x5 x6 x7 x8)
    = val_main_v135 (F := Ideal) x0 x1 x2 x3 x4 x5 x6 x7 x8 := by
  unfold k0_pay1; rw [bcast_col]; rfl

theorem out9 : k0_pay4 (F := Ideal) (val_main_v10 (F := Ideal) x0) (val_main_v12 (F := Ideal) x2) (val_main_v15 (F := Ideal) x0 x2)
      (val_main_v120 (F := Ideal) x0 x1 x2 x3 x4 x7 x8) (val_main_v126 (F := Ideal) x0 x1 x2 x3 x4 x5 x6 x7 x8)
    = val_main_v146 (F := Ideal) x0 x1 x2 x3 x4 x5 x6 x7 x8 := by
  unfold k0_pay4; rw [bcast_col]; rfl

theorem out11 : k0_pay3 (F := Ideal) (val_main_v1 (F := Ideal) x0) (val_main_v12 (F := Ideal) x2) (val_main_v15 (F := Ideal) x0 x2)
      (val_main_v126 (F := Ideal) x0 x1 x2 x3 x4 x5 x6 x7 x8) (val_main_v130 (F := Ideal) x0 x1 x2 x3 x4 x5 x6 x7 x8)
    = val_main_v147 (F := Ideal) x0 x1 x2 x3 x4 x5 x6 x7 x8 := by
  have e : mulf (val_main_v1 (F := Ideal) x0) (k0_pay2 (F := Ideal) (val_main_v15 (F := Ideal) x0 x2)
      (val_main_v126 (F := Ideal) x0 x1 x2 x3 x4 x5 x6 x7 x8)) = val_main_v137 (F := Ideal) x0 x1 x2 x3 x4 x5 x6 x7 x8 := rfl
  unfold k0_pay3; rw [e]
  funext i
  idx_vars i
  unfold val_main_v147 val_main_v145 val_main_v144 val_main_v140 val_main_v139 val_main_v138 val_main_v132 val_main_v131 val_main_v12
    val_main_cst_16 val_main_cst_17 val_main_cst_18
  generalize val_main_v137 (F := Ideal) x0 x1 x2 x3 x4 x5 x6 x7 x8 = a
  generalize val_main_v130 (F := Ideal) x0 x1 x2 x3 x4 x5 x6 x7 x8 = b
  generalize val_main_v11 (F := Ideal) x2 = n
  pointwise
  rw [Fin.sum_univ_one]

end Cert.Zohs

end
-- ==== Proof.Zoh.Results.lean ====
/- The gradient of the state space model's discretisation: what the call leaves in its result arrays, which is what the
   reference leaves. -/
module

public import Idealize.ShloMosaic.Lib.Pipeline.ValueKit.Tiles
public import Idealize.ShloMosaic.Lib.Pipeline.ValueKit.Geometry
public import proofs.«01_k».proof.Proof.Zoh.Kernel

@[expose] public section

set_option maxRecDepth 16384

noncomputable section

namespace Cert.Zohs

open Idealize.ShloMosaic Cert.ZohIdeal Cert.ZohIdeal.Gen Cert.ZohRefIdeal.Read Cert.Common
open Idealize.ShloMosaic.TcCoe Idealize.SL.Sem

/-! ## The values the frame names, at blocks that are whole arrays -/

section

variable (x0 x1 : FVec Ideal S64x64 .f32) (x2 : FVec Ideal S64 .f32) (x3 x4 : FVec Ideal S64x64x16 .f32) (x5 x6 : FVec Ideal S64x64 .f32)
  (x7 x8 : FVec Ideal S64x64x16 .f32)

theorem ld_a (x : Vec Ideal S64x64 .f32) : View.ld x r0_0 = x := View.ld_unit_lit inb_S64x64_S64x64_0_0 x (by decide)
theorem ld_b (x : Vec Ideal S64x1 .f32) : View.ld x r0_1 = x := View.ld_unit_lit inb_S64x1_S64x1_0_0 x (by decide)
theorem ld_c (x : Vec Ideal S64x16x64 .f32) : View.ld x r0_2 = x := View.ld_unit_lit inb_S64x16x64_S64x16x64_0_0_0 x (by decide)

theorem n47 : k0_pay47 (F := Ideal) x0 x1 (col x2) (swap x3) (swap x4) x5 x6 (swap x7) (swap x8) = swap x3 := by
  unfold k0_pay47; rw [ld_c, p5]
theorem n48 : k0_pay48 (F := Ideal) x0 x1 (col x2) (swap x3) (swap x4) x5 x6 (swap x7) (swap x8) = swap x4 := by
  unfold k0_pay48; rw [ld_c, p6]
theorem n49 : k0_pay49 (F := Ideal) x0 x1 (col x2) (swap x3) (swap x4) x5 x6 (swap x7) (swap x8) = val_main_v1 (F := Ideal) x0 := by
  unfold k0_pay49; rw [ld_a, p7]
theorem n50 : k0_pay50 (F := Ideal) x0 x1 (col x2) (swap x3) (swap x4) x5 x6 (swap x7) (swap x8) = val_main_v12 (F := Ideal) x2 := by
  unfold k0_pay50; rw [ld_b, p9]
theorem n51 : k0_pay51 (F := Ideal) x0 x1 (col x2) (swap x3) (swap x4) x5 x6 (swap x7) (swap x8) = val_main_v15 (F := Ideal) x0 x2 := by
  unfold k0_pay51; rw [ld_a, ld_b, p10]
theorem n52 : k0_pay52 (F := Ideal) x0 x1 (col x2) (swap x3) (swap x4) x5 x6 (swap x7) (swap x8) = val_main_v19 (F := Ideal) x1 x2 := by
  unfold k0_pay52; rw [ld_a, ld_b, p13]
theorem n53 : k0_pay53 (F := Ideal) x0 x1 (col x2) (swap x3) (swap x4) x5 x6 (swap x7) (swap x8) = val_main_v22 (F := Ideal) x1 x2 := by
  unfold k0_pay53; rw [ld_a, ld_b, p15]
theorem n54 : k0_pay54 (F := Ideal) x0 x1 (col x2) (swap x3) (swap x4) x5 x6 (swap x7) (swap x8) = val_main_v23 (F := Ideal) x0 x1 x2 := by
  unfold k0_pay54; rw [ld_a, ld_a, ld_b, p16]
theorem n55 : k0_pay55 (F := Ideal) x0 x1 (col x2) (swap x3) (swap x4) x5 x6 (swap x7) (swap x8) = val_main_v26 (F := Ideal) x0 x1 := by
  unfold k0_pay55; rw [ld_a, ld_a, p17]
theorem n56 : k0_pay56 (F := Ideal) x0 x1 (col x2) (swap x3) (swap x4) x5 x6 (swap x7) (swap x8) = val_main_v28 (F := Ideal) x0 x1 x2 := by
  unfold k0_pay56; rw [ld_a, ld_a, ld_b, p18]
theorem n57 : k0_pay57 (F := Ideal) x0 x1 (col x2) (swap x3) (swap x4) x5 x6 (swap x7) (swap x8) = val_main_v31 (F := Ideal) x0 x1 x2 := by
  unfold k0_pay57; rw [ld_a, ld_a, ld_b, p19]
theorem n58 : k0_pay58 (F := Ideal) x0 x1 (col x2) (swap x3) (swap x4) x5 x6 (swap x7) (swap x8) = val_main_v32 (F := Ideal) x0 x1 x2 := by
  unfold k0_pay58; rw [ld_a, ld_a, ld_b, p20]
theorem n59 : k0_pay59 (F := Ideal) x0 x1 (col x2) (swap x3) (swap x4) x5 x6 (swap x7) (swap x8) = val_main_v35 (F := Ideal) x0 x1 := by
  unfold k0_pay59; rw [ld_a, ld_a, p22]
theorem n60 : k0_pay60 (F := Ideal) x0 x1 (col x2) (swap x3) (swap x4) x5 x6 (swap x7) (swap x8) = val_main_v38 (F := Ideal) x0 x1 x2 := by
  unfold k0_pay60; rw [ld_a, n49, n54, n56, p23]
theorem n61 : k0_pay61 (F := Ideal) x0 x1 (col x2) (swap x3) (swap x4) x5 x6 (swap x7) (swap x8) = val_main_v42 (F := Ideal) x0 x1 := by
  unfold k0_pay61; rw [n55, p25]
theorem n62 : k0_pay62 (F := Ideal) x0 x1 (col x2) (swap x3) (swap x4) x5 x6 (swap x7) (swap x8) = swap x7 := by
  unfold k0_pay62; rw [ld_c, p27]
theorem n63 : k0_pay63 (F := Ideal) x0 x1 (col x2) (swap x3) (swap x4) x5 x6 (swap x7) (swap x8) = val_main_v70 (F := Ideal) x4 x8 := by
  unfold k0_pay63; rw [ld_c, n48, p30]
theorem n64 : k0_pay64 (F := Ideal) x0 x1 (col x2) (swap x3) (swap x4) x5 x6 (swap x7) (swap x8) = val_main_v80 (F := Ideal) x3 x4 x7 x8 := by
  unfold k0_pay64; rw [ld_c, ld_c, n47, n48, p33]
theorem n65 : k0_pay65 (F := Ideal) x0 x1 (col x2) (swap x3) (swap x4) x5 x6 (swap x7) (swap x8) = val_main_v126 (F := Ideal) x0 x1 x2 x3 x4 x5 x6 x7 x8 := by
  unfold k0_pay65; rw [n47, n49, n55, n62, n63, n64]; simp only [ld_a, ld_b, p12, p14, p44]

/-! ## The result arrays as functions of the arguments -/

def g9 : FVec Ideal S64x64 .f32 := val_main_v146 (F := Ideal) x0 x1 x2 x3 x4 x5 x6 x7 x8
theorem o9 : out0_9 (F := Ideal) x0 x1 (col x2) (swap x3) (swap x4) x5 x6 (swap x7) (swap x8) = g9 x0 x1 x2 x3 x4 x5 x6 x7 x8 := by
  unfold out0_9 g9
  rw [View.canon_cons_unit_lit _ _ _ (by decide)]
  rw [n47, n49, n50, n51, n54, n55, n56, n57, n59, n60, n61, n62, n63, n64, n65]
  simp only [ld_a, ld_b, ld_c, p8, p43, out9]

def g10 : FVec Ideal S64x64 .f32 := val_main_v135 (F := Ideal) x0 x1 x2 x3 x4 x5 x6 x7 x8
theorem o10 : out0_10 (F := Ideal) x0 x1 (col x2) (swap x3) (swap x4) x5 x6 (swap x7) (swap x8) = g10 x0 x1 x2 x3 x4 x5 x6 x7 x8 := by
  unfold out0_10 g10
  rw [View.canon_cons_unit_lit _ _ _ (by decide)]
  rw [n47, n49, n50, n51, n52, n53, n54, n55, n56, n57, n59, n60, n61, n62, n63, n64]
  simp only [ld_a, ld_b, ld_c, p42, p45, out10]

def g11 : FVec Ideal S64x1 .f32 := val_main_v147 (F := Ideal) x0 x1 x2 x3 x4 x5 x6 x7 x8
theorem o11 : out0_11 (F := Ideal) x0 x1 (col x2) (swap x3) (swap x4) x5 x6 (swap x7) (swap x8) = g11 x0 x1 x2 x3 x4 x5 x6 x7 x8 := by
  unfold out0_11 g11
  rw [View.canon_cons_unit_lit _ _ _ (by decide)]
  rw [n47, n49, n50, n51, n52, n53, n55, n62, n63, n64, n65]
  simp only [ld_a, ld_b, ld_c, p46, out11]

def g12 : FVec Ideal S64x16x64 .f32 := val_main_v148 (F := Ideal) x0 x1 x2 x7 x8
theorem o12 : out0_12 (F := Ideal) x0 x1 (col x2) (swap x3) (swap x4) x5 x6 (swap x7) (swap x8) = g12 x0 x1 x2 x7 x8 := by
  unfold out0_12 g12
  rw [View.canon_cons_unit_lit _ _ _ (by decide)]
  rw [n49, n54, n55, n56, n58, n62]
  simp only [ld_a, ld_b, ld_c, out12]

def g13 : FVec Ideal S64x16x64 .f32 := val_main_v149 (F := Ideal) x0 x1 x2 x7 x8
theorem o13 : out0_13 (F := Ideal) x0 x1 (col x2) (swap x3) (swap x4) x5 x6 (swap x7) (swap x8) = g13 x0 x1 x2 x7 x8 := by
  unfold out0_13 g13
  rw [View.canon_cons_unit_lit _ _ _ (by decide)]
  rw [n49, n54, n55, n56, n58]
  simp only [ld_a, ld_b, ld_c, out13]

end

variable (m : (ℓ : Loc nD τ sig) → Buf (Elt Ideal) ℓ) (ρ : Dev nD → PrngReg)

/-! ## The blocks -/

theorem idx_facts : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] ∧ win0_9.index t = ![0, 0] ∧ win0_10.index t = ![0, 0]
    ∧ win0_11.index t = ![0, 0] ∧ win0_12.index t = ![0, 0, 0] ∧ win0_13.index t = ![0, 0, 0] :=
  (by decide +kernel : ∀ t : Fin grid0.N, _)

section

variable (c : Dev nD) (t : Fin cfg0.N)

theorem cast_eq (x : FVec Ideal S64 .f32) : shapeCast S64x1 x shapeCasts_S64_S64x1 = col x := by
  funext i
  idx_vars i
  pointwise [col]

theorem transpose_eq (x : FVec Ideal S64x64x16 .f32) :
    transpose S64x16x64 [0, 2, 1] x transposes_S64x64x16_S64x16x64_0_2_1 = swap x := by
  funext i
  idx_vars i
  pointwise [swap]

theorem V_v0 : V m c main_v0 = col (m ((c : Thread nD τ).loc main_arg2)) := cast_eq _
theorem V_v1 : V m c main_v1 = swap (m ((c : Thread nD τ).loc main_arg3)) := transpose_eq _
theorem V_v2 : V m c main_v2 = swap (m ((c : Thread nD τ).loc main_arg4)) := transpose_eq _
theorem V_v3 : V m c main_v3 = swap (m ((c : Thread nD τ).loc main_arg7)) := transpose_eq _
theorem V_v4 : V m c main_v4 = swap (m ((c : Thread nD τ).loc main_arg8)) := transpose_eq _

theorem blk0 : iblk m c 0 t = V m c main_arg0 := by
  funext y
  idx_vars y
  obtain ⟨e, _⟩ := idx_facts t
  blk_ext [iblk, e]

theorem blk1 : iblk m c 1 t = V m c main_arg1 := by
  funext y
  idx_vars y
  obtain ⟨_, e, _⟩ := idx_facts t
  blk_ext [iblk, e]

theorem blk2 : iblk m c 2 t = V m c main_v0 := by
  funext y
  idx_vars y
  obtain ⟨_, _, e, _⟩ := idx_facts t
  blk_ext [iblk, e]

theorem blk3 : iblk m c 3 t = V m c main_v1 := by
  funext y
  idx_vars y
  obtain ⟨_, _, _, e, _⟩ := idx_facts t
  blk_ext [iblk, e]

theorem blk4 : iblk m c 4 t = V m c main_v2 := by
  funext y
  idx_vars y
  obtain ⟨_, _, _, _, e, _⟩ := idx_facts t
  blk_ext [iblk, e]

theorem blk5 : iblk m c 5 t = V m c main_arg5 := by
  funext y
  idx_vars y
  obtain ⟨_, _, _, _, _, e, _⟩ := idx_facts t
  blk_ext [iblk, e]

theorem blk6 : iblk m c 6 t = V m c main_arg6 := by
  funext y
  idx_vars y
  obtain ⟨_, _, _, _, _, _, e, _⟩ := idx_facts t
  blk_ext [iblk, e]

theorem blk7 : iblk m c 7 t = V m c main_v3 := by
  funext y
  idx_vars y
  obtain ⟨_, _, _, _, _, _, _, e, _⟩ := idx_facts t
  blk_ext [iblk, e]

theorem blk8 : iblk m c 8 t = V m c main_v4 := by
  funext y
  idx_vars y
  obtain ⟨_, _, _, _, _, _, _, _, e, _⟩ := idx_facts t
  blk_ext [iblk, e]

end

/-! ## The results -/

theorem final9 (c : Dev nD) : (dats m 0 c).arrAt 9 cfg0.N = g9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  idx_vars y
  have he : ((View.whole main_v5_0).slice (win0_9.rect t)).emb (ix2 y0 y1) = ix2 y0 y1 := by
    obtain ⟨_, _, _, _, _, _, _, _, _, e, _⟩ := idx_facts t
    blk_ext [e]
  rw [he, blk0, blk1, blk2, blk3, blk4, blk5, blk6, blk7, blk8, V_main_arg0, V_main_arg1, V_main_arg5, V_main_arg6, V_v0, V_v1, V_v2, V_v3, V_v4]
  exact congrFun (o9 _ _ _ _ _ _ _ _ _) _

theorem final10 (c : Dev nD) : (dats m 0 c).arrAt 10 cfg0.N = g10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  idx_vars y
  have he : ((View.whole main_v5_1).slice (win0_10.rect t)).emb (ix2 y0 y1) = ix2 y0 y1 := by
    obtain ⟨_, _, _, _, _, _, _, _, _, _, e, _⟩ := idx_facts t
    blk_ext [e]
  rw [he, blk0, blk1, blk2, blk3, blk4, blk5, blk6, blk7, blk8, V_main_arg0, V_main_arg1, V_main_arg5, V_main_arg6, V_v0, V_v1, V_v2, V_v3, V_v4]
  exact congrFun (o10 _ _ _ _ _ _ _ _ _) _

theorem final11 (c : Dev nD) : (dats m 0 c).arrAt 11 cfg0.N = g11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  rw [after0_11]
  idx_vars y
  have he : ((View.whole main_v5_2).slice (win0_11.rect t)).emb (ix2 y0 y1) = ix2 y0 y1 := by
    obtain ⟨_, _, _, _, _, _, _, _, _, _, _, e, _⟩ := idx_facts t
    blk_ext [e]
  rw [he, blk0, blk1, blk2, blk3, blk4, blk5, blk6, blk7, blk8, V_main_arg0, V_main_arg1, V_main_arg5, V_main_arg6, V_v0, V_v1, V_v2, V_v3, V_v4]
  exact congrFun (o11 _ _ _ _ _ _ _ _ _) _

theorem final12 (c : Dev nD) : (dats m 0 c).arrAt 12 cfg0.N = g12 (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 12 _ (by decide +kernel) fun t hf y => ?_
  blk_simp
  rw [after0_12]
  idx_vars y
  have he : ((View.whole main_v5_3).slice (win0_12.rect t)).emb (ix3 y0 y1 y2) = ix3 y0 y1 y2 := by
    obtain ⟨_, _, _, _, _, _, _, _, _, _, _, _, e, _⟩ := idx_facts t
    blk_ext [e]
  rw [he, blk0, blk1, blk2, blk3, blk4, blk5, blk6, blk7, blk8, V_main_arg0, V_main_arg1, V_main_arg5, V_main_arg6, V_v0, V_v1, V_v2, V_v3, V_v4]
  exact congrFun (o12 _ _ _ _ _ _ _ _ _) _

theorem final13 (c : Dev nD) : (dats m 0 c).arrAt 13 cfg0.N = g13 (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 13 _ (by decide +kernel) fun t hf y => ?_
  blk_simp
  rw [after0_13]
  idx_vars y
  have he : ((View.whole main_v5_4).slice (win0_13.rect t)).emb (ix3 y0 y1 y2) = ix3 y0 y1 y2 := by
    obtain ⟨_, _, _, _, _, _, _, _, _, _, _, _, _, e⟩ := idx_facts t
    blk_ext [e]
  rw [he, blk0, blk1, blk2, blk3, blk4, blk5, blk6, blk7, blk8, V_main_arg0, V_main_arg1, V_main_arg5, V_main_arg6, V_v0, V_v1, V_v2, V_v3, V_v4]
  exact congrFun (o13 _ _ _ _ _ _ _ _ _) _

/-- The run with the result arrays at their functions of the arguments. -/
theorem run : θ_run defs (onTc (τ := τ) (main (F := Ideal))) ⟨m, fun _ => 0, ρ⟩ fun r => ∀ c : Dev nD,
      r.2.mem ((c : Thread nD τ).loc main_v5_0) = g9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_1) = g10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_2) = g11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v5_3) = g12 (m ((c : Thread nD τ).loc main_arg0)) (m ((c : Thread nD τ).loc main_arg1)) (m ((c : Thread nD τ).loc main_arg2)) (m ((c : Thread nD τ).loc main_arg7)) (m ((c : Thread nD τ).loc main_arg8))
      ∧ r.2.mem ((c : Thread nD τ).loc main_v5_4) = g13 (m ((c : Thread nD τ).loc main_arg0)) (m ((c : Thread nD τ).loc main_arg1)) (m ((c : Thread nD τ).loc main_arg2)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h.2 c).1 9).trans (final9 m c), ((h.2 c).1 10).trans (final10 m c), ((h.2 c).1 11).trans (final11 m c),
      ((h.2 c).1 12).trans (final12 m c), ((h.2 c).1 13).trans (final13 m c), h.1 c⟩)
    (θ_run_and (unchanged m ρ) (run_main m ρ))

end Cert.Zohs

end
-- ==== Proof.Zoh.Claims.lean ====
/- The claims about the gradient of the discretisation. -/
module

public import proofs.«01_k».proof.Defs
public import proofs.«01_k».proof.Proof.Gen.Zoh.Frame
public import proofs.«01_k».proof.Proof.Gen.ZohRefIdeal.Run
public import proofs.«01_k».proof.Proof.Zoh.Results
public import Idealize.ShloMosaic.Adequacy
public import Idealize.ShloMosaic.Init

@[expose] public section

set_option maxRecDepth 16384

noncomputable section

namespace Cert.Zohs

open Idealize.ShloMosaic Cert.Common
open Idealize.ShloMosaic.TcCoe Idealize.SL.Sem

theorem frame_kernel : Cert.quiescent_Zoh := fun m ρ _ => Cert.Zoh.Gen.frame m ρ

theorem frame_ideal : Cert.quiescent_ZohIdeal := fun m ρ _ => Cert.ZohIdeal.Gen.frame m ρ

theorem frame_reference : Cert.quiescent_ZohRefIdeal := fun m ρ _ =>
  (θ_run Cert.ZohRefIdeal.defs _ _).mono (fun r h => ⟨fun c => (h c).2.2.2.2.2, sem_eq_zero_of_no_sems (by decide) r.2⟩)
    (Cert.ZohRefIdeal.Value.run (F := Ideal) m ρ)

open Cert.ZohRefIdeal.Read in
theorem algebraic : Cert.algebraic_ZohIdeal_ZohRefIdeal := by
  intro m ρ m' ρ' hpre hagree
  refine ⟨_, _, _, _, _, run m ρ, ?_⟩
  refine (θ_run Cert.ZohRefIdeal.defs _ _).mono (fun r h c => ?_) (Cert.ZohRefIdeal.Value.run (F := Ideal) m' ρ')
  obtain ⟨r0, r1, r2, r3, r4, rest⟩ := h c
  obtain ⟨e0, e1, e2, e3, e4, e5, e6, e7, e8⟩ := hagree c
  refine ⟨r0.trans ((val_main_v146_eq (F := Ideal) m' c).trans ?_), r1.trans ((val_main_v135_eq (F := Ideal) m' c).trans ?_),
    r2.trans ((val_main_v147_eq (F := Ideal) m' c).trans ?_), r3.trans ((val_main_v148_eq (F := Ideal) ..).trans ?_),
    r4.trans ((val_main_v149_eq (F := Ideal) ..).trans ?_), rest⟩
  · rw [e0, e1, e2, e3, e4, e5, e6, e7, e8, g9]
  · rw [e0, e1, e2, e3, e4, e5, e6, e7, e8, g10]
  · rw [e0, e1, e2, e3, e4, e5, e6, e7, e8, g11]
  · rw [e0, e1, e2, e7, e8, g12]
  · rw [e0, e1, e2, e7, e8, g13]

end Cert.Zohs

end
-- ==== Proof.Disc.Kernel.lean ====
/- The state space model's discretisation: the call's values as the reference's, and what it leaves in its result arrays. -/
module

public import Idealize.ShloMosaic.Lib.Pipeline.ValueKit.Tiles
public import Idealize.ShloMosaic.Lib.Pipeline.ValueKit.Geometry
public import proofs.«01_k».proof.Proof.Common.Reals
public import proofs.«01_k».proof.Proof.Gen.DiscIdeal.Frame
public import proofs.«01_k».proof.Proof.Gen.DiscRefIdeal.Read

@[expose] public section

set_option maxRecDepth 16384

noncomputable section

namespace Cert.Discs

open Idealize.ShloMosaic Cert.DiscIdeal Cert.DiscIdeal.Gen Cert.DiscRefIdeal.Read Cert.Common
open Idealize.ShloMosaic.TcCoe Idealize.SL.Sem

/-- A column of the step sizes' logarithms. -/
def col (x : FVec Ideal S64 .f32) : FVec Ideal S64x1 .f32 := fun i => x (ix1 (i 0))

/-- An input matrix with its last two axes exchanged. -/
def swap (x : FVec Ideal S64x64x16 .f32) : FVec Ideal S64x16x64 .f32 := fun i => x (ix3 (i 0) (i 2) (i 1))

/-! ## The values of the body -/

section

variable (x0 x1 : FVec Ideal S64x64 .f32) (x2 : FVec Ideal S64 .f32) (x3 x4 : FVec Ideal S64x64x16 .f32)

theorem p4 : k0_pay4 (F := Ideal) x0 = val_main_v1 (F := Ideal) x0 := rfl

theorem p5 : k0_pay5 (F := Ideal) (col x2) = val_main_v3 (F := Ideal) x2 := by
  funext i
  idx_vars i
  unfold val_main_v3 val_main_v2
  pointwise [k0_pay5]
  rfl

theorem bcast_col (v : FVec Ideal S64x1 .f32) (h) :
    broadcastTo S64x64 v broadcasts_S64x1_S64x64 = broadcastInDim S64x64 ![0, 1] h v := by
  funext i
  idx_vars i
  pointwise

theorem p5b : broadcastTo S64x64 (k0_pay5 (F := Ideal) (col x2)) broadcasts_S64x1_S64x64 = val_main_v4 (F := Ideal) x2 := by
  rw [p5, bcast_col]; rfl

theorem p6 : k0_pay6 (F := Ideal) x0 (col x2) = val_main_v6 (F := Ideal) x0 x2 := by
  unfold k0_pay6; rw [p5b, p4]; rfl
theorem p7 : k0_pay7 (F := Ideal) x1 (col x2) = val_main_v8 (F := Ideal) x1 x2 := by
  unfold k0_pay7; rw [p5b]; rfl
theorem p8 : k0_pay8 (F := Ideal) x0 x1 (col x2) = val_main_v10 (F := Ideal) x0 x1 x2 := by
  unfold k0_pay8; rw [p7, p6]; rfl
theorem p9 : k0_pay9 (F := Ideal) x0 x1 (col x2) = val_main_v12 (F := Ideal) x0 x1 x2 := by
  unfold k0_pay9; rw [p7, p6]; rfl
theorem p10 : k0_pay10 (F := Ideal) x0 x1 = val_main_v15 (F := Ideal) x0 x1 := by
  unfold k0_pay10; rw [p4]; rfl
theorem p11 : k0_pay11 (F := Ideal) x0 x1 (col x2) = val_main_v17 (F := Ideal) x0 x1 x2 := by
  unfold k0_pay11; rw [p8]; rfl
theorem p12 : k0_pay12 (F := Ideal) x0 x1 (col x2) = val_main_v21 (F := Ideal) x0 x1 x2 := by
  unfold k0_pay12; rw [p11, p4, p9, p10]; rfl
theorem p13 : k0_pay13 (F := Ideal) x0 x1 (col x2) = val_main_v25 (F := Ideal) x0 x1 x2 := by
  unfold k0_pay13; rw [p11, p4, p9, p10]; rfl

/-- The real part of the discretised input matrix. -/
theorem p14 : k0_pay14 (F := Ideal) x0 x1 (col x2) (swap x3) (swap x4) = val_main_v40 (F := Ideal) x0 x1 x2 x3 x4 := by
  unfold k0_pay14; rw [p12, p13]
  funext i
  idx_vars i
  unfold val_main_v40 val_main_v32 val_main_v31 val_main_v30 val_main_v29 val_main_v28 val_main_v27 val_main_v26
  generalize val_main_v21 (F := Ideal) x0 x1 x2 = a
  generalize val_main_v25 (F := Ideal) x0 x1 x2 = b
  pointwise [k0_pay2, k0_pay3]
  rfl

/-- Its imaginary part. -/
theorem p1 : k0_pay1 (F := Ideal) (k0_pay15 x0 x1 (col x2) (swap x4)) (k0_pay16 x0 x1 (col x2) (swap x3))
    = val_main_v41 (F := Ideal) x0 x1 x2 x3 x4 := by
  unfold k0_pay15 k0_pay16; rw [p12, p13]
  funext i
  idx_vars i
  unfold val_main_v41 val_main_v39 val_main_v38 val_main_v37 val_main_v36 val_main_v35 val_main_v34 val_main_v33
  generalize val_main_v21 (F := Ideal) x0 x1 x2 = a
  generalize val_main_v25 (F := Ideal) x0 x1 x2 = b
  pointwise [k0_pay1, k0_pay2, k0_pay3]
  rfl

theorem ld_a (x : Vec Ideal S64x64 .f32) : View.ld x r0_0 = x := View.ld_unit_lit inb_S64x64_S64x64_0_0 x (by decide)
theorem ld_b (x : Vec Ideal S64x1 .f32) : View.ld x r0_1 = x := View.ld_unit_lit inb_S64x1_S64x1_0_0 x (by decide)
theorem ld_c (x : Vec Ideal S64x16x64 .f32) : View.ld x r0_2 = x := View.ld_unit_lit inb_S64x16x64_S64x16x64_0_0_0 x (by decide)

/-! ## The result arrays as functions of the arguments -/

def g5 : FVec Ideal S64x64 .f32 := val_main_v10 (F := Ideal) x0 x1 x2
theorem o5 : out0_5 (F := Ideal) x0 x1 (col x2) (swap x3) (swap x4) = g5 x0 x1 x2 := by
  unfold out0_5 g5
  rw [View.canon_cons_unit_lit _ _ _ (by decide)]
  simp only [ld_a, ld_b, p8]

def g6 : FVec Ideal S64x64 .f32 := val_main_v12 (F := Ideal) x0 x1 x2
theorem o6 : out0_6 (F := Ideal) x0 x1 (col x2) (swap x3) (swap x4) = g6 x0 x1 x2 := by
  unfold out0_6 g6
  rw [View.canon_cons_unit_lit _ _ _ (by decide)]
  simp only [ld_a, ld_b, p9]

def g7 : FVec Ideal S64x16x64 .f32 := val_main_v40 (F := Ideal) x0 x1 x2 x3 x4
theorem o7 : out0_7 (F := Ideal) x0 x1 (col x2) (swap x3) (swap x4) = g7 x0 x1 x2 x3 x4 := by
  unfold out0_7 g7
  rw [View.canon_cons_unit_lit _ _ _ (by decide)]
  simp only [ld_a, ld_b, ld_c, p14]

def g8 : FVec Ideal S64x16x64 .f32 := val_main_v41 (F := Ideal) x0 x1 x2 x3 x4
theorem o8 : out0_8 (F := Ideal) x0 x1 (col x2) (swap x3) (swap x4) = g8 x0 x1 x2 x3 x4 := by
  unfold out0_8 g8
  rw [View.canon_cons_unit_lit _ _ _ (by decide)]
  simp only [ld_a, ld_b, ld_c, p1]

end

variable (m : (ℓ : Loc nD τ sig) → Buf (Elt Ideal) ℓ) (ρ : Dev nD → PrngReg)

/-! ## The blocks -/

theorem idx_facts : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] :=
  (by decide +kernel : ∀ t : Fin grid0.N, _)

section

variable (c : Dev nD) (t : Fin cfg0.N)

theorem cast_eq (x : FVec Ideal S64 .f32) : shapeCast S64x1 x shapeCasts_S64_S64x1 = col x := by
  funext i
  idx_vars i
  pointwise [col]

theorem transpose_eq (x : FVec Ideal S64x64x16 .f32) :
    transpose S64x16x64 [0, 2, 1] x transposes_S64x64x16_S64x16x64_0_2_1 = swap x := by
  funext i
  idx_vars i
  pointwise [swap]

theorem V_v0 : V m c main_v0 = col (m ((c : Thread nD τ).loc main_arg2)) := cast_eq _
theorem V_v1 : V m c main_v1 = swap (m ((c : Thread nD τ).loc main_arg3)) := transpose_eq _
theorem V_v2 : V m c main_v2 = swap (m ((c : Thread nD τ).loc main_arg4)) := transpose_eq _

theorem blk0 : iblk m c 0 t = V m c main_arg0 := by
  funext y
  idx_vars y
  obtain ⟨e, _⟩ := idx_facts t
  blk_ext [iblk, e]

theorem blk1 : iblk m c 1 t = V m c main_arg1 := by
  funext y
  idx_vars y
  obtain ⟨_, e, _⟩ := idx_facts t
  blk_ext [iblk, e]

theorem blk2 : iblk m c 2 t = V m c main_v0 := by
  funext y
  idx_vars y
  obtain ⟨_, _, e, _⟩ := idx_facts t
  blk_ext [iblk, e]

theorem blk3 : iblk m c 3 t = V m c main_v1 := by
  funext y
  idx_vars y
  obtain ⟨_, _, _, e, _⟩ := idx_facts t
  blk_ext [iblk, e]

theorem blk4 : iblk m c 4 t = V m c main_v2 := by
  funext y
  idx_vars y
  obtain ⟨_, _, _, _, e, _⟩ := idx_facts t
  blk_ext [iblk, e]

end

/-! ## The results -/

theorem final5 (c : Dev nD) : (dats m 0 c).arrAt 5 cfg0.N = g5 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  idx_vars y
  have he : ((View.whole main_v3_0).slice (win0_5.rect t)).emb (ix2 y0 y1) = ix2 y0 y1 := by
    obtain ⟨_, _, _, _, _, e, _⟩ := idx_facts t
    blk_ext [e]
  rw [he, blk0, blk1, blk2, blk3, blk4, V_main_arg0, V_main_arg1, V_v0, V_v1, V_v2]
  exact congrFun (o5 _ _ _ _ _) _

theorem final6 (c : Dev nD) : (dats m 0 c).arrAt 6 cfg0.N = g6 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  have he : ((View.whole main_v3_1).slice (win0_6.rect t)).emb (ix2 y0 y1) = ix2 y0 y1 := by
    obtain ⟨_, _, _, _, _, _, e, _⟩ := idx_facts t
    blk_ext [e]
  rw [he, blk0, blk1, blk2, blk3, blk4, V_main_arg0, V_main_arg1, V_v0, V_v1, V_v2]
  exact congrFun (o6 _ _ _ _ _) _

theorem final7 (c : Dev nD) : (dats m 0 c).arrAt 7 cfg0.N = g7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  idx_vars y
  have he : ((View.whole main_v3_2).slice (win0_7.rect t)).emb (ix3 y0 y1 y2) = ix3 y0 y1 y2 := by
    obtain ⟨_, _, _, _, _, _, _, e, _⟩ := idx_facts t
    blk_ext [e]
  rw [he, blk0, blk1, blk2, blk3, blk4, V_main_arg0, V_main_arg1, V_v0, V_v1, V_v2]
  exact congrFun (o7 _ _ _ _ _) _

theorem final8 (c : Dev nD) : (dats m 0 c).arrAt 8 cfg0.N = g8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  idx_vars y
  have he : ((View.whole main_v3_3).slice (win0_8.rect t)).emb (ix3 y0 y1 y2) = ix3 y0 y1 y2 := by
    obtain ⟨_, _, _, _, _, _, _, _, e⟩ := idx_facts t
    blk_ext [e]
  rw [he, blk0, blk1, blk2, blk3, blk4, V_main_arg0, V_main_arg1, V_v0, V_v1, V_v2]
  exact congrFun (o8 _ _ _ _ _) _

/-- The run with the result arrays at their functions of the arguments. -/
theorem run : θ_run defs (onTc (τ := τ) (main (F := Ideal))) ⟨m, fun _ => 0, ρ⟩ fun r => ∀ c : Dev nD,
      r.2.mem ((c : Thread nD τ).loc main_v3_0) = g5 (m ((c : Thread nD τ).loc main_arg0)) (m ((c : Thread nD τ).loc main_arg1)) (m ((c : Thread nD τ).loc main_arg2))
      ∧ r.2.mem ((c : Thread nD τ).loc main_v3_1) = g6 (m ((c : Thread nD τ).loc main_arg0)) (m ((c : Thread nD τ).loc main_arg1)) (m ((c : Thread nD τ).loc main_arg2))
      ∧ r.2.mem ((c : Thread nD τ).loc main_v3_2) = g7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v3_3) = g8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.2 c).1 5).trans (final5 m c), ((h.2 c).1 6).trans (final6 m c), ((h.2 c).1 7).trans (final7 m c),
      ((h.2 c).1 8).trans (final8 m c), h.1 c⟩)
    (θ_run_and (unchanged m ρ) (run_main m ρ))

end Cert.Discs

end
-- ==== Proof.Disc.Claims.lean ====
/- The claims about the discretisation. -/
module

public import proofs.«01_k».proof.Defs
public import proofs.«01_k».proof.Proof.Gen.Disc.Frame
public import proofs.«01_k».proof.Proof.Gen.DiscRefIdeal.Run
public import proofs.«01_k».proof.Proof.Disc.Kernel
public import Idealize.ShloMosaic.Adequacy
public import Idealize.ShloMosaic.Init

@[expose] public section

set_option maxRecDepth 16384

noncomputable section

namespace Cert.Discs

open Idealize.ShloMosaic Cert.Common
open Idealize.ShloMosaic.TcCoe Idealize.SL.Sem

theorem frame_kernel : Cert.quiescent_Disc := fun m ρ _ => Cert.Disc.Gen.frame m ρ

theorem frame_ideal : Cert.quiescent_DiscIdeal := fun m ρ _ => Cert.DiscIdeal.Gen.frame m ρ

theorem frame_reference : Cert.quiescent_DiscRefIdeal := fun m ρ _ =>
  (θ_run Cert.DiscRefIdeal.defs _ _).mono (fun r h => ⟨fun c => (h c).2.2.2.2, sem_eq_zero_of_no_sems (by decide) r.2⟩)
    (Cert.DiscRefIdeal.Value.run (F := Ideal) m ρ)

open Cert.DiscRefIdeal.Read in
theorem algebraic : Cert.algebraic_DiscIdeal_DiscRefIdeal := by
  intro m ρ m' ρ' hpre hagree
  refine ⟨_, _, _, _, run m ρ, ?_⟩
  refine (θ_run Cert.DiscRefIdeal.defs _ _).mono (fun r h c => ?_) (Cert.DiscRefIdeal.Value.run (F := Ideal) m' ρ')
  obtain ⟨r0, r1, r2, r3, rest⟩ := h c
  obtain ⟨e0, e1, e2, e3, e4⟩ := hagree c
  refine ⟨r0.trans ((val_main_v10_eq (F := Ideal) ..).trans ?_), r1.trans ((val_main_v12_eq (F := Ideal) ..).trans ?_),
    r2.trans ((val_main_v40_eq (F := Ideal) ..).trans ?_), r3.trans ((val_main_v41_eq (F := Ideal) ..).trans ?_), rest⟩
  · rw [e0, e1, e2, g5]
  · rw [e0, e1, e2, g6]
  · rw [e0, e1, e2, e3, e4, g7]
  · rw [e0, e1, e2, e3, e4, g8]

end Cert.Discs

end
-- ==== Proof.Proj.Kernel.lean ====
/- The first norm and the input projection: what the call leaves in its result arrays. -/
module

public import Idealize.ShloMosaic.Lib.Pipeline.ValueKit.Tiles
public import Idealize.ShloMosaic.Lib.Pipeline.ValueKit.Geometry
public import proofs.«01_k».proof.Proof.Common.Rms
public import proofs.«01_k».proof.Proof.Gen.ProjIdeal.Value

@[expose] public section

set_option maxRecDepth 16384

noncomputable section

namespace Cert.Projs

open Idealize.ShloMosaic Cert.ProjIdeal Cert.ProjIdeal.Gen Cert.Common
open Idealize.ShloMosaic.TcCoe Idealize.SL.Sem

section

variable (x : FVec Ideal S4096x2048 .f32) (gain : FVec Ideal S1x2048 .f32) (w : FVec Ideal S2048x4096 .bf16)

/-- A row of the input. -/
def line (r : Fin 4096) (k : Fin 2048) : EReal := x (ix2 r k)

/-- The normalised input. -/
def hnorm (r : Fin 4096) (k : Fin 2048) : EReal := line x r k * rms (line x r) * gain (ix2 (0 : Fin 1) k)

def gH : FVec Ideal S4096x2048 .bf16 := fun i => hnorm x gain (i 0) (i 1)

def gP : FVec Ideal S4096x4096 .f32 := fun i => (∑ k : Fin 2048, hnorm x gain (i 0) k * w (ix2 k (i 1)) : EReal)

end

variable (m : (ℓ : Loc nD τ sig) → Buf (Elt Ideal) ℓ) (ρ : Dev nD → PrngReg)

theorem idx_facts : ∀ t : Fin cfg0.N, win0_0.index t = ![t.val, 0] ∧ win0_1.index t = ![0, 0] ∧ win0_2.index t = ![0, 0]
    ∧ win0_4.index t = ![t.val, 0] ∧ win0_5.index t = ![t.val, 0] :=
  (by decide +kernel : ∀ t : Fin grid0.N, _)

/-- The array's row that a tile's row is. -/
def row (t : Fin cfg0.N) (r : Fin 256) : Fin 4096 :=
  ⟨t.val * 256 + r.val, by have := t.isLt; have := r.isLt; have h : cfg0.N = 16 := N_0; omega⟩

section

variable (c : Dev nD) (t : Fin cfg0.N)

theorem blk0 (r : Fin 256) (k : Fin 2048) : iblk m c 0 t (ix2 r k) = line (m ((c : Thread nD τ).loc main_arg0)) (row t r) k := by
  obtain ⟨e, _⟩ := idx_facts t
  unfold line
  blk_ext [iblk, V_main_arg0, e, row]

theorem blk1 (k : Fin 2048) : iblk m c 1 t (ix2 (0 : Fin 1) k) = m ((c : Thread nD τ).loc main_arg1) (ix2 (0 : Fin 1) k) := by
  obtain ⟨_, e, _⟩ := idx_facts t
  blk_ext [iblk, V_main_arg1, e]

theorem blk2 (r : Fin 2048) (k : Fin 4096) : iblk m c 2 t (ix2 r k) = m ((c : Thread nD τ).loc main_arg2) (ix2 r k) := by
  obtain ⟨_, _, e, _⟩ := idx_facts t
  blk_ext [iblk, V_main_arg2, e]

theorem ld_a (x : Vec Ideal S256x2048 .f32) : View.ld x r0_0 = x := View.ld_unit_lit inb_S256x2048_S256x2048_0_0 x (by decide)
theorem ld_b (x : Vec Ideal S1x2048 .f32) : View.ld x r0_1 = x := View.ld_unit_lit inb_S1x2048_S1x2048_0_0 x (by decide)
theorem ld_c (x : Vec Ideal S2048x4096 .bf16) : View.ld x r0_2 = x := View.ld_unit_lit inb_S2048x4096_S2048x4096_0_0 x (by decide)

theorem pay1 (r : Fin 256) (k : Fin 2048) : k0_pay1 (F := Ideal) (iblk m c 0 t) (iblk m c 1 t) (ix2 r k)
    = hnorm (m ((c : Thread nD τ).loc main_arg0)) (m ((c : Thread nD τ).loc main_arg1)) (row t r) k := by
  have e := fun k => blk0 m c t r k
  have e1 := blk1 m c t k
  generalize iblk m c 0 t = a at e ⊢
  generalize iblk m c 1 t = b at e1 ⊢
  pointwise [k0_pay1]
  simp only [e, e1]
  rfl

theorem out4 (y : S256x2048.Idx) : out0_4 (F := Ideal) (iblk m c 0 t) (iblk m c 1 t) (iblk m c 2 t) (iblk m c 3 t) y
    = gH (m ((c : Thread nD τ).loc main_arg0)) (m ((c : Thread nD τ).loc main_arg1)) (((View.whole main_v1_0).slice (win0_4.rect t)).emb y) := by
  idx_vars y
  have he : ((View.whole main_v1_0).slice (win0_4.rect t)).emb (ix2 y0 y1) = ix2 (row t y0) y1 := by
    obtain ⟨_, _, _, e, _⟩ := idx_facts t
    blk_ext [e, row]
  rw [he]
  unfold out0_4
  rw [View.canon_cons_unit_lit _ _ _ (by decide)]
  rw [ld_a, ld_b]
  exact pay1 m c t y0 y1

theorem out5 (y : S256x4096.Idx) : out0_5 (F := Ideal) (iblk m c 0 t) (iblk m c 1 t) (iblk m c 2 t) (iblk m c 3 t) y
    = gP (m ((c : Thread nD τ).loc main_arg0)) (m ((c : Thread nD τ).loc main_arg1)) (m ((c : Thread nD τ).loc main_arg2))
      (((View.whole main_v1_1).slice (win0_5.rect t)).emb y) := by
  idx_vars y
  have he : ((View.whole main_v1_1).slice (win0_5.rect t)).emb (ix2 y0 y1) = ix2 (row t y0) y1 := by
    obtain ⟨_, _, _, _, e⟩ := idx_facts t
    blk_ext [e, row]
  rw [he]
  unfold out0_5
  rw [View.canon_cons_unit_lit _ _ _ (by decide)]
  rw [ld_a, ld_b, ld_c]
  refine Eq.trans ?_ (Finset.sum_congr rfl fun k _ => congrArg₂ (fun u v : EReal => u * v) (pay1 m c t y0 k) (blk2 m c t k y1))
  unfold k0_pay2
  generalize k0_pay1 (F := Ideal) (iblk m c 0 t) (iblk m c 1 t) = a
  generalize iblk m c 2 t = b
  pointwise

end

theorem final4 (c : Dev nD) : (dats m 0 c).arrAt 4 cfg0.N = gH (m ((c : Thread nD τ).loc main_arg0)) (m ((c : Thread nD τ).loc main_arg1)) := by
  refine (dats m 0 c).arrAt_eq_of_covers 4 _ (by decide +kernel) fun t hf y => ?_
  blk_simp
  rw [after0_4]
  exact out4 m c t y

theorem final5 (c : Dev nD) : (dats m 0 c).arrAt 5 cfg0.N = gP (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5]
  exact out5 m c t y

/-- The run with the result arrays at their functions of the arguments. -/
theorem run : θ_run defs (onTc (τ := τ) (main (F := Ideal))) ⟨m, fun _ => 0, ρ⟩ fun r => ∀ c : Dev nD,
      r.2.mem ((c : Thread nD τ).loc main_v1_0) = gH (m ((c : Thread nD τ).loc main_arg0)) (m ((c : Thread nD τ).loc main_arg1))
      ∧ r.2.mem ((c : Thread nD τ).loc main_v1_1) = gP (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final4 m c), (h c).2.1.trans (final5 m c), (h c).2.2⟩)
    (Cert.ProjIdeal.Value.run_blocks m ρ)

end Cert.Projs

end
-- ==== Proof.Proj.Claims.lean ====
/- The claims about the first norm and the input projection. -/
module

public import proofs.«01_k».proof.Defs
public import proofs.«01_k».proof.Proof.Gen.Proj.Frame
public import proofs.«01_k».proof.Proof.Gen.ProjRefIdeal.Run
public import proofs.«01_k».proof.Proof.Gen.ProjRefIdeal.Read
public import proofs.«01_k».proof.Proof.Proj.Kernel
public import Idealize.ShloMosaic.Adequacy
public import Idealize.ShloMosaic.Init

@[expose] public section

set_option maxRecDepth 16384

noncomputable section

namespace Cert.Projs

open Idealize.ShloMosaic Cert.Common
open Idealize.ShloMosaic.TcCoe Idealize.SL.Sem

/-! ## The reference's results -/

section

open Cert.ProjRefIdeal Cert.ProjRefIdeal.Read

variable (x0 : FVec Ideal S4096x2048 .f32) (x1 : FVec Ideal S1x2048 .f32) (x2 : FVec Ideal S2048x4096 .bf16)

theorem v8 (r : Fin 4096) (u : Fin 1) : val_main_v8 (F := Ideal) x0 (ix2 r u) = rms (line x0 r) := by
  unfold val_main_v8 val_main_v7 val_main_v6 val_main_v5 val_main_v4 val_main_v3 val_main_v2 val_main_v1 val_main_cst val_main_cst_1
    val_main_cst_0
  pointwise
  rfl

theorem v13 (r : Fin 4096) (k : Fin 2048) : val_main_v13 (F := Ideal) x0 x1 (ix2 r k) = hnorm x0 x1 r k := by
  have e := v8 x0 r 0
  unfold val_main_v13 val_main_v12 val_main_v11 val_main_v10 val_main_v9 val_main_v0
  generalize val_main_v8 (F := Ideal) x0 = a at e ⊢
  pointwise
  rw [e]
  rfl

theorem v14_eq : val_main_v14 (F := Ideal) x0 x1 = gH x0 x1 := by
  funext i
  idx_vars i
  exact v13 x0 x1 i0 i1

theorem v16_eq : val_main_v16 (F := Ideal) x0 x1 x2 = gP x0 x1 x2 := by
  funext i
  idx_vars i
  refine Eq.trans ?_ (Finset.sum_congr rfl fun k _ => congrArg (fun u : EReal => u * x2 (ix2 k i1)) (v13 x0 x1 i0 k))
  unfold val_main_v16 val_main_v15
  generalize val_main_v13 (F := Ideal) x0 x1 = a
  pointwise

end

/-! ## The claims -/

theorem frame_kernel : Cert.quiescent_Proj := fun m ρ _ => Cert.Proj.Gen.frame m ρ

theorem frame_ideal : Cert.quiescent_ProjIdeal := fun m ρ _ => Cert.ProjIdeal.Gen.frame m ρ

theorem frame_reference : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

open Cert.ProjRefIdeal.Read in
theorem algebraic : Cert.algebraic_ProjIdeal_ProjRefIdeal := by
  intro m ρ m' ρ' hpre hagree
  refine ⟨_, _, run m ρ, ?_⟩
  refine (θ_run Cert.ProjRefIdeal.defs _ _).mono (fun r h c => ?_) (Cert.ProjRefIdeal.Value.run (F := Ideal) m' ρ')
  obtain ⟨r0, r1, rest⟩ := h c
  obtain ⟨e0, e1, e2⟩ := hagree c
  refine ⟨r0.trans ((val_main_v14_eq (F := Ideal) ..).trans ?_), r1.trans ((val_main_v16_eq (F := Ideal) ..).trans ?_), rest⟩
  · rw [e0, e1]
    exact (v14_eq _ _ :)
  · rw [e0, e1, e2]
    exact (v16_eq _ _ _ :)

end Cert.Projs

end
-- ==== Proof.Mix.Kernel.lean ====
/- The gates and the output projection: what the call leaves in its result arrays. -/
module

public import Idealize.ShloMosaic.Lib.Pipeline.ValueKit.Tiles
public import Idealize.ShloMosaic.Lib.Pipeline.ValueKit.Geometry
public import proofs.«01_k».proof.Proof.Common.Logistic
public import proofs.«01_k».proof.Proof.Gen.MixIdeal.Value

@[expose] public section

set_option maxRecDepth 16384

noncomputable section

namespace Cert.Mixes

open Idealize.ShloMosaic Cert.MixIdeal Cert.MixIdeal.Gen Cert.Common
open Idealize.ShloMosaic.TcCoe Idealize.SL.Sem

/-- A column of the second 1024. -/
def up (l : Fin 1024) : Fin 2048 := ⟨1024 + l.val, by omega⟩

/-- A column of the first 1024. -/
def lo (l : Fin 1024) : Fin 2048 := ⟨l.val, by omega⟩

/-- A column of the `b`-th 1024. -/
def blk (b : Fin 4) (l : Fin 1024) : Fin 4096 := ⟨1024 * b.val + l.val, by omega⟩

section

variable (mixed : FVec Ideal S4096x1024 .f32) (proj : FVec Ideal S4096x4096 .f32) (hg : FVec Ideal S4096x2048 .f32)
  (scale : FVec Ideal S1x1024 .f32) (w : FVec Ideal S2048x2048 .bf16) (x : FVec Ideal S4096x2048 .f32)

/-- The gated unit. -/
def silu (v : EReal) : EReal := v * sg v

/-- The pooling branch, scaled and gated. -/
def poolAt (r : Fin 4096) (l : Fin 1024) : EReal :=
  mixed (ix2 r l) * scale (ix2 (0 : Fin 1) l) * silu (proj (ix2 r (blk 1 l)))

/-- The state space branch through its linear unit, gated. -/
def ssmAt (r : Fin 4096) (l : Fin 1024) : EReal :=
  hg (ix2 r (lo l)) * sg (hg (ix2 r (up l))) * silu (proj (ix2 r (blk 3 l)))

/-- The two branches side by side. -/
def catAt (r : Fin 4096) (k : Fin 2048) : EReal :=
  if h : k.val < 1024 then poolAt mixed proj scale r ⟨k.val, h⟩ else ssmAt proj hg r ⟨k.val - 1024, by omega⟩

/-- The residual stream after the layer. -/
def resAt (r : Fin 4096) (j : Fin 2048) : EReal := x (ix2 r j) + ∑ k : Fin 2048, catAt mixed proj hg scale r k * w (ix2 k j)

def gCat : FVec Ideal S4096x2048 .bf16 := fun i => catAt mixed proj hg scale (i 0) (i 1)

def gRes : FVec Ideal S4096x2048 .f32 := fun i => resAt mixed proj hg scale w x (i 0) (i 1)

def gResB : FVec Ideal S4096x2048 .bf16 := fun i => resAt mixed proj hg scale w x (i 0) (i 1)

theorem catAt_lo (r : Fin 4096) (l : Fin 1024) : catAt mixed proj hg scale r (lo l) = poolAt mixed proj scale r l := by
  unfold catAt lo
  rw [dif_pos l.isLt]

theorem catAt_up (r : Fin 4096) (l : Fin 1024) : catAt mixed proj hg scale r (up l) = ssmAt proj hg r l := by
  unfold catAt up
  rw [dif_neg (by simp)]
  congr 1
  apply Fin.ext; simp

end

variable (m : (ℓ : Loc nD τ sig) → Buf (Elt Ideal) ℓ) (ρ : Dev nD → PrngReg)

theorem idx_facts : ∀ t : Fin cfg0.N, win0_0.index t = ![t.val, 0] ∧ win0_1.index t = ![t.val, 1] ∧ win0_2.index t = ![t.val, 3]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The array's row that a tile's row is. -/
def row (t : Fin cfg0.N) (r : Fin 256) : Fin 4096 :=
  ⟨t.val * 256 + r.val, by have := t.isLt; have := r.isLt; have h : cfg0.N = 16 := N_0; omega⟩

section

variable (c : Dev nD) (t : Fin cfg0.N)

theorem blk0 (r : Fin 256) (l : Fin 1024) : iblk m c 0 t (ix2 r l) = m ((c : Thread nD τ).loc main_arg0) (ix2 (row t r) l) := by
  obtain ⟨e, _⟩ := idx_facts t
  blk_ext [iblk, V_main_arg0, e, row]

theorem blk1 (r : Fin 256) (l : Fin 1024) : iblk m c 1 t (ix2 r l) = m ((c : Thread nD τ).loc main_arg1) (ix2 (row t r) (blk 1 l)) := by
  obtain ⟨_, e, _⟩ := idx_facts t
  blk_ext [iblk, V_main_arg1, e, row, blk]

theorem blk2 (r : Fin 256) (l : Fin 1024) : iblk m c 2 t (ix2 r l) = m ((c : Thread nD τ).loc main_arg1) (ix2 (row t r) (blk 3 l)) := by
  obtain ⟨_, _, e, _⟩ := idx_facts t
  blk_ext [iblk, V_main_arg1, e, row, blk]

theorem blk3_lo (r : Fin 256) (l : Fin 1024) :
    View.ld (iblk m c 3 t) (Rect.unit ![0, 0] ![256, 1024] inb_S256x2048_S256x1024_0_0) (ix2 r l)
      = m ((c : Thread nD τ).loc main_arg2) (ix2 (row t r) (lo l)) := by
  obtain ⟨_, _, _, e, _⟩ := idx_facts t
  rw [View.ld_apply]
  blk_ext [iblk, V_main_arg2, e, row, lo, Rect.idx_unit_val]

theorem blk3_up (r : Fin 256) (l : Fin 1024) :
    View.ld (iblk m c 3 t) (Rect.unit ![0, 1024] ![256, 1024] inb_S256x2048_S256x1024_0_1024) (ix2 r l)
      = m ((c : Thread nD τ).loc main_arg2) (ix2 (row t r) (up l)) := by
  obtain ⟨_, _, _, e, _⟩ := idx_facts t
  rw [View.ld_apply]
  blk_ext [iblk, V_main_arg2, e, row, up, Rect.idx_unit_val]

theorem blk4 (l : Fin 1024) : iblk m c 4 t (ix2 (0 : Fin 1) l) = m ((c : Thread nD τ).loc main_arg3) (ix2 (0 : Fin 1) l) := by
  obtain ⟨_, _, _, _, e, _⟩ := idx_facts t
  blk_ext [iblk, V_main_arg3, e]

theorem blk5 (k j : Fin 2048) : iblk m c 5 t (ix2 k j) = m ((c : Thread nD τ).loc main_arg4) (ix2 k j) := by
  obtain ⟨_, _, _, _, _, e, _⟩ := idx_facts t
  blk_ext [iblk, V_main_arg4, e]

theorem blk6 (r : Fin 256) (j : Fin 2048) : iblk m c 6 t (ix2 r j) = m ((c : Thread nD τ).loc main_arg5) (ix2 (row t r) j) := by
  obtain ⟨_, _, _, _, _, _, e, _⟩ := idx_facts t
  blk_ext [iblk, V_main_arg5, e, row]

/-! ## A tile of the two branches -/

theorem out_lo (y : S256x1024.Idx) : k0_pay4 (F := Ideal) (iblk m c 1 t) (iblk m c 0 t) (iblk m c 4 t) y
    = poolAt (m ((c : Thread nD τ).loc main_arg0)) (m ((c : Thread nD τ).loc main_arg1)) (m ((c : Thread nD τ).loc main_arg3)) (row t (y 0)) (y 1) := by
  idx_vars y
  have e0 := blk0 m c t y0 y1
  have e1 := blk1 m c t y0 y1
  have e4 := blk4 m c t y1
  generalize iblk m c 0 t = a0 at e0 ⊢
  generalize iblk m c 1 t = a1 at e1 ⊢
  generalize iblk m c 4 t = a4 at e4 ⊢
  pointwise [k0_pay4]
  rw [e0, e1, e4]
  rfl

theorem out_up (y : S256x1024.Idx) : k0_pay1 (F := Ideal) (k0_pay5 (iblk m c 2 t))
      (k0_pay6 (View.ld (iblk m c 3 t) (Rect.unit ![0, 0] ![256, 1024] inb_S256x2048_S256x1024_0_0))
        (View.ld (iblk m c 3 t) (Rect.unit ![0, 1024] ![256, 1024] inb_S256x2048_S256x1024_0_1024))) y
    = ssmAt (m ((c : Thread nD τ).loc main_arg1)) (m ((c : Thread nD τ).loc main_arg2)) (row t (y 0)) (y 1) := by
  idx_vars y
  have e2 := blk2 m c t y0 y1
  have e3 := blk3_lo m c t y0 y1
  have e4 := blk3_up m c t y0 y1
  generalize iblk m c 2 t = a2 at e2 ⊢
  generalize View.ld (iblk m c 3 t) (Rect.unit ![0, 0] ![256, 1024] inb_S256x2048_S256x1024_0_0) = a3 at e3 ⊢
  generalize View.ld (iblk m c 3 t) (Rect.unit ![0, 1024] ![256, 1024] inb_S256x2048_S256x1024_0_1024) = a4 at e4 ⊢
  pointwise [k0_pay1, k0_pay5, k0_pay6]
  rw [e2, e3, e4]
  rfl

/-- What the body stores of the two branches, in its two stores, and reads back. -/
def catT : FVec Ideal S256x2048 .bf16 := fun y =>
  catAt (m ((c : Thread nD τ).loc main_arg0)) (m ((c : Thread nD τ).loc main_arg1)) (m ((c : Thread nD τ).loc main_arg2))
    (m ((c : Thread nD τ).loc main_arg3)) (row t (y 0)) (y 1)

theorem canon_eq : View.canon (Val := Elt Ideal) (s := S256x2048) (e := .bf16)
      [⟨Rect.unit ![0, 1024] ![256, 1024] inb_S256x2048_S256x1024_0_1024, k0_pay1 (F := Ideal) (k0_pay5 (iblk m c 2 t))
        (k0_pay6 (View.ld (iblk m c 3 t) (Rect.unit ![0, 0] ![256, 1024] inb_S256x2048_S256x1024_0_0))
          (View.ld (iblk m c 3 t) (Rect.unit ![0, 1024] ![256, 1024] inb_S256x2048_S256x1024_0_1024)))⟩,
      ⟨Rect.unit ![0, 0] ![256, 1024] inb_S256x2048_S256x1024_0_0, k0_pay4 (F := Ideal) (iblk m c 1 t) (iblk m c 0 t) (iblk m c 4 t)⟩]
    = catT m c t := by
  funext y
  have hl : ∀ l : Fin 1024, (y 1).val = l.val → y 1 = lo l := fun l h => Fin.ext h
  have hu : ∀ l : Fin 1024, (y 1).val = 1024 + l.val → y 1 = up l := fun l h => Fin.ext h
  canon_tiles x hx
  · have e0 : y 0 = x 0 := Fin.ext hx0
    unfold catT
    rw [e0, hu (x 1) hx1]
    exact (out_up m c t x).trans (catAt_up ..).symm
  · have e0 : y 0 = x 0 := Fin.ext hx0
    unfold catT
    rw [e0, hl (x 1) (by simpa using hx1)]
    exact (out_lo m c t x).trans (catAt_lo ..).symm

/-- The same read back through its whole rectangle. -/
theorem readback : View.ld (View.canon (Val := Elt Ideal) (s := S256x2048) (e := .bf16)
      [⟨Rect.unit ![0, 1024] ![256, 1024] inb_S256x2048_S256x1024_0_1024, k0_pay1 (F := Ideal) (k0_pay5 (iblk m c 2 t))
        (k0_pay6 (View.ld (iblk m c 3 t) (Rect.unit ![0, 0] ![256, 1024] inb_S256x2048_S256x1024_0_0))
          (View.ld (iblk m c 3 t) (Rect.unit ![0, 1024] ![256, 1024] inb_S256x2048_S256x1024_0_1024)))⟩,
      ⟨Rect.unit ![0, 0] ![256, 1024] inb_S256x2048_S256x1024_0_0, k0_pay4 (F := Ideal) (iblk m c 1 t) (iblk m c 0 t) (iblk m c 4 t)⟩])
      (Rect.unit ![0, 0] ![256, 2048] inb_S256x2048_S256x2048_0_0) = catT m c t := by
  rw [canon_eq m c t]
  exact View.ld_unit_lit (Val := Elt Ideal) (e := .bf16) (S := S256x2048) (off := ![0, 0]) inb_S256x2048_S256x2048_0_0 (catT m c t) (by decide)

/-- The residual stream's tile, from the branches' tile. -/
theorem pay2 (y0 : Fin 256) (y1 : Fin 2048) : k0_pay2 (F := Ideal) (iblk m c 6 t) (catT m c t) (iblk m c 5 t) (ix2 y0 y1)
    = resAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row t y0) y1 := by
  have e : ∀ k, catT m c t (ix2 y0 k) = catAt (m ((c : Thread nD τ).loc main_arg0)) (m ((c : Thread nD τ).loc main_arg1))
      (m ((c : Thread nD τ).loc main_arg2)) (m ((c : Thread nD τ).loc main_arg3)) (row t y0) k := fun _ => rfl
  have e5 := fun k => blk5 m c t k y1
  have e6 := blk6 m c t y0 y1
  generalize catT m c t = a at e ⊢
  generalize iblk m c 5 t = b at e5 ⊢
  generalize iblk m c 6 t = d at e6 ⊢
  pointwise [k0_pay2]
  simp only [e, e5, e6]
  rfl

end

/-! ## The results -/

theorem final7 (c : Dev nD) : (dats m 0 c).arrAt 7 cfg0.N = gCat (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]
  unfold outsAt0
  frame_out
  refine (congrFun (canon_eq m c t) y).trans ?_
  idx_vars y
  have he : ((View.whole main_v0_0).slice (win0_7.rect t)).emb (ix2 y0 y1) = ix2 (row t y0) y1 := by
    obtain ⟨_, _, _, _, _, _, _, e, _⟩ := idx_facts t
    blk_ext [e, row]
  rw [he]
  rfl

theorem final8 (c : Dev nD) : (dats m 0 c).arrAt 8 cfg0.N = gRes (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  unfold outsAt0
  frame_out
  rw [View.readCov_eq_canon']
  refine (congrFun (congrArg (fun z => k0_pay2 (F := Ideal) (iblk m c 6 t) z (iblk m c 5 t)) (readback m c t)) y).trans ?_
  idx_vars y
  have he : ((View.whole main_v0_1).slice (win0_8.rect t)).emb (ix2 y0 y1) = ix2 (row t y0) y1 := by
    obtain ⟨_, _, _, _, _, _, _, _, e, _⟩ := idx_facts t
    blk_ext [e, row]
  rw [he]
  exact pay2 m c t y0 y1

theorem final9 (c : Dev nD) : (dats m 0 c).arrAt 9 cfg0.N = gResB (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  unfold outsAt0
  frame_out
  rw [View.readCov_eq_canon']
  refine (congrFun (congrArg (fun z => k0_pay2 (F := Ideal) (iblk m c 6 t) z (iblk m c 5 t)) (readback m c t)) y).trans ?_
  idx_vars y
  have he : ((View.whole main_v0_2).slice (win0_9.rect t)).emb (ix2 y0 y1) = ix2 (row t y0) y1 := by
    obtain ⟨_, _, _, _, _, _, _, _, _, e⟩ := idx_facts t
    blk_ext [e, row]
  rw [he]
  exact pay2 m c t y0 y1

/-- The run with the result arrays at their functions of the arguments. -/
theorem run : θ_run defs (onTc (τ := τ) (main (F := Ideal))) ⟨m, fun _ => 0, ρ⟩ fun r => ∀ c : Dev nD,
      r.2.mem ((c : Thread nD τ).loc main_v0_0) = gCat (m ((c : Thread nD τ).loc main_arg0)) (m ((c : Thread nD τ).loc main_arg1))
        (m ((c : Thread nD τ).loc main_arg2)) (m ((c : Thread nD τ).loc main_arg3))
      ∧ r.2.mem ((c : Thread nD τ).loc main_v0_1) = gRes (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = gResB (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final7 m c), (h c).2.1.trans (final8 m c), (h c).2.2.1.trans (final9 m c), (h c).2.2.2⟩)
    (Cert.MixIdeal.Value.run_blocks m ρ)

end Cert.Mixes

end
-- ==== Proof.Mix.Claims.lean ====
/- The claims about the gates and the output projection. -/
module

public import proofs.«01_k».proof.Defs
public import proofs.«01_k».proof.Proof.Gen.Mix.Frame
public import proofs.«01_k».proof.Proof.Gen.MixRefIdeal.Run
public import proofs.«01_k».proof.Proof.Gen.MixRefIdeal.Read
public import proofs.«01_k».proof.Proof.Mix.Kernel
public import Idealize.ShloMosaic.Adequacy
public import Idealize.ShloMosaic.Init

@[expose] public section

set_option maxRecDepth 16384

noncomputable section

namespace Cert.Mixes

open Idealize.ShloMosaic Cert.Common
open Idealize.ShloMosaic.TcCoe Idealize.SL.Sem

/-! ## The reference's results -/

section

open Cert.MixRefIdeal Cert.MixRefIdeal.Read

variable (x0 : FVec Ideal S4096x1024 .f32) (x1 : FVec Ideal S4096x4096 .f32) (x2 : FVec Ideal S4096x2048 .f32)
  (x3 : FVec Ideal S1x1024 .f32) (x4 : FVec Ideal S2048x2048 .bf16) (x5 : FVec Ideal S4096x2048 .f32)

theorem v6 (r : Fin 4096) (l : Fin 1024) : val_main_v6 (F := Ideal) x0 x1 x3 (ix2 r l) = poolAt x0 x1 x3 r l := by
  unfold val_main_v6 val_main_v5 val_main_call0_v5 val_main_call0_v4 val_main_call0_cst_0 val_main_call0_v3 val_main_call0_v2 val_main_call0_cst
    val_main_call0_v1 val_main_call0_v0 val_main_v4 val_main_v3 val_main_v2 val_main_v1 val_main_v0
  pointwise
  simp only [sg_neg]
  rfl

theorem v18 (r : Fin 4096) (l : Fin 1024) : val_main_v18 (F := Ideal) x1 x2 (ix2 r l) = ssmAt x1 x2 r l := by
  unfold val_main_v18 val_main_v17 val_main_call1_v5 val_main_call1_v4 val_main_call1_cst_0 val_main_call1_v3 val_main_call1_v2
    val_main_call1_cst val_main_call1_v1 val_main_call1_v0 val_main_v16 val_main_v15 val_main_v14 val_main_v13 val_main_cst_0 val_main_v12
    val_main_v11 val_main_cst val_main_v10 val_main_v9 val_main_v8 val_main_v7
  pointwise
  simp only [sg_neg]
  rfl

theorem v19 (r : Fin 4096) (k : Fin 2048) : val_main_v19 (F := Ideal) x0 x1 x2 x3 (ix2 r k) = catAt x0 x1 x2 x3 r k := by
  have e := v6 x0 x1 x3 r
  have e' := v18 x1 x2 r
  unfold val_main_v19
  generalize val_main_v6 (F := Ideal) x0 x1 x3 = a at e ⊢
  generalize val_main_v18 (F := Ideal) x1 x2 = b at e' ⊢
  pointwise
  unfold catAt
  split
  · exact e _
  · exact e' _

theorem v22 (r : Fin 4096) (j : Fin 2048) : val_main_v22 (F := Ideal) x0 x1 x2 x3 x4 x5 (ix2 r j) = resAt x0 x1 x2 x3 x4 x5 r j := by
  have e := v19 x0 x1 x2 x3 r
  unfold val_main_v22 val_main_v21 val_main_v20
  generalize val_main_v19 (F := Ideal) x0 x1 x2 x3 = a at e ⊢
  pointwise
  simp only [e]
  rfl

theorem v23_eq : val_main_v23 (F := Ideal) x0 x1 x2 x3 = gCat x0 x1 x2 x3 := by
  funext i
  idx_vars i
  exact v19 x0 x1 x2 x3 i0 i1

theorem v22_eq : val_main_v22 (F := Ideal) x0 x1 x2 x3 x4 x5 = gRes x0 x1 x2 x3 x4 x5 := by
  funext i
  idx_vars i
  exact v22 x0 x1 x2 x3 x4 x5 i0 i1

theorem v24_eq : val_main_v24 (F := Ideal) x0 x1 x2 x3 x4 x5 = gResB x0 x1 x2 x3 x4 x5 := by
  funext i
  idx_vars i
  exact v22 x0 x1 x2 x3 x4 x5 i0 i1

end

/-! ## The claims -/

theorem frame_kernel : Cert.quiescent_Mix := fun m ρ _ => Cert.Mix.Gen.frame m ρ

theorem frame_ideal : Cert.quiescent_MixIdeal := fun m ρ _ => Cert.MixIdeal.Gen.frame m ρ

theorem frame_reference : Cert.quiescent_MixRefIdeal := fun m ρ _ =>
  (θ_run Cert.MixRefIdeal.defs _ _).mono (fun r h => ⟨fun c => (h c).2.2.2, sem_eq_zero_of_no_sems (by decide) r.2⟩)
    (Cert.MixRefIdeal.Value.run (F := Ideal) m ρ)

open Cert.MixRefIdeal.Read in
theorem algebraic : Cert.algebraic_MixIdeal_MixRefIdeal := by
  intro m ρ m' ρ' hpre hagree
  refine ⟨_, _, _, run m ρ, ?_⟩
  refine (θ_run Cert.MixRefIdeal.defs _ _).mono (fun r h c => ?_) (Cert.MixRefIdeal.Value.run (F := Ideal) m' ρ')
  obtain ⟨r0, r1, r2, rest⟩ := h c
  obtain ⟨e0, e1, e2, e3, e4, e5⟩ := hagree c
  refine ⟨r0.trans ((val_main_v23_eq (F := Ideal) ..).trans ?_), r1.trans ((val_main_v22_eq (F := Ideal) ..).trans ?_),
    r2.trans ((val_main_v24_eq (F := Ideal) ..).trans ?_), rest⟩
  · rw [e0, e1, e2, e3]
    exact (v23_eq _ _ _ _ :)
  · rw [e0, e1, e2, e3, e4, e5]
    exact (v22_eq _ _ _ _ _ _ :)
  · rw [e0, e1, e2, e3, e4, e5]
    exact (v24_eq _ _ _ _ _ _ :)

end Cert.Mixes

end
-- ==== Proof.Trail.Kernel.lean ====
/- The forward pooling's kernel: its result arrays as functions of the argument arrays. -/
module

public import Idealize.ShloMosaic.Lib.Pipeline.ValueKit.Tiles
public import Idealize.ShloMosaic.Lib.Pipeline.ValueKit.Geometry
public import proofs.«01_k».proof.Proof.Common.Reals
public import proofs.«01_k».proof.Proof.Gen.TrailIdeal.Value

@[expose] public section

set_option maxRecDepth 16384

noncomputable section

namespace Cert.Trails

open Idealize.ShloMosaic Cert.TrailIdeal Cert.TrailIdeal.Gen Cert.Common
open Idealize.ShloMosaic.TcCoe Idealize.SL.Sem

/-! ## Sums over the last rows -/

/-- The sum of a function over the places below `n`. -/
def below (f : ℕ → ℝ) (n : ℕ) : ℝ := ∑ i ∈ Finset.range n, f i

/-- The sum over the `w` places up to and with `r`, fewer where they would be negative. -/
def tail (f : ℕ → ℝ) (w r : ℕ) : ℝ := below f (r + 1) - below f (r + 1 - w)

theorem tail_one (f : ℕ → ℝ) (r : ℕ) : tail f 1 r = f r := by
  simp [tail, below, Finset.sum_range_succ]

theorem tail_double (f : ℕ → ℝ) (k r : ℕ) (hk : 0 < k) :
    tail f k r + (if k ≤ r then tail f k (r - k) else 0) = tail f (k + k) r := by
  unfold tail
  split
  · have h1 : r - k + 1 = r + 1 - k := by omega
    have h2 : r - k + 1 - k = r + 1 - (k + k) := by omega
    rw [h2, h1]
    ring
  · have h1 : r + 1 - k = 0 := by omega
    have h2 : r + 1 - (k + k) = 0 := by omega
    rw [h1, h2, add_zero]

/-! ## The results, of the argument arrays -/

section
variable (proj : FVec Ideal S4096x4096 .f32) (w : FVec Ideal S4x256x256 .bf16)

/-- A column of the projection. -/
def line (c : Fin 4096) (n : ℕ) : ℝ := if h : n < 4096 then (proj (ix2 ⟨n, h⟩ c)).toReal else 0

/-- A column less than the pooling's width, as one of the projection's. -/
def wide (l : Fin 1024) : Fin 4096 := ⟨l.val, by omega⟩

/-- A column of a group. -/
def inGroup (g : Fin 4) (l : Fin 256) : Fin 1024 := ⟨256 * g.val + l.val, by omega⟩

/-- The trailing mean less the column itself, at a row, a group and a column of the group. -/
def poolAt (r : Fin 4096) (g : Fin 4) (l : Fin 256) : ℝ :=
  tail (line proj (wide (inGroup g l))) (2 * 2 ^ g.val) r.val / ((min (r.val + 1) (2 * 2 ^ g.val) : ℕ) : ℝ)
    - line proj (wide (inGroup g l)) r.val

/-- … and mixed with the group's weights. -/
def mixAt (r : Fin 4096) (g : Fin 4) (l : Fin 256) : EReal := ∑ k : Fin 256, (poolAt proj r g k : EReal) * w (ix3 g k l)

/-- The group of a column. -/
def grp (j : Fin 1024) : Fin 4 := ⟨j.val / 256, by omega⟩

/-- Its column within the group. -/
def off (j : Fin 1024) : Fin 256 := ⟨j.val % 256, Nat.mod_lt _ (by norm_num)⟩

theorem grp_inGroup (g : Fin 4) (l : Fin 256) : grp (inGroup g l) = g := Fin.ext (by show (256 * g.val + l.val) / 256 = g.val; omega)

theorem off_inGroup (g : Fin 4) (l : Fin 256) : off (inGroup g l) = l := Fin.ext (by show (256 * g.val + l.val) % 256 = l.val; omega)

def gPool : FVec Ideal S4096x1024 .bf16 := fun i => (poolAt proj (i 0) (grp (i 1)) (off (i 1)) : EReal)

def gMix : FVec Ideal S4096x1024 .f32 := fun i => mixAt proj w (i 0) (grp (i 1)) (off (i 1))

/-- The columns that are pooled are real numbers. -/
def Fine : Prop := ∀ (r : Fin 4096) (l : Fin 1024), IsR (proj (ix2 r (wide l)))

theorem line_coe (h : Fine proj) (r : Fin 4096) (l : Fin 1024) : proj (ix2 r (wide l)) = (line proj (wide l) r.val : EReal) := by
  unfold line
  rw [dif_pos r.isLt, (h r l).toReal]

end

/-! ## The payloads -/

/-- One doubling of the window, as the body writes it: the vector plus itself turned by `n` rows where that stays
    inside. -/
def stepV (n : BitVec 32) (x : FVec Ideal S4096x128 .f32) : FVec Ideal S4096x128 .f32 :=
  addf x (select (cmpi .sge (iota .tc S4096x128 32 [0] iota_S4096x128_d0_w32) (broadcast S4096x128 n))
    (dynamicRotate 0 n none x rotates_S4096x128_d0) (broadcast S4096x128 (Scalar.ofBits (F := Ideal) .f32 0x00000000#32)))

theorem sge_ofNat (a b : ℕ) (ha : a < 2 ^ 31) (hb : b < 2 ^ 31) :
    IntOp.cmpi .sge (BitVec.ofNat 32 a) (BitVec.ofNat 32 b) = BitVec.ofBool (decide (b ≤ a)) := by
  show BitVec.ofBool (BitVec.sle _ _) = _
  rw [BitVec.sle_eq_decide, toInt_ofNat a ha, toInt_ofNat b hb]
  congr 1
  exact decide_eq_decide.mpr (by omega)

/-- A doubling takes the sums over `k` rows to the sums over `2 k`. -/
theorem stepV_tail (k : ℕ) (hk : 0 < k) (hk' : k ≤ 8) (x : FVec Ideal S4096x128 .f32) (l : Fin 128) (f : ℕ → ℝ)
    (hx : ∀ s : Fin 4096, x (ix2 s l) = (tail f k s.val : EReal)) (r : Fin 4096) :
    stepV (BitVec.ofNat 32 k) x (ix2 r l) = (tail f (k + k) r.val : EReal) := by
  rw [← tail_double f k r.val hk]
  unfold stepV
  pointwise
  have hr := r.isLt
  rw [sge_ofNat r.val k (by omega) (by omega), select_ofBool, hx, hx]
  have hn : (BitVec.ofNat 32 k).toNat = k := by
    rw [BitVec.toNat_ofNat]; exact Nat.mod_eq_of_lt (by omega)
  split
  · rw [← EReal.coe_add]
    congr 4
    simp only [hn]
    omega
  · rw [add_zero, add_zero]

/-- The number of rows the window of group `i` covers at row `r`, as the body counts it. -/
theorem count_apply (i : grid0.Coords) (r : Fin 4096) (l : Fin 128) :
    k0_pay2 (F := Ideal) i (ix2 r l) = (((min (r.val + 1) (2 * 2 ^ (i 0).val) : ℕ) : ℝ) : EReal) := by
  have hr := r.isLt
  have hi : (i 0).val < 4 := (i 0).isLt
  unfold_payloads
  pointwise
  have h1 : BitVec.ofNat 32 r.val + 1#32 = BitVec.ofNat 32 (r.val + 1) := by
    rw [BitVec.ofNat_add]
  have h2 : Scalar.shli 2#32 (BitVec.ofNat 32 (i 0).val) = BitVec.ofNat 32 (2 * 2 ^ (i 0).val) := by
    generalize (i 0).val = n at hi
    interval_cases n <;> rfl
  rw [h2]
  show (((IntOp.minsi (BitVec.ofNat 32 r.val + 1#32) (BitVec.ofNat 32 (2 * 2 ^ (i 0).val))).toInt : ℝ) : EReal) = _
  have h3 : 2 * 2 ^ (i 0).val < 2 ^ 31 := by
    generalize (i 0).val = n at hi
    interval_cases n <;> norm_num
  rw [h1, minsi_ofNat _ _ (by omega) h3]
  norm_cast

/-- The sums over the window of half a group's columns, its width chosen by the group. -/
def windowed (i : grid0.Coords) (v : FVec Ideal S4096x128 .f32) : FVec Ideal S4096x128 .f32 :=
  let s1 := stepV 1#32 v
  let s2 := stepV 2#32 s1
  let s4 := stepV 4#32 s2
  let s8 := stepV 8#32 s4
  Scalar.select (Scalar.cmpi .eq (BitVec.ofNat 32 (i 0).val) 0#32) s1
    (Scalar.select (Scalar.cmpi .eq (BitVec.ofNat 32 (i 0).val) 1#32) s2
      (Scalar.select (Scalar.cmpi .eq (BitVec.ofNat 32 (i 0).val) 2#32) s4 s8))

theorem windowed_apply (i : grid0.Coords) (v : FVec Ideal S4096x128 .f32) (l : Fin 128) (f : ℕ → ℝ)
    (hx : ∀ s : Fin 4096, v (ix2 s l) = (f s.val : EReal)) (r : Fin 4096) :
    windowed i v (ix2 r l) = (tail f (2 * 2 ^ (i 0).val) r.val : EReal) := by
  have h0 : ∀ s : Fin 4096, v (ix2 s l) = (tail f 1 s.val : EReal) := fun s => by
    rw [hx, tail_one]
  have h1 := stepV_tail 1 (by omega) (by omega) v l f h0
  have h2 := stepV_tail 2 (by omega) (by omega) _ l f h1
  have h4 := stepV_tail 4 (by omega) (by omega) _ l f h2
  have h8 := stepV_tail 8 (by omega) (by omega) _ l f h4
  have hi : (i 0).val < 4 := (i 0).isLt
  unfold windowed
  generalize (i 0).val = n at hi
  interval_cases n
  · exact h1 r
  · exact h2 r
  · exact h4 r
  · exact h8 r

/-- The left half of the columns: what the body stores at column 0. -/
theorem left_eq (i : grid0.Coords) (v : FVec Ideal S4096x128 .f32) :
    k0_pay4 (k0_pay3 i v) = truncf .bf16 (subf (divf (windowed i v) (k0_pay2 (F := Ideal) i)) v) bitsLt_bf16_f32 := rfl

/-- The right half: what it stores at column 128. -/
theorem right_eq (i : grid0.Coords) (v : FVec Ideal S4096x128 .f32) :
    k0_pay5 (BitVec.ofNat 32 (i 0).val) (iota .tc S4096x128 32 [0] iota_S4096x128_d0_w32) (k0_pay2 (F := Ideal) i) v
      = truncf .bf16 (subf (divf (windowed i v) (k0_pay2 (F := Ideal) i)) v) bitsLt_bf16_f32 := rfl

theorem half_apply (i : grid0.Coords) (v : FVec Ideal S4096x128 .f32) (l : Fin 128) (f : ℕ → ℝ)
    (hv : ∀ s : Fin 4096, v (ix2 s l) = (f s.val : EReal)) (r : Fin 4096) :
    truncf (F := Ideal) .bf16 (subf (divf (windowed i v) (k0_pay2 (F := Ideal) i)) v) bitsLt_bf16_f32 (ix2 r l)
      = ((tail f (2 * 2 ^ (i 0).val) r.val / ((min (r.val + 1) (2 * 2 ^ (i 0).val) : ℕ) : ℝ) - f r.val : ℝ) : EReal) := by
  pointwise
  rw [hv]
  refine Eq.trans (congrArg (fun z : EReal => z - (f r.val : EReal)) ?_) (EReal.coe_sub _ _).symm
  show Ideal.div (windowed i v (ix2 r l)) (k0_pay2 (F := Ideal) i (ix2 r l)) = _
  rw [windowed_apply i v l f hv r, count_apply, div_coe _ _ (by
    have : 0 < 2 * 2 ^ (i 0).val := by positivity
    have : 0 < min (r.val + 1) (2 * 2 ^ (i 0).val) := by omega
    positivity)]

/-! ## The tiles -/

theorem idx_facts : ∀ t : Fin cfg0.N, win0_0.index t (0 : Fin 2) = 0 ∧ win0_0.index t (1 : Fin 2) = t.val
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val ∧ win0_3.index t (0 : Fin 2) = 0
    ∧ win0_3.index t (1 : Fin 2) = t.val ∧ (grid0.coords t 0).val = t.val :=
  (by decide +kernel : ∀ t : Fin grid0.N, _)

section
variable (m : (ℓ : Loc nD τ sig) → Buf (Elt Ideal) ℓ) (c : Dev nD) (t : Fin cfg0.N)

/-- A point's group. -/
def gp : Fin 4 := ⟨t.val, t.isLt⟩

theorem blk0 (r : Fin 4096) (l : Fin 256) : iblk m c 0 t (ix2 r l) = m ((c : Thread nD τ).loc main_arg0) (ix2 r (wide (inGroup (gp t) l))) := by
  obtain ⟨e0, e1, _⟩ := idx_facts t
  show V m c main_arg0 (((cfg0.win 0).blk t).view.emb (ix2 r l)) = _
  rw [V_main_arg0]
  refine congrArg _ (funext fun a => Fin.ext ?_)
  match a with
  | ⟨0, _⟩ => show win0_0.index t (0 : Fin 2) * 4096 + 1 * r.val = r.val; omega
  | ⟨1, _⟩ => show win0_0.index t (1 : Fin 2) * 256 + 1 * l.val = 256 * t.val + l.val; omega

theorem blk1 (k l : Fin 256) : iblk m c 1 t (ix3 (0 : Fin 1) k l) = m ((c : Thread nD τ).loc main_arg1) (ix3 (gp t) k l) := by
  obtain ⟨_, _, e0, e1, e2, _⟩ := idx_facts t
  show V m c main_arg1 (((cfg0.win 1).blk t).view.emb (ix3 (0 : Fin 1) k l)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 256 + 1 * k.val = k.val; omega
  | ⟨2, _⟩ => show win0_1.index t (2 : Fin 3) * 256 + 1 * l.val = l.val; omega

theorem half0 (h : Fine (m ((c : Thread nD τ).loc main_arg0))) (r : Fin 4096) (l : Fin 128) :
    View.ld (iblk m c 0 t) (Rect.unit ![0, 0] ![4096, 128] inb_S4096x256_S4096x128_0_0) (ix2 r l)
      = (line (m ((c : Thread nD τ).loc main_arg0)) (wide (inGroup (gp t) ⟨l.val, by omega⟩)) r.val : EReal) := by
  rw [← line_coe _ h, ← blk0 m c t]
  refine congrArg (iblk m c 0 t) (funext fun a => Fin.ext ?_)
  match a with
  | ⟨0, _⟩ => show 0 + 1 * r.val = r.val; omega
  | ⟨1, _⟩ => show 0 + 1 * l.val = l.val; omega

theorem half1 (h : Fine (m ((c : Thread nD τ).loc main_arg0))) (r : Fin 4096) (l : Fin 128) :
    View.ld (iblk m c 0 t) (Rect.unit ![0, 128] ![4096, 128] inb_S4096x256_S4096x128_0_128) (ix2 r l)
      = (line (m ((c : Thread nD τ).loc main_arg0)) (wide (inGroup (gp t) ⟨128 + l.val, by omega⟩)) r.val : EReal) := by
  rw [← line_coe _ h, ← blk0 m c t]
  refine congrArg (iblk m c 0 t) (funext fun a => Fin.ext ?_)
  match a with
  | ⟨0, _⟩ => show 0 + 1 * r.val = r.val; omega
  | ⟨1, _⟩ => show 128 + 1 * l.val = 128 + l.val; omega

/-- What the body stores of the pooled columns, in its two stores. -/
def poolT : FVec Ideal S4096x256 .bf16 := fun y => (poolAt (m ((c : Thread nD τ).loc main_arg0)) (y 0) (gp t) (y 1) : EReal)

theorem store_lo (h : Fine (m ((c : Thread nD τ).loc main_arg0))) (r : Fin 4096) (l : Fin 128) :
    k0_pay4 (F := Ideal) (k0_pay3 (grid0.coords t) (View.ld (iblk m c 0 t) (Rect.unit ![0, 0] ![4096, 128] inb_S4096x256_S4096x128_0_0))) (ix2 r l)
      = (poolAt (m ((c : Thread nD τ).loc main_arg0)) r (gp t) ⟨l.val, by omega⟩ : EReal) := by
  obtain ⟨_, _, _, _, _, _, _, _, _, e⟩ := idx_facts t
  rw [left_eq]
  refine (half_apply (grid0.coords t) _ l (line (m ((c : Thread nD τ).loc main_arg0)) (wide (inGroup (gp t) ⟨l.val, by omega⟩)))
    (fun s => half0 m c t h s l) r).trans ?_
  rw [e]
  rfl

theorem store_up (h : Fine (m ((c : Thread nD τ).loc main_arg0))) (r : Fin 4096) (l : Fin 128) :
    k0_pay5 (F := Ideal) (BitVec.ofNat 32 (grid0.coords t 0).val) (iota Kind.tc S4096x128 32 [0] iota_S4096x128_d0_w32)
        (k0_pay2 (grid0.coords t)) (View.ld (iblk m c 0 t) (Rect.unit ![0, 128] ![4096, 128] inb_S4096x256_S4096x128_0_128)) (ix2 r l)
      = (poolAt (m ((c : Thread nD τ).loc main_arg0)) r (gp t) ⟨128 + l.val, by omega⟩ : EReal) := by
  obtain ⟨_, _, _, _, _, _, _, _, _, e⟩ := idx_facts t
  rw [right_eq]
  refine (half_apply (grid0.coords t) _ l (line (m ((c : Thread nD τ).loc main_arg0)) (wide (inGroup (gp t) ⟨128 + l.val, by omega⟩)))
    (fun s => half1 m c t h s l) r).trans ?_
  rw [e]
  rfl

theorem canon_eq (h : Fine (m ((c : Thread nD τ).loc main_arg0))) : View.canon (Val := Elt Ideal) (s := S4096x256) (e := .bf16)
      [⟨Rect.unit ![0, 128] ![4096, 128] inb_S4096x256_S4096x128_0_128, k0_pay5 (F := Ideal) (BitVec.ofNat 32 (grid0.coords t 0).val)
        (iota Kind.tc S4096x128 32 [0] iota_S4096x128_d0_w32) (k0_pay2 (grid0.coords t))
        (View.ld (iblk m c 0 t) (Rect.unit ![0, 128] ![4096, 128] inb_S4096x256_S4096x128_0_128))⟩,
      ⟨Rect.unit ![0, 0] ![4096, 128] inb_S4096x256_S4096x128_0_0, k0_pay4 (F := Ideal) (k0_pay3 (grid0.coords t)
        (View.ld (iblk m c 0 t) (Rect.unit ![0, 0] ![4096, 128] inb_S4096x256_S4096x128_0_0)))⟩]
    = poolT m c t := by
  funext y
  canon_tiles x hx
  · have e0 : y 0 = x 0 := Fin.ext hx0
    have e1 : y 1 = (⟨128 + (x 1).val, by have h1 : (x 1).val < 128 := (x 1).isLt; omega⟩ : Fin 256) := Fin.ext hx1
    unfold poolT
    rw [e0, e1]
    idx_vars x
    exact store_up m c t h x0 x1
  · have e0 : y 0 = x 0 := Fin.ext hx0
    have e1 : y 1 = (⟨(x 1).val, by have h1 : (x 1).val < 128 := (x 1).isLt; omega⟩ : Fin 256) := Fin.ext (by simpa using hx1)
    unfold poolT
    rw [e0, e1]
    idx_vars x
    exact store_lo m c t h x0 x1

/-- The same read back through its whole rectangle. -/
theorem readback (h : Fine (m ((c : Thread nD τ).loc main_arg0))) : View.ld (View.canon (Val := Elt Ideal) (s := S4096x256) (e := .bf16)
      [⟨Rect.unit ![0, 128] ![4096, 128] inb_S4096x256_S4096x128_0_128, k0_pay5 (F := Ideal) (BitVec.ofNat 32 (grid0.coords t 0).val)
        (iota Kind.tc S4096x128 32 [0] iota_S4096x128_d0_w32) (k0_pay2 (grid0.coords t))
        (View.ld (iblk m c 0 t) (Rect.unit ![0, 128] ![4096, 128] inb_S4096x256_S4096x128_0_128))⟩,
      ⟨Rect.unit ![0, 0] ![4096, 128] inb_S4096x256_S4096x128_0_0, k0_pay4 (F := Ideal) (k0_pay3 (grid0.coords t)
        (View.ld (iblk m c 0 t) (Rect.unit ![0, 0] ![4096, 128] inb_S4096x256_S4096x128_0_0)))⟩])
      (Rect.unit ![0, 0] ![4096, 256] inb_S4096x256_S4096x256_0_0) = poolT m c t := by
  rw [canon_eq m c t h]
  exact View.ld_unit_lit (Val := Elt Ideal) (e := .bf16) (S := S4096x256) (off := ![0, 0]) inb_S4096x256_S4096x256_0_0 (poolT m c t) (by decide)

/-- The mixed columns' tile, from the pooled columns' tile. -/
theorem pay1 (r : Fin 4096) (l : Fin 256) : k0_pay1 (F := Ideal) (poolT m c t) (iblk m c 1 t) (ix2 r l)
    = mixAt (m ((c : Thread nD τ).loc main_arg0)) (m ((c : Thread nD τ).loc main_arg1)) r (gp t) l := by
  have e : ∀ k, poolT m c t (ix2 r k) = (poolAt (m ((c : Thread nD τ).loc main_arg0)) r (gp t) k : EReal) := fun _ => rfl
  have e1 := fun k => blk1 m c t k l
  generalize poolT m c t = a at e ⊢
  generalize iblk m c 1 t = b at e1 ⊢
  pointwise [k0_pay1]
  refine Finset.sum_congr rfl fun k _ => ?_
  rw [e]
  exact congrArg _ (e1 k)

end

/-! ## The results -/

variable (m : (ℓ : Loc nD τ sig) → Buf (Elt Ideal) ℓ) (ρ : Dev nD → PrngReg)

theorem final2 (c : Dev nD) (h : Fine (m ((c : Thread nD τ).loc main_arg0))) :
    (dats m 0 c).arrAt 2 cfg0.N = gPool (m ((c : Thread nD τ).loc main_arg0)) := by
  refine (dats m 0 c).arrAt_eq_of_covers 2 _ (by decide +kernel) fun t hf y => ?_
  blk_simp
  rw [after0_2]
  unfold outsAt0
  frame_out
  refine (congrFun (canon_eq m c t h) y).trans ?_
  idx_vars y
  have he : ((View.whole main_v0_0).slice (win0_2.rect t)).emb (ix2 y0 y1) = ix2 y0 (inGroup (gp t) y1) := by
    obtain ⟨_, _, _, _, _, e, e', _⟩ := idx_facts t
    funext a
    apply Fin.ext
    match a with
    | ⟨0, _⟩ => show win0_2.index t (0 : Fin 2) * 4096 + 1 * y0.val = y0.val; omega
    | ⟨1, _⟩ => show win0_2.index t (1 : Fin 2) * 256 + 1 * y1.val = 256 * t.val + y1.val; omega
  rw [he]
  show _ = (poolAt _ y0 (grp (inGroup (gp t) y1)) (off (inGroup (gp t) y1)) : EReal)
  rw [grp_inGroup, off_inGroup]
  rfl

theorem final3 (c : Dev nD) (h : Fine (m ((c : Thread nD τ).loc main_arg0))) :
    (dats m 0 c).arrAt 3 cfg0.N = gMix (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  rw [View.readCov_eq_canon']
  refine (congrFun (congrArg (fun z => k0_pay1 (F := Ideal) z (iblk m c 1 t)) (readback m c t h)) y).trans ?_
  idx_vars y
  have he : ((View.whole main_v0_1).slice (win0_3.rect t)).emb (ix2 y0 y1) = ix2 y0 (inGroup (gp t) y1) := by
    obtain ⟨_, _, _, _, _, _, _, e, e', _⟩ := idx_facts t
    funext a
    apply Fin.ext
    match a with
    | ⟨0, _⟩ => show win0_3.index t (0 : Fin 2) * 4096 + 1 * y0.val = y0.val; omega
    | ⟨1, _⟩ => show win0_3.index t (1 : Fin 2) * 256 + 1 * y1.val = 256 * t.val + y1.val; omega
  rw [he]
  refine (pay1 m c t y0 y1).trans ?_
  show _ = mixAt _ _ y0 (grp (inGroup (gp t) y1)) (off (inGroup (gp t) y1))
  rw [grp_inGroup, off_inGroup]

/-- The run with the result arrays at their functions of the arguments. -/
theorem run (h : ∀ c : Dev nD, Fine (m ((c : Thread nD τ).loc main_arg0))) :
    θ_run defs (onTc (τ := τ) (main (F := Ideal))) ⟨m, fun _ => 0, ρ⟩ fun r => ∀ c : Dev nD,
      r.2.mem ((c : Thread nD τ).loc main_v0_0) = gPool (m ((c : Thread nD τ).loc main_arg0))
      ∧ r.2.mem ((c : Thread nD τ).loc main_v0_1) = gMix (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ q c => ⟨(q c).1.trans (final2 m c (h c)), (q c).2.1.trans (final3 m c (h c)), (q c).2.2⟩)
    (Cert.TrailIdeal.Value.run_blocks m ρ)

end Cert.Trails

end
-- ==== Proof.Trail.Reference.lean ====
/- The forward pooling's reference, read at an index at the ideal instance. -/
module

public import proofs.«01_k».proof.Proof.Trail.Kernel
public import proofs.«01_k».proof.Proof.Gen.TrailRefIdeal.Read

@[expose] public section

set_option maxRecDepth 16384

noncomputable section

namespace Cert.Trails

open Idealize.ShloMosaic Cert.TrailRefIdeal Cert.TrailRefIdeal.Read Cert.Common
open Idealize.ShloMosaic.TcCoe Idealize.SL.Sem

/-! ## A cumulative sum -/

theorem sum_shifted (f : ℕ → ℝ) (N r : ℕ) (hr : r < N) :
    ∑ s : Fin N, (if N - 1 ≤ r + s.val then f (r + s.val - (N - 1)) else 0) = below f (r + 1) := by
  rw [Fin.sum_univ_eq_sum_range (fun s => if N - 1 ≤ r + s then f (r + s - (N - 1)) else 0) N]
  have hN : N = (N - 1 - r) + (r + 1) := by omega
  have h := Finset.sum_range_add (fun s => if N - 1 ≤ r + s then f (r + s - (N - 1)) else 0) (N - 1 - r) (r + 1)
  rw [← hN] at h
  rw [h]
  have h0 : ∑ s ∈ Finset.range (N - 1 - r), (if N - 1 ≤ r + s then f (r + s - (N - 1)) else 0) = 0 :=
    Finset.sum_eq_zero fun s hs => if_neg (by have := Finset.mem_range.mp hs; omega)
  rw [h0, zero_add]
  unfold below
  refine Finset.sum_congr rfl fun s _ => ?_
  rw [if_pos (by omega)]
  congr 1
  omega

/-- The cumulative sum down the rows, as it is printed: a sum over a window that reaches back past the first row, where
    the padding is zero. -/
theorem sum_to {N C : ℕ} (x : FVec Ideal ⟨2, ![N, C]⟩ .f32) (init : FVec Ideal ⟨0, ![]⟩ .f32)
    (h : (⟨2, ![N, C]⟩ : Shape).ReduceWindows (![N, 1] : Fin 2 → Nat) ![1, 1] ![N - 1, 0] ![0, 0] ⟨2, ![N, C]⟩)
    (hu : 0 < (⟨0, ![]⟩ : Shape).numel) (hinit : init (Shape.Idx.first hu) = 0) (f : ℕ → ℝ) (r : Fin N) (c : Fin C)
    (hx : ∀ s : Fin N, x (ix2 s c) = (f s.val : EReal)) :
    Host.reduceWindowAdd ![N, 1] ![1, 1] ![N - 1, 0] ![0, 0] x init h hu (ix2 r c) = (below f (r.val + 1) : EReal) := by
  show Ideal.hostReduceWindowAdd ![N, 1] ![1, 1] ![N - 1, 0] ![0, 0] h x (init (Shape.Idx.first hu)) (ix2 r c) = _
  rw [hinit]
  unfold Ideal.hostReduceWindowAdd Host.reduceWindow
  dsimp only
  rw [foldl_add, zero_add]
  rw [← List.ofFn_eq_map, List.sum_ofFn]
  rw [← (Shape.rowMajor ⟨2, ![N, 1]⟩).sum_comp]
  simp only [Equiv.symm_apply_apply]
  rw [sum_idx2, ← sum_shifted f N r.val r.isLt, coe_sum]
  refine Finset.sum_congr rfl fun s _ => ?_
  have hr := r.isLt
  have hs' := s.isLt
  rw [Fin.sum_univ_one]
  by_cases hs : N - 1 ≤ r.val + s.val
  · rw [if_pos hs, dif_pos]
    · refine Eq.trans ?_ (hx ⟨r.val + s.val - (N - 1), by omega⟩)
      refine congrArg x (funext fun a => Fin.ext ?_)
      match a with
      | ⟨0, _⟩ => show r.val * 1 + s.val - (N - 1) = r.val + s.val - (N - 1); omega
      | ⟨1, _⟩ => show c.val * 1 + 0 - 0 = c.val; omega
    · intro a
      match a with
      | ⟨0, _⟩ => show N - 1 ≤ r.val * 1 + s.val ∧ r.val * 1 + s.val - (N - 1) < N; omega
      | ⟨1, _⟩ => show 0 ≤ c.val * 1 + 0 ∧ c.val * 1 + 0 - 0 < C; have := c.isLt; omega
  · rw [if_neg hs, dif_neg]
    · rfl
    · intro hin
      have h0 : N - 1 ≤ r.val * 1 + s.val := (hin 0).1
      omega

theorem count_of (r w : ℕ) (hr : r < 4096) (hw : w ≤ 16) :
    FloatOps.sitofp (F := Ideal) .f32 (IntOp.minsi (BitVec.ofNat 32 r + BitVec.ofNat 32 1) (BitVec.ofNat 32 w))
      = (((min (r + 1) w : ℕ) : ℝ) : EReal) := by
  rw [← BitVec.ofNat_add]
  show (((IntOp.minsi (BitVec.ofNat 32 (r + 1)) (BitVec.ofNat 32 w)).toInt : ℝ) : EReal) = _
  rw [minsi_ofNat _ _ (by omega) (by omega)]
  norm_cast

/-- A group's pooled columns as they are printed: `v` the columns, `y` the cumulative sums a window further up and zero
    before the first row, `cnt` the number of rows of each window. -/
theorem group_pool (v v' y cnt : FVec Ideal ⟨2, ![4096, 256]⟩ .f32) (init : FVec Ideal ⟨0, ![]⟩ .f32) (w : ℕ) (hw : 0 < w)
    (h : (⟨2, ![4096, 256]⟩ : Shape).ReduceWindows (![4096, 1] : Fin 2 → Nat) ![1, 1] ![4095, 0] ![0, 0] ⟨2, ![4096, 256]⟩)
    (hu : 0 < (⟨0, ![]⟩ : Shape).numel) (hinit : init (Shape.Idx.first hu) = 0) (l : Fin 256) (f : ℕ → ℝ)
    (hv : ∀ s : Fin 4096, v (ix2 s l) = (f s.val : EReal)) (hv' : ∀ s : Fin 4096, v' (ix2 s l) = (f s.val : EReal))
    (hc : ∀ r : Fin 4096, cnt (ix2 r l) = (((min (r.val + 1) w : ℕ) : ℝ) : EReal))
    (hy : ∀ s : Fin 4096, y (ix2 s l) = if h' : w ≤ s.val then
      Host.reduceWindowAdd ![4096, 1] ![1, 1] ![4095, 0] ![0, 0] v init h hu (ix2 (⟨s.val - w, by omega⟩ : Fin 4096) l) else 0)
    (r : Fin 4096) :
    subf (Host.divf (subf (Host.reduceWindowAdd ![4096, 1] ![1, 1] ![4095, 0] ![0, 0] v init h hu) y) cnt) v' (ix2 r l)
      = ((tail f w r.val / ((min (r.val + 1) w : ℕ) : ℝ) - f r.val : ℝ) : EReal) := by
  have hs := fun s : Fin 4096 => sum_to (N := 4096) v init h hu hinit f s l hv
  have hy' : y (ix2 r l) = (below f (r.val + 1 - w) : EReal) := by
    rw [hy]
    split
    · rename_i h'
      rw [hs]
      congr 2
      show r.val - w + 1 = r.val + 1 - w
      omega
    · have h0 : r.val + 1 - w = 0 := by omega
      rw [h0]
      rfl
  show Ideal.div (Host.reduceWindowAdd ![4096, 1] ![1, 1] ![4095, 0] ![0, 0] v init h hu (ix2 r l) - y (ix2 r l)) (cnt (ix2 r l)) - v' (ix2 r l) = _
  rw [hs, hy', hc, hv', ← EReal.coe_sub, div_coe _ _ (by
    have : 0 < min (r.val + 1) w := by omega
    positivity), ← EReal.coe_sub]
  rfl

/-- Reading the concatenation of zeros and a slice: the bound on the row may be stated either way. -/
theorem lagged (n w : ℕ) {x : n < w → EReal} {y : ¬ n < w → EReal} {z : w ≤ n → EReal} (hx : ∀ h, x h = 0)
    (hy : ∀ (h : ¬ n < w) (h' : w ≤ n), y h = z h') : (if h : n < w then x h else y h) = if h' : w ≤ n then z h' else 0 := by
  by_cases hn : n < w
  · rw [dif_pos hn, dif_neg (by omega), hx]
  · rw [dif_neg hn, dif_pos (by omega), hy]

variable (x0 : FVec Ideal S4096x4096 .f32) (x1 : FVec Ideal S4x256x256 .bf16)

theorem at_group (r : Fin 4096) (g : Fin 4) (c : Fin 256) (i : S4096x4x256.Idx) (h0 : (i 0).val = r.val) (h1 : (i 1).val = g.val)
    (h2 : (i 2).val = c.val) : i = ix3 r g c := by
  funext a
  apply Fin.ext
  match a with
  | ⟨0, _⟩ => exact h0
  | ⟨1, _⟩ => exact h1
  | ⟨2, _⟩ => exact h2

theorem v1 (h : Fine x0) (r : Fin 4096) (g : Fin 4) (l : Fin 256) :
    val_main_v1 (F := Ideal) x0 (ix3 r g l) = (line x0 (wide (inGroup g l)) r.val : EReal) := by
  rw [← line_coe x0 h, val_main_v1_apply, val_main_v0_apply]
  refine congrArg x0 (funext fun a => Fin.ext ?_)
  have hr := r.isLt
  have hg := g.isLt
  have hk := l.isLt
  match a with
  | ⟨0, _⟩ => show ((r.val * 4 + g.val) * 256 + l.val) / 1024 = r.val; omega
  | ⟨1, _⟩ => show ((r.val * 4 + g.val) * 256 + l.val) % 1024 = 256 * g.val + l.val; omega

theorem first_group (h : Fine x0) (r : Fin 4096) (l : Fin 256) :
    val_main_v20 (F := Ideal) x0 (ix2 r l) = (poolAt x0 r 0 l : EReal) := by
  refine group_pool (val_main_v3 (F := Ideal) x0) (val_main_v19 (F := Ideal) x0) (val_main_v7 (F := Ideal) x0) (val_main_v16 (F := Ideal))
    _ 2 (by omega) _ _ (Ideal.ofBits_zero .f32) l (line x0 (wide (inGroup 0 l))) (fun s => ?_) (fun s => ?_) (fun s => ?_) (fun s => ?_) r
  · rw [val_main_v3_apply, val_main_v2_apply, at_group s 0 l (idx_main_v2 (idx_main_v3 (ix2 s l)))
      (by show (s.val * 256 + l.val) / 256 = s.val; omega) rfl (by show (s.val * 256 + l.val) % 256 = l.val; omega), v1 x0 h]
  · rw [val_main_v19_apply, val_main_v18_apply, at_group s 0 l (idx_main_v18 (idx_main_v19 (ix2 s l)))
      (by show (s.val * 256 + l.val) / 256 = s.val; omega) rfl (by show (s.val * 256 + l.val) % 256 = l.val; omega), v1 x0 h]
  · rw [val_main_v16_apply, val_main_v14_apply]
    exact count_of s.val 2 s.isLt (by omega)
  · unfold val_main_v7
    pointwise
    exact lagged s.val 2 (fun _ => Ideal.ofBits_zero .f32) (fun _ _ => (val_main_v6_apply _ _).trans (congrArg _ (by
      funext a
      apply Fin.ext
      match a with
      | ⟨0, _⟩ => rfl
      | ⟨1, _⟩ => rfl)))

theorem second_group (h : Fine x0) (r : Fin 4096) (l : Fin 256) :
    val_main_v39 (F := Ideal) x0 (ix2 r l) = (poolAt x0 r 1 l : EReal) := by
  refine group_pool (val_main_v22 (F := Ideal) x0) (val_main_v38 (F := Ideal) x0) (val_main_v26 (F := Ideal) x0) (val_main_v35 (F := Ideal))
    _ 4 (by omega) _ _ (Ideal.ofBits_zero .f32) l (line x0 (wide (inGroup 1 l))) (fun s => ?_) (fun s => ?_) (fun s => ?_) (fun s => ?_) r
  · rw [val_main_v22_apply, val_main_v21_apply, at_group s 1 l (idx_main_v21 (idx_main_v22 (ix2 s l)))
      (by show (s.val * 256 + l.val) / 256 = s.val; omega) rfl (by show (s.val * 256 + l.val) % 256 = l.val; omega), v1 x0 h]
  · rw [val_main_v38_apply, val_main_v37_apply, at_group s 1 l (idx_main_v37 (idx_main_v38 (ix2 s l)))
      (by show (s.val * 256 + l.val) / 256 = s.val; omega) rfl (by show (s.val * 256 + l.val) % 256 = l.val; omega), v1 x0 h]
  · rw [val_main_v35_apply, val_main_v33_apply]
    exact count_of s.val 4 s.isLt (by omega)
  · unfold val_main_v26
    pointwise
    exact lagged s.val 4 (fun _ => Ideal.ofBits_zero .f32) (fun _ _ => (val_main_v25_apply _ _).trans (congrArg _ (by
      funext a
      apply Fin.ext
      match a with
      | ⟨0, _⟩ => rfl
      | ⟨1, _⟩ => rfl)))

theorem third_group (h : Fine x0) (r : Fin 4096) (l : Fin 256) :
    val_main_v58 (F := Ideal) x0 (ix2 r l) = (poolAt x0 r 2 l : EReal) := by
  refine group_pool (val_main_v41 (F := Ideal) x0) (val_main_v57 (F := Ideal) x0) (val_main_v45 (F := Ideal) x0) (val_main_v54 (F := Ideal))
    _ 8 (by omega) _ _ (Ideal.ofBits_zero .f32) l (line x0 (wide (inGroup 2 l))) (fun s => ?_) (fun s => ?_) (fun s => ?_) (fun s => ?_) r
  · rw [val_main_v41_apply, val_main_v40_apply, at_group s 2 l (idx_main_v40 (idx_main_v41 (ix2 s l)))
      (by show (s.val * 256 + l.val) / 256 = s.val; omega) rfl (by show (s.val * 256 + l.val) % 256 = l.val; omega), v1 x0 h]
  · rw [val_main_v57_apply, val_main_v56_apply, at_group s 2 l (idx_main_v56 (idx_main_v57 (ix2 s l)))
      (by show (s.val * 256 + l.val) / 256 = s.val; omega) rfl (by show (s.val * 256 + l.val) % 256 = l.val; omega), v1 x0 h]
  · rw [val_main_v54_apply, val_main_v52_apply]
    exact count_of s.val 8 s.isLt (by omega)
  · unfold val_main_v45
    pointwise
    exact lagged s.val 8 (fun _ => Ideal.ofBits_zero .f32) (fun _ _ => (val_main_v44_apply _ _).trans (congrArg _ (by
      funext a
      apply Fin.ext
      match a with
      | ⟨0, _⟩ => rfl
      | ⟨1, _⟩ => rfl)))

theorem fourth_group (h : Fine x0) (r : Fin 4096) (l : Fin 256) :
    val_main_v77 (F := Ideal) x0 (ix2 r l) = (poolAt x0 r 3 l : EReal) := by
  refine group_pool (val_main_v60 (F := Ideal) x0) (val_main_v76 (F := Ideal) x0) (val_main_v64 (F := Ideal) x0) (val_main_v73 (F := Ideal))
    _ 16 (by omega) _ _ (Ideal.ofBits_zero .f32) l (line x0 (wide (inGroup 3 l))) (fun s => ?_) (fun s => ?_) (fun s => ?_) (fun s => ?_) r
  · rw [val_main_v60_apply, val_main_v59_apply, at_group s 3 l (idx_main_v59 (idx_main_v60 (ix2 s l)))
      (by show (s.val * 256 + l.val) / 256 = s.val; omega) rfl (by show (s.val * 256 + l.val) % 256 = l.val; omega), v1 x0 h]
  · rw [val_main_v76_apply, val_main_v75_apply, at_group s 3 l (idx_main_v75 (idx_main_v76 (ix2 s l)))
      (by show (s.val * 256 + l.val) / 256 = s.val; omega) rfl (by show (s.val * 256 + l.val) % 256 = l.val; omega), v1 x0 h]
  · rw [val_main_v73_apply, val_main_v71_apply]
    exact count_of s.val 16 s.isLt (by omega)
  · unfold val_main_v64
    pointwise
    exact lagged s.val 16 (fun _ => Ideal.ofBits_zero .f32) (fun _ _ => (val_main_v63_apply _ _).trans (congrArg _ (by
      funext a
      apply Fin.ext
      match a with
      | ⟨0, _⟩ => rfl
      | ⟨1, _⟩ => rfl)))

/-- The four groups side by side. -/
theorem v82 (h : Fine x0) (r : Fin 4096) (g : Fin 4) (l : Fin 256) :
    val_main_v82 (F := Ideal) x0 (ix3 r g l) = (poolAt x0 r g l : EReal) := by
  have e0 := first_group x0 h r l
  have e1 := second_group x0 h r l
  have e2 := third_group x0 h r l
  have e3 := fourth_group x0 h r l
  unfold val_main_v82 val_main_v78 val_main_v79 val_main_v80 val_main_v81
  generalize val_main_v20 (F := Ideal) x0 = a0 at e0 ⊢
  generalize val_main_v39 (F := Ideal) x0 = a1 at e1 ⊢
  generalize val_main_v58 (F := Ideal) x0 = a2 at e2 ⊢
  generalize val_main_v77 (F := Ideal) x0 = a3 at e3 ⊢
  fin_cases g
  · pointwise
    exact e0
  · pointwise
    exact e1
  · pointwise
    exact e2
  · pointwise
    exact e3

theorem v85 (h : Fine x0) (r : Fin 4096) (g : Fin 4) (l : Fin 256) :
    val_main_v85 (F := Ideal) x0 x1 (ix3 r g l) = mixAt x0 x1 r g l := by
  have e := fun k => v82 x0 h r g k
  unfold val_main_v85 val_main_v84 val_main_v83
  generalize val_main_v82 (F := Ideal) x0 = a at e ⊢
  pointwise
  exact Finset.sum_congr rfl fun k _ => by rw [e, mul_comm]

/-- A row and a column, as a row, a group and a column of the group. -/
theorem split_idx (r : Fin 4096) (j : Fin 1024) (i : S4096x4x256.Idx) (h0 : (i 0).val = (r.val * 1024 + j.val) / 1024)
    (h1 : (i 1).val = (r.val * 1024 + j.val) / 256 % 4) (h2 : (i 2).val = (r.val * 1024 + j.val) % 256) : i = ix3 r (grp j) (off j) := by
  have hr := r.isLt
  have hj := j.isLt
  refine at_group r (grp j) (off j) i ?_ ?_ ?_
  · rw [h0]; omega
  · rw [h1]; show _ = j.val / 256; omega
  · rw [h2]; show _ = j.val % 256; omega

theorem v87_eq (h : Fine x0) : val_main_v87 (F := Ideal) x0 = gPool x0 := by
  funext i
  idx_vars i
  show val_main_v86 (F := Ideal) x0 (ix2 i0 i1) = _
  rw [val_main_v86_apply, split_idx i0 i1 (idx_main_v86 (ix2 i0 i1)) rfl rfl rfl, v82 x0 h]
  rfl

theorem v88_eq (h : Fine x0) : val_main_v88 (F := Ideal) x0 x1 = gMix x0 x1 := by
  funext i
  idx_vars i
  rw [val_main_v88_apply, split_idx i0 i1 (idx_main_v88 (ix2 i0 i1)) rfl rfl rfl, v85 x0 x1 h]
  rfl

end Cert.Trails

end
-- ==== Proof.Trail.Claims.lean ====
/- The claims about the forward pooling. -/
module

public import proofs.«01_k».proof.Defs
public import proofs.«01_k».proof.Proof.Gen.Trail.Frame
public import proofs.«01_k».proof.Proof.Gen.TrailRefIdeal.Run
public import proofs.«01_k».proof.Proof.Trail.Reference
public import Idealize.ShloMosaic.Adequacy
public import Idealize.ShloMosaic.Init

@[expose] public section

set_option maxRecDepth 16384

noncomputable section

namespace Cert.Trails

open Idealize.ShloMosaic Cert.Common
open Idealize.ShloMosaic.TcCoe Idealize.SL.Sem

instance preFacts : Cert.Pre_finite_pool.Facts where
  slices_S4096x4096_S4096x1024_0_0 := by decide
  bcast_S_S4096x1024 := by decide

theorem frame_kernel : Cert.quiescent_Trail := fun m ρ _ => Cert.Trail.Gen.frame m ρ

theorem frame_ideal : Cert.quiescent_TrailIdeal := fun m ρ _ => Cert.TrailIdeal.Gen.frame m ρ

theorem frame_ideal_pre : Cert.quiescent_TrailIdeal_pre_finite_pool := fun m ρ _ => Cert.TrailIdeal.Gen.frame m ρ

theorem frame_reference : Cert.quiescent_TrailRefIdeal := fun m ρ _ =>
  (θ_run Cert.TrailRefIdeal.defs _ _).mono (fun r h => ⟨fun c => (h c).2.2, sem_eq_zero_of_no_sems (by decide) r.2⟩)
    (Cert.TrailRefIdeal.Value.run (F := Ideal) m ρ)

theorem frame_reference_pre : Cert.quiescent_TrailRefIdeal_pre_finite_pool := fun m ρ _ => frame_reference m ρ trivial

open Cert.TrailRefIdeal.Read in
theorem algebraic : Cert.algebraic_TrailIdeal_TrailRefIdeal_pre_finite_pool := by
  intro m ρ m' ρ' hpre hagree
  have hf : ∀ c : Dev Cert.TrailIdeal.nD, Fine (m ((c : Thread Cert.TrailIdeal.nD Cert.TrailIdeal.τ).loc Cert.TrailIdeal.main_arg0)) := by
    intro c r l
    have h := isR_of_cmp _ _ _ (fun _ => rfl) (hpre c) (ix2 r l)
    refine Eq.mp (congrArg IsR ?_) h
    refine congrArg (m ((c : Thread Cert.TrailIdeal.nD Cert.TrailIdeal.τ).loc Cert.TrailIdeal.main_arg0)) (funext fun a => Fin.ext ?_)
    match a with
    | ⟨0, _⟩ => show 0 + r.val = r.val; omega
    | ⟨1, _⟩ => show 0 + l.val = l.val; omega
  refine ⟨_, _, run m ρ hf, ?_⟩
  refine (θ_run Cert.TrailRefIdeal.defs _ _).mono (fun r h c => ?_) (Cert.TrailRefIdeal.Value.run (F := Ideal) m' ρ')
  obtain ⟨r0, r1, rest⟩ := h c
  obtain ⟨e0, e1⟩ := hagree c
  refine ⟨r0.trans ((val_main_v87_eq (F := Ideal) ..).trans ?_), r1.trans ((val_main_v88_eq (F := Ideal) ..).trans ?_), rest⟩
  · rw [e0]
    exact (v87_eq _ (hf c) :)
  · rw [e0, e1]
    exact (v88_eq _ _ (hf c) :)

end Cert.Trails

end
-- ==== Proof.Lin.Kernel.lean ====
/- The gated linear unit's projection: what the pipelined call leaves in its result array, as a function of its argument
   arrays. -/
module

public import Idealize.ShloMosaic.Lib.Pointwise
public import Idealize.ShloMosaic.Lib.Pipeline.ValueKit.Tiles
public import Idealize.ShloMosaic.Lib.Pipeline.ValueKit.Geometry
public import proofs.«01_k».proof.Proof.Gen.LinIdeal.Value

@[expose] public section

set_option maxRecDepth 16384

noncomputable section

namespace Cert.Lins

open Idealize.ShloMosaic Cert.LinIdeal Cert.LinIdeal.Gen
open Idealize.ShloMosaic.TcCoe Idealize.SL.Sem

/-- A row times a column. -/
def gH (a : FVec Ideal S4096x1024 .bf16) (w : FVec Ideal S1024x2048 .bf16) : FVec Ideal S4096x2048 .f32 := fun i =>
  (∑ k : Fin 1024, a (ix2 (i 0) k) * w (ix2 k (i 1)) : EReal)

variable (m : (ℓ : Loc nD τ sig) → Buf (Elt Ideal) ℓ) (ρ : Dev nD → PrngReg)

theorem idx_facts : ∀ t : Fin cfg0.N, win0_0.index t = ![t.val / 2, 0] ∧ win0_1.index t = ![0, t.val % 2]
    ∧ win0_2.index t = ![t.val / 2, t.val % 2] :=
  (by decide +kernel : ∀ t : Fin grid0.N, _)

/-- The array's row that a tile's row is. -/
def row (t : Fin cfg0.N) (r : Fin 1024) : Fin 4096 :=
  ⟨t.val / 2 * 1024 + r.val, by have := t.isLt; have := r.isLt; have h : cfg0.N = 8 := N_0; omega⟩

/-- The array's column that a tile's column is. -/
def col (t : Fin cfg0.N) (k : Fin 1024) : Fin 2048 :=
  ⟨t.val % 2 * 1024 + k.val, by have := k.isLt; omega⟩

section

variable (c : Dev nD) (t : Fin cfg0.N)

theorem blk0 (r k : Fin 1024) : iblk m c 0 t (ix2 r k) = m ((c : Thread nD τ).loc main_arg0) (ix2 (row t r) k) := by
  obtain ⟨e, _⟩ := idx_facts t
  blk_ext [iblk, V_main_arg0, e, row]

theorem blk1 (k j : Fin 1024) : iblk m c 1 t (ix2 k j) = m ((c : Thread nD τ).loc main_arg1) (ix2 k (col t j)) := by
  obtain ⟨_, e, _⟩ := idx_facts t
  blk_ext [iblk, V_main_arg1, e, col]

theorem pay1 (r k : Fin 1024) : k0_pay1 (F := Ideal) (ix2 r k) = (0 : EReal) := by
  pointwise [k0_pay1]

theorem out2 (y : S1024x1024.Idx) : k0_pay2 (F := Ideal) (iblk m c 0 t) (iblk m c 1 t) (k0_pay1 (F := Ideal)) y
    = gH (m ((c : Thread nD τ).loc main_arg0)) (m ((c : Thread nD τ).loc main_arg1))
      (((View.whole main_v0).slice (win0_2.rect t)).emb y) := by
  idx_vars y
  have he : ((View.whole main_v0).slice (win0_2.rect t)).emb (ix2 y0 y1) = ix2 (row t y0) (col t y1) := by
    obtain ⟨_, _, e⟩ := idx_facts t
    blk_ext [e, row, col]
  rw [he]
  refine Eq.trans ?_ (Finset.sum_congr rfl fun x _ => congrArg₂ (fun u v : EReal => u * v) (blk0 m c t y0 x) (blk1 m c t x y1))
  have e := pay1 y0 y1
  generalize k0_pay1 (F := Ideal) = z at e ⊢
  generalize iblk m c 0 t = a
  generalize iblk m c 1 t = b
  pointwise [k0_pay2]
  rw [e, zero_add]

end

theorem final2 (c : Dev nD) : (dats m 0 c).arrAt 2 cfg0.N = gH (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  exact out2 m c t y

/-- The run with the result array at its function of the arguments. -/
theorem run : θ_run defs (onTc (τ := τ) (main (F := Ideal))) ⟨m, fun _ => 0, ρ⟩ fun r => ∀ c : Dev nD,
      r.2.mem ((c : Thread nD τ).loc main_v0) = gH (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Cert.LinIdeal.Value.run_blocks m ρ)

end Cert.Lins

end
-- ==== Proof.Lin.Claims.lean ====
/- The claims about the gated linear unit's projection. -/
module

public import proofs.«01_k».proof.Defs
public import proofs.«01_k».proof.Proof.Gen.Lin.Frame
public import proofs.«01_k».proof.Proof.Gen.LinRefIdeal.Run
public import proofs.«01_k».proof.Proof.Gen.LinRefIdeal.Read
public import proofs.«01_k».proof.Proof.Lin.Kernel
public import Idealize.ShloMosaic.Adequacy
public import Idealize.ShloMosaic.Init

@[expose] public section

set_option maxRecDepth 16384

noncomputable section

namespace Cert.Lins

open Idealize.ShloMosaic
open Idealize.ShloMosaic.TcCoe Idealize.SL.Sem

section

open Cert.LinRefIdeal Cert.LinRefIdeal.Read

/-- The reference's product is the kernel's. -/
theorem v2_eq (x0 : FVec Ideal S4096x1024 .bf16) (x1 : FVec Ideal S1024x2048 .bf16) : val_main_v2 (F := Ideal) x0 x1 = gH x0 x1 := by
  funext i
  idx_vars i
  unfold val_main_v2 val_main_v1 val_main_v0
  pointwise
  rfl

end

theorem frame_kernel : Cert.quiescent_Lin := fun m ρ _ => Cert.Lin.Gen.frame m ρ

theorem frame_ideal : Cert.quiescent_LinIdeal := fun m ρ _ => Cert.LinIdeal.Gen.frame m ρ

theorem frame_reference : Cert.quiescent_LinRefIdeal := fun m ρ _ =>
  (θ_run Cert.LinRefIdeal.defs _ _).mono (fun r h => ⟨fun c => (h c).2, sem_eq_zero_of_no_sems (by decide) r.2⟩)
    (Cert.LinRefIdeal.Value.run (F := Ideal) m ρ)

open Cert.LinRefIdeal.Read in
theorem algebraic : Cert.algebraic_LinIdeal_LinRefIdeal := by
  intro m ρ m' ρ' hpre hagree
  refine ⟨_, run m ρ, ?_⟩
  refine (θ_run Cert.LinRefIdeal.defs _ _).mono (fun r h c => ?_) (Cert.LinRefIdeal.Value.run (F := Ideal) m' ρ')
  obtain ⟨r0, rest⟩ := h c
  obtain ⟨e0, e1⟩ := hagree c
  refine ⟨r0.trans ((val_main_v2_eq (F := Ideal) ..).trans ?_), rest⟩
  rw [e0, e1]
  exact (v2_eq _ _ :)

end Cert.Lins

end
-- ==== Proof.Wgrad.Kernel.lean ====
/- The gradient of the input projection's weights: what the pipelined call leaves in its result array, as a function of
   the normed rows and the projection's gradient. -/
module

public import Idealize.ShloMosaic.Lib.Pointwise
public import Idealize.ShloMosaic.Lib.Pipeline.ValueKit.Tiles
public import Idealize.ShloMosaic.Lib.Pipeline.ValueKit.Geometry
public import proofs.«01_k».proof.Proof.Gen.WgradIdeal.Value

@[expose] public section

set_option maxRecDepth 16384

noncomputable section

namespace Cert.Wgrads

open Idealize.ShloMosaic Cert.WgradIdeal Cert.WgradIdeal.Gen
open Idealize.ShloMosaic.TcCoe Idealize.SL.Sem

/-- The normed rows' transpose times the gradient. -/
def gW (a : FVec Ideal S4096x2048 .bf16) (d : FVec Ideal S4096x4096 .bf16) : FVec Ideal S2048x4096 .bf16 := fun i =>
  (∑ k : Fin 4096, a (ix2 k (i 0)) * d (ix2 k (i 1)) : EReal)

variable (m : (ℓ : Loc nD τ sig) → Buf (Elt Ideal) ℓ) (ρ : Dev nD → PrngReg)

theorem idx_facts : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The row of the operands that a tile's row is. -/
def row (t : Fin cfg0.N) (k : Fin 1024) : Fin 4096 :=
  ⟨t.val % 4 * 1024 + k.val, by have := k.isLt; omega⟩

/-- The column of the normed rows that a tile's column is. -/
def col (t : Fin cfg0.N) (r : Fin 512) : Fin 2048 :=
  ⟨t.val / 4 * 512 + r.val, by have := t.isLt; have := r.isLt; have h : cfg0.N = 16 := N_0; omega⟩

theorem pay1 (i : S512x4096.Idx) : k0_pay1 (F := Ideal) i = (0 : EReal) := by
  idx_vars i
  pointwise [k0_pay1]

section

variable (c : Dev nD) (t : Fin cfg0.N)

theorem blk0 (k : Fin 1024) (r : Fin 512) : iblk m c 0 t (ix2 k r) = V m c main_v14 (ix2 (row t k) (col t r)) := by
  obtain ⟨e, _⟩ := idx_facts t
  blk_ext [iblk, e, row, col]

theorem blk1 (k : Fin 1024) (j : Fin 4096) :
    iblk m c 1 t (ix2 k j) = m ((c : Thread nD τ).loc main_arg2) (ix2 (row t k) j) := by
  obtain ⟨_, e, _⟩ := idx_facts t
  blk_ext [iblk, V_main_arg2, e, row]

/-- What a point adds to the accumulator. -/
def term (i : S512x4096.Idx) : EReal :=
  ∑ k : Fin 1024, (show EReal from V m c main_v14 (ix2 (row t k) (col t (i 0))))
    * (show EReal from m ((c : Thread nD τ).loc main_arg2) (ix2 (row t k) (i 1)))

theorem step (z : FVec Ideal S512x4096 .f32) (i : S512x4096.Idx) :
    k0_pay2 (F := Ideal) (iblk m c 0 t) (iblk m c 1 t) z i = (show EReal from z i) + term m c t i := by
  idx_vars i
  refine Eq.trans ?_ (congrArg (fun u : EReal => (show EReal from z (ix2 i0 i1)) + u) (Finset.sum_congr rfl fun k _ =>
    congrArg₂ (fun u v : EReal => u * v) (blk0 m c t k i0) (blk1 m c t k i1)))
  generalize iblk m c 0 t = a
  generalize iblk m c 1 t = b
  pointwise [k0_pay2]

theorem cast3 (z : FVec Ideal S512x4096 .f32) (i : S512x4096.Idx) : k0_pay3 (F := Ideal) z i = z i := by
  idx_vars i
  pointwise [k0_pay3]

/-- The accumulator after a point that starts a block. -/
theorem acc_first (h : t.val % 4 = 0) (i : S512x4096.Idx) :
    (outsAt0 m c t.val t.isLt).2 i = (0 : EReal) + term m c t i := by
  rw [outsAt0_A m c t h (by omega)]
  frame_out
  rw [step, pay1]

/-- The accumulator after any other point. -/
theorem acc_next (h : ¬t.val % 4 = 0) (i : S512x4096.Idx) : (outsAt0 m c t.val t.isLt).2 i
    = (show EReal from (outsAt0 m c (t.val - 1) (Nat.lt_of_le_of_lt (Nat.sub_le _ _) t.isLt)).2 i) + term m c t i := by
  by_cases h1 : t.val % 4 = 3
  · rw [outsAt0_C m c t h h1]
    frame_out
    rw [step]
    exact congrArg (fun u : EReal => u + _) (congrFun ((Memref.isWhole_whole cc0_scratch0).read_unread _) i)
  · rw [outsAt0_B m c t h h1]
    frame_out
    rw [step]
    exact congrArg (fun u : EReal => u + _) (congrFun ((Memref.isWhole_whole cc0_scratch0).read_unread _) i)

/-- What a point that ends a block writes is the accumulator. -/
theorem out_last (h : t.val % 4 = 3) (i : S512x4096.Idx) :
    (outsAt0 m c t.val t.isLt).1 i = (outsAt0 m c t.val t.isLt).2 i := by
  rw [outsAt0_C m c t (by omega) h]
  frame_out
  rw [cast3]

end

theorem final2 (c : Dev nD) : (dats m 0 c).arrAt 2 cfg0.N = gW (V m c main_v14) (m ((c : Thread nD τ).loc main_arg2)) := by
  refine (dats m 0 c).arrAt_eq_of_covers 2 _ (by decide +kernel) fun t hf y => ?_
  blk_simp
  have hr : t.val % 4 = 3 := (flush0_2 t).mp hf
  rw [after0_2, out_last m c t hr, Pipeline.eq_sum_fin_of_reset_step_apply_of_flush (M := EReal)
    (fun n h => (outsAt0 m c n h).2) 4 (fun _ => 0) (term m c) (acc_first m c) (acc_next m c) t hr y, zero_add]
  idx_vars y
  have he : ((View.whole main_v15).slice (win0_2.rect t)).emb (ix2 y0 y1) = ix2 (col t y0) y1 := by
    obtain ⟨_, _, e⟩ := idx_facts t
    blk_ext [e, col]
  rw [he]
  refine Eq.trans (Finset.sum_congr (M := EReal) rfl fun s _ => Finset.sum_congr (M := EReal) rfl fun k _ => ?_)
    (Fin.sum_mul_add_fin 4 1024 (fun l : Fin 4096 => (show EReal from V m c main_v14 (ix2 l (col t y0)))
      * (show EReal from m ((c : Thread nD τ).loc main_arg2) (ix2 l y1))) rfl)
  have h1 : (4 * (t.val / 4) + s.val) % 4 = s.val := by have := s.isLt; omega
  have h2 : (4 * (t.val / 4) + s.val) / 4 = t.val / 4 := by have := s.isLt; omega
  simp only [row, col, h1, h2]
  rfl

/-- The run with the result array at its function of the normed rows and the gradient. -/
theorem run : θ_run defs (onTc (τ := τ) (main (F := Ideal))) ⟨m, fun _ => 0, ρ⟩ fun r => ∀ c : Dev nD,
      r.2.mem ((c : Thread nD τ).loc main_v15) = gW (V m c main_v14) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final2 m c), (h c).2⟩) (Cert.WgradIdeal.Value.run_blocks m ρ)

end Cert.Wgrads

end
-- ==== Proof.Wgrad.Claims.lean ====
/- The claims about the gradient of the input projection's weights. -/
module

public import proofs.«01_k».proof.Defs
public import proofs.«01_k».proof.Proof.Gen.Wgrad.Frame
public import proofs.«01_k».proof.Proof.Gen.WgradRefIdeal.Run
public import proofs.«01_k».proof.Proof.Gen.WgradRefIdeal.Read
public import proofs.«01_k».proof.Proof.Wgrad.Kernel
public import Idealize.ShloMosaic.Adequacy
public import Idealize.ShloMosaic.Init

@[expose] public section

set_option maxRecDepth 16384

noncomputable section

namespace Cert.Wgrads

open Idealize.ShloMosaic
open Idealize.ShloMosaic.TcCoe Idealize.SL.Sem

section

open Cert.WgradRefIdeal Cert.WgradRefIdeal.Read

/-- The rows the kernel is given are the reference's normed rows. -/
theorem V_hn (m : (ℓ : Loc Cert.WgradIdeal.nD Cert.WgradIdeal.τ Cert.WgradIdeal.sig) → Buf (Elt Ideal) ℓ) (c : Dev Cert.WgradIdeal.nD) :
    Cert.WgradIdeal.Gen.V m c Cert.WgradIdeal.main_v14
      = val_main_v14 (F := Ideal) (m ((c : Thread Cert.WgradIdeal.nD Cert.WgradIdeal.τ).loc Cert.WgradIdeal.main_arg0))
        (m ((c : Thread Cert.WgradIdeal.nD Cert.WgradIdeal.τ).loc Cert.WgradIdeal.main_arg1)) := rfl

/-- The reference's product is the kernel's. -/
theorem v19_eq (x0 : FVec Ideal S4096x2048 .f32) (x1 : FVec Ideal S1x2048 .f32) (x2 : FVec Ideal S4096x4096 .bf16) :
    val_main_v19 (F := Ideal) x0 x1 x2 = gW (val_main_v14 (F := Ideal) x0 x1) x2 := by
  funext i
  idx_vars i
  unfold val_main_v19 val_main_v18 val_main_v17 val_main_v16
  generalize val_main_v14 (F := Ideal) x0 x1 = a
  pointwise
  exact Finset.sum_congr rfl fun k _ => mul_comm (G := EReal) _ _

end

theorem frame_kernel : Cert.quiescent_Wgrad := fun m ρ _ => Cert.Wgrad.Gen.frame m ρ

theorem frame_ideal : Cert.quiescent_WgradIdeal := fun m ρ _ => Cert.WgradIdeal.Gen.frame m ρ

theorem frame_reference : Cert.quiescent_WgradRefIdeal := fun m ρ _ =>
  (θ_run Cert.WgradRefIdeal.defs _ _).mono (fun r h => ⟨fun c => (h c).2, sem_eq_zero_of_no_sems (by decide) r.2⟩)
    (Cert.WgradRefIdeal.Value.run (F := Ideal) m ρ)

open Cert.WgradRefIdeal.Read in
theorem algebraic : Cert.algebraic_WgradIdeal_WgradRefIdeal := by
  intro m ρ m' ρ' hpre hagree
  refine ⟨_, run m ρ, ?_⟩
  refine (θ_run Cert.WgradRefIdeal.defs _ _).mono (fun r h c => ?_) (Cert.WgradRefIdeal.Value.run (F := Ideal) m' ρ')
  obtain ⟨r0, rest⟩ := h c
  obtain ⟨e0, e1, e2⟩ := hagree c
  refine ⟨r0.trans ((val_main_v19_eq (F := Ideal) ..).trans ?_), rest⟩
  rw [e0, e1, e2, V_hn]
  exact (v19_eq _ _ _ :)

end Cert.Wgrads

end
-- ==== Proof.Resid.Kernel.lean ====
/- The hidden rows' gradient through the embedding's gate and past it: what the pipelined call leaves in its two result
   arrays, as functions of its argument arrays. -/
module

public import Idealize.ShloMosaic.Lib.Pointwise
public import Idealize.ShloMosaic.Lib.Pipeline.ValueKit.Tiles
public import Idealize.ShloMosaic.Lib.Pipeline.ValueKit.Geometry
public import proofs.«01_k».proof.Proof.Gen.ResidIdeal.Value

@[expose] public section

set_option maxRecDepth 16384

noncomputable section

namespace Cert.Resids

open Idealize.ShloMosaic Cert.ResidIdeal Cert.ResidIdeal.Gen
open Idealize.ShloMosaic.TcCoe Idealize.SL.Sem

/-- The gradient past the gate, plus the gate's through the weights. -/
def gD (d : FVec Ideal S4096x2048 .bf16) (w : FVec Ideal S2048x2048 .bf16) (r : FVec Ideal S4096x2048 .f32) : FVec Ideal S4096x2048 .f32 :=
  fun i => ((r i : EReal) + ∑ k : Fin 2048, d (ix2 (i 0) k) * w (ix2 (i 1) k) : EReal)

/-- The same array as the call's second, rounded result has it. -/
def gB (d : FVec Ideal S4096x2048 .bf16) (w : FVec Ideal S2048x2048 .bf16) (r : FVec Ideal S4096x2048 .f32) : FVec Ideal S4096x2048 .bf16 :=
  fun i => gD d w r i

variable (m : (ℓ : Loc nD τ sig) → Buf (Elt Ideal) ℓ) (ρ : Dev nD → PrngReg)

theorem idx_facts : ∀ t : Fin cfg0.N, win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

/-- The array's row that a tile's row is. -/
def row (t : Fin cfg0.N) (r : Fin 512) : Fin 4096 :=
  ⟨t.val * 512 + r.val, by have := t.isLt; have := r.isLt; have h : cfg0.N = 8 := N_0; omega⟩

section

variable (c : Dev nD) (t : Fin cfg0.N)

theorem blk0 (r : Fin 512) (k : Fin 2048) : iblk m c 0 t (ix2 r k) = m ((c : Thread nD τ).loc main_arg0) (ix2 (row t r) k) := by
  obtain ⟨e, _⟩ := idx_facts t
  blk_ext [iblk, V_main_arg0, e, row]

theorem blk1 (r k : Fin 2048) : iblk m c 1 t (ix2 r k) = m ((c : Thread nD τ).loc main_arg1) (ix2 r k) := by
  obtain ⟨_, e, _⟩ := idx_facts t
  blk_ext [iblk, V_main_arg1, e]

theorem blk2 (r : Fin 512) (k : Fin 2048) : iblk m c 2 t (ix2 r k) = m ((c : Thread nD τ).loc main_arg2) (ix2 (row t r) k) := by
  obtain ⟨_, _, e, _⟩ := idx_facts t
  blk_ext [iblk, V_main_arg2, e, row]

theorem pay1 (r : Fin 512) (k : Fin 2048) : k0_pay1 (F := Ideal) (iblk m c 2 t) (iblk m c 0 t) (iblk m c 1 t) (ix2 r k)
    = gD (m ((c : Thread nD τ).loc main_arg0)) (m ((c : Thread nD τ).loc main_arg1)) (m ((c : Thread nD τ).loc main_arg2))
      (ix2 (row t r) k) := by
  refine Eq.trans ?_ (congrArg₂ (fun u v : EReal => u + v) (blk2 m c t r k)
    (Finset.sum_congr rfl fun x _ => congrArg₂ (fun u v : EReal => u * v) (blk0 m c t r x) (blk1 m c t k x)))
  generalize iblk m c 0 t = a
  generalize iblk m c 1 t = b
  generalize iblk m c 2 t = d
  pointwise [k0_pay1]

theorem emb3 (r : Fin 512) (k : Fin 2048) : ((View.whole main_v0_0).slice (win0_3.rect t)).emb (ix2 r k) = ix2 (row t r) k := by
  obtain ⟨_, _, _, e, _⟩ := idx_facts t
  blk_ext [e, row]

theorem emb4 (r : Fin 512) (k : Fin 2048) : ((View.whole main_v0_1).slice (win0_4.rect t)).emb (ix2 r k) = ix2 (row t r) k := by
  obtain ⟨_, _, _, _, e⟩ := idx_facts t
  blk_ext [e, row]

end

theorem final3 (c : Dev nD) : (dats m 0 c).arrAt 3 cfg0.N = gD (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  idx_vars y
  rw [emb3]
  exact pay1 m c t y0 y1

theorem final4 (c : Dev nD) : (dats m 0 c).arrAt 4 cfg0.N = gB (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  unfold out0_4
  frame_out
  idx_vars y
  rw [emb4]
  exact pay1 m c t y0 y1

/-- The run with the result arrays at their functions of the arguments. -/
theorem run : θ_run defs (onTc (τ := τ) (main (F := Ideal))) ⟨m, fun _ => 0, ρ⟩ fun r => ∀ c : Dev nD,
      r.2.mem ((c : Thread nD τ).loc main_v0_0) = gD (m ((c : Thread nD τ).loc main_arg0)) (m ((c : Thread nD τ).loc main_arg1))
        (m ((c : Thread nD τ).loc main_arg2))
      ∧ r.2.mem ((c : Thread nD τ).loc main_v0_1) = gB (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩)
    (Cert.ResidIdeal.Value.run_blocks m ρ)

end Cert.Resids

end
-- ==== Proof.Resid.Claims.lean ====
/- The claims about the hidden rows' gradient through the embedding's gate and past it. -/
module

public import proofs.«01_k».proof.Defs
public import proofs.«01_k».proof.Proof.Gen.Resid.Frame
public import proofs.«01_k».proof.Proof.Gen.ResidRefIdeal.Run
public import proofs.«01_k».proof.Proof.Gen.ResidRefIdeal.Read
public import proofs.«01_k».proof.Proof.Resid.Kernel
public import Idealize.ShloMosaic.Adequacy
public import Idealize.ShloMosaic.Init

@[expose] public section

set_option maxRecDepth 16384

noncomputable section

namespace Cert.Resids

open Idealize.ShloMosaic
open Idealize.ShloMosaic.TcCoe Idealize.SL.Sem

section

open Cert.ResidRefIdeal Cert.ResidRefIdeal.Read

variable (x0 : FVec Ideal S4096x2048 .bf16) (x1 : FVec Ideal S2048x2048 .bf16) (x2 : FVec Ideal S4096x2048 .f32)

theorem v5_eq : val_main_v5 (F := Ideal) x0 x1 x2 = gD x0 x1 x2 := by
  funext i
  idx_vars i
  unfold val_main_v5 val_main_v4 val_main_v3 val_main_v1
  pointwise
  rfl

theorem v6_eq : val_main_v6 (F := Ideal) x0 x1 x2 = gB x0 x1 x2 :=
  funext fun i => congrFun (v5_eq x0 x1 x2) i

end

theorem frame_kernel : Cert.quiescent_Resid := fun m ρ _ => Cert.Resid.Gen.frame m ρ

theorem frame_ideal : Cert.quiescent_ResidIdeal := fun m ρ _ => Cert.ResidIdeal.Gen.frame m ρ

theorem frame_reference : Cert.quiescent_ResidRefIdeal := fun m ρ _ =>
  (θ_run Cert.ResidRefIdeal.defs _ _).mono (fun r h => ⟨fun c => (h c).2.2, sem_eq_zero_of_no_sems (by decide) r.2⟩)
    (Cert.ResidRefIdeal.Value.run (F := Ideal) m ρ)

open Cert.ResidRefIdeal.Read in
theorem algebraic : Cert.algebraic_ResidIdeal_ResidRefIdeal := by
  intro m ρ m' ρ' hpre hagree
  refine ⟨_, _, run m ρ, ?_⟩
  refine (θ_run Cert.ResidRefIdeal.defs _ _).mono (fun r h c => ?_) (Cert.ResidRefIdeal.Value.run (F := Ideal) m' ρ')
  obtain ⟨r0, r1, rest⟩ := h c
  obtain ⟨e0, e1, e2⟩ := hagree c
  refine ⟨r0.trans ((val_main_v5_eq (F := Ideal) ..).trans ?_), r1.trans ((val_main_v6_eq (F := Ideal) ..).trans ?_), rest⟩
  · rw [e0, e1, e2]
    exact (v5_eq _ _ _ :)
  · rw [e0, e1, e2]
    exact (v6_eq _ _ _ :)

end Cert.Resids

end
-- ==== Proof.Poolw.Kernel.lean ====
/- The gradient of the pooling groups' weights: what the pipelined call leaves in its result array, as a function of
   the pooled columns and the mixed columns' gradient. -/
module

public import Idealize.ShloMosaic.Lib.Pointwise
public import Idealize.ShloMosaic.Lib.Pipeline.ValueKit.Tiles
public import Idealize.ShloMosaic.Lib.Pipeline.ValueKit.Geometry
public import proofs.«01_k».proof.Proof.Gen.PoolwIdeal.Value

@[expose] public section

set_option maxRecDepth 16384

noncomputable section

namespace Cert.Poolws

open Idealize.ShloMosaic Cert.PoolwIdeal Cert.PoolwIdeal.Gen
open Idealize.ShloMosaic.TcCoe Idealize.SL.Sem

/-- The column of the whole array that a group's column is. -/
def gcol (g : Fin 4) (r : Fin 256) : Fin 1024 :=
  ⟨g.val * 256 + r.val, by have := g.isLt; have := r.isLt; omega⟩

/-- In each group, the pooled columns' transpose times the gradient. -/
def gW (a d : FVec Ideal S4096x1024 .bf16) : FVec Ideal S4x256x256 .bf16 := fun i =>
  (∑ k : Fin 4096, a (ix2 k (gcol (i 0) (i 1))) * d (ix2 k (gcol (i 0) (i 2))) : EReal)

variable (m : (ℓ : Loc nD τ sig) → Buf (Elt Ideal) ℓ) (ρ : Dev nD → PrngReg)

theorem idx_facts : ∀ t : Fin cfg0.N, win0_0.index t = ![t.val % 4, t.val / 4] ∧ win0_1.index t = ![t.val % 4, t.val / 4]
    ∧ win0_2.index t = ![t.val / 4, 0, 0] :=
  (by decide +kernel : ∀ t : Fin grid0.N, _)

/-- The row of the operands that a tile's row is. -/
def row (t : Fin cfg0.N) (k : Fin 1024) : Fin 4096 :=
  ⟨t.val % 4 * 1024 + k.val, by have := k.isLt; omega⟩

/-- The group a point works on. -/
def grp (t : Fin cfg0.N) : Fin 4 :=
  ⟨t.val / 4, by have := t.isLt; have h : cfg0.N = 16 := N_0; omega⟩

theorem pay1 (i : S256x256.Idx) : k0_pay1 (F := Ideal) i = (0 : EReal) := by
  idx_vars i
  pointwise [k0_pay1]

section

variable (c : Dev nD) (t : Fin cfg0.N)

theorem blk0 (k : Fin 1024) (r : Fin 256) :
    iblk m c 0 t (ix2 k r) = V m c main_v84 (ix2 (row t k) (gcol (grp t) r)) := by
  obtain ⟨e, _⟩ := idx_facts t
  blk_ext [iblk, e, row, gcol, grp]

theorem blk1 (k : Fin 1024) (r : Fin 256) :
    iblk m c 1 t (ix2 k r) = m ((c : Thread nD τ).loc main_arg1) (ix2 (row t k) (gcol (grp t) r)) := by
  obtain ⟨_, e, _⟩ := idx_facts t
  blk_ext [iblk, V_main_arg1, e, row, gcol, grp]

/-- What a point adds to the accumulator. -/
def term (i : S256x256.Idx) : EReal :=
  ∑ k : Fin 1024, (show EReal from V m c main_v84 (ix2 (row t k) (gcol (grp t) (i 0))))
    * (show EReal from m ((c : Thread nD τ).loc main_arg1) (ix2 (row t k) (gcol (grp t) (i 1))))

theorem step (z : FVec Ideal S256x256 .f32) (i : S256x256.Idx) :
    k0_pay2 (F := Ideal) (iblk m c 0 t) (iblk m c 1 t) z i = (show EReal from z i) + term m c t i := by
  idx_vars i
  refine Eq.trans ?_ (congrArg (fun u : EReal => (show EReal from z (ix2 i0 i1)) + u) (Finset.sum_congr rfl fun k _ =>
    congrArg₂ (fun u v : EReal => u * v) (blk0 m c t k i0) (blk1 m c t k i1)))
  generalize iblk m c 0 t = a
  generalize iblk m c 1 t = b
  pointwise [k0_pay2]

theorem cast3 (z : FVec Ideal S256x256 .f32) (u : Fin 1) (r j : Fin 256) :
    k0_pay3 (F := Ideal) z (ix3 u r j) = z (ix2 r j) := by
  pointwise [k0_pay3]

/-- The accumulator after a point that starts a group. -/
theorem acc_first (h : t.val % 4 = 0) (i : S256x256.Idx) :
    (outsAt0 m c t.val t.isLt).2 i = (0 : EReal) + term m c t i := by
  rw [outsAt0_A m c t h (by omega)]
  frame_out
  rw [step, pay1]

/-- The accumulator after any other point. -/
theorem acc_next (h : ¬t.val % 4 = 0) (i : S256x256.Idx) : (outsAt0 m c t.val t.isLt).2 i
    = (show EReal from (outsAt0 m c (t.val - 1) (Nat.lt_of_le_of_lt (Nat.sub_le _ _) t.isLt)).2 i) + term m c t i := by
  by_cases h1 : t.val % 4 = 3
  · rw [outsAt0_C m c t h h1]
    frame_out
    rw [step]
    exact congrArg (fun u : EReal => u + _) (congrFun ((Memref.isWhole_whole cc0_scratch0).read_unread _) i)
  · rw [outsAt0_B m c t h h1]
    frame_out
    rw [step]
    exact congrArg (fun u : EReal => u + _) (congrFun ((Memref.isWhole_whole cc0_scratch0).read_unread _) i)

/-- What a point that ends a group writes is the accumulator. -/
theorem out_last (h : t.val % 4 = 3) (u : Fin 1) (r j : Fin 256) :
    (outsAt0 m c t.val t.isLt).1 (ix3 u r j) = (outsAt0 m c t.val t.isLt).2 (ix2 r j) := by
  rw [outsAt0_C m c t (by omega) h]
  frame_out
  rw [cast3]

end

theorem final2 (c : Dev nD) : (dats m 0 c).arrAt 2 cfg0.N = gW (V m c main_v84) (m ((c : Thread nD τ).loc main_arg1)) := by
  refine (dats m 0 c).arrAt_eq_of_covers 2 _ (by decide +kernel) fun t hf y => ?_
  blk_simp
  have hr : t.val % 4 = 3 := (flush0_2 t).mp hf
  rw [after0_2]
  idx_vars y
  have he : ((View.whole main_v85).slice (win0_2.rect t)).emb (ix3 y0 y1 y2) = ix3 (grp t) y1 y2 := by
    obtain ⟨_, _, e⟩ := idx_facts t
    blk_ext [e, grp]
  rw [he, out_last m c t hr, Pipeline.eq_sum_fin_of_reset_step_apply_of_flush (M := EReal)
    (fun n h => (outsAt0 m c n h).2) 4 (fun _ => 0) (term m c) (acc_first m c) (acc_next m c) t hr (ix2 y1 y2), zero_add]
  refine Eq.trans (Finset.sum_congr (M := EReal) rfl fun s _ => Finset.sum_congr (M := EReal) rfl fun k _ => ?_)
    (Fin.sum_mul_add_fin 4 1024 (fun l : Fin 4096 => (show EReal from V m c main_v84 (ix2 l (gcol (grp t) y1)))
      * (show EReal from m ((c : Thread nD τ).loc main_arg1) (ix2 l (gcol (grp t) y2)))) rfl)
  have h1 : (4 * (t.val / 4) + s.val) % 4 = s.val := by have := s.isLt; omega
  have h2 : (4 * (t.val / 4) + s.val) / 4 = t.val / 4 := by have := s.isLt; omega
  simp only [row, grp, h1, h2]
  rfl

/-- The run with the result array at its function of the pooled columns and the gradient. -/
theorem run : θ_run defs (onTc (τ := τ) (main (F := Ideal))) ⟨m, fun _ => 0, ρ⟩ fun r => ∀ c : Dev nD,
      r.2.mem ((c : Thread nD τ).loc main_v85) = gW (V m c main_v84) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Cert.PoolwIdeal.Value.run_blocks m ρ)

end Cert.Poolws

end
-- ==== Proof.Poolw.Claims.lean ====
/- The claims about the gradient of the pooling groups' weights. -/
module

public import proofs.«01_k».proof.Defs
public import proofs.«01_k».proof.Proof.Gen.Poolw.Frame
public import proofs.«01_k».proof.Proof.Gen.PoolwRefIdeal.Run
public import proofs.«01_k».proof.Proof.Gen.PoolwRefIdeal.Read
public import proofs.«01_k».proof.Proof.Poolw.Kernel
public import Idealize.ShloMosaic.Adequacy
public import Idealize.ShloMosaic.Init

@[expose] public section

set_option maxRecDepth 16384

noncomputable section

namespace Cert.Poolws

open Idealize.ShloMosaic
open Idealize.ShloMosaic.TcCoe Idealize.SL.Sem

section

open Cert.PoolwRefIdeal Cert.PoolwRefIdeal.Read

/-- An array of columns in groups, laid out flat. -/
def flat (p : FVec Ideal S4096x4x256 .f32) : FVec Ideal S4096x1024 .bf16 :=
  truncf .bf16 (shapeCast S4096x1024 p Cert.PoolwIdeal.Gen.shapeCasts_S4096x4x256_S4096x1024) (by decide)

theorem flat_apply (p : FVec Ideal S4096x4x256 .f32) (k : Fin 4096) (g : Fin 4) (r : Fin 256) :
    flat p (ix2 k (gcol g r)) = p (ix3 k g r) := by
  unfold flat
  pointwise
  have hg : (gcol g r).val / 256 = g.val := by have := r.isLt; simp only [gcol]; omega
  have hc : (gcol g r).val % 256 = r.val := by have := r.isLt; simp only [gcol]; omega
  exact congrArg₂ (fun u v => p (ix3 k u v)) (Fin.ext hg) (Fin.ext hc)

/-- The columns the kernel is given are the reference's pooled columns. -/
theorem V_pooled (m : (ℓ : Loc Cert.PoolwIdeal.nD Cert.PoolwIdeal.τ Cert.PoolwIdeal.sig) → Buf (Elt Ideal) ℓ)
    (c : Dev Cert.PoolwIdeal.nD) : Cert.PoolwIdeal.Gen.V m c Cert.PoolwIdeal.main_v84
      = flat (val_main_v82 (F := Ideal) (m ((c : Thread Cert.PoolwIdeal.nD Cert.PoolwIdeal.τ).loc Cert.PoolwIdeal.main_arg0))) := by
  unfold Cert.PoolwIdeal.Gen.V
  simp only [Cert.PoolwIdeal.Gen.hostOps0, Cert.PoolwIdeal.Gen.hostOps0_1, Cert.PoolwIdeal.Gen.hostOps0_2,
    Cert.PoolwIdeal.Gen.hostOps0_3, Cert.PoolwIdeal.Gen.hostOps0_4, Cert.PoolwIdeal.Gen.hostOps0_5, Cert.PoolwIdeal.Gen.hostOps0_6,
    Cert.PoolwIdeal.Gen.hostOps0_7, Cert.PoolwIdeal.Gen.hostOps0_8, List.flatten_cons, List.flatten_nil, List.append_nil,
    List.cons_append, List.nil_append, StableHlo.TRef.binary, StableHlo.TRef.nullary, StableHlo.TRef.unary, StableHlo.TRef.toBuf,
    StableHlo.TRef.ofBuf, cast_eq]
  after_results_simp
  try dsimp only [Matrix.cons_val]
  try after_results_simp
  rfl

/-- The reference's product is the kernel's. -/
theorem v91_eq (x0 : FVec Ideal S4096x4096 .f32) (x1 : FVec Ideal S4096x1024 .bf16) :
    val_main_v91 (F := Ideal) x0 x1 = gW (flat (val_main_v82 (F := Ideal) x0)) x1 := by
  funext i
  idx_vars i
  unfold val_main_v91 val_main_v90 val_main_v89 val_main_v88 val_main_v87 val_main_v86
  generalize val_main_v82 (F := Ideal) x0 = a
  refine Eq.trans ?_ (Finset.sum_congr rfl fun k _ => congrArg (fun u : EReal => u * x1 (ix2 k (gcol i0 i2))) (flat_apply a k i0 i1).symm)
  pointwise
  exact Finset.sum_congr rfl fun k _ => mul_comm (G := EReal) _ _

end

theorem frame_kernel : Cert.quiescent_Poolw := fun m ρ _ => Cert.Poolw.Gen.frame m ρ

theorem frame_ideal : Cert.quiescent_PoolwIdeal := fun m ρ _ => Cert.PoolwIdeal.Gen.frame m ρ

theorem frame_reference : Cert.quiescent_PoolwRefIdeal := fun m ρ _ =>
  (θ_run Cert.PoolwRefIdeal.defs _ _).mono (fun r h => ⟨fun c => (h c).2, sem_eq_zero_of_no_sems (by decide) r.2⟩)
    (Cert.PoolwRefIdeal.Value.run (F := Ideal) m ρ)

open Cert.PoolwRefIdeal.Read in
theorem algebraic : Cert.algebraic_PoolwIdeal_PoolwRefIdeal := by
  intro m ρ m' ρ' hpre hagree
  refine ⟨_, run m ρ, ?_⟩
  refine (θ_run Cert.PoolwRefIdeal.defs _ _).mono (fun r h c => ?_) (Cert.PoolwRefIdeal.Value.run (F := Ideal) m' ρ')
  obtain ⟨r0, rest⟩ := h c
  obtain ⟨e0, e1⟩ := hagree c
  refine ⟨r0.trans ((val_main_v91_eq (F := Ideal) ..).trans ?_), rest⟩
  rw [e0, e1, V_pooled]
  exact (v91_eq _ _ :)

end Cert.Poolws

end
-- ==== Proof.Adam.Kernel.lean ====
/- The optimiser's step of one large weight: what the pipelined call leaves in its four result arrays, as functions of its
   argument arrays. -/
module

public import Idealize.ShloMosaic.Lib.Pointwise
public import Idealize.ShloMosaic.Lib.Pipeline.ValueKit.Tiles
public import Idealize.ShloMosaic.Lib.Pipeline.ValueKit.Geometry
public import proofs.«01_k».proof.Proof.Gen.AdamIdeal.Value

@[expose] public section

set_option maxRecDepth 16384

noncomputable section

namespace Cert.Adams

open Idealize.ShloMosaic Cert.AdamIdeal Cert.AdamIdeal.Gen
open Idealize.ShloMosaic.TcCoe Idealize.SL.Sem

/-! The constants, as they are rounded. -/
def b1 : EReal := Ideal.ofBits .f32 0x3F666666#32
def b1' : EReal := Ideal.ofBits .f32 0x3DCCCCCD#32
def b2 : EReal := Ideal.ofBits .f32 0x3F7FBE77#32
def b2' : EReal := Ideal.ofBits .f32 0x3A83126F#32
def k1 : EReal := Ideal.ofBits .f32 0x3F26BD02#32
def k2 : EReal := Ideal.ofBits .f32 0x3C231ACC#32
def eps : EReal := Ideal.ofBits .f32 0x322BCC77#32
def wd : EReal := Ideal.ofBits .f32 0x3C23D70A#32
def lr : EReal := Ideal.ofBits .f32 0xBA83126F#32

/-- The first moment after the step. -/
def newM (g m : EReal) : EReal := b1 * m + b1' * g

/-- The second moment after the step. -/
def newV (g v : EReal) : EReal := b2 * v + b2' * (g * g)

/-- The weight's change. -/
def delta (g m v w : EReal) : EReal := lr * (Ideal.div (Ideal.div (newM g m) k1) (Ideal.sqrt (Ideal.div (newV g v) k2) + eps) + wd * w)

/-- The call's arguments: the weight, its two moments, this device's part of the gradient and the seven others'. -/
structure Args where
  w : FVec Ideal S2048x512 .f32
  m : FVec Ideal S2048x512 .f32
  v : FVec Ideal S2048x512 .f32
  own : FVec Ideal S2048x512 .bf16
  landed : FVec Ideal S7x2048x512 .bf16

section

variable (a : Args)

/-- The gradient: the sum of the eight parts. -/
def grad (r : Fin 2048) (k : Fin 512) : EReal := a.own (ix2 r k) + ∑ s : Fin 7, a.landed (ix3 s r k)

def gG : FVec Ideal S2048x512 .f32 := fun i => grad a (i 0) (i 1)

def gD : FVec Ideal S2048x512 .f32 := fun i => delta (grad a (i 0) (i 1)) (a.m i) (a.v i) (a.w i)

def gM : FVec Ideal S2048x512 .f32 := fun i => newM (grad a (i 0) (i 1)) (a.m i)

def gV : FVec Ideal S2048x512 .f32 := fun i => newV (grad a (i 0) (i 1)) (a.v i)

end

variable (m : (ℓ : Loc nD τ sig) → Buf (Elt Ideal) ℓ) (ρ : Dev nD → PrngReg)

/-- The arguments a core finds. -/
def args (c : Dev nD) : Args where
  w := m ((c : Thread nD τ).loc main_arg0)
  m := m ((c : Thread nD τ).loc main_arg1)
  v := m ((c : Thread nD τ).loc main_arg2)
  own := m ((c : Thread nD τ).loc main_arg3)
  landed := m ((c : Thread nD τ).loc main_arg4)

theorem idx_facts : ∀ t : Fin cfg0.N, win0_0.index t = ![t.val, 0] ∧ win0_1.index t = ![t.val, 0] ∧ win0_2.index t = ![t.val, 0]
    ∧ win0_3.index t = ![t.val, 0] ∧ win0_4.index t = ![0, t.val, 0] :=
  (by decide +kernel : ∀ t : Fin grid0.N, _)

theorem out_facts : ∀ t : Fin cfg0.N, win0_5.index t = ![t.val, 0] ∧ win0_6.index t = ![t.val, 0] ∧ win0_7.index t = ![t.val, 0]
    ∧ win0_8.index t = ![t.val, 0] :=
  (by decide +kernel : ∀ t : Fin grid0.N, _)

/-- The array's row that a tile's row is. -/
def row (t : Fin cfg0.N) (r : Fin 256) : Fin 2048 :=
  ⟨t.val * 256 + r.val, by have := t.isLt; have := r.isLt; have h : cfg0.N = 8 := N_0; omega⟩

section

variable (c : Dev nD) (t : Fin cfg0.N)

theorem blk0 (r : Fin 256) (k : Fin 512) : iblk m c 0 t (ix2 r k) = (args m c).w (ix2 (row t r) k) := by
  obtain ⟨e, _⟩ := idx_facts t
  unfold args
  blk_ext [iblk, V_main_arg0, e, row]

theorem blk1 (r : Fin 256) (k : Fin 512) : iblk m c 1 t (ix2 r k) = (args m c).m (ix2 (row t r) k) := by
  obtain ⟨_, e, _⟩ := idx_facts t
  unfold args
  blk_ext [iblk, V_main_arg1, e, row]

theorem blk2 (r : Fin 256) (k : Fin 512) : iblk m c 2 t (ix2 r k) = (args m c).v (ix2 (row t r) k) := by
  obtain ⟨_, _, e, _⟩ := idx_facts t
  unfold args
  blk_ext [iblk, V_main_arg2, e, row]

theorem blk3 (r : Fin 256) (k : Fin 512) : iblk m c 3 t (ix2 r k) = (args m c).own (ix2 (row t r) k) := by
  obtain ⟨_, _, _, e, _⟩ := idx_facts t
  unfold args
  blk_ext [iblk, V_main_arg3, e, row]

theorem blk4 (s : Fin 7) (r : Fin 256) (k : Fin 512) : iblk m c 4 t (ix3 s r k) = (args m c).landed (ix3 s (row t r) k) := by
  obtain ⟨_, _, _, _, e⟩ := idx_facts t
  unfold args
  blk_ext [iblk, V_main_arg4, e, row]

/-- A whole block read back. -/
theorem ld_whole {e : EltTy} (x : Vec Ideal S256x512 e) : View.ld x r0_0 = x :=
  View.ld_unit_lit inb_S256x512_S256x512_0_0 x (by decide)

theorem assoc (x a b c d e f g : EReal) : x + a + b + c + d + e + f + g = x + (a + b + c + d + e + f + g) := by
  simp only [add_assoc]

/-- The tile's gradient. -/
def gradT : FVec Ideal S256x512 .f32 := k0_pay6 (iblk m c 0 t) (iblk m c 1 t) (iblk m c 2 t) (iblk m c 3 t) (iblk m c 4 t)

theorem gradT_eq (r : Fin 256) (k : Fin 512) : gradT m c t (ix2 r k) = grad (args m c) (row t r) k := by
  refine Eq.trans ?_ (congrArg₂ (fun u v : EReal => u + v) (blk3 m c t r k) (Finset.sum_congr rfl fun s _ => blk4 m c t s r k))
  unfold gradT k0_pay6
  rw [ld_whole]
  generalize iblk m c 3 t = a
  generalize iblk m c 4 t = b
  pointwise [k0_pay4]
  exact (assoc ..).trans (congrArg (fun u : EReal => (show EReal from a (ix2 r k)) + u)
    (Fin.sum_univ_seven fun s => (show EReal from b (ix3 s r k))).symm)

theorem gradT_fold : k0_pay6 (F := Ideal) (iblk m c 0 t) (iblk m c 1 t) (iblk m c 2 t) (iblk m c 3 t) (iblk m c 4 t) = gradT m c t := rfl

theorem momT_eq (r : Fin 256) (k : Fin 512) :
    k0_pay1 (F := Ideal) (gradT m c t) (k0_pay7 (iblk m c 0 t) (iblk m c 1 t) (iblk m c 2 t) (iblk m c 3 t) (iblk m c 4 t)) (ix2 r k)
      = newM (grad (args m c) (row t r) k) ((args m c).m (ix2 (row t r) k)) := by
  have e := gradT_eq m c t r k
  have e1 := blk1 m c t r k
  unfold k0_pay7
  rw [ld_whole]
  generalize gradT m c t = a at e ⊢
  generalize iblk m c 1 t = b at e1 ⊢
  pointwise [k0_pay1, k0_pay5]
  rw [e, e1]
  rfl

theorem velT_eq (r : Fin 256) (k : Fin 512) : k0_pay2 (F := Ideal) (gradT m c t) (iblk m c 2 t) (ix2 r k)
    = newV (grad (args m c) (row t r) k) ((args m c).v (ix2 (row t r) k)) := by
  have e := gradT_eq m c t r k
  have e2 := blk2 m c t r k
  generalize gradT m c t = a at e ⊢
  generalize iblk m c 2 t = b at e2 ⊢
  pointwise [k0_pay2]
  rw [e, e2]
  rfl

theorem delT_eq (r : Fin 256) (k : Fin 512) :
    k0_pay3 (F := Ideal) (gradT m c t) (k0_pay7 (iblk m c 0 t) (iblk m c 1 t) (iblk m c 2 t) (iblk m c 3 t) (iblk m c 4 t))
        (iblk m c 2 t) (iblk m c 0 t) (ix2 r k)
      = delta (grad (args m c) (row t r) k) ((args m c).m (ix2 (row t r) k)) ((args m c).v (ix2 (row t r) k))
        ((args m c).w (ix2 (row t r) k)) := by
  have e := momT_eq m c t r k
  have e2 := velT_eq m c t r k
  have e0 := blk0 m c t r k
  unfold k0_pay3
  generalize k0_pay1 (F := Ideal) (gradT m c t) _ = a at e ⊢
  generalize k0_pay2 (F := Ideal) (gradT m c t) _ = b at e2 ⊢
  generalize iblk m c 0 t = d at e0 ⊢
  pointwise
  rw [e, e2, e0]
  rfl

theorem emb5 (r : Fin 256) (k : Fin 512) : ((View.whole main_v0_0).slice (win0_5.rect t)).emb (ix2 r k) = ix2 (row t r) k := by
  obtain ⟨e, _⟩ := out_facts t
  blk_ext [e, row]

theorem emb6 (r : Fin 256) (k : Fin 512) : ((View.whole main_v0_1).slice (win0_6.rect t)).emb (ix2 r k) = ix2 (row t r) k := by
  obtain ⟨_, e, _⟩ := out_facts t
  blk_ext [e, row]

theorem emb7 (r : Fin 256) (k : Fin 512) : ((View.whole main_v0_2).slice (win0_7.rect t)).emb (ix2 r k) = ix2 (row t r) k := by
  obtain ⟨_, _, e, _⟩ := out_facts t
  blk_ext [e, row]

theorem emb8 (r : Fin 256) (k : Fin 512) : ((View.whole main_v0_3).slice (win0_8.rect t)).emb (ix2 r k) = ix2 (row t r) k := by
  obtain ⟨_, _, _, e⟩ := out_facts t
  blk_ext [e, row]

end

theorem final5 (c : Dev nD) : (dats m 0 c).arrAt 5 cfg0.N = gG (args m c) := by
  refine (dats m 0 c).arrAt_eq_of_covers 5 _ (by decide +kernel) fun t hf y => ?_
  blk_simp
  rw [after0_5]
  unfold out0_5
  rw [gradT_fold]
  frame_out
  idx_vars y
  rw [emb5]
  exact gradT_eq m c t y0 y1

theorem final6 (c : Dev nD) : (dats m 0 c).arrAt 6 cfg0.N = gD (args m c) := by
  refine (dats m 0 c).arrAt_eq_of_covers 6 _ (by decide +kernel) fun t hf y => ?_
  blk_simp
  rw [after0_6]
  unfold out0_6
  rw [gradT_fold]
  frame_out
  idx_vars y
  rw [emb6]
  exact delT_eq m c t y0 y1

theorem final7 (c : Dev nD) : (dats m 0 c).arrAt 7 cfg0.N = gM (args m c) := by
  refine (dats m 0 c).arrAt_eq_of_covers 7 _ (by decide +kernel) fun t hf y => ?_
  blk_simp
  rw [after0_7]
  unfold out0_7
  rw [gradT_fold]
  frame_out
  idx_vars y
  rw [emb7]
  exact momT_eq m c t y0 y1

theorem final8 (c : Dev nD) : (dats m 0 c).arrAt 8 cfg0.N = gV (args m c) := by
  refine (dats m 0 c).arrAt_eq_of_covers 8 _ (by decide +kernel) fun t hf y => ?_
  blk_simp
  rw [after0_8]
  unfold out0_8
  rw [gradT_fold]
  frame_out
  idx_vars y
  rw [emb8]
  exact velT_eq m c t y0 y1

/-- The run with the four result arrays at their functions of the arguments. -/
theorem run : θ_run defs (onTc (τ := τ) (main (F := Ideal))) ⟨m, fun _ => 0, ρ⟩ fun r => ∀ c : Dev nD,
      r.2.mem ((c : Thread nD τ).loc main_v0_0) = gG (args m c)
      ∧ r.2.mem ((c : Thread nD τ).loc main_v0_1) = gD (args m c)
      ∧ r.2.mem ((c : Thread nD τ).loc main_v0_2) = gM (args m c)
      ∧ r.2.mem ((c : Thread nD τ).loc main_v0_3) = gV (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c),
    (h c).2.2.2.1.trans (final8 m c), (h c).2.2.2.2⟩) (Cert.AdamIdeal.Value.run_blocks m ρ)

end Cert.Adams

end
-- ==== Proof.Adam.Claims.lean ====
/- The claims about the optimiser's step of one large weight. -/
module

public import proofs.«01_k».proof.Defs
public import proofs.«01_k».proof.Proof.Gen.Adam.Frame
public import proofs.«01_k».proof.Proof.Gen.AdamRefIdeal.Run
public import proofs.«01_k».proof.Proof.Gen.AdamRefIdeal.Read
public import proofs.«01_k».proof.Proof.Adam.Kernel
public import Idealize.ShloMosaic.Adequacy
public import Idealize.ShloMosaic.Init

@[expose] public section

set_option maxRecDepth 16384

noncomputable section

namespace Cert.Adams

open Idealize.ShloMosaic
open Idealize.ShloMosaic.TcCoe Idealize.SL.Sem

/-! ## The reference's results -/

section

open Cert.AdamRefIdeal Cert.AdamRefIdeal.Read

variable (a : Args)

theorem v3 (r : Fin 2048) (k : Fin 512) : val_main_v3 (F := Ideal) a.own a.landed (ix2 r k) = grad a r k := by
  unfold val_main_v3 val_main_v2 val_main_v1 val_main_v0 val_main_cst
  pointwise
  rfl

theorem v3_eq : val_main_v3 (F := Ideal) a.own a.landed = gG a := by
  funext i
  idx_vars i
  exact v3 a i0 i1

theorem v8 (r : Fin 2048) (k : Fin 512) : val_main_v8 (F := Ideal) a.m a.own a.landed (ix2 r k) = newM (grad a r k) (a.m (ix2 r k)) := by
  have e := v3 a r k
  unfold val_main_v8 val_main_v7 val_main_v6 val_main_v5 val_main_v4 val_main_cst_0 val_main_cst_1
  generalize val_main_v3 (F := Ideal) a.own a.landed = b at e ⊢
  pointwise
  rw [e]
  rfl

theorem v8_eq : val_main_v8 (F := Ideal) a.m a.own a.landed = gM a := by
  funext i
  idx_vars i
  exact v8 a i0 i1

theorem v14 (r : Fin 2048) (k : Fin 512) : val_main_v14 (F := Ideal) a.v a.own a.landed (ix2 r k) = newV (grad a r k) (a.v (ix2 r k)) := by
  have e := v3 a r k
  unfold val_main_v14 val_main_v13 val_main_v12 val_main_v11 val_main_v10 val_main_v9 val_main_cst_2 val_main_cst_3
  generalize val_main_v3 (F := Ideal) a.own a.landed = b at e ⊢
  pointwise
  rw [e]
  rfl

theorem v14_eq : val_main_v14 (F := Ideal) a.v a.own a.landed = gV a := by
  funext i
  idx_vars i
  exact v14 a i0 i1

theorem v27_eq : val_main_v27 (F := Ideal) a.w a.m a.v a.own a.landed = gD a := by
  funext i
  idx_vars i
  have e := v8 a i0 i1
  have e1 := v14 a i0 i1
  unfold val_main_v27 val_main_v26 val_main_v25 val_main_v24 val_main_v23 val_main_v22 val_main_v21 val_main_v20 val_main_v19 val_main_v18
    val_main_v17 val_main_v16 val_main_v15 val_main_cst_4 val_main_cst_5 val_main_cst_6 val_main_cst_7 val_main_cst_8
  generalize val_main_v8 (F := Ideal) a.m a.own a.landed = b at e ⊢
  generalize val_main_v14 (F := Ideal) a.v a.own a.landed = d at e1 ⊢
  pointwise
  rw [e, e1]
  rfl

end

/-! ## The claims -/

theorem frame_kernel : Cert.quiescent_Adam := fun m ρ _ => Cert.Adam.Gen.frame m ρ

theorem frame_ideal : Cert.quiescent_AdamIdeal := fun m ρ _ => Cert.AdamIdeal.Gen.frame m ρ

theorem frame_reference : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

open Cert.AdamRefIdeal.Read in
theorem algebraic : Cert.algebraic_AdamIdeal_AdamRefIdeal := by
  intro m ρ m' ρ' hpre hagree
  refine ⟨_, _, _, _, run m ρ, ?_⟩
  refine (θ_run Cert.AdamRefIdeal.defs _ _).mono (fun r h c => ?_) (Cert.AdamRefIdeal.Value.run (F := Ideal) m' ρ')
  obtain ⟨r0, r1, r2, r3, rest⟩ := h c
  obtain ⟨e0, e1, e2, e3, e4⟩ := hagree c
  refine ⟨r0.trans ((val_main_v3_eq (F := Ideal) ..).trans ?_), r1.trans ((val_main_v27_eq (F := Ideal) ..).trans ?_),
    r2.trans ((val_main_v8_eq (F := Ideal) ..).trans ?_), r3.trans ((val_main_v14_eq (F := Ideal) ..).trans ?_), rest⟩
  · rw [e3, e4]
    exact (v3_eq (args m c) :)
  · rw [e0, e1, e2, e3, e4]
    exact (v27_eq (args m c) :)
  · rw [e1, e3, e4]
    exact (v8_eq (args m c) :)
  · rw [e2, e3, e4]
    exact (v14_eq (args m c) :)

end Cert.Adams

end
-- ==== Proof.Recur.Held.lean ====
/-
  A buffer held whole at contents nobody names: what the scans' kernels find in their outputs and scratch, and leave there.
-/
module

public import Idealize.ShloMosaic.Lib.Pipeline.FrameBody
public import Idealize.ShloMosaic.Lib.Ring
public import Idealize.ShloMosaic.Lib.Tactic

@[expose] public section

noncomputable section

namespace Cert.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {F : FTy → Type} [FloatOps F]

local notation "𝕄" => MT nD τ sig Unit (Elt F) ℕ (UR sig nD τ) ℕ

/-- A block of `c`'s memory held whole, at contents nobody names. -/
def held (c : Dev nD) {sp : Space} {S : Shape} {e : EltTy} (M : Memref sig .tc sp S e) : sProp 𝕄 :=
  iprop(∃ d, owns (c : Thread nD τ) M fullShare d)

/-- Its definition written out: what a run leaves in a buffer is some block. -/
theorem held_intro (c : Dev nD) {sp : Space} {S : Shape} {e : EltTy} (M : Memref sig .tc sp S e)
    (f : Buf (Elt F) (M.view.loc (c : Thread nD τ))) :
    (M.view.loc (c : Thread nD τ) ↦[M.view.set]{fullShare} f : sProp 𝕄)
      ⊢ iprop(∃ d f, ⌜M.view.read (Elt F) f = d⌝ ∗ (M.view.loc (c : Thread nD τ) ↦[M.view.set]{fullShare} f)) := by
  iintro H
  iexists _, f
  isplitr
  · ipureintro; rfl
  iexact H

/-- The same for a block whose contents `x` are known and unchanged. -/
theorem known_intro (c : Dev nD) {sp : Space} {S : Shape} {e : EltTy} (M : Memref sig .tc sp S e) {x : S.Idx → Elt F e}
    {f : Buf (Elt F) (M.view.loc (c : Thread nD τ))} (h : M.view.read (Elt F) f = x) :
    (M.view.loc (c : Thread nD τ) ↦[M.view.set]{fullShare} f : sProp 𝕄)
      ⊢ iprop(∃ f, ⌜M.view.read (Elt F) f = x⌝ ∗ (M.view.loc (c : Thread nD τ) ↦[M.view.set]{fullShare} f)) := by
  iintro H
  iexists f
  isplitr
  · ipureintro; exact h
  iexact H

end Cert.Held

end
-- ==== Proof.Recur.Body.lean ====
/-
  The forward scan's kernel body, run once over any float values.

  The kernel walks the sequence in blocks of 256 rows. It keeps the recurrence's state between the points of its grid in a
  scratch buffer, which it clears at the first point. What the frame needs of a point is only this: from the five input
  blocks, and from the three output blocks and the three scratch buffers at any contents, the body runs to its return and
  leaves the input blocks as they were. Nothing is said here of what the outputs and the scratch then hold.

  The body is taken in two steps: its first lines, which clear the scratch at the first point and do nothing at the others
  (`entry_run`), and the rest, which is the same at every point (`body_run`).
-/
module

public import proofs.«01_k».proof.Proof.Recur.Held
public import proofs.«01_k».proof.Proof.Gen.RecurIdeal.Frame
public import proofs.«01_k».proof.Proof.Gen.RecurIdeal.Skeleton
public import proofs.«01_k».proof.Proof.Gen.RecurIdeal.Loops
public import Idealize.ShloMosaic.Lib.Tactic

@[expose] public section

set_option maxRecDepth 16384

noncomputable section

namespace Cert.Recurs

open Cert.RecurIdeal Cert.RecurIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section

variable (i : grid0.Coords) (arg1 : Memref sig .tc .vmem S256x1024 .f32) (harg1 : arg1.IsWhole)
  (arg2 : Memref sig .tc .vmem S4x256x256 .bf16) (harg2 : arg2.IsWhole)
  (arg3 : Memref sig .tc .vmem S4x256x256 .bf16) (harg3 : arg3.IsWhole)
  (arg4 : Memref sig .tc .vmem S4x8x256 .f32) (harg4 : arg4.IsWhole)
  (arg5 : Memref sig .tc .vmem S1x1024 .f32) (harg5 : arg5.IsWhole)
  (arg6 : Memref sig .tc .vmem S256x1024 .f32) (harg6 : arg6.IsWhole)
  (arg7 : Memref sig .tc .vmem S256x1024 .bf16) (harg7 : arg7.IsWhole)
  (arg8 : Memref sig .tc .vmem S4x2048x256 .f32) (harg8 : arg8.IsWhole)
  (arg9 : Memref sig .tc .vmem S4x8x256 .f32) (harg9 : arg9.IsWhole)
  (arg10 : Memref sig .tc .vmem S2x2048x128 .f32) (harg10 : arg10.IsWhole)
  (arg11 : Memref sig .tc .vmem S2x2048x128 .f32) (harg11 : arg11.IsWhole)

/-- The body's first lines: at the first point the state and the spread block are cleared, at the others nothing is. -/
theorem entry_run (c : Dev nD) :
    iprop(held (F := F) c arg9 ∗ held c arg10)
      ⊢ wp frame (wpE (defs₀ (F := F)) Variants.none c none) Set.univ
          (k0_part19 i arg1 harg1 arg2 harg2 arg3 harg3 arg4 harg4 arg5 harg5 arg6 harg6 arg7 harg7 arg8 harg8 arg9 harg9 arg10 harg10 arg11 harg11)
          (fun _ => iprop(held (F := F) c arg9 ∗ held c arg10)) := by
  iintro ⟨H9, H10⟩
  unfold held owns
  icases H9 with ⟨%d9, %f9, %h9, H9⟩
  icases H10 with ⟨%d10, %f10, %h10, H10⟩
  sl_unfold [k0_part19]
  rcases Classical.em (Scalar.cmpi .ne (Scalar.extui (Scalar.cmpi .eq (BitVec.ofNat 32 (i 0).val) 0#32) : BitVec 32) 0#32 = 1#1) with hc | hc
  · sl_exec (disch := sl_exact hc)
    sl_step
    isplitl [H9]
    · iapply (held_intro c _ _); iexact H9
    iapply (held_intro c _ _); iexact H10
  · sl_exec (disch := sl_exact hc)
    sl_step
    isplitl [H9]
    · iapply (held_intro c _ _); iexact H9
    iapply (held_intro c _ _); iexact H10

/-- The whole body, for any continuation. -/
theorem body_run (c : Dev nD) (x1 : Vec F S256x1024 .f32) (x2 x3 : Vec F S4x256x256 .bf16) (x4 : Vec F S4x8x256 .f32)
    (x5 : Vec F S1x1024 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5
        ∗ held c arg6 ∗ held c arg7 ∗ held c arg8 ∗ held c arg9 ∗ held c arg10 ∗ held c arg11
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5
            ∗ held c arg6 ∗ held c arg7 ∗ held c arg8 ∗ held c arg9 ∗ held c arg10 ∗ held c arg11) -∗ K ⟨⟩))
      ⊢ wp frame (wpE (defs₀ (F := F)) Variants.none c none) Set.univ
          (cc0_ssm_fwd i arg1 harg1 arg2 harg2 arg3 harg3 arg4 harg4 arg5 harg5 arg6 harg6 arg7 harg7 arg8 harg8 arg9 harg9 arg10 harg10 arg11 harg11)
          K := by
  sl_unfold [cc0_ssm_fwd, cc0_ssm_fwd_skel]
  rw [wp_bind]
  iintro ⟨H1, H2, H3, H4, H5, H6, H7, H8, H9, H10, H11, Hk⟩
  iapply (wp_wand_r frame (wpE (defs₀ (F := F)) Variants.none (c : Thread nD τ) none) Set.univ)
  isplitl [H9 H10]
  · iapply (entry_run (F := F) i arg1 harg1 arg2 harg2 arg3 harg3 arg4 harg4 arg5 harg5 arg6 harg6 arg7 harg7 arg8 harg8 arg9 harg9 arg10 harg10 arg11 harg11 c)
    isplitl [H9]
    · iexact H9
    iexact H10
  iintro %y ⟨H9, H10⟩
  obtain ⟨v19, v22, v41, v42⟩ := y
  unfold held owns
  icases H1 with ⟨%f1, %h1, H1⟩
  icases H2 with ⟨%f2, %h2, H2⟩
  icases H3 with ⟨%f3, %h3, H3⟩
  icases H4 with ⟨%f4, %h4, H4⟩
  icases H5 with ⟨%f5, %h5, H5⟩
  icases H6 with ⟨%d6, %f6, %h6, H6⟩
  icases H7 with ⟨%d7, %f7, %h7, H7⟩
  icases H8 with ⟨%d8, %f8, %h8, H8⟩
  icases H9 with ⟨%d9, %f9, %h9, H9⟩
  icases H10 with ⟨%d10, %f10, %h10, H10⟩
  icases H11 with ⟨%d11, %f11, %h11, H11⟩
  sl_exec_parts
  sl_step
  iapply Hk
  isplitl [H1]; · iapply (known_intro c _ h1); iexact H1
  isplitl [H2]; · iapply (known_intro c _ h2); iexact H2
  isplitl [H3]; · iapply (known_intro c _ h3); iexact H3
  isplitl [H4]; · iapply (known_intro c _ h4); iexact H4
  isplitl [H5]; · iapply (known_intro c _ h5); iexact H5
  isplitl [H6]; · iapply (held_intro c _ _); iexact H6
  isplitl [H7]; · iapply (held_intro c _ _); iexact H7
  isplitl [H8]; · iapply (held_intro c _ _); iexact H8
  isplitl [H9]; · iapply (held_intro c _ _); iexact H9
  isplitl [H10]; · iapply (held_intro c _ _); iexact H10
  iapply (held_intro c _ _); iexact H11

end

variable (m : (ℓ : Loc nD τ sig) → Buf (Elt F) ℓ) (ρ : Dev nD → PrngReg)

/-! ## The proof data -/

/-- The three outputs are left undescribed. -/
def forgets : Fin 8 → Bool := ![false, false, false, false, false, true, true, true]

/-- On core `c`: the arrays as the grid finds them, each input block in place after the body, the outputs unnamed, the
    scratch at any contents between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Between the points: the three scratch buffers at any contents, and the generator's register. -/
theorem scratch_eq (c : Dev nD) :
    (Pipeline.ΦA spec0 c : sProp 𝕄)
      = iprop((held c (Memref.whole cc0_scratch0) ∗ held c (Memref.whole cc0_scratch1) ∗ held c (Memref.whole cc0_scratch2))
          ∗ ∃ r, prngReg c r) := by
  unfold Pipeline.ΦA
  rw [scopedRest0_eq]
  unfold held
  simp only [owns_whole]
  try rfl

end Cert.Recurs

end
-- ==== Proof.Recur.Claims.lean ====
/-
  The frame claims about the forward scan: the body at each point of the grid (`Recur/Body.lean`) put into the grid, and the
  grid between the operations before and after it. Stated once, over any float values, for the program with its float
  operations read as real ones; the kernel as printed is the same text.
-/
module

public import proofs.«01_k».proof.Defs
public import proofs.«01_k».proof.Proof.Recur.Body
public import proofs.«01_k».proof.Proof.Gen.Recur
public import Idealize.ShloMosaic.Lib.Pipeline.Frame
public import Idealize.ShloMosaic.Lib.Pipeline.FrameSuffix
public import Idealize.ShloMosaic.Lib.Pipeline.FrameBody

@[expose] public section

set_option maxRecDepth 16384

noncomputable section

namespace Cert.Recurs

open Cert.RecurIdeal Cert.RecurIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) : defs₀ (F := F) .tc cfg0.body (cfg0.bodyArgs t (cfg0.slots t)) = bodyAt0 t := by
  unfold defs₀; rw [Defs.onTc_tc]

/-- What the body is handed at point `t`, and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq]
  iintro ⟨⟨⟨HA, HB, HC⟩, Hg⟩, HO, ⟨%d0, H0⟩, ⟨%d1, H1⟩, ⟨%d2, H2⟩, ⟨%d3, H3⟩, ⟨%d4, H4⟩, H5, H6, H7⟩
  iapply (body_run (F := F) (grid0.coords t) _ _ _ _ _ _ _ _ _ _ _ _ _ _ _ _ _ _ _ _ _ _ c
    (iblk m c 0 t) (iblk m c 1 t) (iblk m c 2 t) (iblk m c 3 t) (iblk m c 4 t) _)
  unfold held
  iframe
  iintro ⟨H0, H1, H2, H3, H4, H5, H6, H7, HA, HB, HC⟩
  iframe

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- What the operations after the grid write: the two halves of the states, read out of the third output. -/
def tail : Finset (Ref sig .tc) := {main_v59, main_v60, main_v61, main_v62, main_v63, main_v64, main_v65}

theorem tail_writes : ∀ ops ∈ ([hostOps1] : List (List (HloOp τ sig (Elt F)))), ∀ op ∈ ops, ∀ b : Ref sig .tc,
    Proc.devRef .tc b ∈ op.writes → b ∈ tail := by
  intro ops hops op hop b hb
  simp only [List.mem_cons, List.mem_nil_iff, or_false] at hops
  subst hops
  simp only [hostOps1, List.mem_cons, List.mem_nil_iff, or_false] at hop
  rcases hop with rfl | rfl | rfl | rfl | rfl | rfl | rfl <;>
    (simp only [StableHlo.unary_writes, StableHlo.reshape_writes, Finset.mem_singleton] at hb
     cases (Proc.devRef_injective .tc hb); decide)

set_option backward.isDefEq.respectTransparency.types false in
/-- The run of the whole program: it ends, every input array of the grid is as it was, so is every buffer no operation after
    the grid writes, and every semaphore counter is zero. -/
theorem run_main : θ_run defs (onTc (τ := τ) (main (F := F))) (s₀ m ρ)
    (fun r => Pipeline.RDat.FramePostR (cfgs 0) (fun c => (dats m 0 c).toRForget forgets) tail (V m) r
      ∧ r.2.sem = fun _ => 0) :=
  Pipeline.θ_run_frame_around_T_forget (Q' := _) cfgs (dats m) (0 : Fin 1) launch0 defs₀ Variants.none forgets tail m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hT := tail_writes) (hmain := hmain m Variants.none) (hA := A_eq m) (hΦ := fun _ _ => rfl)

/-- A buffer that is no array of the grid and that the operations after it do not write ends as the grid found it. -/
theorem kept {r : PUnit × MemSt nD τ sig (Elt F)}
    (h : Pipeline.RDat.FramePostR (cfgs 0) (fun c => (dats (F := F) m 0 c).toRForget forgets) tail (V m) r)
    (c : Dev nD) (b : Ref sig .tc) (hs : b.isScoped = false) (ha : ∀ w, (spec0 w).arr.view.ref ≠ b) (hb : b ∉ tail) :
    r.2.mem ((c : Thread nD τ).loc b) = V m c b :=
  (h c).2 b (Finset.mem_sdiff.mpr ⟨Pipeline.mem_restRefs_of b hs ha, hb⟩)

/-- An input array of the grid ends as the grid found it, so as launched when nothing before the grid wrote it. -/
theorem kept_arr {r : PUnit × MemSt nD τ sig (Elt F)}
    (h : Pipeline.RDat.FramePostR (cfgs 0) (fun c => (dats (F := F) m 0 c).toRForget forgets) tail (V m) r)
    (c : Dev nD) (w : Fin 8) (hw : (spec0 w).isOut = false) {v} (hv : V m c (Pipeline.arrRef spec0 w) = v) :
    r.2.mem ((c : Thread nD τ).loc (Pipeline.arrRef spec0 w)) = v :=
  (Pipeline.RDat.FramePostR.arr_in h c w hw).trans ((A_eq m c w).trans hv)

set_option maxHeartbeats 1000000 in
/-- The eight arguments end as they were launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ⟨kept_arr m h.1 c 0 rfl (V_main_arg0 m c), ?_⟩, h.2⟩) (run_main m ρ)
  refine ⟨?_, ?_, ?_, ?_, ?_, ?_, kept_arr m h.1 c 4 rfl (V_main_arg7 m c)⟩
  · exact (kept m h.1 c main_arg1 (by decide) (by decide) (by decide)).trans (V_main_arg1 m c)
  · exact (kept m h.1 c main_arg2 (by decide) (by decide) (by decide)).trans (V_main_arg2 m c)
  · exact (kept m h.1 c main_arg3 (by decide) (by decide) (by decide)).trans (V_main_arg3 m c)
  · exact (kept m h.1 c main_arg4 (by decide) (by decide) (by decide)).trans (V_main_arg4 m c)
  · exact (kept m h.1 c main_arg5 (by decide) (by decide) (by decide)).trans (V_main_arg5 m c)
  · exact (kept m h.1 c main_arg6 (by decide) (by decide) (by decide)).trans (V_main_arg6 m c)

theorem frame_ideal : Cert.quiescent_RecurIdeal := fun m ρ _ => frame m ρ

theorem frame_kernel : Cert.quiescent_Recur := fun m ρ _ => by
  have h := frame (F := Bits) m ρ
  refine Eq.mp ?_ h
  sl_kernel_rfl

end Cert.Recurs

end
-- ==== Proof.Adjoint.Body.lean ====
/-
  The backward scan's kernel body, run once over any float values.

  The kernel walks the sequence backwards in blocks of 256 rows. Between the points of its grid it keeps the adjoint state in a
  scratch buffer and adds up four gradients in its outputs; it clears all of them at the first point. What is shown of a point:
  from the seven input blocks, and from the five output blocks and the four scratch buffers, the body runs to its return and
  leaves the input blocks as they were. Of the outputs and the scratch only one is described, the gradient of the skip weights,
  a sum that takes no part in the scan: the point adds to it the column sums of `dy` times the input. Nothing is said here of
  what the other outputs and the scratch then hold.

  The body is taken in three steps: its first lines, which clear at the first point and do nothing at the others (`entry_run`),
  then all but its last store (`most_run`), then the whole (`body_run`).
-/
module

public import proofs.«01_k».proof.Proof.Recur.Held
public import proofs.«01_k».proof.Proof.Gen.AdjointIdeal.Frame
public import proofs.«01_k».proof.Proof.Gen.AdjointIdeal.Skeleton
public import proofs.«01_k».proof.Proof.Gen.AdjointIdeal.Loops
public import Idealize.ShloMosaic.Lib.Tactic
public import Idealize.ShloMosaic.Lib.VecWindow

@[expose] public section

set_option maxRecDepth 16384

noncomputable section

namespace Cert.Adjoints

open Cert.AdjointIdeal Cert.AdjointIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section

variable (i : grid0.Coords) (arg1 : Memref sig .tc .vmem S256x1024 .f32) (harg1 : arg1.IsWhole)
  (arg2 : Memref sig .tc .vmem S256x1024 .f32) (harg2 : arg2.IsWhole)
  (arg3 : Memref sig .tc .vmem S4x2048x256 .f32) (harg3 : arg3.IsWhole)
  (arg4 : Memref sig .tc .vmem S4x256x256 .bf16) (harg4 : arg4.IsWhole)
  (arg5 : Memref sig .tc .vmem S4x256x256 .bf16) (harg5 : arg5.IsWhole)
  (arg6 : Memref sig .tc .vmem S4x8x256 .f32) (harg6 : arg6.IsWhole)
  (arg7 : Memref sig .tc .vmem S1x1024 .f32) (harg7 : arg7.IsWhole)
  (arg8 : Memref sig .tc .hbm S4096x4096 .bf16) (harg8 : arg8.IsWhole)
  (arg9 : Memref sig .tc .vmem S256x1024 .bf16) (harg9 : arg9.IsWhole)
  (arg10 : Memref sig .tc .vmem S4x256x256 .f32) (harg10 : arg10.IsWhole)
  (arg11 : Memref sig .tc .vmem S4x256x256 .f32) (harg11 : arg11.IsWhole)
  (arg12 : Memref sig .tc .vmem S4x8x256 .f32) (harg12 : arg12.IsWhole)
  (arg13 : Memref sig .tc .vmem S1x1024 .f32) (harg13 : arg13.IsWhole)
  (arg14 : Memref sig .tc .vmem S4x2048x256 .f32) (harg14 : arg14.IsWhole)
  (arg15 : Memref sig .tc .vmem S4x8x256 .f32) (harg15 : arg15.IsWhole)
  (arg16 : Memref sig .tc .vmem S2x2048x128 .f32) (harg16 : arg16.IsWhole)
  (arg17 : Memref sig .tc .vmem S2x2048x128 .f32) (harg17 : arg17.IsWhole)

/-- What the last output holds after the body's first lines, from `g` before them: zeros at the first point. -/
def start (g : FVec F S1x1024 .f32) : FVec F S1x1024 .f32 :=
  if Scalar.cmpi .ne (Scalar.extui (Scalar.cmpi .eq (BitVec.ofNat 32 (i 0).val) 0#32) : BitVec 32) 0#32 = 1#1 then k0_pay274 else g

/-- The body's first lines: at the first point the adjoint state, the spread block and the four sums are cleared. -/
theorem entry_run (g : FVec F S1x1024 .f32) (c : Dev nD) :
    iprop(held (F := F) c arg10 ∗ held (F := F) c arg11 ∗ held (F := F) c arg12 ∗ owns (c : Thread nD τ) arg13 fullShare g ∗ held (F := F) c arg15 ∗ held (F := F) c arg16)
      ⊢ wp frame (wpE (defs₀ (F := F)) Variants.none c none) Set.univ
          (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(held (F := F) c arg10 ∗ held (F := F) c arg11 ∗ held (F := F) c arg12 ∗ owns (c : Thread nD τ) arg13 fullShare (start i g) ∗ held (F := F) c arg15 ∗ held (F := F) c arg16)) := by
  iintro ⟨H10, H11, H12, H13, H15, H16⟩
  unfold held owns
  icases H10 with ⟨%d10, %f10, %h10, H10⟩
  icases H11 with ⟨%d11, %f11, %h11, H11⟩
  icases H12 with ⟨%d12, %f12, %h12, H12⟩
  icases H13 with ⟨%f13, %h13, H13⟩
  icases H15 with ⟨%d15, %f15, %h15, H15⟩
  icases H16 with ⟨%d16, %f16, %h16, H16⟩
  sl_unfold [k0_part29]
  rcases Classical.em (Scalar.cmpi .ne (Scalar.extui (Scalar.cmpi .eq (BitVec.ofNat 32 (i 0).val) 0#32) : BitVec 32) 0#32 = 1#1) with hc | hc
  · have hs : start i g = k0_pay274 := if_pos hc
    rw [hs]
    sl_exec (disch := sl_exact hc)
    sl_step
    isplitl [H10]; · iapply (held_intro c _ _); iexact H10
    isplitl [H11]; · iapply (held_intro c _ _); iexact H11
    isplitl [H12]; · iapply (held_intro c _ _); iexact H12
    isplitl [H13]
    · iexists _
      isplitr
      swap
      · iexact H13
      · ipureintro
        exact View.read_writes_full _ _ _ _ _
    isplitl [H15]; · iapply (held_intro c _ _); iexact H15
    iapply (held_intro c _ _); iexact H16
  · have hs : start i g = g := if_neg hc
    rw [hs]
    sl_exec (disch := sl_exact hc)
    sl_step
    isplitl [H10]; · iapply (held_intro c _ _); iexact H10
    isplitl [H11]; · iapply (held_intro c _ _); iexact H11
    isplitl [H12]; · iapply (held_intro c _ _); iexact H12
    isplitl [H13]; · iapply (known_intro c _ h13); iexact H13
    isplitl [H15]; · iapply (held_intro c _ _); iexact H15
    iapply (held_intro c _ _); iexact H16

variable (x1 x2 : Vec F S256x1024 .f32) (x3 : Vec F S4x2048x256 .f32) (x4 x5 : Vec F S4x256x256 .bf16)
  (x6 : Vec F S4x8x256 .f32) (x7 : Vec F S1x1024 .f32) (g : FVec F S1x1024 .f32)

/-- What the body is handed and hands back: the inputs at their contents, the outputs and the scratch at any, but the last output at `g`. -/
def room (c : Dev nD) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
    ∗ held c arg9 ∗ held c arg10 ∗ held c arg11 ∗ held c arg12 ∗ owns (c : Thread nD τ) arg13 fullShare g ∗ held c arg14 ∗ held c arg15 ∗ held c arg16 ∗ held c arg17)

local notation "ROOM" => room arg1 arg2 arg3 arg4 arg5 arg6 arg7 arg9 arg10 arg11 arg12 arg13 arg14 arg15 arg16 arg17 x1 x2 x3 x4 x5 x6 x7

/-- What the last output holds after the body, from `g` before it. -/
def next : FVec F S1x1024 .f32 := k0_pay281 x1 x2 (start i g)

/-- All of the body but its last store. -/
theorem most_run (c : Dev nD) :
    ROOM g c ⊢ wp frame (wpE (defs₀ (F := F)) Variants.none c none) Set.univ
      (k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => ROOM (next i x1 x2 g) c) := by
  sl_unfold [k0_part58, k0_part58_skel]
  rw [wp_bind]
  unfold room
  iintro ⟨H1, H2, H3, H4, H5, H6, H7, H9, H10, H11, H12, H13, H14, H15, H16, H17⟩
  iapply (wp_wand_r frame (wpE (defs₀ (F := F)) Variants.none (c : Thread nD τ) none) Set.univ)
  isplitl [H10 H11 H12 H13 H15 H16]
  · iapply (entry_run (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 g c)
    isplitl [H10]; · iexact H10
    isplitl [H11]; · iexact H11
    isplitl [H12]; · iexact H12
    isplitl [H13]; · iexact H13
    isplitl [H15]; · iexact H15
    iexact H16
  iintro %y ⟨H10, H11, H12, H13, H15, H16⟩
  obtain ⟨v19, v22, v41, v42⟩ := y
  unfold held owns
  icases H1 with ⟨%f1, %h1, H1⟩
  icases H2 with ⟨%f2, %h2, H2⟩
  icases H3 with ⟨%f3, %h3, H3⟩
  icases H4 with ⟨%f4, %h4, H4⟩
  icases H5 with ⟨%f5, %h5, H5⟩
  icases H6 with ⟨%f6, %h6, H6⟩
  icases H7 with ⟨%f7, %h7, H7⟩
  icases H9 with ⟨%d9, %f9, %h9, H9⟩
  icases H10 with ⟨%d10, %f10, %h10, H10⟩
  icases H11 with ⟨%d11, %f11, %h11, H11⟩
  icases H12 with ⟨%d12, %f12, %h12, H12⟩
  icases H13 with ⟨%f13, %h13, H13⟩
  icases H14 with ⟨%d14, %f14, %h14, H14⟩
  icases H15 with ⟨%d15, %f15, %h15, H15⟩
  icases H16 with ⟨%d16, %f16, %h16, H16⟩
  icases H17 with ⟨%d17, %f17, %h17, H17⟩
  sl_exec_parts
  sl_step
  isplitl [H1]; · iapply (known_intro c _ h1); iexact H1
  isplitl [H2]; · iapply (known_intro c _ h2); iexact H2
  isplitl [H3]; · iapply (known_intro c _ h3); iexact H3
  isplitl [H4]; · iapply (known_intro c _ h4); iexact H4
  isplitl [H5]; · iapply (known_intro c _ h5); iexact H5
  isplitl [H6]; · iapply (known_intro c _ h6); iexact H6
  isplitl [H7]; · iapply (known_intro c _ h7); iexact H7
  isplitl [H9]; · iapply (held_intro c _ _); iexact H9
  isplitl [H10]; · iapply (held_intro c _ _); iexact H10
  isplitl [H11]; · iapply (held_intro c _ _); iexact H11
  isplitl [H12]; · iapply (held_intro c _ _); iexact H12
  isplitl [H13]
  · iexists _
    isplitr
    swap
    · iexact H13
    · ipureintro
      unfold most_run.sl.H13_1
      rw [View.read_writes_full, View.readAt_full, View.readAt_full, View.readAt_full, h1, h2, h13]
      rfl
  isplitl [H14]; · iapply (held_intro c _ _); iexact H14
  isplitl [H15]; · iapply (held_intro c _ _); iexact H15
  isplitl [H16]; · iapply (held_intro c _ _); iexact H16
  iapply (held_intro c _ _); iexact H17

/-- The whole body, for any continuation. -/
theorem body_run (c : Dev nD) (K : PUnit → sProp 𝕄) :
    iprop(ROOM g c ∗ (ROOM (next i x1 x2 g) c -∗ K ⟨⟩))
      ⊢ wp frame (wpE (defs₀ (F := F)) Variants.none c none) Set.univ
          (cc0_ssm_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          K := by
  sl_unfold [cc0_ssm_bwd, cc0_ssm_bwd_skel]
  rw [wp_bind]
  iintro ⟨HR, Hk⟩
  iapply (wp_wand_r frame (wpE (defs₀ (F := F)) Variants.none (c : Thread nD τ) none) Set.univ)
  isplitl [HR]
  · iapply (most_run (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 g c)
    iexact HR
  iintro %y HR
  unfold room held owns
  icases HR with ⟨H1, H2, H3, H4, H5, H6, H7, H9, H10, H11, H12, H13, H14, H15, H16, H17⟩
  icases H11 with ⟨%d11, %f11, %h11, H11⟩
  sl_exec_parts
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iapply (held_intro c _ _); iexact H11
  isplitl [H12]; · iexact H12
  isplitl [H13]; · iexact H13
  isplitl [H14]; · iexact H14
  isplitl [H15]; · iexact H15
  isplitl [H16]; · iexact H16
  iexact H17

end

end Cert.Adjoints

end
-- ==== Proof.Adjoint.Claims.lean ====
/-
  The frame claims about the backward scan: the body at each point of the grid (`Adjoint/Body.lean`) put into the grid. The proof
  data also follow the gradient of the skip weights from point to point, for `Adjoint/Value.lean`. Stated once, over any float values, for the program with its float operations read as real ones; the kernel as printed is the same text.
-/
module

public import proofs.«01_k».proof.Defs
public import proofs.«01_k».proof.Proof.Adjoint.Body
public import proofs.«01_k».proof.Proof.Gen.Adjoint
public import Idealize.ShloMosaic.Lib.Pipeline.Frame
public import Idealize.ShloMosaic.Lib.Pipeline.FrameBody

@[expose] public section

set_option maxRecDepth 16384

noncomputable section

namespace Cert.Adjoints

open Cert.AdjointIdeal Cert.AdjointIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- Four of the five outputs are left undescribed. -/
def forgets : Fin 12 → Bool := ![false, false, false, false, false, false, false, true, true, true, true, false]

/-- The gradient of the skip weights after the body at point `n`. -/
def skipAt (c : Dev nD) : (n : ℕ) → n < cfg0.N → FVec F S1x1024 .f32
  | 0, h => next (grid0.coords ⟨0, h⟩) (iblk m c 0 ⟨0, h⟩) (iblk m c 1 ⟨0, h⟩) k0_pay274
  | n + 1, h => next (grid0.coords ⟨n + 1, h⟩) (iblk m c 0 ⟨n + 1, h⟩) (iblk m c 1 ⟨n + 1, h⟩) (skipAt c n (Nat.lt_of_succ_lt h))

/-- On core `c`: the arrays as the grid finds them, each input block in place after the body, four outputs unnamed and the
    fifth at its sum so far, the scratch at any contents between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => skipAt m c t.val t.isLt
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_11 (c : Dev nD) (t : Fin cfg0.N) : (dats m 0 c).after 11 t = skipAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- Between the points: the four scratch buffers at any contents, and the generator's register. -/
theorem scratch_eq (c : Dev nD) :
    (Pipeline.ΦA spec0 c : sProp 𝕄)
      = iprop((held c (Memref.whole cc0_scratch0) ∗ held c (Memref.whole cc0_scratch1) ∗ held c (Memref.whole cc0_scratch2)
          ∗ held c (Memref.whole cc0_scratch3)) ∗ ∃ r, prngReg c r) := by
  unfold Pipeline.ΦA
  rw [scopedRest0_eq]
  unfold held
  simp only [owns_whole]
  try rfl

/-- The point's condition for clearing, in words: it is the first. -/
theorem first_iff : ∀ t : Fin cfg0.N,
    (Scalar.cmpi .ne (Scalar.extui (Scalar.cmpi .eq (BitVec.ofNat 32 (grid0.coords t 0).val) 0#32) : BitVec 32) 0#32 = 1#1) ↔ t.val % 16 = 0 :=
  (by decide +kernel : ∀ t : Fin grid0.N, _)

/-- The point adds to the sum so far; at the first, whatever the block holds before. -/
theorem skip_step (c : Dev nD) (t : Fin cfg0.N) (d) :
    next (grid0.coords t) (iblk m c 0 t) (iblk m c 1 t) ((dats m 0 c).before 11 t d) = skipAt m c t.val t.isLt := by
  have hN : t.val < 16 := lt_of_lt_of_eq t.isLt (show cfg0.N = 16 from N_0)
  obtain ⟨n, h⟩ := t
  cases n with
  | zero =>
    show next (grid0.coords ⟨0, h⟩) (iblk m c 0 ⟨0, h⟩) (iblk m c 1 ⟨0, h⟩) _
      = next (grid0.coords ⟨0, h⟩) (iblk m c 0 ⟨0, h⟩) (iblk m c 1 ⟨0, h⟩) k0_pay274
    unfold next start
    rw [if_pos ((first_iff ⟨0, h⟩).mpr rfl), if_pos ((first_iff ⟨0, h⟩).mpr rfl)]
  | succ n =>
    rw [Pipeline.Dat.before_out_kept _ 11 rfl ⟨n + 1, h⟩ (Nat.succ_ne_zero n)
      (Bool.eq_false_iff.mpr fun e => by have := (flush0_11 _).mp e; dsimp only at this hN; omega) (fun _ => rfl) (fun _ _ => rfl)]
    rfl

/-! ## One point -/

theorem defs₀_row (t : Fin cfg0.N) : defs₀ (F := F) .tc cfg0.body (cfg0.bodyArgs t (cfg0.slots t)) = bodyAt0 t := by
  unfold defs₀; rw [Defs.onTc_tc]

/-- What the body is handed at point `t`, and what it hands back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d)
    ∗ (∃ d, owns (c : Thread nD τ) (st0_8 t) fullShare d)
    ∗ (∃ d, owns (c : Thread nD τ) (st0_9 t) fullShare d)
    ∗ (∃ d, owns (c : Thread nD τ) (st0_10 t) fullShare d)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, after_0, after_1, after_2, after_3, after_4, after_5, after_6, after_11]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq]
  iintro ⟨⟨⟨HA, HB, HC, HD⟩, Hg⟩, HO, ⟨%d0, H0⟩, ⟨%d1, H1⟩, ⟨%d2, H2⟩, ⟨%d3, H3⟩, ⟨%d4, H4⟩, ⟨%d5, H5⟩, ⟨%d6, H6⟩, H7, H8, H9, H10, ⟨%d11, H11⟩⟩
  rw [← skip_step m c t d11]
  iapply (body_run (F := F) (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) ((dats m 0 c).before 11 t d11) c _)
  unfold room held
  isplitr [HO Hg]
  · iframe
  iintro ⟨H0, H1, H2, H3, H4, H5, H6, H7, H8, H9, H10, H11, HA, HB, HC, HD⟩
  iframe

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The run -/

set_option backward.isDefEq.respectTransparency.types false in
/-- The run of the whole program: it ends, every input array of the grid is as it was, so is every other buffer the grid does
    not write, and every semaphore counter is zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input array of the grid ends as the grid found it, so as launched when nothing before the grid wrote it. -/
theorem kept_arr {r : PUnit × MemSt nD τ sig (Elt F)}
    (h : Pipeline.RDat.FramePost (cfgs 0) (fun c => (dats (F := F) m 0 c).toRForget forgets) (V m) r)
    (c : Dev nD) (w : Fin 12) (hw : (spec0 w).isOut = false) {v} (hv : V m c (Pipeline.arrRef spec0 w) = v) :
    r.2.mem ((c : Thread nD τ).loc (Pipeline.arrRef spec0 w)) = v :=
  (Pipeline.RDat.FramePost.arr_in h c w hw).trans ((A_eq m c w).trans hv)

set_option maxHeartbeats 1000000 in
/-- The eight arguments end as they were launched. -/
theorem kept_all {r : PUnit × MemSt nD τ sig (Elt F)}
    (h : Pipeline.RDat.FramePost (cfgs 0) (fun c => (dats (F := F) m 0 c).toRForget forgets) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨kept_arr m h c 0 rfl (V_main_arg0 m c), kept_arr m h c 1 rfl (V_main_arg1 m c), kept_arr m h c 2 rfl (V_main_arg2 m c),
    kept_arr m h c 3 rfl (V_main_arg3 m c), kept_arr m h c 4 rfl (V_main_arg4 m c), kept_arr m h c 5 rfl (V_main_arg5 m c),
    kept_arr m h c 6 rfl (V_main_arg6 m c),
    ((h c).2 main_arg7 (Pipeline.mem_restRefs_of main_arg7 (by decide) (by decide))).trans (V_main_arg7 m c)⟩

set_option maxHeartbeats 1000000 in
/-- The program ends, the eight arguments as they were launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => kept_all m h.1 c, h.2⟩) (run_main m ρ)

theorem frame_ideal : Cert.quiescent_AdjointIdeal := fun m ρ _ => frame m ρ

theorem frame_kernel : Cert.quiescent_Adjoint := fun m ρ _ => by
  have h := frame (F := Bits) m ρ
  refine Eq.mp ?_ h
  sl_kernel_rfl

end Cert.Adjoints

end
-- ==== Proof.Adjoint.Value.lean ====
/-
  The gradient of the skip weights, one of the five results of the backward scan: over the reals it is, for each of the 1024
  columns, the sum over all 4096 rows of `dy` times the scan's input, which is the third block of 1024 columns of `proj`. The grid
  takes the rows in blocks of 256, the last block first; the order of a sum does not matter there.
-/
module

public import Idealize.ShloMosaic.Lib.Pointwise
public import Idealize.ShloMosaic.Lib.Pipeline.ValueKit.Tiles
public import Idealize.ShloMosaic.Lib.Pipeline.ValueKit.Geometry
public import Idealize.ShloMosaic.Lib.Pipeline.ValueKit.Acc
public import proofs.«01_k».proof.Proof.Adjoint.Claims

@[expose] public section

set_option maxRecDepth 16384

noncomputable section

namespace Cert.Adjoints

open Idealize.ShloMosaic Cert.AdjointIdeal Cert.AdjointIdeal.Gen
open Idealize.ShloMosaic.TcCoe Idealize.SL.Sem

variable (m : (ℓ : Loc nD τ sig) → Buf (Elt Ideal) ℓ) (ρ : Dev nD → PrngReg)

/-! ## One point -/

theorem idx_facts : ∀ t : Fin cfg0.N, win0_0.index t = ![15 - t.val, 0] ∧ win0_1.index t = ![15 - t.val, 2] :=
  (by decide +kernel : ∀ t : Fin grid0.N, _)

/-- The array's row that a block's row is: the blocks run backwards. -/
def row (t : Fin cfg0.N) (r : Fin 256) : Fin 4096 := ⟨(15 - t.val) * 256 + r.val, by have := r.isLt; omega⟩

/-- The column of `proj` that holds the scan's input `l`. -/
def inp (l : Fin 1024) : Fin 4096 := ⟨2048 + l.val, by omega⟩

/-- The summand of row `r` in column `l`. -/
def summand (dy : FVec Ideal S4096x1024 .f32) (proj : FVec Ideal S4096x4096 .f32) (r : Fin 4096) (l : Fin 1024) : EReal :=
  dy (ix2 r l) * proj (ix2 r (inp l))

section

variable (c : Dev nD) (t : Fin cfg0.N)

theorem blk0 (r : Fin 256) (l : Fin 1024) : iblk m c 0 t (ix2 r l) = m ((c : Thread nD τ).loc main_arg0) (ix2 (row t r) l) := by
  obtain ⟨e, _⟩ := idx_facts t
  blk_ext [iblk, V_main_arg0, e, row]

theorem blk1 (r : Fin 256) (l : Fin 1024) : iblk m c 1 t (ix2 r l) = m ((c : Thread nD τ).loc main_arg1) (ix2 (row t r) (inp l)) := by
  obtain ⟨_, e⟩ := idx_facts t
  blk_ext [iblk, V_main_arg1, e, row, inp]

theorem zero (y : S1x1024.Idx) : k0_pay274 (F := Ideal) y = (0 : EReal) := by
  idx_vars y
  pointwise [k0_pay274]

/-- What the point adds to the gradient. -/
def term (y : S1x1024.Idx) : EReal :=
  ∑ r : Fin 256, summand (m ((c : Thread nD τ).loc main_arg0)) (m ((c : Thread nD τ).loc main_arg1)) (row t r) (y 1)

theorem added (p : FVec Ideal S1x1024 .f32) (y : S1x1024.Idx) :
    k0_pay281 (F := Ideal) (iblk m c 0 t) (iblk m c 1 t) p y = (p y : EReal) + term m c t y := by
  unfold term summand
  idx_vars y
  have e := fun r => blk0 m c t r y1
  have e2 := fun r => blk1 m c t r y1
  generalize iblk m c 0 t = a at e ⊢
  generalize iblk m c 1 t = b at e2 ⊢
  pointwise [k0_pay281]
  refine congrArg _ (Finset.sum_congr rfl fun r _ => ?_)
  rw [e, e2]

theorem skipAt_first (h : t.val % 16 = 0) (y : S1x1024.Idx) : skipAt m c t.val t.isLt y = (0 : EReal) + term m c t y := by
  have hN : t.val < 16 := lt_of_lt_of_eq t.isLt (show cfg0.N = 16 from N_0)
  have hc := (first_iff t).mpr h
  obtain ⟨n, hn⟩ := t
  obtain rfl : n = 0 := by dsimp only at h hN; omega
  show next (grid0.coords ⟨0, hn⟩) (iblk m c 0 ⟨0, hn⟩) (iblk m c 1 ⟨0, hn⟩) k0_pay274 y = _
  unfold next start
  rw [if_pos hc, added, zero]

theorem skipAt_later (h : ¬t.val % 16 = 0) (y : S1x1024.Idx) : skipAt m c t.val t.isLt y
    = (skipAt m c (t.val - 1) (Nat.lt_of_le_of_lt (Nat.sub_le _ _) t.isLt) y : EReal) + term m c t y := by
  have hc := fun e => h ((first_iff t).mp e)
  obtain ⟨n, hn⟩ := t
  obtain ⟨k, rfl⟩ : ∃ k, n = k + 1 := ⟨n - 1, by dsimp only at h; omega⟩
  show next (grid0.coords ⟨k + 1, hn⟩) (iblk m c 0 ⟨k + 1, hn⟩) (iblk m c 1 ⟨k + 1, hn⟩) (skipAt m c k (Nat.lt_of_succ_lt hn)) y = _
  unfold next start
  rw [if_neg hc, added]
  rfl

end

/-! ## The array -/

/-- The gradient of the skip weights. -/
def gSkip (dy : FVec Ideal S4096x1024 .f32) (proj : FVec Ideal S4096x4096 .f32) : FVec Ideal S1x1024 .f32 :=
  fun i => (∑ r : Fin 4096, summand dy proj r (i 1) : EReal)

/-- The last point. -/
def tlast : Fin cfg0.N := ⟨15, by decide⟩

/-- The blocks' sums together are the sum over the rows. -/
theorem sum_term (c : Dev nD) (y : S1x1024.Idx) :
    (∑ t : Fin cfg0.N, term m c t y) = ∑ r : Fin 4096, summand (m ((c : Thread nD τ).loc main_arg0)) (m ((c : Thread nD τ).loc main_arg1)) r (y 1) := by
  show (∑ t : Fin 16, term m c t y) = _
  refine Eq.trans ?_ (Fin.sum_mul_add_fin 16 256 (fun r : Fin 4096 => summand (m ((c : Thread nD τ).loc main_arg0)) (m ((c : Thread nD τ).loc main_arg1)) r (y 1)) rfl)
  refine Fintype.sum_equiv Fin.revPerm _ _ fun t => Finset.sum_congr rfl fun r _ => ?_
  refine congrArg (fun k => summand (m ((c : Thread nD τ).loc main_arg0)) (m ((c : Thread nD τ).loc main_arg1)) k (y 1)) (Fin.ext ?_)
  show (15 - t.val) * 256 + r.val = (16 - (t.val + 1)) * 256 + r.val
  have h : t.val < 16 := t.isLt
  omega

theorem final (c : Dev nD) : (dats m 0 c).arrAt 11 cfg0.N
    = gSkip (m ((c : Thread nD τ).loc main_arg0)) (m ((c : Thread nD τ).loc main_arg1)) := by
  refine (dats m 0 c).arrAt_eq_of_after_last 11 tlast (by decide +kernel) _ fun y => ?_
  blk_simp
  rw [after_11, Pipeline.eq_sum_fin_of_reset_step_apply_last (fun n h => skipAt m c n h) 16 (fun _ => (0 : EReal))
    (fun t y => term m c t y) (fun t h j => skipAt_first m c t h j) (fun t h j => skipAt_later m c t h j) (le_of_eq N_0) tlast rfl]
  rw [zero_add]
  exact sum_term m c y

/-! ## The claim -/

instance postFacts : Cert.Post_skip_gradient.Facts where
  slices_S4096x4096_S4096x1024_0_2048 := by decide
  reducesTo_S4096x1024_S1024_d0 := by decide
  h_S_ := by decide
  bcast_S1024_S1x1024_1 := by decide

/-- The run says of an output that is not forgotten that its array ends at what the data computes. -/
theorem out_arr {r : PUnit × MemSt nD τ sig (Elt Ideal)} {dat : (c : Dev nD) → Pipeline.Dat τ (Elt Ideal) Unit ℕ (UR sig nD τ) ℕ cfg0 c}
    {V} (h : Pipeline.RDat.FramePost cfg0 (fun c => (dat c).toRForget forgets) V r) (c : Dev nD) (w : Fin cfg0.W) (hw : forgets w = false) :
    r.2.mem ((cfg0.spec w).arr.view.loc (c.tc : Thread nD τ)) = (dat c).arrAt w cfg0.N :=
  (Pipeline.Dat.toRForget_arrAt_iff _ hw _ _).mp ((h c).1 w)

/-- The postcondition holds of the arguments and any results whose last is the gradient of the skip weights. -/
theorem post_of (a0 : FVec Ideal S4096x1024 .f32) (a1 : FVec Ideal S4096x4096 .f32) (a2 a3 a4 a5 a6 a7 r0 r1 r2 r3) :
    Cert.Post_skip_gradient.fn (F := Ideal) a0 a1 a2 a3 a4 a5 a6 a7 r0 r1 r2 r3 (gSkip a0 a1) = fun _ => 1#1 := by
  funext y
  idx_vars y
  have e : ∀ x z : EReal, x = z → Ideal.cmp .oeq x z = 1#1 := fun x z h => by simp [Ideal.cmp, h]
  unfold Cert.Post_skip_gradient.fn
  refine e _ _ ?_
  symm
  pointwise
  rfl

set_option maxHeartbeats 1000000 in
/-- Over the reals the backward scan ends with its arguments unchanged and the gradient of the skip weights at that sum. -/
theorem holds : Cert.holds_AdjointIdeal_skip_gradient := fun m ρ _ =>
  (θ_run defs _ _).mono (fun r h c => by
    obtain ⟨h0, h1, h2, h3, h4, h5, h6, h7⟩ := kept_all m h.1 c
    refine ⟨h0, h1, h2, h3, h4, h5, h6, h7, ?_⟩
    have h11 : r.2.mem ((c.tc : Thread nD τ).loc main_v0_4) = gSkip (m ((c : Thread nD τ).loc main_arg0)) (m ((c : Thread nD τ).loc main_arg1)) :=
      (out_arr h.1 c 11 rfl).trans (final m c)
    rw [h11]
    exact post_of _ _ _ _ _ _ _ _ _ _ _ _)
    (run_main m ρ)

end Cert.Adjoints

end
-- ==== Proof.lean ====
/- The proof of the certificate's claim, put together from the parts. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Pool.Claims
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gate.Claims
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Norm.Claims
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import proofs.«01_k».proof.Proof.Ple.Claims
public import proofs.«01_k».proof.Proof.Gen.Glu.Frame
public import proofs.«01_k».proof.Proof.Gen.GluIdeal.Value
public import proofs.«01_k».proof.Proof.Gen.GluRefIdeal.Run
public import proofs.«01_k».proof.Proof.Gen.GluRefIdeal.Read
public import proofs.«01_k».proof.Proof.Glu.Claims
public import proofs.«01_k».proof.Proof.Gen.Zoh.Frame
public import proofs.«01_k».proof.Proof.Gen.ZohIdeal.Frame
public import proofs.«01_k».proof.Proof.Gen.ZohRefIdeal.Run
public import proofs.«01_k».proof.Proof.Gen.ZohRefIdeal.Read
public import proofs.«01_k».proof.Proof.Zoh.Claims
public import proofs.«01_k».proof.Proof.Gen.Disc.Frame
public import proofs.«01_k».proof.Proof.Gen.DiscIdeal.Frame
public import proofs.«01_k».proof.Proof.Gen.DiscRefIdeal.Run
public import proofs.«01_k».proof.Proof.Gen.DiscRefIdeal.Read
public import proofs.«01_k».proof.Proof.Disc.Claims
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Proj.Claims
public import proofs.«01_k».proof.Proof.Gen.Mix.Frame
public import proofs.«01_k».proof.Proof.Gen.MixIdeal.Value
public import proofs.«01_k».proof.Proof.Gen.MixRefIdeal.Run
public import proofs.«01_k».proof.Proof.Gen.MixRefIdeal.Read
public import proofs.«01_k».proof.Proof.Mix.Claims
public import proofs.«01_k».proof.Proof.Gen.Trail.Frame
public import proofs.«01_k».proof.Proof.Gen.TrailIdeal.Value
public import proofs.«01_k».proof.Proof.Gen.TrailRefIdeal.Run
public import proofs.«01_k».proof.Proof.Gen.TrailRefIdeal.Read
public import proofs.«01_k».proof.Proof.Trail.Claims
public import proofs.«01_k».proof.Proof.Gen.Lin.Frame
public import proofs.«01_k».proof.Proof.Gen.LinIdeal.Value
public import proofs.«01_k».proof.Proof.Gen.LinRefIdeal.Run
public import proofs.«01_k».proof.Proof.Gen.LinRefIdeal.Read
public import proofs.«01_k».proof.Proof.Lin.Claims
public import proofs.«01_k».proof.Proof.Gen.Wgrad.Frame
public import proofs.«01_k».proof.Proof.Gen.WgradIdeal.Value
public import proofs.«01_k».proof.Proof.Gen.WgradRefIdeal.Run
public import proofs.«01_k».proof.Proof.Gen.WgradRefIdeal.Read
public import proofs.«01_k».proof.Proof.Wgrad.Claims
public import proofs.«01_k».proof.Proof.Gen.Resid.Frame
public import proofs.«01_k».proof.Proof.Gen.ResidIdeal.Value
public import proofs.«01_k».proof.Proof.Gen.ResidRefIdeal.Run
public import proofs.«01_k».proof.Proof.Gen.ResidRefIdeal.Read
public import proofs.«01_k».proof.Proof.Resid.Claims
public import proofs.«01_k».proof.Proof.Gen.Poolw.Frame
public import proofs.«01_k».proof.Proof.Gen.PoolwIdeal.Value
public import proofs.«01_k».proof.Proof.Gen.PoolwRefIdeal.Run
public import proofs.«01_k».proof.Proof.Gen.PoolwRefIdeal.Read
public import proofs.«01_k».proof.Proof.Poolw.Claims
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Adam.Claims
public import proofs.«01_k».proof.Proof.Gen.Recur.Frame
public import proofs.«01_k».proof.Proof.Gen.RecurIdeal.Frame
public import proofs.«01_k».proof.Proof.Recur.Claims
public import proofs.«01_k».proof.Proof.Gen.Adjoint.Frame
public import proofs.«01_k».proof.Proof.Gen.AdjointIdeal.Frame
public import proofs.«01_k».proof.Proof.Adjoint.Claims
public import proofs.«01_k».proof.Proof.Adjoint.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
  Cert.Gate.Gen.facts, Cert.GateIdeal.Gen.facts, Cert.GateRefIdeal.Gen.facts,
  Cert.Norm.Gen.facts, Cert.NormIdeal.Gen.facts, Cert.NormRefIdeal.Gen.facts,
  Cert.Ple.Gen.facts, Cert.PleIdeal.Gen.facts, Cert.PleRefIdeal.Gen.facts,
  Cert.Glu.Gen.facts, Cert.GluIdeal.Gen.facts, Cert.GluRefIdeal.Gen.facts,
  Cert.Zoh.Gen.facts, Cert.ZohIdeal.Gen.facts, Cert.ZohRefIdeal.Gen.facts,
  Cert.Disc.Gen.facts, Cert.DiscIdeal.Gen.facts, Cert.DiscRefIdeal.Gen.facts,
  Cert.Proj.Gen.facts, Cert.ProjIdeal.Gen.facts, Cert.ProjRefIdeal.Gen.facts,
  Cert.Mix.Gen.facts, Cert.MixIdeal.Gen.facts, Cert.MixRefIdeal.Gen.facts,
  Cert.Trail.Gen.facts, Cert.TrailIdeal.Gen.facts, Cert.TrailRefIdeal.Gen.facts,
  Cert.Lin.Gen.facts, Cert.LinIdeal.Gen.facts, Cert.LinRefIdeal.Gen.facts,
  Cert.Wgrad.Gen.facts, Cert.WgradIdeal.Gen.facts, Cert.WgradRefIdeal.Gen.facts,
  Cert.Resid.Gen.facts, Cert.ResidIdeal.Gen.facts, Cert.ResidRefIdeal.Gen.facts,
  Cert.Poolw.Gen.facts, Cert.PoolwIdeal.Gen.facts, Cert.PoolwRefIdeal.Gen.facts,
  Cert.Adam.Gen.facts, Cert.AdamIdeal.Gen.facts, Cert.AdamRefIdeal.Gen.facts,
  Cert.Recur.Gen.facts, Cert.RecurIdeal.Gen.facts, Cert.Adjoint.Gen.facts,
  Cert.AdjointIdeal.Gen.facts,
  Cert.Pool.preFacts, Cert.Gates.preFacts, Cert.Norms.preFacts, Cert.Ples.preFacts, Cert.Glus.preFacts, Cert.Trails.preFacts,
  Cert.Adjoints.postFacts,
  Cert.Pool.frame_kernel, Cert.Pool.frame_ideal, Cert.Pool.frame_ideal_pre, Cert.Pool.frame_reference, Cert.Pool.frame_reference_pre,
  Cert.Gates.frame_kernel, Cert.Gates.frame_ideal, Cert.Gates.frame_ideal_pre, Cert.Gates.frame_reference, Cert.Gates.frame_reference_pre,
  Cert.Norms.frame_kernel, Cert.Norms.frame_ideal, Cert.Norms.frame_ideal_pre, Cert.Norms.frame_reference, Cert.Norms.frame_reference_pre,
  Cert.Ples.frame_kernel, Cert.Ples.frame_ideal, Cert.Ples.frame_ideal_pre, Cert.Ples.frame_reference, Cert.Ples.frame_reference_pre,
  Cert.Glus.frame_kernel, Cert.Glus.frame_ideal, Cert.Glus.frame_ideal_pre, Cert.Glus.frame_reference, Cert.Glus.frame_reference_pre,
  Cert.Zohs.frame_kernel, Cert.Zohs.frame_ideal, Cert.Zohs.frame_reference,
  Cert.Discs.frame_kernel, Cert.Discs.frame_ideal, Cert.Discs.frame_reference,
  Cert.Projs.frame_kernel, Cert.Projs.frame_ideal, Cert.Projs.frame_reference,
  Cert.Mixes.frame_kernel, Cert.Mixes.frame_ideal, Cert.Mixes.frame_reference,
  Cert.Trails.frame_kernel, Cert.Trails.frame_ideal, Cert.Trails.frame_ideal_pre, Cert.Trails.frame_reference, Cert.Trails.frame_reference_pre,
  Cert.Lins.frame_kernel, Cert.Lins.frame_ideal, Cert.Lins.frame_reference,
  Cert.Wgrads.frame_kernel, Cert.Wgrads.frame_ideal, Cert.Wgrads.frame_reference,
  Cert.Resids.frame_kernel, Cert.Resids.frame_ideal, Cert.Resids.frame_reference,
  Cert.Poolws.frame_kernel, Cert.Poolws.frame_ideal, Cert.Poolws.frame_reference,
  Cert.Adams.frame_kernel, Cert.Adams.frame_ideal, Cert.Adams.frame_reference,
  Cert.Recurs.frame_kernel, Cert.Recurs.frame_ideal,
  Cert.Adjoints.frame_kernel, Cert.Adjoints.frame_ideal,
  trivial, Cert.Pool.algebraic, trivial, Cert.Gates.algebraic, trivial, Cert.Norms.algebraic, trivial, Cert.Ples.algebraic, Cert.Glus.preserves, Cert.Glus.algebraic, trivial, Cert.Zohs.algebraic, trivial, Cert.Discs.algebraic, trivial, Cert.Projs.algebraic, trivial, Cert.Mixes.algebraic, trivial, Cert.Trails.algebraic, trivial, Cert.Lins.algebraic, trivial, Cert.Wgrads.algebraic, trivial, Cert.Resids.algebraic, trivial, Cert.Poolws.algebraic, trivial, Cert.Adams.algebraic, trivial, trivial, Cert.Adjoints.holds⟩

end Cert.Proof

end
